-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v237)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v237) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1420) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4x14x14x14 : Shape := ⟨5, ![1, 4, 14, 14, 14]⟩
abbrev S16x4x3x3x3 : Shape := ⟨5, ![16, 4, 3, 3, 3]⟩
abbrev S1x32x16x3x3x3 : Shape := ⟨6, ![1, 32, 16, 3, 3, 3]⟩
abbrev S2x64x16x3x3x3 : Shape := ⟨6, ![2, 64, 16, 3, 3, 3]⟩
abbrev S4x128x16x3x3x3 : Shape := ⟨6, ![4, 128, 16, 3, 3, 3]⟩
abbrev S4x256x32x3x3x3 : Shape := ⟨6, ![4, 256, 32, 3, 3, 3]⟩
abbrev S8x512x32x3x3x3 : Shape := ⟨6, ![8, 512, 32, 3, 3, 3]⟩
abbrev S8x256x64x3x3x3 : Shape := ⟨6, ![8, 256, 64, 3, 3, 3]⟩
abbrev S8x256x32x3x3x3 : Shape := ⟨6, ![8, 256, 32, 3, 3, 3]⟩
abbrev S16x128x32x3x3x3 : Shape := ⟨6, ![16, 128, 32, 3, 3, 3]⟩
abbrev S4x64x32x3x3x3 : Shape := ⟨6, ![4, 64, 32, 3, 3, 3]⟩
abbrev S8x64x16x3x3x3 : Shape := ⟨6, ![8, 64, 16, 3, 3, 3]⟩
abbrev S4x32x16x3x3x3 : Shape := ⟨6, ![4, 32, 16, 3, 3, 3]⟩
abbrev S3x16x16x3x3x3 : Shape := ⟨6, ![3, 16, 16, 3, 3, 3]⟩
abbrev S4x14x14x14 : Shape := ⟨4, ![4, 14, 14, 14]⟩
abbrev S_ : Shape := ⟨0, ![]⟩
abbrev S4x16x16x16 : Shape := ⟨4, ![4, 16, 16, 16]⟩
abbrev S4x4096 : Shape := ⟨2, ![4, 4096]⟩
abbrev S1x16x4x3x3x3 : Shape := ⟨6, ![1, 16, 4, 3, 3, 3]⟩
abbrev S1x16x4x27 : Shape := ⟨4, ![1, 16, 4, 27]⟩
abbrev S1x16x27x4 : Shape := ⟨4, ![1, 16, 27, 4]⟩
abbrev S1x16x108 : Shape := ⟨3, ![1, 16, 108]⟩
abbrev S4x6144 : Shape := ⟨2, ![4, 6144]⟩
abbrev S4x3072 : Shape := ⟨2, ![4, 3072]⟩
abbrev S1x4x3072 : Shape := ⟨3, ![1, 4, 3072]⟩
abbrev S4x4x3072 : Shape := ⟨3, ![4, 4, 3072]⟩
abbrev S16x4096 : Shape := ⟨2, ![16, 4096]⟩
abbrev S16x1024 : Shape := ⟨2, ![16, 1024]⟩
abbrev S1x1x16x1024 : Shape := ⟨4, ![1, 1, 16, 1024]⟩
abbrev S8x128 : Shape := ⟨2, ![8, 128]⟩
abbrev S1x1024 : Shape := ⟨2, ![1, 1024]⟩
abbrev S4x1024 : Shape := ⟨2, ![4, 1024]⟩
abbrev S108x1024 : Shape := ⟨2, ![108, 1024]⟩
abbrev S16x108 : Shape := ⟨2, ![16, 108]⟩
abbrev S1x32x16x27 : Shape := ⟨4, ![1, 32, 16, 27]⟩
abbrev S1x32x27x16 : Shape := ⟨4, ![1, 32, 27, 16]⟩
abbrev S1x32x432 : Shape := ⟨3, ![1, 32, 432]⟩
abbrev S16x5120 : Shape := ⟨2, ![16, 5120]⟩
abbrev S16x2048 : Shape := ⟨2, ![16, 2048]⟩
abbrev S1x16x2048 : Shape := ⟨3, ![1, 16, 2048]⟩
abbrev S4x16x2048 : Shape := ⟨3, ![4, 16, 2048]⟩
abbrev S32x4096 : Shape := ⟨2, ![32, 4096]⟩
abbrev S32x1024 : Shape := ⟨2, ![32, 1024]⟩
abbrev S1x2x16x1024 : Shape := ⟨4, ![1, 2, 16, 1024]⟩
abbrev S432x1024 : Shape := ⟨2, ![432, 1024]⟩
abbrev S32x432 : Shape := ⟨2, ![32, 432]⟩
abbrev S2x16x1024 : Shape := ⟨3, ![2, 16, 1024]⟩
abbrev S2x1024 : Shape := ⟨2, ![2, 1024]⟩
abbrev S1024 : Shape := ⟨1, ![1024]⟩
abbrev S2x1x1024 : Shape := ⟨3, ![2, 1, 1024]⟩
abbrev S2x64x16x27 : Shape := ⟨4, ![2, 64, 16, 27]⟩
abbrev S2x64x27x16 : Shape := ⟨4, ![2, 64, 27, 16]⟩
abbrev S2x64x432 : Shape := ⟨3, ![2, 64, 432]⟩
abbrev S32x5120 : Shape := ⟨2, ![32, 5120]⟩
abbrev S32x2048 : Shape := ⟨2, ![32, 2048]⟩
abbrev S1x32x2048 : Shape := ⟨3, ![1, 32, 2048]⟩
abbrev S4x32x2048 : Shape := ⟨3, ![4, 32, 2048]⟩
abbrev S64x4096 : Shape := ⟨2, ![64, 4096]⟩
abbrev S64x1024 : Shape := ⟨2, ![64, 1024]⟩
abbrev S2x4x16x1024 : Shape := ⟨4, ![2, 4, 16, 1024]⟩
abbrev S1x64x432 : Shape := ⟨3, ![1, 64, 432]⟩
abbrev S64x432 : Shape := ⟨2, ![64, 432]⟩
abbrev S4x16x1024 : Shape := ⟨3, ![4, 16, 1024]⟩
abbrev S1x4x16x1024 : Shape := ⟨4, ![1, 4, 16, 1024]⟩
abbrev S4x1x1024 : Shape := ⟨3, ![4, 1, 1024]⟩
abbrev S4x128x16x27 : Shape := ⟨4, ![4, 128, 16, 27]⟩
abbrev S4x128x27x16 : Shape := ⟨4, ![4, 128, 27, 16]⟩
abbrev S4x128x432 : Shape := ⟨3, ![4, 128, 432]⟩
abbrev S64x5120 : Shape := ⟨2, ![64, 5120]⟩
abbrev S64x2048 : Shape := ⟨2, ![64, 2048]⟩
abbrev S1x64x2048 : Shape := ⟨3, ![1, 64, 2048]⟩
abbrev S4x64x2048 : Shape := ⟨3, ![4, 64, 2048]⟩
abbrev S128x4096 : Shape := ⟨2, ![128, 4096]⟩
abbrev S128x1024 : Shape := ⟨2, ![128, 1024]⟩
abbrev S4x4x32x1024 : Shape := ⟨4, ![4, 4, 32, 1024]⟩
abbrev S1x128x432 : Shape := ⟨3, ![1, 128, 432]⟩
abbrev S128x432 : Shape := ⟨2, ![128, 432]⟩
abbrev S4x32x1024 : Shape := ⟨3, ![4, 32, 1024]⟩
abbrev S1x4x32x1024 : Shape := ⟨4, ![1, 4, 32, 1024]⟩
abbrev S4x256x32x27 : Shape := ⟨4, ![4, 256, 32, 27]⟩
abbrev S4x256x27x32 : Shape := ⟨4, ![4, 256, 27, 32]⟩
abbrev S4x256x864 : Shape := ⟨3, ![4, 256, 864]⟩
abbrev S128x5120 : Shape := ⟨2, ![128, 5120]⟩
abbrev S128x2048 : Shape := ⟨2, ![128, 2048]⟩
abbrev S1x128x2048 : Shape := ⟨3, ![1, 128, 2048]⟩
abbrev S4x128x2048 : Shape := ⟨3, ![4, 128, 2048]⟩
abbrev S256x4096 : Shape := ⟨2, ![256, 4096]⟩
abbrev S256x1024 : Shape := ⟨2, ![256, 1024]⟩
abbrev S4x8x32x1024 : Shape := ⟨4, ![4, 8, 32, 1024]⟩
abbrev S864x1024 : Shape := ⟨2, ![864, 1024]⟩
abbrev S1x256x864 : Shape := ⟨3, ![1, 256, 864]⟩
abbrev S256x864 : Shape := ⟨2, ![256, 864]⟩
abbrev S8x32x1024 : Shape := ⟨3, ![8, 32, 1024]⟩
abbrev S1x8x32x1024 : Shape := ⟨4, ![1, 8, 32, 1024]⟩
abbrev S8x1024 : Shape := ⟨2, ![8, 1024]⟩
abbrev S8x1x1024 : Shape := ⟨3, ![8, 1, 1024]⟩
abbrev S8x512x32x27 : Shape := ⟨4, ![8, 512, 32, 27]⟩
abbrev S8x512x27x32 : Shape := ⟨4, ![8, 512, 27, 32]⟩
abbrev S8x512x864 : Shape := ⟨3, ![8, 512, 864]⟩
abbrev S256x5120 : Shape := ⟨2, ![256, 5120]⟩
abbrev S256x1536 : Shape := ⟨2, ![256, 1536]⟩
abbrev S1x256x1536 : Shape := ⟨3, ![1, 256, 1536]⟩
abbrev S8x256x1536 : Shape := ⟨3, ![8, 256, 1536]⟩
abbrev S512x4096 : Shape := ⟨2, ![512, 4096]⟩
abbrev S512x512 : Shape := ⟨2, ![512, 512]⟩
abbrev S8x8x64x512 : Shape := ⟨4, ![8, 8, 64, 512]⟩
abbrev S864x512 : Shape := ⟨2, ![864, 512]⟩
abbrev S1x512 : Shape := ⟨2, ![1, 512]⟩
abbrev S32x512 : Shape := ⟨2, ![32, 512]⟩
abbrev S1x512x864 : Shape := ⟨3, ![1, 512, 864]⟩
abbrev S512x864 : Shape := ⟨2, ![512, 864]⟩
abbrev S8x64x512 : Shape := ⟨3, ![8, 64, 512]⟩
abbrev S1x8x64x512 : Shape := ⟨4, ![1, 8, 64, 512]⟩
abbrev S8x512 : Shape := ⟨2, ![8, 512]⟩
abbrev S512 : Shape := ⟨1, ![512]⟩
abbrev S8x1x512 : Shape := ⟨3, ![8, 1, 512]⟩
abbrev S8x256x64x27 : Shape := ⟨4, ![8, 256, 64, 27]⟩
abbrev S8x256x27x64 : Shape := ⟨4, ![8, 256, 27, 64]⟩
abbrev S8x256x1728 : Shape := ⟨3, ![8, 256, 1728]⟩
abbrev S512x5120 : Shape := ⟨2, ![512, 5120]⟩
abbrev S512x1536 : Shape := ⟨2, ![512, 1536]⟩
abbrev S1x512x1536 : Shape := ⟨3, ![1, 512, 1536]⟩
abbrev S8x512x1536 : Shape := ⟨3, ![8, 512, 1536]⟩
abbrev S256x512 : Shape := ⟨2, ![256, 512]⟩
abbrev S8x8x32x512 : Shape := ⟨4, ![8, 8, 32, 512]⟩
abbrev S1728x512 : Shape := ⟨2, ![1728, 512]⟩
abbrev S64x512 : Shape := ⟨2, ![64, 512]⟩
abbrev S1x256x1728 : Shape := ⟨3, ![1, 256, 1728]⟩
abbrev S256x1728 : Shape := ⟨2, ![256, 1728]⟩
abbrev S8x32x512 : Shape := ⟨3, ![8, 32, 512]⟩
abbrev S1x8x32x512 : Shape := ⟨4, ![1, 8, 32, 512]⟩
abbrev S8x256x32x27 : Shape := ⟨4, ![8, 256, 32, 27]⟩
abbrev S8x256x27x32 : Shape := ⟨4, ![8, 256, 27, 32]⟩
abbrev S8x256x864 : Shape := ⟨3, ![8, 256, 864]⟩
abbrev S16x128x32x27 : Shape := ⟨4, ![16, 128, 32, 27]⟩
abbrev S16x128x27x32 : Shape := ⟨4, ![16, 128, 27, 32]⟩
abbrev S16x128x864 : Shape := ⟨3, ![16, 128, 864]⟩
abbrev S128x512 : Shape := ⟨2, ![128, 512]⟩
abbrev S16x4x32x512 : Shape := ⟨4, ![16, 4, 32, 512]⟩
abbrev S1x128x864 : Shape := ⟨3, ![1, 128, 864]⟩
abbrev S128x864 : Shape := ⟨2, ![128, 864]⟩
abbrev S4x32x512 : Shape := ⟨3, ![4, 32, 512]⟩
abbrev S1x4x32x512 : Shape := ⟨4, ![1, 4, 32, 512]⟩
abbrev S4x512 : Shape := ⟨2, ![4, 512]⟩
abbrev S4x1x512 : Shape := ⟨3, ![4, 1, 512]⟩
abbrev S4x64x32x27 : Shape := ⟨4, ![4, 64, 32, 27]⟩
abbrev S4x64x27x32 : Shape := ⟨4, ![4, 64, 27, 32]⟩
abbrev S4x64x864 : Shape := ⟨3, ![4, 64, 864]⟩
abbrev S4x4x16x1024 : Shape := ⟨4, ![4, 4, 16, 1024]⟩
abbrev S1x64x864 : Shape := ⟨3, ![1, 64, 864]⟩
abbrev S64x864 : Shape := ⟨2, ![64, 864]⟩
abbrev S8x64x16x27 : Shape := ⟨4, ![8, 64, 16, 27]⟩
abbrev S8x64x27x16 : Shape := ⟨4, ![8, 64, 27, 16]⟩
abbrev S8x64x432 : Shape := ⟨3, ![8, 64, 432]⟩
abbrev S8x4x16x1024 : Shape := ⟨4, ![8, 4, 16, 1024]⟩
abbrev S4x32x16x27 : Shape := ⟨4, ![4, 32, 16, 27]⟩
abbrev S4x32x27x16 : Shape := ⟨4, ![4, 32, 27, 16]⟩
abbrev S4x32x432 : Shape := ⟨3, ![4, 32, 432]⟩
abbrev S4x2x16x1024 : Shape := ⟨4, ![4, 2, 16, 1024]⟩
abbrev S48x4096 : Shape := ⟨2, ![48, 4096]⟩
abbrev S3x16x16x27 : Shape := ⟨4, ![3, 16, 16, 27]⟩
abbrev S3x16x27x16 : Shape := ⟨4, ![3, 16, 27, 16]⟩
abbrev S3x16x432 : Shape := ⟨3, ![3, 16, 432]⟩
abbrev S48x5120 : Shape := ⟨2, ![48, 5120]⟩
abbrev S48x2048 : Shape := ⟨2, ![48, 2048]⟩
abbrev S1x48x2048 : Shape := ⟨3, ![1, 48, 2048]⟩
abbrev S4x48x2048 : Shape := ⟨3, ![4, 48, 2048]⟩
abbrev S1x4096 : Shape := ⟨2, ![1, 4096]⟩
abbrev S3x1x16x1024 : Shape := ⟨4, ![3, 1, 16, 1024]⟩
abbrev S1x16x432 : Shape := ⟨3, ![1, 16, 432]⟩
abbrev S16x432 : Shape := ⟨2, ![16, 432]⟩
abbrev S1x16x1024 : Shape := ⟨3, ![1, 16, 1024]⟩
abbrev S1x1x1024 : Shape := ⟨3, ![1, 1, 1024]⟩
abbrev S1x1x16x16x16 : Shape := ⟨5, ![1, 1, 16, 16, 16]⟩

abbrev nBuf : Space → Nat
  | .hbm => 280
  | .vmem => 91
  | .smem => 0
  | _ => 0

abbrev hbmTy0_0 (i : Nat) : BufTy := match i % 128 with
  | 0 => ⟨S1x4x14x14x14, .f32⟩
  | 1 => ⟨S16x4x3x3x3, .f32⟩
  | 2 => ⟨S1x32x16x3x3x3, .f32⟩
  | 3 => ⟨S2x64x16x3x3x3, .f32⟩
  | 4 => ⟨S4x128x16x3x3x3, .f32⟩
  | 5 => ⟨S4x256x32x3x3x3, .f32⟩
  | 6 => ⟨S8x512x32x3x3x3, .f32⟩
  | 7 => ⟨S8x256x64x3x3x3, .f32⟩
  | 8 => ⟨S8x256x32x3x3x3, .f32⟩
  | 9 => ⟨S16x128x32x3x3x3, .f32⟩
  | 10 => ⟨S4x64x32x3x3x3, .f32⟩
  | 11 => ⟨S8x64x16x3x3x3, .f32⟩
  | 12 => ⟨S4x32x16x3x3x3, .f32⟩
  | 13 => ⟨S3x16x16x3x3x3, .f32⟩
  | 14 => ⟨S4x14x14x14, .f32⟩
  | 15 => ⟨S_, .i32⟩
  | 16 => ⟨S_, .f32⟩
  | 17 => ⟨S4x16x16x16, .f32⟩
  | 18 => ⟨S4x4096, .f32⟩
  | 19 => ⟨S1x16x4x3x3x3, .f32⟩
  | 20 => ⟨S1x16x4x27, .f32⟩
  | 21 => ⟨S1x16x27x4, .f32⟩
  | 22 => ⟨S1x16x108, .f32⟩
  | 23 => ⟨S1x16x108, .bf16⟩
  | 24 => ⟨S_, .i32⟩
  | 25 => ⟨S_, .f32⟩
  | 26 => ⟨S4x6144, .f32⟩
  | 27 => ⟨S4x3072, .f32⟩
  | 28 => ⟨S4x3072, .f32⟩
  | 29 => ⟨S4x3072, .f32⟩
  | 30 => ⟨S4x3072, .f32⟩
  | 31 => ⟨S1x4x3072, .f32⟩
  | 32 => ⟨S1x4x3072, .f32⟩
  | 33 => ⟨S1x4x3072, .f32⟩
  | 34 => ⟨S1x4x3072, .f32⟩
  | 35 => ⟨S4x4x3072, .f32⟩
  | 36 => ⟨S16x4096, .f32⟩
  | 37 => ⟨S1x32x16x27, .f32⟩
  | 38 => ⟨S1x32x27x16, .f32⟩
  | 39 => ⟨S1x32x432, .f32⟩
  | 40 => ⟨S1x32x432, .bf16⟩
  | 41 => ⟨S_, .i32⟩
  | 42 => ⟨S_, .f32⟩
  | 43 => ⟨S16x5120, .f32⟩
  | 44 => ⟨S16x2048, .f32⟩
  | 45 => ⟨S16x2048, .f32⟩
  | 46 => ⟨S16x2048, .f32⟩
  | 47 => ⟨S16x2048, .f32⟩
  | 48 => ⟨S1x16x2048, .f32⟩
  | 49 => ⟨S1x16x2048, .f32⟩
  | 50 => ⟨S1x16x2048, .f32⟩
  | 51 => ⟨S1x16x2048, .f32⟩
  | 52 => ⟨S4x16x2048, .f32⟩
  | 53 => ⟨S32x4096, .f32⟩
  | 54 => ⟨S2x64x16x27, .f32⟩
  | 55 => ⟨S2x64x27x16, .f32⟩
  | 56 => ⟨S2x64x432, .f32⟩
  | 57 => ⟨S2x64x432, .bf16⟩
  | 58 => ⟨S_, .i32⟩
  | 59 => ⟨S_, .f32⟩
  | 60 => ⟨S32x5120, .f32⟩
  | 61 => ⟨S32x2048, .f32⟩
  | 62 => ⟨S32x2048, .f32⟩
  | 63 => ⟨S32x2048, .f32⟩
  | 64 => ⟨S32x2048, .f32⟩
  | 65 => ⟨S1x32x2048, .f32⟩
  | 66 => ⟨S1x32x2048, .f32⟩
  | 67 => ⟨S1x32x2048, .f32⟩
  | 68 => ⟨S1x32x2048, .f32⟩
  | 69 => ⟨S4x32x2048, .f32⟩
  | 70 => ⟨S64x4096, .f32⟩
  | 71 => ⟨S4x128x16x27, .f32⟩
  | 72 => ⟨S4x128x27x16, .f32⟩
  | 73 => ⟨S4x128x432, .f32⟩
  | 74 => ⟨S4x128x432, .bf16⟩
  | 75 => ⟨S_, .i32⟩
  | 76 => ⟨S_, .f32⟩
  | 77 => ⟨S64x5120, .f32⟩
  | 78 => ⟨S64x2048, .f32⟩
  | 79 => ⟨S64x2048, .f32⟩
  | 80 => ⟨S64x2048, .f32⟩
  | 81 => ⟨S64x2048, .f32⟩
  | 82 => ⟨S1x64x2048, .f32⟩
  | 83 => ⟨S1x64x2048, .f32⟩
  | 84 => ⟨S1x64x2048, .f32⟩
  | 85 => ⟨S1x64x2048, .f32⟩
  | 86 => ⟨S4x64x2048, .f32⟩
  | 87 => ⟨S128x4096, .f32⟩
  | 88 => ⟨S4x256x32x27, .f32⟩
  | 89 => ⟨S4x256x27x32, .f32⟩
  | 90 => ⟨S4x256x864, .f32⟩
  | 91 => ⟨S4x256x864, .bf16⟩
  | 92 => ⟨S_, .i32⟩
  | 93 => ⟨S_, .f32⟩
  | 94 => ⟨S128x5120, .f32⟩
  | 95 => ⟨S128x2048, .f32⟩
  | 96 => ⟨S128x2048, .f32⟩
  | 97 => ⟨S128x2048, .f32⟩
  | 98 => ⟨S128x2048, .f32⟩
  | 99 => ⟨S1x128x2048, .f32⟩
  | 100 => ⟨S1x128x2048, .f32⟩
  | 101 => ⟨S1x128x2048, .f32⟩
  | 102 => ⟨S1x128x2048, .f32⟩
  | 103 => ⟨S4x128x2048, .f32⟩
  | 104 => ⟨S256x4096, .f32⟩
  | 105 => ⟨S8x512x32x27, .f32⟩
  | 106 => ⟨S8x512x27x32, .f32⟩
  | 107 => ⟨S8x512x864, .f32⟩
  | 108 => ⟨S8x512x864, .bf16⟩
  | 109 => ⟨S_, .i32⟩
  | 110 => ⟨S_, .f32⟩
  | 111 => ⟨S256x5120, .f32⟩
  | 112 => ⟨S256x1536, .f32⟩
  | 113 => ⟨S256x1536, .f32⟩
  | 114 => ⟨S256x1536, .f32⟩
  | 115 => ⟨S256x1536, .f32⟩
  | 116 => ⟨S256x1536, .f32⟩
  | 117 => ⟨S256x1536, .f32⟩
  | 118 => ⟨S256x1536, .f32⟩
  | 119 => ⟨S256x1536, .f32⟩
  | 120 => ⟨S1x256x1536, .f32⟩
  | 121 => ⟨S1x256x1536, .f32⟩
  | 122 => ⟨S1x256x1536, .f32⟩
  | 123 => ⟨S1x256x1536, .f32⟩
  | 124 => ⟨S1x256x1536, .f32⟩
  | 125 => ⟨S1x256x1536, .f32⟩
  | 126 => ⟨S1x256x1536, .f32⟩
  | 127 => ⟨S1x256x1536, .f32⟩
  | _ => ⟨S1x4x14x14x14, .f32⟩

abbrev hbmTy0_1 (i : Nat) : BufTy := match i % 128 with
  | 0 => ⟨S8x256x1536, .f32⟩
  | 1 => ⟨S512x4096, .f32⟩
  | 2 => ⟨S8x256x64x27, .f32⟩
  | 3 => ⟨S8x256x27x64, .f32⟩
  | 4 => ⟨S8x256x1728, .f32⟩
  | 5 => ⟨S8x256x1728, .bf16⟩
  | 6 => ⟨S_, .i32⟩
  | 7 => ⟨S_, .f32⟩
  | 8 => ⟨S512x5120, .f32⟩
  | 9 => ⟨S512x1536, .f32⟩
  | 10 => ⟨S512x1536, .f32⟩
  | 11 => ⟨S512x1536, .f32⟩
  | 12 => ⟨S512x1536, .f32⟩
  | 13 => ⟨S512x1536, .f32⟩
  | 14 => ⟨S512x1536, .f32⟩
  | 15 => ⟨S512x1536, .f32⟩
  | 16 => ⟨S512x1536, .f32⟩
  | 17 => ⟨S1x512x1536, .f32⟩
  | 18 => ⟨S1x512x1536, .f32⟩
  | 19 => ⟨S1x512x1536, .f32⟩
  | 20 => ⟨S1x512x1536, .f32⟩
  | 21 => ⟨S1x512x1536, .f32⟩
  | 22 => ⟨S1x512x1536, .f32⟩
  | 23 => ⟨S1x512x1536, .f32⟩
  | 24 => ⟨S1x512x1536, .f32⟩
  | 25 => ⟨S8x512x1536, .f32⟩
  | 26 => ⟨S256x4096, .f32⟩
  | 27 => ⟨S8x256x32x3x3x3, .f32⟩
  | 28 => ⟨S8x256x32x27, .f32⟩
  | 29 => ⟨S8x256x27x32, .f32⟩
  | 30 => ⟨S8x256x864, .f32⟩
  | 31 => ⟨S8x256x864, .bf16⟩
  | 32 => ⟨S_, .i32⟩
  | 33 => ⟨S_, .f32⟩
  | 34 => ⟨S256x5120, .f32⟩
  | 35 => ⟨S256x1536, .f32⟩
  | 36 => ⟨S256x1536, .f32⟩
  | 37 => ⟨S256x1536, .f32⟩
  | 38 => ⟨S256x1536, .f32⟩
  | 39 => ⟨S256x1536, .f32⟩
  | 40 => ⟨S256x1536, .f32⟩
  | 41 => ⟨S256x1536, .f32⟩
  | 42 => ⟨S256x1536, .f32⟩
  | 43 => ⟨S1x256x1536, .f32⟩
  | 44 => ⟨S1x256x1536, .f32⟩
  | 45 => ⟨S1x256x1536, .f32⟩
  | 46 => ⟨S1x256x1536, .f32⟩
  | 47 => ⟨S1x256x1536, .f32⟩
  | 48 => ⟨S1x256x1536, .f32⟩
  | 49 => ⟨S1x256x1536, .f32⟩
  | 50 => ⟨S1x256x1536, .f32⟩
  | 51 => ⟨S8x256x1536, .f32⟩
  | 52 => ⟨S256x4096, .f32⟩
  | 53 => ⟨S512x4096, .f32⟩
  | 54 => ⟨S16x128x32x27, .f32⟩
  | 55 => ⟨S16x128x27x32, .f32⟩
  | 56 => ⟨S16x128x864, .f32⟩
  | 57 => ⟨S16x128x864, .bf16⟩
  | 58 => ⟨S_, .i32⟩
  | 59 => ⟨S_, .f32⟩
  | 60 => ⟨S512x5120, .f32⟩
  | 61 => ⟨S512x1536, .f32⟩
  | 62 => ⟨S512x1536, .f32⟩
  | 63 => ⟨S512x1536, .f32⟩
  | 64 => ⟨S512x1536, .f32⟩
  | 65 => ⟨S512x1536, .f32⟩
  | 66 => ⟨S512x1536, .f32⟩
  | 67 => ⟨S512x1536, .f32⟩
  | 68 => ⟨S512x1536, .f32⟩
  | 69 => ⟨S1x512x1536, .f32⟩
  | 70 => ⟨S1x512x1536, .f32⟩
  | 71 => ⟨S1x512x1536, .f32⟩
  | 72 => ⟨S1x512x1536, .f32⟩
  | 73 => ⟨S1x512x1536, .f32⟩
  | 74 => ⟨S1x512x1536, .f32⟩
  | 75 => ⟨S1x512x1536, .f32⟩
  | 76 => ⟨S1x512x1536, .f32⟩
  | 77 => ⟨S8x512x1536, .f32⟩
  | 78 => ⟨S128x4096, .f32⟩
  | 79 => ⟨S4x64x32x3x3x3, .f32⟩
  | 80 => ⟨S4x64x32x27, .f32⟩
  | 81 => ⟨S4x64x27x32, .f32⟩
  | 82 => ⟨S4x64x864, .f32⟩
  | 83 => ⟨S4x64x864, .bf16⟩
  | 84 => ⟨S_, .i32⟩
  | 85 => ⟨S_, .f32⟩
  | 86 => ⟨S128x5120, .f32⟩
  | 87 => ⟨S128x2048, .f32⟩
  | 88 => ⟨S128x2048, .f32⟩
  | 89 => ⟨S128x2048, .f32⟩
  | 90 => ⟨S128x2048, .f32⟩
  | 91 => ⟨S1x128x2048, .f32⟩
  | 92 => ⟨S1x128x2048, .f32⟩
  | 93 => ⟨S1x128x2048, .f32⟩
  | 94 => ⟨S1x128x2048, .f32⟩
  | 95 => ⟨S4x128x2048, .f32⟩
  | 96 => ⟨S64x4096, .f32⟩
  | 97 => ⟨S128x4096, .f32⟩
  | 98 => ⟨S8x64x16x27, .f32⟩
  | 99 => ⟨S8x64x27x16, .f32⟩
  | 100 => ⟨S8x64x432, .f32⟩
  | 101 => ⟨S8x64x432, .bf16⟩
  | 102 => ⟨S_, .i32⟩
  | 103 => ⟨S_, .f32⟩
  | 104 => ⟨S128x5120, .f32⟩
  | 105 => ⟨S128x2048, .f32⟩
  | 106 => ⟨S128x2048, .f32⟩
  | 107 => ⟨S128x2048, .f32⟩
  | 108 => ⟨S128x2048, .f32⟩
  | 109 => ⟨S1x128x2048, .f32⟩
  | 110 => ⟨S1x128x2048, .f32⟩
  | 111 => ⟨S1x128x2048, .f32⟩
  | 112 => ⟨S1x128x2048, .f32⟩
  | 113 => ⟨S4x128x2048, .f32⟩
  | 114 => ⟨S64x4096, .f32⟩
  | 115 => ⟨S4x32x16x3x3x3, .f32⟩
  | 116 => ⟨S4x32x16x27, .f32⟩
  | 117 => ⟨S4x32x27x16, .f32⟩
  | 118 => ⟨S4x32x432, .f32⟩
  | 119 => ⟨S4x32x432, .bf16⟩
  | 120 => ⟨S_, .i32⟩
  | 121 => ⟨S_, .f32⟩
  | 122 => ⟨S64x5120, .f32⟩
  | 123 => ⟨S64x2048, .f32⟩
  | 124 => ⟨S64x2048, .f32⟩
  | 125 => ⟨S64x2048, .f32⟩
  | 126 => ⟨S64x2048, .f32⟩
  | 127 => ⟨S1x64x2048, .f32⟩
  | _ => ⟨S1x4x14x14x14, .f32⟩

abbrev hbmTy0_2 (i : Nat) : BufTy := match i % 128 with
  | 0 => ⟨S1x64x2048, .f32⟩
  | 1 => ⟨S1x64x2048, .f32⟩
  | 2 => ⟨S1x64x2048, .f32⟩
  | 3 => ⟨S4x64x2048, .f32⟩
  | 4 => ⟨S32x4096, .f32⟩
  | 5 => ⟨S48x4096, .f32⟩
  | 6 => ⟨S3x16x16x27, .f32⟩
  | 7 => ⟨S3x16x27x16, .f32⟩
  | 8 => ⟨S3x16x432, .f32⟩
  | 9 => ⟨S3x16x432, .bf16⟩
  | 10 => ⟨S_, .i32⟩
  | 11 => ⟨S_, .f32⟩
  | 12 => ⟨S48x5120, .f32⟩
  | 13 => ⟨S48x2048, .f32⟩
  | 14 => ⟨S48x2048, .f32⟩
  | 15 => ⟨S48x2048, .f32⟩
  | 16 => ⟨S48x2048, .f32⟩
  | 17 => ⟨S1x48x2048, .f32⟩
  | 18 => ⟨S1x48x2048, .f32⟩
  | 19 => ⟨S1x48x2048, .f32⟩
  | 20 => ⟨S1x48x2048, .f32⟩
  | 21 => ⟨S4x48x2048, .f32⟩
  | 22 => ⟨S1x4096, .f32⟩
  | 23 => ⟨S1x1x16x16x16, .f32⟩
  | _ => ⟨S1x4x14x14x14, .f32⟩

abbrev hbmTy (i : Nat) : BufTy := match i / 128 with
  | 0 => hbmTy0_0 i
  | 1 => hbmTy0_1 i
  | 2 => hbmTy0_2 i
  | _ => ⟨S1x4x14x14x14, .f32⟩

abbrev bufTy : (tb : Table) → Fin (tcTables nBuf tb) → BufTy
  | .hbm, ⟨i, _⟩ => hbmTy i
  | .local _ .vmem, ⟨0, _⟩ => ⟨S1x4x3072, .f32⟩
  | .local _ .vmem, ⟨1, _⟩ => ⟨S1x4x3072, .f32⟩
  | .local _ .vmem, ⟨2, _⟩ => ⟨S1x16x108, .bf16⟩
  | .local _ .vmem, ⟨3, _⟩ => ⟨S16x1024, .f32⟩
  | .local _ .vmem, ⟨4, _⟩ => ⟨S16x1024, .f32⟩
  | .local _ .vmem, ⟨5, _⟩ => ⟨S1x1x16x1024, .f32⟩
  | .local _ .vmem, ⟨6, _⟩ => ⟨S8x128, .f32⟩
  | .local _ .vmem, ⟨7, _⟩ => ⟨S1x16x2048, .f32⟩
  | .local _ .vmem, ⟨8, _⟩ => ⟨S1x16x2048, .f32⟩
  | .local _ .vmem, ⟨9, _⟩ => ⟨S1x32x432, .bf16⟩
  | .local _ .vmem, ⟨10, _⟩ => ⟨S32x1024, .f32⟩
  | .local _ .vmem, ⟨11, _⟩ => ⟨S32x1024, .f32⟩
  | .local _ .vmem, ⟨12, _⟩ => ⟨S1x2x16x1024, .f32⟩
  | .local _ .vmem, ⟨13, _⟩ => ⟨S432x1024, .f32⟩
  | .local _ .vmem, ⟨14, _⟩ => ⟨S1x32x2048, .f32⟩
  | .local _ .vmem, ⟨15, _⟩ => ⟨S1x32x2048, .f32⟩
  | .local _ .vmem, ⟨16, _⟩ => ⟨S2x64x432, .bf16⟩
  | .local _ .vmem, ⟨17, _⟩ => ⟨S64x1024, .f32⟩
  | .local _ .vmem, ⟨18, _⟩ => ⟨S64x1024, .f32⟩
  | .local _ .vmem, ⟨19, _⟩ => ⟨S2x4x16x1024, .f32⟩
  | .local _ .vmem, ⟨20, _⟩ => ⟨S432x1024, .f32⟩
  | .local _ .vmem, ⟨21, _⟩ => ⟨S1x64x2048, .f32⟩
  | .local _ .vmem, ⟨22, _⟩ => ⟨S1x64x2048, .f32⟩
  | .local _ .vmem, ⟨23, _⟩ => ⟨S4x128x432, .bf16⟩
  | .local _ .vmem, ⟨24, _⟩ => ⟨S128x1024, .f32⟩
  | .local _ .vmem, ⟨25, _⟩ => ⟨S128x1024, .f32⟩
  | .local _ .vmem, ⟨26, _⟩ => ⟨S4x4x32x1024, .f32⟩
  | .local _ .vmem, ⟨27, _⟩ => ⟨S432x1024, .f32⟩
  | .local _ .vmem, ⟨28, _⟩ => ⟨S1x128x2048, .f32⟩
  | .local _ .vmem, ⟨29, _⟩ => ⟨S1x128x2048, .f32⟩
  | .local _ .vmem, ⟨30, _⟩ => ⟨S4x256x864, .bf16⟩
  | .local _ .vmem, ⟨31, _⟩ => ⟨S256x1024, .f32⟩
  | .local _ .vmem, ⟨32, _⟩ => ⟨S256x1024, .f32⟩
  | .local _ .vmem, ⟨33, _⟩ => ⟨S4x8x32x1024, .f32⟩
  | .local _ .vmem, ⟨34, _⟩ => ⟨S864x1024, .f32⟩
  | .local _ .vmem, ⟨35, _⟩ => ⟨S1x256x1536, .f32⟩
  | .local _ .vmem, ⟨36, _⟩ => ⟨S1x256x1536, .f32⟩
  | .local _ .vmem, ⟨37, _⟩ => ⟨S8x512x864, .bf16⟩
  | .local _ .vmem, ⟨38, _⟩ => ⟨S512x512, .f32⟩
  | .local _ .vmem, ⟨39, _⟩ => ⟨S512x512, .f32⟩
  | .local _ .vmem, ⟨40, _⟩ => ⟨S8x8x64x512, .f32⟩
  | .local _ .vmem, ⟨41, _⟩ => ⟨S864x512, .f32⟩
  | .local _ .vmem, ⟨42, _⟩ => ⟨S1x512x1536, .f32⟩
  | .local _ .vmem, ⟨43, _⟩ => ⟨S1x512x1536, .f32⟩
  | .local _ .vmem, ⟨44, _⟩ => ⟨S8x256x1728, .bf16⟩
  | .local _ .vmem, ⟨45, _⟩ => ⟨S256x512, .f32⟩
  | .local _ .vmem, ⟨46, _⟩ => ⟨S256x512, .f32⟩
  | .local _ .vmem, ⟨47, _⟩ => ⟨S8x8x32x512, .f32⟩
  | .local _ .vmem, ⟨48, _⟩ => ⟨S1728x512, .f32⟩
  | .local _ .vmem, ⟨49, _⟩ => ⟨S1x256x1536, .f32⟩
  | .local _ .vmem, ⟨50, _⟩ => ⟨S1x256x1536, .f32⟩
  | .local _ .vmem, ⟨51, _⟩ => ⟨S8x256x864, .bf16⟩
  | .local _ .vmem, ⟨52, _⟩ => ⟨S256x512, .f32⟩
  | .local _ .vmem, ⟨53, _⟩ => ⟨S256x512, .f32⟩
  | .local _ .vmem, ⟨54, _⟩ => ⟨S8x8x32x512, .f32⟩
  | .local _ .vmem, ⟨55, _⟩ => ⟨S864x512, .f32⟩
  | .local _ .vmem, ⟨56, _⟩ => ⟨S1x512x1536, .f32⟩
  | .local _ .vmem, ⟨57, _⟩ => ⟨S1x512x1536, .f32⟩
  | .local _ .vmem, ⟨58, _⟩ => ⟨S16x128x864, .bf16⟩
  | .local _ .vmem, ⟨59, _⟩ => ⟨S128x512, .f32⟩
  | .local _ .vmem, ⟨60, _⟩ => ⟨S128x512, .f32⟩
  | .local _ .vmem, ⟨61, _⟩ => ⟨S16x4x32x512, .f32⟩
  | .local _ .vmem, ⟨62, _⟩ => ⟨S864x512, .f32⟩
  | .local _ .vmem, ⟨63, _⟩ => ⟨S1x128x2048, .f32⟩
  | .local _ .vmem, ⟨64, _⟩ => ⟨S1x128x2048, .f32⟩
  | .local _ .vmem, ⟨65, _⟩ => ⟨S4x64x864, .bf16⟩
  | .local _ .vmem, ⟨66, _⟩ => ⟨S64x1024, .f32⟩
  | .local _ .vmem, ⟨67, _⟩ => ⟨S64x1024, .f32⟩
  | .local _ .vmem, ⟨68, _⟩ => ⟨S4x4x16x1024, .f32⟩
  | .local _ .vmem, ⟨69, _⟩ => ⟨S864x1024, .f32⟩
  | .local _ .vmem, ⟨70, _⟩ => ⟨S1x128x2048, .f32⟩
  | .local _ .vmem, ⟨71, _⟩ => ⟨S1x128x2048, .f32⟩
  | .local _ .vmem, ⟨72, _⟩ => ⟨S8x64x432, .bf16⟩
  | .local _ .vmem, ⟨73, _⟩ => ⟨S64x1024, .f32⟩
  | .local _ .vmem, ⟨74, _⟩ => ⟨S64x1024, .f32⟩
  | .local _ .vmem, ⟨75, _⟩ => ⟨S8x4x16x1024, .f32⟩
  | .local _ .vmem, ⟨76, _⟩ => ⟨S432x1024, .f32⟩
  | .local _ .vmem, ⟨77, _⟩ => ⟨S1x64x2048, .f32⟩
  | .local _ .vmem, ⟨78, _⟩ => ⟨S1x64x2048, .f32⟩
  | .local _ .vmem, ⟨79, _⟩ => ⟨S4x32x432, .bf16⟩
  | .local _ .vmem, ⟨80, _⟩ => ⟨S32x1024, .f32⟩
  | .local _ .vmem, ⟨81, _⟩ => ⟨S32x1024, .f32⟩
  | .local _ .vmem, ⟨82, _⟩ => ⟨S4x2x16x1024, .f32⟩
  | .local _ .vmem, ⟨83, _⟩ => ⟨S432x1024, .f32⟩
  | .local _ .vmem, ⟨84, _⟩ => ⟨S1x48x2048, .f32⟩
  | .local _ .vmem, ⟨85, _⟩ => ⟨S1x48x2048, .f32⟩
  | .local _ .vmem, ⟨86, _⟩ => ⟨S3x16x432, .bf16⟩
  | .local _ .vmem, ⟨87, _⟩ => ⟨S1x1024, .f32⟩
  | .local _ .vmem, ⟨88, _⟩ => ⟨S1x1024, .f32⟩
  | .local _ .vmem, ⟨89, _⟩ => ⟨S3x1x16x1024, .f32⟩
  | .local _ .vmem, ⟨90, _⟩ => ⟨S432x1024, .f32⟩
  | _, _ => ⟨S1x4x14x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_call1_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_1 : Ref sig .tc := ⟨.hbm, 41, rfl⟩
abbrev main_call2_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_2 : Ref sig .tc := ⟨.hbm, 58, rfl⟩
abbrev main_call3_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_3 : Ref sig .tc := ⟨.hbm, 75, rfl⟩
abbrev main_call4_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_4 : Ref sig .tc := ⟨.hbm, 92, rfl⟩
abbrev main_call5_v0 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_5 : Ref sig .tc := ⟨.hbm, 109, rfl⟩
abbrev main_call6_v0 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_c_6 : Ref sig .tc := ⟨.hbm, 134, rfl⟩
abbrev main_call7_v0 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_c_7 : Ref sig .tc := ⟨.hbm, 160, rfl⟩
abbrev main_call9_v0 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_c_8 : Ref sig .tc := ⟨.hbm, 186, rfl⟩
abbrev main_call10_v0 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_c_9 : Ref sig .tc := ⟨.hbm, 212, rfl⟩
abbrev main_call12_v0 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_c_10 : Ref sig .tc := ⟨.hbm, 230, rfl⟩
abbrev main_call13_v0 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_c_11 : Ref sig .tc := ⟨.hbm, 248, rfl⟩
abbrev main_call15_v0 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_c_12 : Ref sig .tc := ⟨.hbm, 266, rfl⟩
abbrev main_call16_v0 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc2_scratch1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_scratch0 : Ref sig .tc := ⟨.vmem, 26, rfl⟩
abbrev cc3_scratch1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_scratch0 : Ref sig .tc := ⟨.vmem, 33, rfl⟩
abbrev cc4_scratch1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc5_scratch0 : Ref sig .tc := ⟨.vmem, 40, rfl⟩
abbrev cc5_scratch1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc6_scratch0 : Ref sig .tc := ⟨.vmem, 47, rfl⟩
abbrev cc6_scratch1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg2_0 : Ref sig .tc := ⟨.vmem, 52, rfl⟩
abbrev cc7_stg2_1 : Ref sig .tc := ⟨.vmem, 53, rfl⟩
abbrev cc7_scratch0 : Ref sig .tc := ⟨.vmem, 54, rfl⟩
abbrev cc7_scratch1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc8_scratch0 : Ref sig .tc := ⟨.vmem, 61, rfl⟩
abbrev cc8_scratch1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg2_0 : Ref sig .tc := ⟨.vmem, 66, rfl⟩
abbrev cc9_stg2_1 : Ref sig .tc := ⟨.vmem, 67, rfl⟩
abbrev cc9_scratch0 : Ref sig .tc := ⟨.vmem, 68, rfl⟩
abbrev cc9_scratch1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg2_0 : Ref sig .tc := ⟨.vmem, 73, rfl⟩
abbrev cc10_stg2_1 : Ref sig .tc := ⟨.vmem, 74, rfl⟩
abbrev cc10_scratch0 : Ref sig .tc := ⟨.vmem, 75, rfl⟩
abbrev cc10_scratch1 : Ref sig .tc := ⟨.vmem, 76, rfl⟩
abbrev cc11_stg0_0 : Ref sig .tc := ⟨.vmem, 77, rfl⟩
abbrev cc11_stg0_1 : Ref sig .tc := ⟨.vmem, 78, rfl⟩
abbrev cc11_stg1_0 : Ref sig .tc := ⟨.vmem, 79, rfl⟩
abbrev cc11_stg2_0 : Ref sig .tc := ⟨.vmem, 80, rfl⟩
abbrev cc11_stg2_1 : Ref sig .tc := ⟨.vmem, 81, rfl⟩
abbrev cc11_scratch0 : Ref sig .tc := ⟨.vmem, 82, rfl⟩
abbrev cc11_scratch1 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg2_0 : Ref sig .tc := ⟨.vmem, 87, rfl⟩
abbrev cc12_stg2_1 : Ref sig .tc := ⟨.vmem, 88, rfl⟩
abbrev cc12_scratch0 : Ref sig .tc := ⟨.vmem, 89, rfl⟩
abbrev cc12_scratch1 : Ref sig .tc := ⟨.vmem, 90, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem2_1 : DmaSem sig := 54
abbrev cc11_sem0_0 : DmaSem sig := 55
abbrev cc11_sem0_1 : DmaSem sig := 56
abbrev cc11_sem1_0 : DmaSem sig := 57
abbrev cc11_sem2_0 : DmaSem sig := 58
abbrev cc11_sem2_1 : DmaSem sig := 59
abbrev cc12_sem0_0 : DmaSem sig := 60
abbrev cc12_sem0_1 : DmaSem sig := 61
abbrev cc12_sem1_0 : DmaSem sig := 62
abbrev cc12_sem2_0 : DmaSem sig := 63
abbrev cc12_sem2_1 : DmaSem sig := 64

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16x108 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x16x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32x432 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1x32x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x64x432 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S64x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S1x64x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4x128x432 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S128x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S1x128x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x256x864 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S1x256x1536 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8x512x864 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![8], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 2 → Memref sig .tc .vmem S1x512x1536 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8x256x1728 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S256x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![8], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S1x256x1536 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S8x256x864 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S256x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![8], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_2 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage8_0 : Fin 2 → Memref sig .tc .vmem S1x512x1536 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S16x128x864 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S128x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![4], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_2 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage9_0 : Fin 2 → Memref sig .tc .vmem S1x128x2048 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S4x64x864 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S64x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![4], ![false]⟩

def cc10_transform_0 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_1 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc10_transform_2 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage10_0 : Fin 2 → Memref sig .tc .vmem S1x128x2048 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S8x64x432 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S64x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![4], ![false]⟩

def cc11_transform_0 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_1 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc11_transform_2 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage11_0 : Fin 2 → Memref sig .tc .vmem S1x64x2048 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S4x32x432 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S32x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![4], ![false]⟩

def cc12_transform_0 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc12_transform_1 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc12_transform_2 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage12_0 : Fin 2 → Memref sig .tc .vmem S1x48x2048 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S3x16x432 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S1x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]
-- ==== ReferenceIdeal.lean ====
abbrev S1x4x14x14x14 : Shape := ⟨5, ![1, 4, 14, 14, 14]⟩
abbrev S16x4x3x3x3 : Shape := ⟨5, ![16, 4, 3, 3, 3]⟩
abbrev S1x32x16x3x3x3 : Shape := ⟨6, ![1, 32, 16, 3, 3, 3]⟩
abbrev S2x64x16x3x3x3 : Shape := ⟨6, ![2, 64, 16, 3, 3, 3]⟩
abbrev S4x128x16x3x3x3 : Shape := ⟨6, ![4, 128, 16, 3, 3, 3]⟩
abbrev S4x256x32x3x3x3 : Shape := ⟨6, ![4, 256, 32, 3, 3, 3]⟩
abbrev S8x512x32x3x3x3 : Shape := ⟨6, ![8, 512, 32, 3, 3, 3]⟩
abbrev S8x256x64x3x3x3 : Shape := ⟨6, ![8, 256, 64, 3, 3, 3]⟩
abbrev S8x256x32x3x3x3 : Shape := ⟨6, ![8, 256, 32, 3, 3, 3]⟩
abbrev S16x128x32x3x3x3 : Shape := ⟨6, ![16, 128, 32, 3, 3, 3]⟩
abbrev S4x64x32x3x3x3 : Shape := ⟨6, ![4, 64, 32, 3, 3, 3]⟩
abbrev S8x64x16x3x3x3 : Shape := ⟨6, ![8, 64, 16, 3, 3, 3]⟩
abbrev S4x32x16x3x3x3 : Shape := ⟨6, ![4, 32, 16, 3, 3, 3]⟩
abbrev S3x16x16x3x3x3 : Shape := ⟨6, ![3, 16, 16, 3, 3, 3]⟩
abbrev S1x16x4x3x3x3 : Shape := ⟨6, ![1, 16, 4, 3, 3, 3]⟩
abbrev S_ : Shape := ⟨0, ![]⟩
abbrev S1x4x18x18x18 : Shape := ⟨5, ![1, 4, 18, 18, 18]⟩
abbrev S1x4x16x18x18 : Shape := ⟨5, ![1, 4, 16, 18, 18]⟩
abbrev S1x4x1x16x18x18 : Shape := ⟨6, ![1, 4, 1, 16, 18, 18]⟩
abbrev S1x4x3x16x18x18 : Shape := ⟨6, ![1, 4, 3, 16, 18, 18]⟩
abbrev S1x4x3x16x16x18 : Shape := ⟨6, ![1, 4, 3, 16, 16, 18]⟩
abbrev S1x4x3x1x16x16x18 : Shape := ⟨7, ![1, 4, 3, 1, 16, 16, 18]⟩
abbrev S1x4x3x3x16x16x18 : Shape := ⟨7, ![1, 4, 3, 3, 16, 16, 18]⟩
abbrev S1x4x3x3x16x16x16 : Shape := ⟨7, ![1, 4, 3, 3, 16, 16, 16]⟩
abbrev S1x4x3x3x1x16x16x16 : Shape := ⟨8, ![1, 4, 3, 3, 1, 16, 16, 16]⟩
abbrev S1x4x3x3x3x16x16x16 : Shape := ⟨8, ![1, 4, 3, 3, 3, 16, 16, 16]⟩
abbrev S1x4x27x16x16x16 : Shape := ⟨6, ![1, 4, 27, 16, 16, 16]⟩
abbrev S1x16x4x27 : Shape := ⟨4, ![1, 16, 4, 27]⟩
abbrev S1x16x16x16x16 : Shape := ⟨5, ![1, 16, 16, 16, 16]⟩
abbrev S1x16x18x18x18 : Shape := ⟨5, ![1, 16, 18, 18, 18]⟩
abbrev S1x16x16x18x18 : Shape := ⟨5, ![1, 16, 16, 18, 18]⟩
abbrev S1x16x1x16x18x18 : Shape := ⟨6, ![1, 16, 1, 16, 18, 18]⟩
abbrev S1x16x3x16x18x18 : Shape := ⟨6, ![1, 16, 3, 16, 18, 18]⟩
abbrev S1x16x3x16x16x18 : Shape := ⟨6, ![1, 16, 3, 16, 16, 18]⟩
abbrev S1x16x3x1x16x16x18 : Shape := ⟨7, ![1, 16, 3, 1, 16, 16, 18]⟩
abbrev S1x16x3x3x16x16x18 : Shape := ⟨7, ![1, 16, 3, 3, 16, 16, 18]⟩
abbrev S1x16x3x3x16x16x16 : Shape := ⟨7, ![1, 16, 3, 3, 16, 16, 16]⟩
abbrev S1x16x3x3x1x16x16x16 : Shape := ⟨8, ![1, 16, 3, 3, 1, 16, 16, 16]⟩
abbrev S1x16x3x3x3x16x16x16 : Shape := ⟨8, ![1, 16, 3, 3, 3, 16, 16, 16]⟩
abbrev S1x16x27x16x16x16 : Shape := ⟨6, ![1, 16, 27, 16, 16, 16]⟩
abbrev S1x32x16x27 : Shape := ⟨4, ![1, 32, 16, 27]⟩
abbrev S1x32x16x16x16 : Shape := ⟨5, ![1, 32, 16, 16, 16]⟩
abbrev S1x2x16x16x16x16 : Shape := ⟨6, ![1, 2, 16, 16, 16, 16]⟩
abbrev S1x2x16x16x16 : Shape := ⟨5, ![1, 2, 16, 16, 16]⟩
abbrev S1x16x16x16 : Shape := ⟨4, ![1, 16, 16, 16]⟩
abbrev S1x1x16x16x16 : Shape := ⟨5, ![1, 1, 16, 16, 16]⟩
abbrev S1x2x1x16x16x16 : Shape := ⟨6, ![1, 2, 1, 16, 16, 16]⟩
abbrev S2x16x16x16x16 : Shape := ⟨5, ![2, 16, 16, 16, 16]⟩
abbrev S2x16x16x16 : Shape := ⟨4, ![2, 16, 16, 16]⟩
abbrev S2x1x16x16x16 : Shape := ⟨5, ![2, 1, 16, 16, 16]⟩
abbrev S2x16x18x18x18 : Shape := ⟨5, ![2, 16, 18, 18, 18]⟩
abbrev S2x16x16x18x18 : Shape := ⟨5, ![2, 16, 16, 18, 18]⟩
abbrev S2x16x1x16x18x18 : Shape := ⟨6, ![2, 16, 1, 16, 18, 18]⟩
abbrev S2x16x3x16x18x18 : Shape := ⟨6, ![2, 16, 3, 16, 18, 18]⟩
abbrev S2x16x3x16x16x18 : Shape := ⟨6, ![2, 16, 3, 16, 16, 18]⟩
abbrev S2x16x3x1x16x16x18 : Shape := ⟨7, ![2, 16, 3, 1, 16, 16, 18]⟩
abbrev S2x16x3x3x16x16x18 : Shape := ⟨7, ![2, 16, 3, 3, 16, 16, 18]⟩
abbrev S2x16x3x3x16x16x16 : Shape := ⟨7, ![2, 16, 3, 3, 16, 16, 16]⟩
abbrev S2x16x3x3x1x16x16x16 : Shape := ⟨8, ![2, 16, 3, 3, 1, 16, 16, 16]⟩
abbrev S2x16x3x3x3x16x16x16 : Shape := ⟨8, ![2, 16, 3, 3, 3, 16, 16, 16]⟩
abbrev S2x16x27x16x16x16 : Shape := ⟨6, ![2, 16, 27, 16, 16, 16]⟩
abbrev S2x64x16x27 : Shape := ⟨4, ![2, 64, 16, 27]⟩
abbrev S2x64x16x16x16 : Shape := ⟨5, ![2, 64, 16, 16, 16]⟩
abbrev S2x4x16x16x16x16 : Shape := ⟨6, ![2, 4, 16, 16, 16, 16]⟩
abbrev S2x4x16x16x16 : Shape := ⟨5, ![2, 4, 16, 16, 16]⟩
abbrev S2x4x1x16x16x16 : Shape := ⟨6, ![2, 4, 1, 16, 16, 16]⟩
abbrev S4x16x16x16x16 : Shape := ⟨5, ![4, 16, 16, 16, 16]⟩
abbrev S4x16x16x16 : Shape := ⟨4, ![4, 16, 16, 16]⟩
abbrev S4x1x16x16x16 : Shape := ⟨5, ![4, 1, 16, 16, 16]⟩
abbrev S1x4x16x16x16x16 : Shape := ⟨6, ![1, 4, 16, 16, 16, 16]⟩
abbrev S4x16x18x18x18 : Shape := ⟨5, ![4, 16, 18, 18, 18]⟩
abbrev S4x16x16x18x18 : Shape := ⟨5, ![4, 16, 16, 18, 18]⟩
abbrev S4x16x1x16x18x18 : Shape := ⟨6, ![4, 16, 1, 16, 18, 18]⟩
abbrev S4x16x3x16x18x18 : Shape := ⟨6, ![4, 16, 3, 16, 18, 18]⟩
abbrev S4x16x3x16x16x18 : Shape := ⟨6, ![4, 16, 3, 16, 16, 18]⟩
abbrev S4x16x3x1x16x16x18 : Shape := ⟨7, ![4, 16, 3, 1, 16, 16, 18]⟩
abbrev S4x16x3x3x16x16x18 : Shape := ⟨7, ![4, 16, 3, 3, 16, 16, 18]⟩
abbrev S4x16x3x3x16x16x16 : Shape := ⟨7, ![4, 16, 3, 3, 16, 16, 16]⟩
abbrev S4x16x3x3x1x16x16x16 : Shape := ⟨8, ![4, 16, 3, 3, 1, 16, 16, 16]⟩
abbrev S4x16x3x3x3x16x16x16 : Shape := ⟨8, ![4, 16, 3, 3, 3, 16, 16, 16]⟩
abbrev S4x16x27x16x16x16 : Shape := ⟨6, ![4, 16, 27, 16, 16, 16]⟩
abbrev S4x128x16x27 : Shape := ⟨4, ![4, 128, 16, 27]⟩
abbrev S4x128x16x16x16 : Shape := ⟨5, ![4, 128, 16, 16, 16]⟩
abbrev S4x4x32x16x16x16 : Shape := ⟨6, ![4, 4, 32, 16, 16, 16]⟩
abbrev S4x4x16x16x16 : Shape := ⟨5, ![4, 4, 16, 16, 16]⟩
abbrev S4x4x1x16x16x16 : Shape := ⟨6, ![4, 4, 1, 16, 16, 16]⟩
abbrev S4x32x16x16x16 : Shape := ⟨5, ![4, 32, 16, 16, 16]⟩
abbrev S1x4x32x16x16x16 : Shape := ⟨6, ![1, 4, 32, 16, 16, 16]⟩
abbrev S4x32x18x18x18 : Shape := ⟨5, ![4, 32, 18, 18, 18]⟩
abbrev S4x32x16x18x18 : Shape := ⟨5, ![4, 32, 16, 18, 18]⟩
abbrev S4x32x1x16x18x18 : Shape := ⟨6, ![4, 32, 1, 16, 18, 18]⟩
abbrev S4x32x3x16x18x18 : Shape := ⟨6, ![4, 32, 3, 16, 18, 18]⟩
abbrev S4x32x3x16x16x18 : Shape := ⟨6, ![4, 32, 3, 16, 16, 18]⟩
abbrev S4x32x3x1x16x16x18 : Shape := ⟨7, ![4, 32, 3, 1, 16, 16, 18]⟩
abbrev S4x32x3x3x16x16x18 : Shape := ⟨7, ![4, 32, 3, 3, 16, 16, 18]⟩
abbrev S4x32x3x3x16x16x16 : Shape := ⟨7, ![4, 32, 3, 3, 16, 16, 16]⟩
abbrev S4x32x3x3x1x16x16x16 : Shape := ⟨8, ![4, 32, 3, 3, 1, 16, 16, 16]⟩
abbrev S4x32x3x3x3x16x16x16 : Shape := ⟨8, ![4, 32, 3, 3, 3, 16, 16, 16]⟩
abbrev S4x32x27x16x16x16 : Shape := ⟨6, ![4, 32, 27, 16, 16, 16]⟩
abbrev S4x256x32x27 : Shape := ⟨4, ![4, 256, 32, 27]⟩
abbrev S4x256x16x16x16 : Shape := ⟨5, ![4, 256, 16, 16, 16]⟩
abbrev S4x8x32x16x16x16 : Shape := ⟨6, ![4, 8, 32, 16, 16, 16]⟩
abbrev S4x8x16x16x16 : Shape := ⟨5, ![4, 8, 16, 16, 16]⟩
abbrev S4x8x1x16x16x16 : Shape := ⟨6, ![4, 8, 1, 16, 16, 16]⟩
abbrev S8x32x16x16x16 : Shape := ⟨5, ![8, 32, 16, 16, 16]⟩
abbrev S8x16x16x16 : Shape := ⟨4, ![8, 16, 16, 16]⟩
abbrev S8x1x16x16x16 : Shape := ⟨5, ![8, 1, 16, 16, 16]⟩
abbrev S1x8x32x16x16x16 : Shape := ⟨6, ![1, 8, 32, 16, 16, 16]⟩
abbrev S8x32x18x18x18 : Shape := ⟨5, ![8, 32, 18, 18, 18]⟩
abbrev S8x32x16x18x18 : Shape := ⟨5, ![8, 32, 16, 18, 18]⟩
abbrev S8x32x1x16x18x18 : Shape := ⟨6, ![8, 32, 1, 16, 18, 18]⟩
abbrev S8x32x3x16x18x18 : Shape := ⟨6, ![8, 32, 3, 16, 18, 18]⟩
abbrev S8x32x3x16x16x18 : Shape := ⟨6, ![8, 32, 3, 16, 16, 18]⟩
abbrev S8x32x3x1x16x16x18 : Shape := ⟨7, ![8, 32, 3, 1, 16, 16, 18]⟩
abbrev S8x32x3x3x16x16x18 : Shape := ⟨7, ![8, 32, 3, 3, 16, 16, 18]⟩
abbrev S8x32x3x3x16x16x16 : Shape := ⟨7, ![8, 32, 3, 3, 16, 16, 16]⟩
abbrev S8x32x3x3x1x16x16x16 : Shape := ⟨8, ![8, 32, 3, 3, 1, 16, 16, 16]⟩
abbrev S8x32x3x3x3x16x16x16 : Shape := ⟨8, ![8, 32, 3, 3, 3, 16, 16, 16]⟩
abbrev S8x32x27x16x16x16 : Shape := ⟨6, ![8, 32, 27, 16, 16, 16]⟩
abbrev S8x512x32x27 : Shape := ⟨4, ![8, 512, 32, 27]⟩
abbrev S8x512x16x16x16 : Shape := ⟨5, ![8, 512, 16, 16, 16]⟩
abbrev S8x8x64x16x16x16 : Shape := ⟨6, ![8, 8, 64, 16, 16, 16]⟩
abbrev S8x8x16x16x16 : Shape := ⟨5, ![8, 8, 16, 16, 16]⟩
abbrev S8x8x1x16x16x16 : Shape := ⟨6, ![8, 8, 1, 16, 16, 16]⟩
abbrev S8x64x16x16x16 : Shape := ⟨5, ![8, 64, 16, 16, 16]⟩
abbrev S1x8x64x16x16x16 : Shape := ⟨6, ![1, 8, 64, 16, 16, 16]⟩
abbrev S8x64x18x18x18 : Shape := ⟨5, ![8, 64, 18, 18, 18]⟩
abbrev S8x64x16x18x18 : Shape := ⟨5, ![8, 64, 16, 18, 18]⟩
abbrev S8x64x1x16x18x18 : Shape := ⟨6, ![8, 64, 1, 16, 18, 18]⟩
abbrev S8x64x3x16x18x18 : Shape := ⟨6, ![8, 64, 3, 16, 18, 18]⟩
abbrev S8x64x3x16x16x18 : Shape := ⟨6, ![8, 64, 3, 16, 16, 18]⟩
abbrev S8x64x3x1x16x16x18 : Shape := ⟨7, ![8, 64, 3, 1, 16, 16, 18]⟩
abbrev S8x64x3x3x16x16x18 : Shape := ⟨7, ![8, 64, 3, 3, 16, 16, 18]⟩
abbrev S8x64x3x3x16x16x16 : Shape := ⟨7, ![8, 64, 3, 3, 16, 16, 16]⟩
abbrev S8x64x3x3x1x16x16x16 : Shape := ⟨8, ![8, 64, 3, 3, 1, 16, 16, 16]⟩
abbrev S8x64x3x3x3x16x16x16 : Shape := ⟨8, ![8, 64, 3, 3, 3, 16, 16, 16]⟩
abbrev S8x64x27x16x16x16 : Shape := ⟨6, ![8, 64, 27, 16, 16, 16]⟩
abbrev S8x256x64x27 : Shape := ⟨4, ![8, 256, 64, 27]⟩
abbrev S8x256x16x16x16 : Shape := ⟨5, ![8, 256, 16, 16, 16]⟩
abbrev S8x8x32x16x16x16 : Shape := ⟨6, ![8, 8, 32, 16, 16, 16]⟩
abbrev S8x256x32x27 : Shape := ⟨4, ![8, 256, 32, 27]⟩
abbrev S16x32x16x16x16 : Shape := ⟨5, ![16, 32, 16, 16, 16]⟩
abbrev S16x32x18x18x18 : Shape := ⟨5, ![16, 32, 18, 18, 18]⟩
abbrev S16x32x16x18x18 : Shape := ⟨5, ![16, 32, 16, 18, 18]⟩
abbrev S16x32x1x16x18x18 : Shape := ⟨6, ![16, 32, 1, 16, 18, 18]⟩
abbrev S16x32x3x16x18x18 : Shape := ⟨6, ![16, 32, 3, 16, 18, 18]⟩
abbrev S16x32x3x16x16x18 : Shape := ⟨6, ![16, 32, 3, 16, 16, 18]⟩
abbrev S16x32x3x1x16x16x18 : Shape := ⟨7, ![16, 32, 3, 1, 16, 16, 18]⟩
abbrev S16x32x3x3x16x16x18 : Shape := ⟨7, ![16, 32, 3, 3, 16, 16, 18]⟩
abbrev S16x32x3x3x16x16x16 : Shape := ⟨7, ![16, 32, 3, 3, 16, 16, 16]⟩
abbrev S16x32x3x3x1x16x16x16 : Shape := ⟨8, ![16, 32, 3, 3, 1, 16, 16, 16]⟩
abbrev S16x32x3x3x3x16x16x16 : Shape := ⟨8, ![16, 32, 3, 3, 3, 16, 16, 16]⟩
abbrev S16x32x27x16x16x16 : Shape := ⟨6, ![16, 32, 27, 16, 16, 16]⟩
abbrev S16x128x32x27 : Shape := ⟨4, ![16, 128, 32, 27]⟩
abbrev S16x128x16x16x16 : Shape := ⟨5, ![16, 128, 16, 16, 16]⟩
abbrev S16x4x32x16x16x16 : Shape := ⟨6, ![16, 4, 32, 16, 16, 16]⟩
abbrev S16x4x16x16x16 : Shape := ⟨5, ![16, 4, 16, 16, 16]⟩
abbrev S16x16x16x16 : Shape := ⟨4, ![16, 16, 16, 16]⟩
abbrev S16x1x16x16x16 : Shape := ⟨5, ![16, 1, 16, 16, 16]⟩
abbrev S16x4x1x16x16x16 : Shape := ⟨6, ![16, 4, 1, 16, 16, 16]⟩
abbrev S4x64x32x27 : Shape := ⟨4, ![4, 64, 32, 27]⟩
abbrev S4x64x16x16x16 : Shape := ⟨5, ![4, 64, 16, 16, 16]⟩
abbrev S4x4x16x16x16x16 : Shape := ⟨6, ![4, 4, 16, 16, 16, 16]⟩
abbrev S8x16x16x16x16 : Shape := ⟨5, ![8, 16, 16, 16, 16]⟩
abbrev S8x16x18x18x18 : Shape := ⟨5, ![8, 16, 18, 18, 18]⟩
abbrev S8x16x16x18x18 : Shape := ⟨5, ![8, 16, 16, 18, 18]⟩
abbrev S8x16x1x16x18x18 : Shape := ⟨6, ![8, 16, 1, 16, 18, 18]⟩
abbrev S8x16x3x16x18x18 : Shape := ⟨6, ![8, 16, 3, 16, 18, 18]⟩
abbrev S8x16x3x16x16x18 : Shape := ⟨6, ![8, 16, 3, 16, 16, 18]⟩
abbrev S8x16x3x1x16x16x18 : Shape := ⟨7, ![8, 16, 3, 1, 16, 16, 18]⟩
abbrev S8x16x3x3x16x16x18 : Shape := ⟨7, ![8, 16, 3, 3, 16, 16, 18]⟩
abbrev S8x16x3x3x16x16x16 : Shape := ⟨7, ![8, 16, 3, 3, 16, 16, 16]⟩
abbrev S8x16x3x3x1x16x16x16 : Shape := ⟨8, ![8, 16, 3, 3, 1, 16, 16, 16]⟩
abbrev S8x16x3x3x3x16x16x16 : Shape := ⟨8, ![8, 16, 3, 3, 3, 16, 16, 16]⟩
abbrev S8x16x27x16x16x16 : Shape := ⟨6, ![8, 16, 27, 16, 16, 16]⟩
abbrev S8x64x16x27 : Shape := ⟨4, ![8, 64, 16, 27]⟩
abbrev S8x4x16x16x16x16 : Shape := ⟨6, ![8, 4, 16, 16, 16, 16]⟩
abbrev S8x4x16x16x16 : Shape := ⟨5, ![8, 4, 16, 16, 16]⟩
abbrev S8x4x1x16x16x16 : Shape := ⟨6, ![8, 4, 1, 16, 16, 16]⟩
abbrev S4x32x16x27 : Shape := ⟨4, ![4, 32, 16, 27]⟩
abbrev S4x2x16x16x16x16 : Shape := ⟨6, ![4, 2, 16, 16, 16, 16]⟩
abbrev S4x2x16x16x16 : Shape := ⟨5, ![4, 2, 16, 16, 16]⟩
abbrev S4x2x1x16x16x16 : Shape := ⟨6, ![4, 2, 1, 16, 16, 16]⟩
abbrev S3x16x16x16x16 : Shape := ⟨5, ![3, 16, 16, 16, 16]⟩
abbrev S3x16x18x18x18 : Shape := ⟨5, ![3, 16, 18, 18, 18]⟩
abbrev S3x16x16x18x18 : Shape := ⟨5, ![3, 16, 16, 18, 18]⟩
abbrev S3x16x1x16x18x18 : Shape := ⟨6, ![3, 16, 1, 16, 18, 18]⟩
abbrev S3x16x3x16x18x18 : Shape := ⟨6, ![3, 16, 3, 16, 18, 18]⟩
abbrev S3x16x3x16x16x18 : Shape := ⟨6, ![3, 16, 3, 16, 16, 18]⟩
abbrev S3x16x3x1x16x16x18 : Shape := ⟨7, ![3, 16, 3, 1, 16, 16, 18]⟩
abbrev S3x16x3x3x16x16x18 : Shape := ⟨7, ![3, 16, 3, 3, 16, 16, 18]⟩
abbrev S3x16x3x3x16x16x16 : Shape := ⟨7, ![3, 16, 3, 3, 16, 16, 16]⟩
abbrev S3x16x3x3x1x16x16x16 : Shape := ⟨8, ![3, 16, 3, 3, 1, 16, 16, 16]⟩
abbrev S3x16x3x3x3x16x16x16 : Shape := ⟨8, ![3, 16, 3, 3, 3, 16, 16, 16]⟩
abbrev S3x16x27x16x16x16 : Shape := ⟨6, ![3, 16, 27, 16, 16, 16]⟩
abbrev S3x16x16x27 : Shape := ⟨4, ![3, 16, 16, 27]⟩
abbrev S3x1x16x16x16x16 : Shape := ⟨6, ![3, 1, 16, 16, 16, 16]⟩
abbrev S3x1x16x16x16 : Shape := ⟨5, ![3, 1, 16, 16, 16]⟩
abbrev S3x16x16x16 : Shape := ⟨4, ![3, 16, 16, 16]⟩
abbrev S3x1x1x16x16x16 : Shape := ⟨6, ![3, 1, 1, 16, 16, 16]⟩
abbrev S1x1x16x16x16x16 : Shape := ⟨6, ![1, 1, 16, 16, 16, 16]⟩
abbrev S16x16x16 : Shape := ⟨3, ![16, 16, 16]⟩

abbrev nBuf : Space → Nat
  | .hbm => 1736
  | .vmem => 0
  | .smem => 0
  | _ => 0

abbrev hbmTy0_0 (i : Nat) : BufTy := match i % 128 with
  | 0 => ⟨S1x4x14x14x14, .f32⟩
  | 1 => ⟨S16x4x3x3x3, .f32⟩
  | 2 => ⟨S1x32x16x3x3x3, .f32⟩
  | 3 => ⟨S2x64x16x3x3x3, .f32⟩
  | 4 => ⟨S4x128x16x3x3x3, .f32⟩
  | 5 => ⟨S4x256x32x3x3x3, .f32⟩
  | 6 => ⟨S8x512x32x3x3x3, .f32⟩
  | 7 => ⟨S8x256x64x3x3x3, .f32⟩
  | 8 => ⟨S8x256x32x3x3x3, .f32⟩
  | 9 => ⟨S16x128x32x3x3x3, .f32⟩
  | 10 => ⟨S4x64x32x3x3x3, .f32⟩
  | 11 => ⟨S8x64x16x3x3x3, .f32⟩
  | 12 => ⟨S4x32x16x3x3x3, .f32⟩
  | 13 => ⟨S3x16x16x3x3x3, .f32⟩
  | 14 => ⟨S1x16x4x3x3x3, .f32⟩
  | 15 => ⟨S_, .i32⟩
  | 16 => ⟨S_, .f32⟩
  | 17 => ⟨S1x4x18x18x18, .f32⟩
  | 18 => ⟨S1x4x16x18x18, .f32⟩
  | 19 => ⟨S1x4x16x18x18, .f32⟩
  | 20 => ⟨S1x4x16x18x18, .f32⟩
  | 21 => ⟨S1x4x1x16x18x18, .f32⟩
  | 22 => ⟨S1x4x1x16x18x18, .f32⟩
  | 23 => ⟨S1x4x1x16x18x18, .f32⟩
  | 24 => ⟨S1x4x3x16x18x18, .f32⟩
  | 25 => ⟨S1x4x3x16x16x18, .f32⟩
  | 26 => ⟨S1x4x3x16x16x18, .f32⟩
  | 27 => ⟨S1x4x3x16x16x18, .f32⟩
  | 28 => ⟨S1x4x3x1x16x16x18, .f32⟩
  | 29 => ⟨S1x4x3x1x16x16x18, .f32⟩
  | 30 => ⟨S1x4x3x1x16x16x18, .f32⟩
  | 31 => ⟨S1x4x3x3x16x16x18, .f32⟩
  | 32 => ⟨S1x4x3x3x16x16x16, .f32⟩
  | 33 => ⟨S1x4x3x3x16x16x16, .f32⟩
  | 34 => ⟨S1x4x3x3x16x16x16, .f32⟩
  | 35 => ⟨S1x4x3x3x1x16x16x16, .f32⟩
  | 36 => ⟨S1x4x3x3x1x16x16x16, .f32⟩
  | 37 => ⟨S1x4x3x3x1x16x16x16, .f32⟩
  | 38 => ⟨S1x4x3x3x3x16x16x16, .f32⟩
  | 39 => ⟨S1x4x27x16x16x16, .f32⟩
  | 40 => ⟨S1x16x4x27, .f32⟩
  | 41 => ⟨S1x16x16x16x16, .f32⟩
  | 42 => ⟨S_, .f32⟩
  | 43 => ⟨S1x16x16x16x16, .f32⟩
  | 44 => ⟨S1x16x16x16x16, .f32⟩
  | 45 => ⟨S_, .i32⟩
  | 46 => ⟨S_, .f32⟩
  | 47 => ⟨S1x16x18x18x18, .f32⟩
  | 48 => ⟨S1x16x16x18x18, .f32⟩
  | 49 => ⟨S1x16x16x18x18, .f32⟩
  | 50 => ⟨S1x16x16x18x18, .f32⟩
  | 51 => ⟨S1x16x1x16x18x18, .f32⟩
  | 52 => ⟨S1x16x1x16x18x18, .f32⟩
  | 53 => ⟨S1x16x1x16x18x18, .f32⟩
  | 54 => ⟨S1x16x3x16x18x18, .f32⟩
  | 55 => ⟨S1x16x3x16x16x18, .f32⟩
  | 56 => ⟨S1x16x3x16x16x18, .f32⟩
  | 57 => ⟨S1x16x3x16x16x18, .f32⟩
  | 58 => ⟨S1x16x3x1x16x16x18, .f32⟩
  | 59 => ⟨S1x16x3x1x16x16x18, .f32⟩
  | 60 => ⟨S1x16x3x1x16x16x18, .f32⟩
  | 61 => ⟨S1x16x3x3x16x16x18, .f32⟩
  | 62 => ⟨S1x16x3x3x16x16x16, .f32⟩
  | 63 => ⟨S1x16x3x3x16x16x16, .f32⟩
  | 64 => ⟨S1x16x3x3x16x16x16, .f32⟩
  | 65 => ⟨S1x16x3x3x1x16x16x16, .f32⟩
  | 66 => ⟨S1x16x3x3x1x16x16x16, .f32⟩
  | 67 => ⟨S1x16x3x3x1x16x16x16, .f32⟩
  | 68 => ⟨S1x16x3x3x3x16x16x16, .f32⟩
  | 69 => ⟨S1x16x27x16x16x16, .f32⟩
  | 70 => ⟨S1x32x16x27, .f32⟩
  | 71 => ⟨S1x32x16x16x16, .f32⟩
  | 72 => ⟨S1x2x16x16x16x16, .f32⟩
  | 73 => ⟨S_, .f32⟩
  | 74 => ⟨S1x2x16x16x16, .f32⟩
  | 75 => ⟨S_, .f32⟩
  | 76 => ⟨S1x16x16x16, .f32⟩
  | 77 => ⟨S_, .f32⟩
  | 78 => ⟨S1x16x16x16, .f32⟩
  | 79 => ⟨S1x16x16x16, .f32⟩
  | 80 => ⟨S1x1x16x16x16, .f32⟩
  | 81 => ⟨S1x2x16x16x16, .f32⟩
  | 82 => ⟨S1x2x16x16x16, .f32⟩
  | 83 => ⟨S1x2x16x16x16, .f32⟩
  | 84 => ⟨S_, .f32⟩
  | 85 => ⟨S1x16x16x16, .f32⟩
  | 86 => ⟨S1x1x16x16x16, .f32⟩
  | 87 => ⟨S1x2x16x16x16, .f32⟩
  | 88 => ⟨S1x2x16x16x16, .f32⟩
  | 89 => ⟨S1x2x1x16x16x16, .f32⟩
  | 90 => ⟨S1x2x16x16x16x16, .f32⟩
  | 91 => ⟨S1x2x16x16x16x16, .f32⟩
  | 92 => ⟨S_, .f32⟩
  | 93 => ⟨S2x16x16x16x16, .f32⟩
  | 94 => ⟨S2x16x16x16x16, .f32⟩
  | 95 => ⟨S_, .f32⟩
  | 96 => ⟨S2x16x16x16, .f32⟩
  | 97 => ⟨S2x1x16x16x16, .f32⟩
  | 98 => ⟨S_, .f32⟩
  | 99 => ⟨S2x1x16x16x16, .f32⟩
  | 100 => ⟨S2x1x16x16x16, .f32⟩
  | 101 => ⟨S2x1x16x16x16, .f32⟩
  | 102 => ⟨S2x16x16x16x16, .f32⟩
  | 103 => ⟨S2x16x16x16x16, .f32⟩
  | 104 => ⟨S_, .f32⟩
  | 105 => ⟨S2x1x16x16x16, .f32⟩
  | 106 => ⟨S2x1x16x16x16, .f32⟩
  | 107 => ⟨S2x1x16x16x16, .f32⟩
  | 108 => ⟨S2x16x16x16x16, .f32⟩
  | 109 => ⟨S2x16x16x16x16, .f32⟩
  | 110 => ⟨S_, .i32⟩
  | 111 => ⟨S_, .f32⟩
  | 112 => ⟨S2x16x18x18x18, .f32⟩
  | 113 => ⟨S2x16x16x18x18, .f32⟩
  | 114 => ⟨S2x16x16x18x18, .f32⟩
  | 115 => ⟨S2x16x16x18x18, .f32⟩
  | 116 => ⟨S2x16x1x16x18x18, .f32⟩
  | 117 => ⟨S2x16x1x16x18x18, .f32⟩
  | 118 => ⟨S2x16x1x16x18x18, .f32⟩
  | 119 => ⟨S2x16x3x16x18x18, .f32⟩
  | 120 => ⟨S2x16x3x16x16x18, .f32⟩
  | 121 => ⟨S2x16x3x16x16x18, .f32⟩
  | 122 => ⟨S2x16x3x16x16x18, .f32⟩
  | 123 => ⟨S2x16x3x1x16x16x18, .f32⟩
  | 124 => ⟨S2x16x3x1x16x16x18, .f32⟩
  | 125 => ⟨S2x16x3x1x16x16x18, .f32⟩
  | 126 => ⟨S2x16x3x3x16x16x18, .f32⟩
  | 127 => ⟨S2x16x3x3x16x16x16, .f32⟩
  | _ => ⟨S1x4x14x14x14, .f32⟩

abbrev hbmTy0_1 (i : Nat) : BufTy := match i % 128 with
  | 0 => ⟨S2x16x3x3x16x16x16, .f32⟩
  | 1 => ⟨S2x16x3x3x16x16x16, .f32⟩
  | 2 => ⟨S2x16x3x3x1x16x16x16, .f32⟩
  | 3 => ⟨S2x16x3x3x1x16x16x16, .f32⟩
  | 4 => ⟨S2x16x3x3x1x16x16x16, .f32⟩
  | 5 => ⟨S2x16x3x3x3x16x16x16, .f32⟩
  | 6 => ⟨S2x16x27x16x16x16, .f32⟩
  | 7 => ⟨S2x64x16x27, .f32⟩
  | 8 => ⟨S2x64x16x16x16, .f32⟩
  | 9 => ⟨S2x4x16x16x16x16, .f32⟩
  | 10 => ⟨S_, .f32⟩
  | 11 => ⟨S2x4x16x16x16, .f32⟩
  | 12 => ⟨S_, .f32⟩
  | 13 => ⟨S2x16x16x16, .f32⟩
  | 14 => ⟨S_, .f32⟩
  | 15 => ⟨S2x16x16x16, .f32⟩
  | 16 => ⟨S2x16x16x16, .f32⟩
  | 17 => ⟨S2x1x16x16x16, .f32⟩
  | 18 => ⟨S2x4x16x16x16, .f32⟩
  | 19 => ⟨S2x4x16x16x16, .f32⟩
  | 20 => ⟨S2x4x16x16x16, .f32⟩
  | 21 => ⟨S_, .f32⟩
  | 22 => ⟨S2x16x16x16, .f32⟩
  | 23 => ⟨S2x1x16x16x16, .f32⟩
  | 24 => ⟨S2x4x16x16x16, .f32⟩
  | 25 => ⟨S2x4x16x16x16, .f32⟩
  | 26 => ⟨S2x4x1x16x16x16, .f32⟩
  | 27 => ⟨S2x4x16x16x16x16, .f32⟩
  | 28 => ⟨S2x4x16x16x16x16, .f32⟩
  | 29 => ⟨S_, .f32⟩
  | 30 => ⟨S4x16x16x16x16, .f32⟩
  | 31 => ⟨S4x16x16x16x16, .f32⟩
  | 32 => ⟨S_, .f32⟩
  | 33 => ⟨S4x16x16x16, .f32⟩
  | 34 => ⟨S4x1x16x16x16, .f32⟩
  | 35 => ⟨S_, .f32⟩
  | 36 => ⟨S4x1x16x16x16, .f32⟩
  | 37 => ⟨S4x1x16x16x16, .f32⟩
  | 38 => ⟨S4x1x16x16x16, .f32⟩
  | 39 => ⟨S4x16x16x16x16, .f32⟩
  | 40 => ⟨S4x16x16x16x16, .f32⟩
  | 41 => ⟨S_, .f32⟩
  | 42 => ⟨S4x1x16x16x16, .f32⟩
  | 43 => ⟨S4x1x16x16x16, .f32⟩
  | 44 => ⟨S4x1x16x16x16, .f32⟩
  | 45 => ⟨S4x16x16x16x16, .f32⟩
  | 46 => ⟨S4x16x16x16x16, .f32⟩
  | 47 => ⟨S1x4x16x16x16x16, .f32⟩
  | 48 => ⟨S2x4x16x16x16x16, .f32⟩
  | 49 => ⟨S2x4x16x16x16x16, .f32⟩
  | 50 => ⟨S_, .f32⟩
  | 51 => ⟨S2x4x16x16x16, .f32⟩
  | 52 => ⟨S2x4x16x16x16, .f32⟩
  | 53 => ⟨S_, .f32⟩
  | 54 => ⟨S2x16x16x16, .f32⟩
  | 55 => ⟨S_, .f32⟩
  | 56 => ⟨S2x16x16x16, .f32⟩
  | 57 => ⟨S2x16x16x16, .f32⟩
  | 58 => ⟨S2x1x16x16x16, .f32⟩
  | 59 => ⟨S2x4x16x16x16, .f32⟩
  | 60 => ⟨S2x4x16x16x16, .f32⟩
  | 61 => ⟨S2x4x16x16x16, .f32⟩
  | 62 => ⟨S_, .f32⟩
  | 63 => ⟨S2x16x16x16, .f32⟩
  | 64 => ⟨S2x1x16x16x16, .f32⟩
  | 65 => ⟨S2x4x16x16x16, .f32⟩
  | 66 => ⟨S2x4x16x16x16, .f32⟩
  | 67 => ⟨S2x4x1x16x16x16, .f32⟩
  | 68 => ⟨S2x4x16x16x16x16, .f32⟩
  | 69 => ⟨S2x4x16x16x16x16, .f32⟩
  | 70 => ⟨S_, .f32⟩
  | 71 => ⟨S4x16x16x16x16, .f32⟩
  | 72 => ⟨S4x16x16x16x16, .f32⟩
  | 73 => ⟨S_, .f32⟩
  | 74 => ⟨S4x16x16x16, .f32⟩
  | 75 => ⟨S4x1x16x16x16, .f32⟩
  | 76 => ⟨S_, .f32⟩
  | 77 => ⟨S4x1x16x16x16, .f32⟩
  | 78 => ⟨S4x1x16x16x16, .f32⟩
  | 79 => ⟨S4x1x16x16x16, .f32⟩
  | 80 => ⟨S4x16x16x16x16, .f32⟩
  | 81 => ⟨S4x16x16x16x16, .f32⟩
  | 82 => ⟨S_, .f32⟩
  | 83 => ⟨S4x1x16x16x16, .f32⟩
  | 84 => ⟨S4x1x16x16x16, .f32⟩
  | 85 => ⟨S4x1x16x16x16, .f32⟩
  | 86 => ⟨S4x16x16x16x16, .f32⟩
  | 87 => ⟨S4x16x16x16x16, .f32⟩
  | 88 => ⟨S1x4x16x16x16x16, .f32⟩
  | 89 => ⟨S2x4x16x16x16x16, .f32⟩
  | 90 => ⟨S2x4x16x16x16x16, .f32⟩
  | 91 => ⟨S_, .f32⟩
  | 92 => ⟨S2x4x16x16x16, .f32⟩
  | 93 => ⟨S2x4x16x16x16, .f32⟩
  | 94 => ⟨S_, .f32⟩
  | 95 => ⟨S2x16x16x16, .f32⟩
  | 96 => ⟨S_, .f32⟩
  | 97 => ⟨S2x16x16x16, .f32⟩
  | 98 => ⟨S2x16x16x16, .f32⟩
  | 99 => ⟨S2x1x16x16x16, .f32⟩
  | 100 => ⟨S2x4x16x16x16, .f32⟩
  | 101 => ⟨S2x4x16x16x16, .f32⟩
  | 102 => ⟨S2x4x16x16x16, .f32⟩
  | 103 => ⟨S_, .f32⟩
  | 104 => ⟨S2x16x16x16, .f32⟩
  | 105 => ⟨S2x1x16x16x16, .f32⟩
  | 106 => ⟨S2x4x16x16x16, .f32⟩
  | 107 => ⟨S2x4x16x16x16, .f32⟩
  | 108 => ⟨S2x4x1x16x16x16, .f32⟩
  | 109 => ⟨S2x4x16x16x16x16, .f32⟩
  | 110 => ⟨S2x4x16x16x16x16, .f32⟩
  | 111 => ⟨S_, .f32⟩
  | 112 => ⟨S4x16x16x16x16, .f32⟩
  | 113 => ⟨S4x16x16x16x16, .f32⟩
  | 114 => ⟨S_, .f32⟩
  | 115 => ⟨S4x16x16x16, .f32⟩
  | 116 => ⟨S4x1x16x16x16, .f32⟩
  | 117 => ⟨S_, .f32⟩
  | 118 => ⟨S4x1x16x16x16, .f32⟩
  | 119 => ⟨S4x1x16x16x16, .f32⟩
  | 120 => ⟨S4x1x16x16x16, .f32⟩
  | 121 => ⟨S4x16x16x16x16, .f32⟩
  | 122 => ⟨S4x16x16x16x16, .f32⟩
  | 123 => ⟨S_, .f32⟩
  | 124 => ⟨S4x1x16x16x16, .f32⟩
  | 125 => ⟨S4x1x16x16x16, .f32⟩
  | 126 => ⟨S4x1x16x16x16, .f32⟩
  | 127 => ⟨S4x16x16x16x16, .f32⟩
  | _ => ⟨S1x4x14x14x14, .f32⟩

abbrev hbmTy0_2 (i : Nat) : BufTy := match i % 128 with
  | 0 => ⟨S4x16x16x16x16, .f32⟩
  | 1 => ⟨S_, .i32⟩
  | 2 => ⟨S_, .f32⟩
  | 3 => ⟨S4x16x18x18x18, .f32⟩
  | 4 => ⟨S4x16x16x18x18, .f32⟩
  | 5 => ⟨S4x16x16x18x18, .f32⟩
  | 6 => ⟨S4x16x16x18x18, .f32⟩
  | 7 => ⟨S4x16x1x16x18x18, .f32⟩
  | 8 => ⟨S4x16x1x16x18x18, .f32⟩
  | 9 => ⟨S4x16x1x16x18x18, .f32⟩
  | 10 => ⟨S4x16x3x16x18x18, .f32⟩
  | 11 => ⟨S4x16x3x16x16x18, .f32⟩
  | 12 => ⟨S4x16x3x16x16x18, .f32⟩
  | 13 => ⟨S4x16x3x16x16x18, .f32⟩
  | 14 => ⟨S4x16x3x1x16x16x18, .f32⟩
  | 15 => ⟨S4x16x3x1x16x16x18, .f32⟩
  | 16 => ⟨S4x16x3x1x16x16x18, .f32⟩
  | 17 => ⟨S4x16x3x3x16x16x18, .f32⟩
  | 18 => ⟨S4x16x3x3x16x16x16, .f32⟩
  | 19 => ⟨S4x16x3x3x16x16x16, .f32⟩
  | 20 => ⟨S4x16x3x3x16x16x16, .f32⟩
  | 21 => ⟨S4x16x3x3x1x16x16x16, .f32⟩
  | 22 => ⟨S4x16x3x3x1x16x16x16, .f32⟩
  | 23 => ⟨S4x16x3x3x1x16x16x16, .f32⟩
  | 24 => ⟨S4x16x3x3x3x16x16x16, .f32⟩
  | 25 => ⟨S4x16x27x16x16x16, .f32⟩
  | 26 => ⟨S4x128x16x27, .f32⟩
  | 27 => ⟨S4x128x16x16x16, .f32⟩
  | 28 => ⟨S4x4x32x16x16x16, .f32⟩
  | 29 => ⟨S_, .f32⟩
  | 30 => ⟨S4x4x16x16x16, .f32⟩
  | 31 => ⟨S_, .f32⟩
  | 32 => ⟨S4x16x16x16, .f32⟩
  | 33 => ⟨S_, .f32⟩
  | 34 => ⟨S4x16x16x16, .f32⟩
  | 35 => ⟨S4x16x16x16, .f32⟩
  | 36 => ⟨S4x1x16x16x16, .f32⟩
  | 37 => ⟨S4x4x16x16x16, .f32⟩
  | 38 => ⟨S4x4x16x16x16, .f32⟩
  | 39 => ⟨S4x4x16x16x16, .f32⟩
  | 40 => ⟨S_, .f32⟩
  | 41 => ⟨S4x16x16x16, .f32⟩
  | 42 => ⟨S4x1x16x16x16, .f32⟩
  | 43 => ⟨S4x4x16x16x16, .f32⟩
  | 44 => ⟨S4x4x16x16x16, .f32⟩
  | 45 => ⟨S4x4x1x16x16x16, .f32⟩
  | 46 => ⟨S4x4x32x16x16x16, .f32⟩
  | 47 => ⟨S4x4x32x16x16x16, .f32⟩
  | 48 => ⟨S_, .f32⟩
  | 49 => ⟨S4x32x16x16x16, .f32⟩
  | 50 => ⟨S4x32x16x16x16, .f32⟩
  | 51 => ⟨S_, .f32⟩
  | 52 => ⟨S4x16x16x16, .f32⟩
  | 53 => ⟨S4x1x16x16x16, .f32⟩
  | 54 => ⟨S_, .f32⟩
  | 55 => ⟨S4x1x16x16x16, .f32⟩
  | 56 => ⟨S4x1x16x16x16, .f32⟩
  | 57 => ⟨S4x1x16x16x16, .f32⟩
  | 58 => ⟨S4x32x16x16x16, .f32⟩
  | 59 => ⟨S4x32x16x16x16, .f32⟩
  | 60 => ⟨S_, .f32⟩
  | 61 => ⟨S4x1x16x16x16, .f32⟩
  | 62 => ⟨S4x1x16x16x16, .f32⟩
  | 63 => ⟨S4x1x16x16x16, .f32⟩
  | 64 => ⟨S4x32x16x16x16, .f32⟩
  | 65 => ⟨S4x32x16x16x16, .f32⟩
  | 66 => ⟨S1x4x32x16x16x16, .f32⟩
  | 67 => ⟨S4x4x32x16x16x16, .f32⟩
  | 68 => ⟨S4x4x32x16x16x16, .f32⟩
  | 69 => ⟨S_, .f32⟩
  | 70 => ⟨S4x4x16x16x16, .f32⟩
  | 71 => ⟨S4x4x16x16x16, .f32⟩
  | 72 => ⟨S_, .f32⟩
  | 73 => ⟨S4x16x16x16, .f32⟩
  | 74 => ⟨S_, .f32⟩
  | 75 => ⟨S4x16x16x16, .f32⟩
  | 76 => ⟨S4x16x16x16, .f32⟩
  | 77 => ⟨S4x1x16x16x16, .f32⟩
  | 78 => ⟨S4x4x16x16x16, .f32⟩
  | 79 => ⟨S4x4x16x16x16, .f32⟩
  | 80 => ⟨S4x4x16x16x16, .f32⟩
  | 81 => ⟨S_, .f32⟩
  | 82 => ⟨S4x16x16x16, .f32⟩
  | 83 => ⟨S4x1x16x16x16, .f32⟩
  | 84 => ⟨S4x4x16x16x16, .f32⟩
  | 85 => ⟨S4x4x16x16x16, .f32⟩
  | 86 => ⟨S4x4x1x16x16x16, .f32⟩
  | 87 => ⟨S4x4x32x16x16x16, .f32⟩
  | 88 => ⟨S4x4x32x16x16x16, .f32⟩
  | 89 => ⟨S_, .f32⟩
  | 90 => ⟨S4x32x16x16x16, .f32⟩
  | 91 => ⟨S4x32x16x16x16, .f32⟩
  | 92 => ⟨S_, .f32⟩
  | 93 => ⟨S4x16x16x16, .f32⟩
  | 94 => ⟨S4x1x16x16x16, .f32⟩
  | 95 => ⟨S_, .f32⟩
  | 96 => ⟨S4x1x16x16x16, .f32⟩
  | 97 => ⟨S4x1x16x16x16, .f32⟩
  | 98 => ⟨S4x1x16x16x16, .f32⟩
  | 99 => ⟨S4x32x16x16x16, .f32⟩
  | 100 => ⟨S4x32x16x16x16, .f32⟩
  | 101 => ⟨S_, .f32⟩
  | 102 => ⟨S4x1x16x16x16, .f32⟩
  | 103 => ⟨S4x1x16x16x16, .f32⟩
  | 104 => ⟨S4x1x16x16x16, .f32⟩
  | 105 => ⟨S4x32x16x16x16, .f32⟩
  | 106 => ⟨S4x32x16x16x16, .f32⟩
  | 107 => ⟨S1x4x32x16x16x16, .f32⟩
  | 108 => ⟨S4x4x32x16x16x16, .f32⟩
  | 109 => ⟨S4x4x32x16x16x16, .f32⟩
  | 110 => ⟨S_, .f32⟩
  | 111 => ⟨S4x4x16x16x16, .f32⟩
  | 112 => ⟨S4x4x16x16x16, .f32⟩
  | 113 => ⟨S_, .f32⟩
  | 114 => ⟨S4x16x16x16, .f32⟩
  | 115 => ⟨S_, .f32⟩
  | 116 => ⟨S4x16x16x16, .f32⟩
  | 117 => ⟨S4x16x16x16, .f32⟩
  | 118 => ⟨S4x1x16x16x16, .f32⟩
  | 119 => ⟨S4x4x16x16x16, .f32⟩
  | 120 => ⟨S4x4x16x16x16, .f32⟩
  | 121 => ⟨S4x4x16x16x16, .f32⟩
  | 122 => ⟨S_, .f32⟩
  | 123 => ⟨S4x16x16x16, .f32⟩
  | 124 => ⟨S4x1x16x16x16, .f32⟩
  | 125 => ⟨S4x4x16x16x16, .f32⟩
  | 126 => ⟨S4x4x16x16x16, .f32⟩
  | 127 => ⟨S4x4x1x16x16x16, .f32⟩
  | _ => ⟨S1x4x14x14x14, .f32⟩

abbrev hbmTy0_3 (i : Nat) : BufTy := match i % 128 with
  | 0 => ⟨S4x4x32x16x16x16, .f32⟩
  | 1 => ⟨S4x4x32x16x16x16, .f32⟩
  | 2 => ⟨S_, .f32⟩
  | 3 => ⟨S4x32x16x16x16, .f32⟩
  | 4 => ⟨S4x32x16x16x16, .f32⟩
  | 5 => ⟨S_, .f32⟩
  | 6 => ⟨S4x16x16x16, .f32⟩
  | 7 => ⟨S4x1x16x16x16, .f32⟩
  | 8 => ⟨S_, .f32⟩
  | 9 => ⟨S4x1x16x16x16, .f32⟩
  | 10 => ⟨S4x1x16x16x16, .f32⟩
  | 11 => ⟨S4x1x16x16x16, .f32⟩
  | 12 => ⟨S4x32x16x16x16, .f32⟩
  | 13 => ⟨S4x32x16x16x16, .f32⟩
  | 14 => ⟨S_, .f32⟩
  | 15 => ⟨S4x1x16x16x16, .f32⟩
  | 16 => ⟨S4x1x16x16x16, .f32⟩
  | 17 => ⟨S4x1x16x16x16, .f32⟩
  | 18 => ⟨S4x32x16x16x16, .f32⟩
  | 19 => ⟨S4x32x16x16x16, .f32⟩
  | 20 => ⟨S_, .i32⟩
  | 21 => ⟨S_, .f32⟩
  | 22 => ⟨S4x32x18x18x18, .f32⟩
  | 23 => ⟨S4x32x16x18x18, .f32⟩
  | 24 => ⟨S4x32x16x18x18, .f32⟩
  | 25 => ⟨S4x32x16x18x18, .f32⟩
  | 26 => ⟨S4x32x1x16x18x18, .f32⟩
  | 27 => ⟨S4x32x1x16x18x18, .f32⟩
  | 28 => ⟨S4x32x1x16x18x18, .f32⟩
  | 29 => ⟨S4x32x3x16x18x18, .f32⟩
  | 30 => ⟨S4x32x3x16x16x18, .f32⟩
  | 31 => ⟨S4x32x3x16x16x18, .f32⟩
  | 32 => ⟨S4x32x3x16x16x18, .f32⟩
  | 33 => ⟨S4x32x3x1x16x16x18, .f32⟩
  | 34 => ⟨S4x32x3x1x16x16x18, .f32⟩
  | 35 => ⟨S4x32x3x1x16x16x18, .f32⟩
  | 36 => ⟨S4x32x3x3x16x16x18, .f32⟩
  | 37 => ⟨S4x32x3x3x16x16x16, .f32⟩
  | 38 => ⟨S4x32x3x3x16x16x16, .f32⟩
  | 39 => ⟨S4x32x3x3x16x16x16, .f32⟩
  | 40 => ⟨S4x32x3x3x1x16x16x16, .f32⟩
  | 41 => ⟨S4x32x3x3x1x16x16x16, .f32⟩
  | 42 => ⟨S4x32x3x3x1x16x16x16, .f32⟩
  | 43 => ⟨S4x32x3x3x3x16x16x16, .f32⟩
  | 44 => ⟨S4x32x27x16x16x16, .f32⟩
  | 45 => ⟨S4x256x32x27, .f32⟩
  | 46 => ⟨S4x256x16x16x16, .f32⟩
  | 47 => ⟨S4x8x32x16x16x16, .f32⟩
  | 48 => ⟨S_, .f32⟩
  | 49 => ⟨S4x8x16x16x16, .f32⟩
  | 50 => ⟨S_, .f32⟩
  | 51 => ⟨S4x16x16x16, .f32⟩
  | 52 => ⟨S_, .f32⟩
  | 53 => ⟨S4x16x16x16, .f32⟩
  | 54 => ⟨S4x16x16x16, .f32⟩
  | 55 => ⟨S4x1x16x16x16, .f32⟩
  | 56 => ⟨S4x8x16x16x16, .f32⟩
  | 57 => ⟨S4x8x16x16x16, .f32⟩
  | 58 => ⟨S4x8x16x16x16, .f32⟩
  | 59 => ⟨S_, .f32⟩
  | 60 => ⟨S4x16x16x16, .f32⟩
  | 61 => ⟨S4x1x16x16x16, .f32⟩
  | 62 => ⟨S4x8x16x16x16, .f32⟩
  | 63 => ⟨S4x8x16x16x16, .f32⟩
  | 64 => ⟨S4x8x1x16x16x16, .f32⟩
  | 65 => ⟨S4x8x32x16x16x16, .f32⟩
  | 66 => ⟨S4x8x32x16x16x16, .f32⟩
  | 67 => ⟨S_, .f32⟩
  | 68 => ⟨S8x32x16x16x16, .f32⟩
  | 69 => ⟨S8x32x16x16x16, .f32⟩
  | 70 => ⟨S_, .f32⟩
  | 71 => ⟨S8x16x16x16, .f32⟩
  | 72 => ⟨S8x1x16x16x16, .f32⟩
  | 73 => ⟨S_, .f32⟩
  | 74 => ⟨S8x1x16x16x16, .f32⟩
  | 75 => ⟨S8x1x16x16x16, .f32⟩
  | 76 => ⟨S8x1x16x16x16, .f32⟩
  | 77 => ⟨S8x32x16x16x16, .f32⟩
  | 78 => ⟨S8x32x16x16x16, .f32⟩
  | 79 => ⟨S_, .f32⟩
  | 80 => ⟨S8x1x16x16x16, .f32⟩
  | 81 => ⟨S8x1x16x16x16, .f32⟩
  | 82 => ⟨S8x1x16x16x16, .f32⟩
  | 83 => ⟨S8x32x16x16x16, .f32⟩
  | 84 => ⟨S8x32x16x16x16, .f32⟩
  | 85 => ⟨S1x8x32x16x16x16, .f32⟩
  | 86 => ⟨S4x8x32x16x16x16, .f32⟩
  | 87 => ⟨S4x8x32x16x16x16, .f32⟩
  | 88 => ⟨S_, .f32⟩
  | 89 => ⟨S4x8x16x16x16, .f32⟩
  | 90 => ⟨S4x8x16x16x16, .f32⟩
  | 91 => ⟨S_, .f32⟩
  | 92 => ⟨S4x16x16x16, .f32⟩
  | 93 => ⟨S_, .f32⟩
  | 94 => ⟨S4x16x16x16, .f32⟩
  | 95 => ⟨S4x16x16x16, .f32⟩
  | 96 => ⟨S4x1x16x16x16, .f32⟩
  | 97 => ⟨S4x8x16x16x16, .f32⟩
  | 98 => ⟨S4x8x16x16x16, .f32⟩
  | 99 => ⟨S4x8x16x16x16, .f32⟩
  | 100 => ⟨S_, .f32⟩
  | 101 => ⟨S4x16x16x16, .f32⟩
  | 102 => ⟨S4x1x16x16x16, .f32⟩
  | 103 => ⟨S4x8x16x16x16, .f32⟩
  | 104 => ⟨S4x8x16x16x16, .f32⟩
  | 105 => ⟨S4x8x1x16x16x16, .f32⟩
  | 106 => ⟨S4x8x32x16x16x16, .f32⟩
  | 107 => ⟨S4x8x32x16x16x16, .f32⟩
  | 108 => ⟨S_, .f32⟩
  | 109 => ⟨S8x32x16x16x16, .f32⟩
  | 110 => ⟨S8x32x16x16x16, .f32⟩
  | 111 => ⟨S_, .f32⟩
  | 112 => ⟨S8x16x16x16, .f32⟩
  | 113 => ⟨S8x1x16x16x16, .f32⟩
  | 114 => ⟨S_, .f32⟩
  | 115 => ⟨S8x1x16x16x16, .f32⟩
  | 116 => ⟨S8x1x16x16x16, .f32⟩
  | 117 => ⟨S8x1x16x16x16, .f32⟩
  | 118 => ⟨S8x32x16x16x16, .f32⟩
  | 119 => ⟨S8x32x16x16x16, .f32⟩
  | 120 => ⟨S_, .f32⟩
  | 121 => ⟨S8x1x16x16x16, .f32⟩
  | 122 => ⟨S8x1x16x16x16, .f32⟩
  | 123 => ⟨S8x1x16x16x16, .f32⟩
  | 124 => ⟨S8x32x16x16x16, .f32⟩
  | 125 => ⟨S8x32x16x16x16, .f32⟩
  | 126 => ⟨S1x8x32x16x16x16, .f32⟩
  | 127 => ⟨S4x8x32x16x16x16, .f32⟩
  | _ => ⟨S1x4x14x14x14, .f32⟩

abbrev hbmTy0_4 (i : Nat) : BufTy := match i % 128 with
  | 0 => ⟨S4x8x32x16x16x16, .f32⟩
  | 1 => ⟨S_, .f32⟩
  | 2 => ⟨S4x8x16x16x16, .f32⟩
  | 3 => ⟨S4x8x16x16x16, .f32⟩
  | 4 => ⟨S_, .f32⟩
  | 5 => ⟨S4x16x16x16, .f32⟩
  | 6 => ⟨S_, .f32⟩
  | 7 => ⟨S4x16x16x16, .f32⟩
  | 8 => ⟨S4x16x16x16, .f32⟩
  | 9 => ⟨S4x1x16x16x16, .f32⟩
  | 10 => ⟨S4x8x16x16x16, .f32⟩
  | 11 => ⟨S4x8x16x16x16, .f32⟩
  | 12 => ⟨S4x8x16x16x16, .f32⟩
  | 13 => ⟨S_, .f32⟩
  | 14 => ⟨S4x16x16x16, .f32⟩
  | 15 => ⟨S4x1x16x16x16, .f32⟩
  | 16 => ⟨S4x8x16x16x16, .f32⟩
  | 17 => ⟨S4x8x16x16x16, .f32⟩
  | 18 => ⟨S4x8x1x16x16x16, .f32⟩
  | 19 => ⟨S4x8x32x16x16x16, .f32⟩
  | 20 => ⟨S4x8x32x16x16x16, .f32⟩
  | 21 => ⟨S_, .f32⟩
  | 22 => ⟨S8x32x16x16x16, .f32⟩
  | 23 => ⟨S8x32x16x16x16, .f32⟩
  | 24 => ⟨S_, .f32⟩
  | 25 => ⟨S8x16x16x16, .f32⟩
  | 26 => ⟨S8x1x16x16x16, .f32⟩
  | 27 => ⟨S_, .f32⟩
  | 28 => ⟨S8x1x16x16x16, .f32⟩
  | 29 => ⟨S8x1x16x16x16, .f32⟩
  | 30 => ⟨S8x1x16x16x16, .f32⟩
  | 31 => ⟨S8x32x16x16x16, .f32⟩
  | 32 => ⟨S8x32x16x16x16, .f32⟩
  | 33 => ⟨S_, .f32⟩
  | 34 => ⟨S8x1x16x16x16, .f32⟩
  | 35 => ⟨S8x1x16x16x16, .f32⟩
  | 36 => ⟨S8x1x16x16x16, .f32⟩
  | 37 => ⟨S8x32x16x16x16, .f32⟩
  | 38 => ⟨S8x32x16x16x16, .f32⟩
  | 39 => ⟨S_, .i32⟩
  | 40 => ⟨S_, .f32⟩
  | 41 => ⟨S8x32x18x18x18, .f32⟩
  | 42 => ⟨S8x32x16x18x18, .f32⟩
  | 43 => ⟨S8x32x16x18x18, .f32⟩
  | 44 => ⟨S8x32x16x18x18, .f32⟩
  | 45 => ⟨S8x32x1x16x18x18, .f32⟩
  | 46 => ⟨S8x32x1x16x18x18, .f32⟩
  | 47 => ⟨S8x32x1x16x18x18, .f32⟩
  | 48 => ⟨S8x32x3x16x18x18, .f32⟩
  | 49 => ⟨S8x32x3x16x16x18, .f32⟩
  | 50 => ⟨S8x32x3x16x16x18, .f32⟩
  | 51 => ⟨S8x32x3x16x16x18, .f32⟩
  | 52 => ⟨S8x32x3x1x16x16x18, .f32⟩
  | 53 => ⟨S8x32x3x1x16x16x18, .f32⟩
  | 54 => ⟨S8x32x3x1x16x16x18, .f32⟩
  | 55 => ⟨S8x32x3x3x16x16x18, .f32⟩
  | 56 => ⟨S8x32x3x3x16x16x16, .f32⟩
  | 57 => ⟨S8x32x3x3x16x16x16, .f32⟩
  | 58 => ⟨S8x32x3x3x16x16x16, .f32⟩
  | 59 => ⟨S8x32x3x3x1x16x16x16, .f32⟩
  | 60 => ⟨S8x32x3x3x1x16x16x16, .f32⟩
  | 61 => ⟨S8x32x3x3x1x16x16x16, .f32⟩
  | 62 => ⟨S8x32x3x3x3x16x16x16, .f32⟩
  | 63 => ⟨S8x32x27x16x16x16, .f32⟩
  | 64 => ⟨S8x512x32x27, .f32⟩
  | 65 => ⟨S8x512x16x16x16, .f32⟩
  | 66 => ⟨S8x8x64x16x16x16, .f32⟩
  | 67 => ⟨S_, .f32⟩
  | 68 => ⟨S8x8x16x16x16, .f32⟩
  | 69 => ⟨S_, .f32⟩
  | 70 => ⟨S8x16x16x16, .f32⟩
  | 71 => ⟨S_, .f32⟩
  | 72 => ⟨S8x16x16x16, .f32⟩
  | 73 => ⟨S8x16x16x16, .f32⟩
  | 74 => ⟨S8x1x16x16x16, .f32⟩
  | 75 => ⟨S8x8x16x16x16, .f32⟩
  | 76 => ⟨S8x8x16x16x16, .f32⟩
  | 77 => ⟨S8x8x16x16x16, .f32⟩
  | 78 => ⟨S_, .f32⟩
  | 79 => ⟨S8x16x16x16, .f32⟩
  | 80 => ⟨S8x1x16x16x16, .f32⟩
  | 81 => ⟨S8x8x16x16x16, .f32⟩
  | 82 => ⟨S8x8x16x16x16, .f32⟩
  | 83 => ⟨S8x8x1x16x16x16, .f32⟩
  | 84 => ⟨S8x8x64x16x16x16, .f32⟩
  | 85 => ⟨S8x8x64x16x16x16, .f32⟩
  | 86 => ⟨S_, .f32⟩
  | 87 => ⟨S8x64x16x16x16, .f32⟩
  | 88 => ⟨S8x64x16x16x16, .f32⟩
  | 89 => ⟨S_, .f32⟩
  | 90 => ⟨S8x16x16x16, .f32⟩
  | 91 => ⟨S8x1x16x16x16, .f32⟩
  | 92 => ⟨S_, .f32⟩
  | 93 => ⟨S8x1x16x16x16, .f32⟩
  | 94 => ⟨S8x1x16x16x16, .f32⟩
  | 95 => ⟨S8x1x16x16x16, .f32⟩
  | 96 => ⟨S8x64x16x16x16, .f32⟩
  | 97 => ⟨S8x64x16x16x16, .f32⟩
  | 98 => ⟨S_, .f32⟩
  | 99 => ⟨S8x1x16x16x16, .f32⟩
  | 100 => ⟨S8x1x16x16x16, .f32⟩
  | 101 => ⟨S8x1x16x16x16, .f32⟩
  | 102 => ⟨S8x64x16x16x16, .f32⟩
  | 103 => ⟨S8x64x16x16x16, .f32⟩
  | 104 => ⟨S1x8x64x16x16x16, .f32⟩
  | 105 => ⟨S8x8x64x16x16x16, .f32⟩
  | 106 => ⟨S8x8x64x16x16x16, .f32⟩
  | 107 => ⟨S_, .f32⟩
  | 108 => ⟨S8x8x16x16x16, .f32⟩
  | 109 => ⟨S8x8x16x16x16, .f32⟩
  | 110 => ⟨S_, .f32⟩
  | 111 => ⟨S8x16x16x16, .f32⟩
  | 112 => ⟨S_, .f32⟩
  | 113 => ⟨S8x16x16x16, .f32⟩
  | 114 => ⟨S8x16x16x16, .f32⟩
  | 115 => ⟨S8x1x16x16x16, .f32⟩
  | 116 => ⟨S8x8x16x16x16, .f32⟩
  | 117 => ⟨S8x8x16x16x16, .f32⟩
  | 118 => ⟨S8x8x16x16x16, .f32⟩
  | 119 => ⟨S_, .f32⟩
  | 120 => ⟨S8x16x16x16, .f32⟩
  | 121 => ⟨S8x1x16x16x16, .f32⟩
  | 122 => ⟨S8x8x16x16x16, .f32⟩
  | 123 => ⟨S8x8x16x16x16, .f32⟩
  | 124 => ⟨S8x8x1x16x16x16, .f32⟩
  | 125 => ⟨S8x8x64x16x16x16, .f32⟩
  | 126 => ⟨S8x8x64x16x16x16, .f32⟩
  | 127 => ⟨S_, .f32⟩
  | _ => ⟨S1x4x14x14x14, .f32⟩

abbrev hbmTy0_5 (i : Nat) : BufTy := match i % 128 with
  | 0 => ⟨S8x64x16x16x16, .f32⟩
  | 1 => ⟨S8x64x16x16x16, .f32⟩
  | 2 => ⟨S_, .f32⟩
  | 3 => ⟨S8x16x16x16, .f32⟩
  | 4 => ⟨S8x1x16x16x16, .f32⟩
  | 5 => ⟨S_, .f32⟩
  | 6 => ⟨S8x1x16x16x16, .f32⟩
  | 7 => ⟨S8x1x16x16x16, .f32⟩
  | 8 => ⟨S8x1x16x16x16, .f32⟩
  | 9 => ⟨S8x64x16x16x16, .f32⟩
  | 10 => ⟨S8x64x16x16x16, .f32⟩
  | 11 => ⟨S_, .f32⟩
  | 12 => ⟨S8x1x16x16x16, .f32⟩
  | 13 => ⟨S8x1x16x16x16, .f32⟩
  | 14 => ⟨S8x1x16x16x16, .f32⟩
  | 15 => ⟨S8x64x16x16x16, .f32⟩
  | 16 => ⟨S8x64x16x16x16, .f32⟩
  | 17 => ⟨S1x8x64x16x16x16, .f32⟩
  | 18 => ⟨S8x8x64x16x16x16, .f32⟩
  | 19 => ⟨S8x8x64x16x16x16, .f32⟩
  | 20 => ⟨S_, .f32⟩
  | 21 => ⟨S8x8x16x16x16, .f32⟩
  | 22 => ⟨S8x8x16x16x16, .f32⟩
  | 23 => ⟨S_, .f32⟩
  | 24 => ⟨S8x16x16x16, .f32⟩
  | 25 => ⟨S_, .f32⟩
  | 26 => ⟨S8x16x16x16, .f32⟩
  | 27 => ⟨S8x16x16x16, .f32⟩
  | 28 => ⟨S8x1x16x16x16, .f32⟩
  | 29 => ⟨S8x8x16x16x16, .f32⟩
  | 30 => ⟨S8x8x16x16x16, .f32⟩
  | 31 => ⟨S8x8x16x16x16, .f32⟩
  | 32 => ⟨S_, .f32⟩
  | 33 => ⟨S8x16x16x16, .f32⟩
  | 34 => ⟨S8x1x16x16x16, .f32⟩
  | 35 => ⟨S8x8x16x16x16, .f32⟩
  | 36 => ⟨S8x8x16x16x16, .f32⟩
  | 37 => ⟨S8x8x1x16x16x16, .f32⟩
  | 38 => ⟨S8x8x64x16x16x16, .f32⟩
  | 39 => ⟨S8x8x64x16x16x16, .f32⟩
  | 40 => ⟨S_, .f32⟩
  | 41 => ⟨S8x64x16x16x16, .f32⟩
  | 42 => ⟨S8x64x16x16x16, .f32⟩
  | 43 => ⟨S_, .f32⟩
  | 44 => ⟨S8x16x16x16, .f32⟩
  | 45 => ⟨S8x1x16x16x16, .f32⟩
  | 46 => ⟨S_, .f32⟩
  | 47 => ⟨S8x1x16x16x16, .f32⟩
  | 48 => ⟨S8x1x16x16x16, .f32⟩
  | 49 => ⟨S8x1x16x16x16, .f32⟩
  | 50 => ⟨S8x64x16x16x16, .f32⟩
  | 51 => ⟨S8x64x16x16x16, .f32⟩
  | 52 => ⟨S_, .f32⟩
  | 53 => ⟨S8x1x16x16x16, .f32⟩
  | 54 => ⟨S8x1x16x16x16, .f32⟩
  | 55 => ⟨S8x1x16x16x16, .f32⟩
  | 56 => ⟨S8x64x16x16x16, .f32⟩
  | 57 => ⟨S8x64x16x16x16, .f32⟩
  | 58 => ⟨S_, .i32⟩
  | 59 => ⟨S_, .f32⟩
  | 60 => ⟨S8x64x18x18x18, .f32⟩
  | 61 => ⟨S8x64x16x18x18, .f32⟩
  | 62 => ⟨S8x64x16x18x18, .f32⟩
  | 63 => ⟨S8x64x16x18x18, .f32⟩
  | 64 => ⟨S8x64x1x16x18x18, .f32⟩
  | 65 => ⟨S8x64x1x16x18x18, .f32⟩
  | 66 => ⟨S8x64x1x16x18x18, .f32⟩
  | 67 => ⟨S8x64x3x16x18x18, .f32⟩
  | 68 => ⟨S8x64x3x16x16x18, .f32⟩
  | 69 => ⟨S8x64x3x16x16x18, .f32⟩
  | 70 => ⟨S8x64x3x16x16x18, .f32⟩
  | 71 => ⟨S8x64x3x1x16x16x18, .f32⟩
  | 72 => ⟨S8x64x3x1x16x16x18, .f32⟩
  | 73 => ⟨S8x64x3x1x16x16x18, .f32⟩
  | 74 => ⟨S8x64x3x3x16x16x18, .f32⟩
  | 75 => ⟨S8x64x3x3x16x16x16, .f32⟩
  | 76 => ⟨S8x64x3x3x16x16x16, .f32⟩
  | 77 => ⟨S8x64x3x3x16x16x16, .f32⟩
  | 78 => ⟨S8x64x3x3x1x16x16x16, .f32⟩
  | 79 => ⟨S8x64x3x3x1x16x16x16, .f32⟩
  | 80 => ⟨S8x64x3x3x1x16x16x16, .f32⟩
  | 81 => ⟨S8x64x3x3x3x16x16x16, .f32⟩
  | 82 => ⟨S8x64x27x16x16x16, .f32⟩
  | 83 => ⟨S8x256x64x27, .f32⟩
  | 84 => ⟨S8x256x16x16x16, .f32⟩
  | 85 => ⟨S8x8x32x16x16x16, .f32⟩
  | 86 => ⟨S_, .f32⟩
  | 87 => ⟨S8x8x16x16x16, .f32⟩
  | 88 => ⟨S_, .f32⟩
  | 89 => ⟨S8x16x16x16, .f32⟩
  | 90 => ⟨S_, .f32⟩
  | 91 => ⟨S8x16x16x16, .f32⟩
  | 92 => ⟨S8x16x16x16, .f32⟩
  | 93 => ⟨S8x1x16x16x16, .f32⟩
  | 94 => ⟨S8x8x16x16x16, .f32⟩
  | 95 => ⟨S8x8x16x16x16, .f32⟩
  | 96 => ⟨S8x8x16x16x16, .f32⟩
  | 97 => ⟨S_, .f32⟩
  | 98 => ⟨S8x16x16x16, .f32⟩
  | 99 => ⟨S8x1x16x16x16, .f32⟩
  | 100 => ⟨S8x8x16x16x16, .f32⟩
  | 101 => ⟨S8x8x16x16x16, .f32⟩
  | 102 => ⟨S8x8x1x16x16x16, .f32⟩
  | 103 => ⟨S8x8x32x16x16x16, .f32⟩
  | 104 => ⟨S8x8x32x16x16x16, .f32⟩
  | 105 => ⟨S_, .f32⟩
  | 106 => ⟨S8x32x16x16x16, .f32⟩
  | 107 => ⟨S8x32x16x16x16, .f32⟩
  | 108 => ⟨S_, .f32⟩
  | 109 => ⟨S8x16x16x16, .f32⟩
  | 110 => ⟨S8x1x16x16x16, .f32⟩
  | 111 => ⟨S_, .f32⟩
  | 112 => ⟨S8x1x16x16x16, .f32⟩
  | 113 => ⟨S8x1x16x16x16, .f32⟩
  | 114 => ⟨S8x1x16x16x16, .f32⟩
  | 115 => ⟨S8x32x16x16x16, .f32⟩
  | 116 => ⟨S8x32x16x16x16, .f32⟩
  | 117 => ⟨S_, .f32⟩
  | 118 => ⟨S8x1x16x16x16, .f32⟩
  | 119 => ⟨S8x1x16x16x16, .f32⟩
  | 120 => ⟨S8x1x16x16x16, .f32⟩
  | 121 => ⟨S8x32x16x16x16, .f32⟩
  | 122 => ⟨S8x32x16x16x16, .f32⟩
  | 123 => ⟨S1x8x32x16x16x16, .f32⟩
  | 124 => ⟨S8x8x32x16x16x16, .f32⟩
  | 125 => ⟨S8x8x32x16x16x16, .f32⟩
  | 126 => ⟨S_, .f32⟩
  | 127 => ⟨S8x8x16x16x16, .f32⟩
  | _ => ⟨S1x4x14x14x14, .f32⟩

abbrev hbmTy0_6 (i : Nat) : BufTy := match i % 128 with
  | 0 => ⟨S8x8x16x16x16, .f32⟩
  | 1 => ⟨S_, .f32⟩
  | 2 => ⟨S8x16x16x16, .f32⟩
  | 3 => ⟨S_, .f32⟩
  | 4 => ⟨S8x16x16x16, .f32⟩
  | 5 => ⟨S8x16x16x16, .f32⟩
  | 6 => ⟨S8x1x16x16x16, .f32⟩
  | 7 => ⟨S8x8x16x16x16, .f32⟩
  | 8 => ⟨S8x8x16x16x16, .f32⟩
  | 9 => ⟨S8x8x16x16x16, .f32⟩
  | 10 => ⟨S_, .f32⟩
  | 11 => ⟨S8x16x16x16, .f32⟩
  | 12 => ⟨S8x1x16x16x16, .f32⟩
  | 13 => ⟨S8x8x16x16x16, .f32⟩
  | 14 => ⟨S8x8x16x16x16, .f32⟩
  | 15 => ⟨S8x8x1x16x16x16, .f32⟩
  | 16 => ⟨S8x8x32x16x16x16, .f32⟩
  | 17 => ⟨S8x8x32x16x16x16, .f32⟩
  | 18 => ⟨S_, .f32⟩
  | 19 => ⟨S8x32x16x16x16, .f32⟩
  | 20 => ⟨S8x32x16x16x16, .f32⟩
  | 21 => ⟨S_, .f32⟩
  | 22 => ⟨S8x16x16x16, .f32⟩
  | 23 => ⟨S8x1x16x16x16, .f32⟩
  | 24 => ⟨S_, .f32⟩
  | 25 => ⟨S8x1x16x16x16, .f32⟩
  | 26 => ⟨S8x1x16x16x16, .f32⟩
  | 27 => ⟨S8x1x16x16x16, .f32⟩
  | 28 => ⟨S8x32x16x16x16, .f32⟩
  | 29 => ⟨S8x32x16x16x16, .f32⟩
  | 30 => ⟨S_, .f32⟩
  | 31 => ⟨S8x1x16x16x16, .f32⟩
  | 32 => ⟨S8x1x16x16x16, .f32⟩
  | 33 => ⟨S8x1x16x16x16, .f32⟩
  | 34 => ⟨S8x32x16x16x16, .f32⟩
  | 35 => ⟨S8x32x16x16x16, .f32⟩
  | 36 => ⟨S1x8x32x16x16x16, .f32⟩
  | 37 => ⟨S8x8x32x16x16x16, .f32⟩
  | 38 => ⟨S8x8x32x16x16x16, .f32⟩
  | 39 => ⟨S_, .f32⟩
  | 40 => ⟨S8x8x16x16x16, .f32⟩
  | 41 => ⟨S8x8x16x16x16, .f32⟩
  | 42 => ⟨S_, .f32⟩
  | 43 => ⟨S8x16x16x16, .f32⟩
  | 44 => ⟨S_, .f32⟩
  | 45 => ⟨S8x16x16x16, .f32⟩
  | 46 => ⟨S8x16x16x16, .f32⟩
  | 47 => ⟨S8x1x16x16x16, .f32⟩
  | 48 => ⟨S8x8x16x16x16, .f32⟩
  | 49 => ⟨S8x8x16x16x16, .f32⟩
  | 50 => ⟨S8x8x16x16x16, .f32⟩
  | 51 => ⟨S_, .f32⟩
  | 52 => ⟨S8x16x16x16, .f32⟩
  | 53 => ⟨S8x1x16x16x16, .f32⟩
  | 54 => ⟨S8x8x16x16x16, .f32⟩
  | 55 => ⟨S8x8x16x16x16, .f32⟩
  | 56 => ⟨S8x8x1x16x16x16, .f32⟩
  | 57 => ⟨S8x8x32x16x16x16, .f32⟩
  | 58 => ⟨S8x8x32x16x16x16, .f32⟩
  | 59 => ⟨S_, .f32⟩
  | 60 => ⟨S8x32x16x16x16, .f32⟩
  | 61 => ⟨S8x32x16x16x16, .f32⟩
  | 62 => ⟨S_, .f32⟩
  | 63 => ⟨S8x16x16x16, .f32⟩
  | 64 => ⟨S8x1x16x16x16, .f32⟩
  | 65 => ⟨S_, .f32⟩
  | 66 => ⟨S8x1x16x16x16, .f32⟩
  | 67 => ⟨S8x1x16x16x16, .f32⟩
  | 68 => ⟨S8x1x16x16x16, .f32⟩
  | 69 => ⟨S8x32x16x16x16, .f32⟩
  | 70 => ⟨S8x32x16x16x16, .f32⟩
  | 71 => ⟨S_, .f32⟩
  | 72 => ⟨S8x1x16x16x16, .f32⟩
  | 73 => ⟨S8x1x16x16x16, .f32⟩
  | 74 => ⟨S8x1x16x16x16, .f32⟩
  | 75 => ⟨S8x32x16x16x16, .f32⟩
  | 76 => ⟨S8x32x16x16x16, .f32⟩
  | 77 => ⟨S8x256x32x3x3x3, .f32⟩
  | 78 => ⟨S_, .i32⟩
  | 79 => ⟨S_, .f32⟩
  | 80 => ⟨S8x32x18x18x18, .f32⟩
  | 81 => ⟨S8x32x16x18x18, .f32⟩
  | 82 => ⟨S8x32x16x18x18, .f32⟩
  | 83 => ⟨S8x32x16x18x18, .f32⟩
  | 84 => ⟨S8x32x1x16x18x18, .f32⟩
  | 85 => ⟨S8x32x1x16x18x18, .f32⟩
  | 86 => ⟨S8x32x1x16x18x18, .f32⟩
  | 87 => ⟨S8x32x3x16x18x18, .f32⟩
  | 88 => ⟨S8x32x3x16x16x18, .f32⟩
  | 89 => ⟨S8x32x3x16x16x18, .f32⟩
  | 90 => ⟨S8x32x3x16x16x18, .f32⟩
  | 91 => ⟨S8x32x3x1x16x16x18, .f32⟩
  | 92 => ⟨S8x32x3x1x16x16x18, .f32⟩
  | 93 => ⟨S8x32x3x1x16x16x18, .f32⟩
  | 94 => ⟨S8x32x3x3x16x16x18, .f32⟩
  | 95 => ⟨S8x32x3x3x16x16x16, .f32⟩
  | 96 => ⟨S8x32x3x3x16x16x16, .f32⟩
  | 97 => ⟨S8x32x3x3x16x16x16, .f32⟩
  | 98 => ⟨S8x32x3x3x1x16x16x16, .f32⟩
  | 99 => ⟨S8x32x3x3x1x16x16x16, .f32⟩
  | 100 => ⟨S8x32x3x3x1x16x16x16, .f32⟩
  | 101 => ⟨S8x32x3x3x3x16x16x16, .f32⟩
  | 102 => ⟨S8x32x27x16x16x16, .f32⟩
  | 103 => ⟨S8x256x32x27, .f32⟩
  | 104 => ⟨S8x256x16x16x16, .f32⟩
  | 105 => ⟨S8x8x32x16x16x16, .f32⟩
  | 106 => ⟨S_, .f32⟩
  | 107 => ⟨S8x8x16x16x16, .f32⟩
  | 108 => ⟨S_, .f32⟩
  | 109 => ⟨S8x16x16x16, .f32⟩
  | 110 => ⟨S_, .f32⟩
  | 111 => ⟨S8x16x16x16, .f32⟩
  | 112 => ⟨S8x16x16x16, .f32⟩
  | 113 => ⟨S8x1x16x16x16, .f32⟩
  | 114 => ⟨S8x8x16x16x16, .f32⟩
  | 115 => ⟨S8x8x16x16x16, .f32⟩
  | 116 => ⟨S8x8x16x16x16, .f32⟩
  | 117 => ⟨S_, .f32⟩
  | 118 => ⟨S8x16x16x16, .f32⟩
  | 119 => ⟨S8x1x16x16x16, .f32⟩
  | 120 => ⟨S8x8x16x16x16, .f32⟩
  | 121 => ⟨S8x8x16x16x16, .f32⟩
  | 122 => ⟨S8x8x1x16x16x16, .f32⟩
  | 123 => ⟨S8x8x32x16x16x16, .f32⟩
  | 124 => ⟨S8x8x32x16x16x16, .f32⟩
  | 125 => ⟨S_, .f32⟩
  | 126 => ⟨S8x32x16x16x16, .f32⟩
  | 127 => ⟨S8x32x16x16x16, .f32⟩
  | _ => ⟨S1x4x14x14x14, .f32⟩

abbrev hbmTy0_7 (i : Nat) : BufTy := match i % 128 with
  | 0 => ⟨S_, .f32⟩
  | 1 => ⟨S8x16x16x16, .f32⟩
  | 2 => ⟨S8x1x16x16x16, .f32⟩
  | 3 => ⟨S_, .f32⟩
  | 4 => ⟨S8x1x16x16x16, .f32⟩
  | 5 => ⟨S8x1x16x16x16, .f32⟩
  | 6 => ⟨S8x1x16x16x16, .f32⟩
  | 7 => ⟨S8x32x16x16x16, .f32⟩
  | 8 => ⟨S8x32x16x16x16, .f32⟩
  | 9 => ⟨S_, .f32⟩
  | 10 => ⟨S8x1x16x16x16, .f32⟩
  | 11 => ⟨S8x1x16x16x16, .f32⟩
  | 12 => ⟨S8x1x16x16x16, .f32⟩
  | 13 => ⟨S8x32x16x16x16, .f32⟩
  | 14 => ⟨S8x32x16x16x16, .f32⟩
  | 15 => ⟨S1x8x32x16x16x16, .f32⟩
  | 16 => ⟨S8x8x32x16x16x16, .f32⟩
  | 17 => ⟨S8x8x32x16x16x16, .f32⟩
  | 18 => ⟨S_, .f32⟩
  | 19 => ⟨S8x8x16x16x16, .f32⟩
  | 20 => ⟨S8x8x16x16x16, .f32⟩
  | 21 => ⟨S_, .f32⟩
  | 22 => ⟨S8x16x16x16, .f32⟩
  | 23 => ⟨S_, .f32⟩
  | 24 => ⟨S8x16x16x16, .f32⟩
  | 25 => ⟨S8x16x16x16, .f32⟩
  | 26 => ⟨S8x1x16x16x16, .f32⟩
  | 27 => ⟨S8x8x16x16x16, .f32⟩
  | 28 => ⟨S8x8x16x16x16, .f32⟩
  | 29 => ⟨S8x8x16x16x16, .f32⟩
  | 30 => ⟨S_, .f32⟩
  | 31 => ⟨S8x16x16x16, .f32⟩
  | 32 => ⟨S8x1x16x16x16, .f32⟩
  | 33 => ⟨S8x8x16x16x16, .f32⟩
  | 34 => ⟨S8x8x16x16x16, .f32⟩
  | 35 => ⟨S8x8x1x16x16x16, .f32⟩
  | 36 => ⟨S8x8x32x16x16x16, .f32⟩
  | 37 => ⟨S8x8x32x16x16x16, .f32⟩
  | 38 => ⟨S_, .f32⟩
  | 39 => ⟨S8x32x16x16x16, .f32⟩
  | 40 => ⟨S8x32x16x16x16, .f32⟩
  | 41 => ⟨S_, .f32⟩
  | 42 => ⟨S8x16x16x16, .f32⟩
  | 43 => ⟨S8x1x16x16x16, .f32⟩
  | 44 => ⟨S_, .f32⟩
  | 45 => ⟨S8x1x16x16x16, .f32⟩
  | 46 => ⟨S8x1x16x16x16, .f32⟩
  | 47 => ⟨S8x1x16x16x16, .f32⟩
  | 48 => ⟨S8x32x16x16x16, .f32⟩
  | 49 => ⟨S8x32x16x16x16, .f32⟩
  | 50 => ⟨S_, .f32⟩
  | 51 => ⟨S8x1x16x16x16, .f32⟩
  | 52 => ⟨S8x1x16x16x16, .f32⟩
  | 53 => ⟨S8x1x16x16x16, .f32⟩
  | 54 => ⟨S8x32x16x16x16, .f32⟩
  | 55 => ⟨S8x32x16x16x16, .f32⟩
  | 56 => ⟨S1x8x32x16x16x16, .f32⟩
  | 57 => ⟨S8x8x32x16x16x16, .f32⟩
  | 58 => ⟨S8x8x32x16x16x16, .f32⟩
  | 59 => ⟨S_, .f32⟩
  | 60 => ⟨S8x8x16x16x16, .f32⟩
  | 61 => ⟨S8x8x16x16x16, .f32⟩
  | 62 => ⟨S_, .f32⟩
  | 63 => ⟨S8x16x16x16, .f32⟩
  | 64 => ⟨S_, .f32⟩
  | 65 => ⟨S8x16x16x16, .f32⟩
  | 66 => ⟨S8x16x16x16, .f32⟩
  | 67 => ⟨S8x1x16x16x16, .f32⟩
  | 68 => ⟨S8x8x16x16x16, .f32⟩
  | 69 => ⟨S8x8x16x16x16, .f32⟩
  | 70 => ⟨S8x8x16x16x16, .f32⟩
  | 71 => ⟨S_, .f32⟩
  | 72 => ⟨S8x16x16x16, .f32⟩
  | 73 => ⟨S8x1x16x16x16, .f32⟩
  | 74 => ⟨S8x8x16x16x16, .f32⟩
  | 75 => ⟨S8x8x16x16x16, .f32⟩
  | 76 => ⟨S8x8x1x16x16x16, .f32⟩
  | 77 => ⟨S8x8x32x16x16x16, .f32⟩
  | 78 => ⟨S8x8x32x16x16x16, .f32⟩
  | 79 => ⟨S_, .f32⟩
  | 80 => ⟨S8x32x16x16x16, .f32⟩
  | 81 => ⟨S8x32x16x16x16, .f32⟩
  | 82 => ⟨S_, .f32⟩
  | 83 => ⟨S8x16x16x16, .f32⟩
  | 84 => ⟨S8x1x16x16x16, .f32⟩
  | 85 => ⟨S_, .f32⟩
  | 86 => ⟨S8x1x16x16x16, .f32⟩
  | 87 => ⟨S8x1x16x16x16, .f32⟩
  | 88 => ⟨S8x1x16x16x16, .f32⟩
  | 89 => ⟨S8x32x16x16x16, .f32⟩
  | 90 => ⟨S8x32x16x16x16, .f32⟩
  | 91 => ⟨S_, .f32⟩
  | 92 => ⟨S8x1x16x16x16, .f32⟩
  | 93 => ⟨S8x1x16x16x16, .f32⟩
  | 94 => ⟨S8x1x16x16x16, .f32⟩
  | 95 => ⟨S8x32x16x16x16, .f32⟩
  | 96 => ⟨S8x32x16x16x16, .f32⟩
  | 97 => ⟨S16x32x16x16x16, .f32⟩
  | 98 => ⟨S_, .i32⟩
  | 99 => ⟨S_, .f32⟩
  | 100 => ⟨S16x32x18x18x18, .f32⟩
  | 101 => ⟨S16x32x16x18x18, .f32⟩
  | 102 => ⟨S16x32x16x18x18, .f32⟩
  | 103 => ⟨S16x32x16x18x18, .f32⟩
  | 104 => ⟨S16x32x1x16x18x18, .f32⟩
  | 105 => ⟨S16x32x1x16x18x18, .f32⟩
  | 106 => ⟨S16x32x1x16x18x18, .f32⟩
  | 107 => ⟨S16x32x3x16x18x18, .f32⟩
  | 108 => ⟨S16x32x3x16x16x18, .f32⟩
  | 109 => ⟨S16x32x3x16x16x18, .f32⟩
  | 110 => ⟨S16x32x3x16x16x18, .f32⟩
  | 111 => ⟨S16x32x3x1x16x16x18, .f32⟩
  | 112 => ⟨S16x32x3x1x16x16x18, .f32⟩
  | 113 => ⟨S16x32x3x1x16x16x18, .f32⟩
  | 114 => ⟨S16x32x3x3x16x16x18, .f32⟩
  | 115 => ⟨S16x32x3x3x16x16x16, .f32⟩
  | 116 => ⟨S16x32x3x3x16x16x16, .f32⟩
  | 117 => ⟨S16x32x3x3x16x16x16, .f32⟩
  | 118 => ⟨S16x32x3x3x1x16x16x16, .f32⟩
  | 119 => ⟨S16x32x3x3x1x16x16x16, .f32⟩
  | 120 => ⟨S16x32x3x3x1x16x16x16, .f32⟩
  | 121 => ⟨S16x32x3x3x3x16x16x16, .f32⟩
  | 122 => ⟨S16x32x27x16x16x16, .f32⟩
  | 123 => ⟨S16x128x32x27, .f32⟩
  | 124 => ⟨S16x128x16x16x16, .f32⟩
  | 125 => ⟨S16x4x32x16x16x16, .f32⟩
  | 126 => ⟨S_, .f32⟩
  | 127 => ⟨S16x4x16x16x16, .f32⟩
  | _ => ⟨S1x4x14x14x14, .f32⟩

abbrev hbmTy0_8 (i : Nat) : BufTy := match i % 128 with
  | 0 => ⟨S_, .f32⟩
  | 1 => ⟨S16x16x16x16, .f32⟩
  | 2 => ⟨S_, .f32⟩
  | 3 => ⟨S16x16x16x16, .f32⟩
  | 4 => ⟨S16x16x16x16, .f32⟩
  | 5 => ⟨S16x1x16x16x16, .f32⟩
  | 6 => ⟨S16x4x16x16x16, .f32⟩
  | 7 => ⟨S16x4x16x16x16, .f32⟩
  | 8 => ⟨S16x4x16x16x16, .f32⟩
  | 9 => ⟨S_, .f32⟩
  | 10 => ⟨S16x16x16x16, .f32⟩
  | 11 => ⟨S16x1x16x16x16, .f32⟩
  | 12 => ⟨S16x4x16x16x16, .f32⟩
  | 13 => ⟨S16x4x16x16x16, .f32⟩
  | 14 => ⟨S16x4x1x16x16x16, .f32⟩
  | 15 => ⟨S16x4x32x16x16x16, .f32⟩
  | 16 => ⟨S16x4x32x16x16x16, .f32⟩
  | 17 => ⟨S_, .f32⟩
  | 18 => ⟨S4x32x16x16x16, .f32⟩
  | 19 => ⟨S4x32x16x16x16, .f32⟩
  | 20 => ⟨S_, .f32⟩
  | 21 => ⟨S4x16x16x16, .f32⟩
  | 22 => ⟨S4x1x16x16x16, .f32⟩
  | 23 => ⟨S_, .f32⟩
  | 24 => ⟨S4x1x16x16x16, .f32⟩
  | 25 => ⟨S4x1x16x16x16, .f32⟩
  | 26 => ⟨S4x1x16x16x16, .f32⟩
  | 27 => ⟨S4x32x16x16x16, .f32⟩
  | 28 => ⟨S4x32x16x16x16, .f32⟩
  | 29 => ⟨S_, .f32⟩
  | 30 => ⟨S4x1x16x16x16, .f32⟩
  | 31 => ⟨S4x1x16x16x16, .f32⟩
  | 32 => ⟨S4x1x16x16x16, .f32⟩
  | 33 => ⟨S4x32x16x16x16, .f32⟩
  | 34 => ⟨S4x32x16x16x16, .f32⟩
  | 35 => ⟨S1x4x32x16x16x16, .f32⟩
  | 36 => ⟨S16x4x32x16x16x16, .f32⟩
  | 37 => ⟨S16x4x32x16x16x16, .f32⟩
  | 38 => ⟨S_, .f32⟩
  | 39 => ⟨S16x4x16x16x16, .f32⟩
  | 40 => ⟨S16x4x16x16x16, .f32⟩
  | 41 => ⟨S_, .f32⟩
  | 42 => ⟨S16x16x16x16, .f32⟩
  | 43 => ⟨S_, .f32⟩
  | 44 => ⟨S16x16x16x16, .f32⟩
  | 45 => ⟨S16x16x16x16, .f32⟩
  | 46 => ⟨S16x1x16x16x16, .f32⟩
  | 47 => ⟨S16x4x16x16x16, .f32⟩
  | 48 => ⟨S16x4x16x16x16, .f32⟩
  | 49 => ⟨S16x4x16x16x16, .f32⟩
  | 50 => ⟨S_, .f32⟩
  | 51 => ⟨S16x16x16x16, .f32⟩
  | 52 => ⟨S16x1x16x16x16, .f32⟩
  | 53 => ⟨S16x4x16x16x16, .f32⟩
  | 54 => ⟨S16x4x16x16x16, .f32⟩
  | 55 => ⟨S16x4x1x16x16x16, .f32⟩
  | 56 => ⟨S16x4x32x16x16x16, .f32⟩
  | 57 => ⟨S16x4x32x16x16x16, .f32⟩
  | 58 => ⟨S_, .f32⟩
  | 59 => ⟨S4x32x16x16x16, .f32⟩
  | 60 => ⟨S4x32x16x16x16, .f32⟩
  | 61 => ⟨S_, .f32⟩
  | 62 => ⟨S4x16x16x16, .f32⟩
  | 63 => ⟨S4x1x16x16x16, .f32⟩
  | 64 => ⟨S_, .f32⟩
  | 65 => ⟨S4x1x16x16x16, .f32⟩
  | 66 => ⟨S4x1x16x16x16, .f32⟩
  | 67 => ⟨S4x1x16x16x16, .f32⟩
  | 68 => ⟨S4x32x16x16x16, .f32⟩
  | 69 => ⟨S4x32x16x16x16, .f32⟩
  | 70 => ⟨S_, .f32⟩
  | 71 => ⟨S4x1x16x16x16, .f32⟩
  | 72 => ⟨S4x1x16x16x16, .f32⟩
  | 73 => ⟨S4x1x16x16x16, .f32⟩
  | 74 => ⟨S4x32x16x16x16, .f32⟩
  | 75 => ⟨S4x32x16x16x16, .f32⟩
  | 76 => ⟨S1x4x32x16x16x16, .f32⟩
  | 77 => ⟨S16x4x32x16x16x16, .f32⟩
  | 78 => ⟨S16x4x32x16x16x16, .f32⟩
  | 79 => ⟨S_, .f32⟩
  | 80 => ⟨S16x4x16x16x16, .f32⟩
  | 81 => ⟨S16x4x16x16x16, .f32⟩
  | 82 => ⟨S_, .f32⟩
  | 83 => ⟨S16x16x16x16, .f32⟩
  | 84 => ⟨S_, .f32⟩
  | 85 => ⟨S16x16x16x16, .f32⟩
  | 86 => ⟨S16x16x16x16, .f32⟩
  | 87 => ⟨S16x1x16x16x16, .f32⟩
  | 88 => ⟨S16x4x16x16x16, .f32⟩
  | 89 => ⟨S16x4x16x16x16, .f32⟩
  | 90 => ⟨S16x4x16x16x16, .f32⟩
  | 91 => ⟨S_, .f32⟩
  | 92 => ⟨S16x16x16x16, .f32⟩
  | 93 => ⟨S16x1x16x16x16, .f32⟩
  | 94 => ⟨S16x4x16x16x16, .f32⟩
  | 95 => ⟨S16x4x16x16x16, .f32⟩
  | 96 => ⟨S16x4x1x16x16x16, .f32⟩
  | 97 => ⟨S16x4x32x16x16x16, .f32⟩
  | 98 => ⟨S16x4x32x16x16x16, .f32⟩
  | 99 => ⟨S_, .f32⟩
  | 100 => ⟨S4x32x16x16x16, .f32⟩
  | 101 => ⟨S4x32x16x16x16, .f32⟩
  | 102 => ⟨S_, .f32⟩
  | 103 => ⟨S4x16x16x16, .f32⟩
  | 104 => ⟨S4x1x16x16x16, .f32⟩
  | 105 => ⟨S_, .f32⟩
  | 106 => ⟨S4x1x16x16x16, .f32⟩
  | 107 => ⟨S4x1x16x16x16, .f32⟩
  | 108 => ⟨S4x1x16x16x16, .f32⟩
  | 109 => ⟨S4x32x16x16x16, .f32⟩
  | 110 => ⟨S4x32x16x16x16, .f32⟩
  | 111 => ⟨S_, .f32⟩
  | 112 => ⟨S4x1x16x16x16, .f32⟩
  | 113 => ⟨S4x1x16x16x16, .f32⟩
  | 114 => ⟨S4x1x16x16x16, .f32⟩
  | 115 => ⟨S4x32x16x16x16, .f32⟩
  | 116 => ⟨S4x32x16x16x16, .f32⟩
  | 117 => ⟨S4x64x32x3x3x3, .f32⟩
  | 118 => ⟨S_, .i32⟩
  | 119 => ⟨S_, .f32⟩
  | 120 => ⟨S4x32x18x18x18, .f32⟩
  | 121 => ⟨S4x32x16x18x18, .f32⟩
  | 122 => ⟨S4x32x16x18x18, .f32⟩
  | 123 => ⟨S4x32x16x18x18, .f32⟩
  | 124 => ⟨S4x32x1x16x18x18, .f32⟩
  | 125 => ⟨S4x32x1x16x18x18, .f32⟩
  | 126 => ⟨S4x32x1x16x18x18, .f32⟩
  | 127 => ⟨S4x32x3x16x18x18, .f32⟩
  | _ => ⟨S1x4x14x14x14, .f32⟩

abbrev hbmTy0_9 (i : Nat) : BufTy := match i % 128 with
  | 0 => ⟨S4x32x3x16x16x18, .f32⟩
  | 1 => ⟨S4x32x3x16x16x18, .f32⟩
  | 2 => ⟨S4x32x3x16x16x18, .f32⟩
  | 3 => ⟨S4x32x3x1x16x16x18, .f32⟩
  | 4 => ⟨S4x32x3x1x16x16x18, .f32⟩
  | 5 => ⟨S4x32x3x1x16x16x18, .f32⟩
  | 6 => ⟨S4x32x3x3x16x16x18, .f32⟩
  | 7 => ⟨S4x32x3x3x16x16x16, .f32⟩
  | 8 => ⟨S4x32x3x3x16x16x16, .f32⟩
  | 9 => ⟨S4x32x3x3x16x16x16, .f32⟩
  | 10 => ⟨S4x32x3x3x1x16x16x16, .f32⟩
  | 11 => ⟨S4x32x3x3x1x16x16x16, .f32⟩
  | 12 => ⟨S4x32x3x3x1x16x16x16, .f32⟩
  | 13 => ⟨S4x32x3x3x3x16x16x16, .f32⟩
  | 14 => ⟨S4x32x27x16x16x16, .f32⟩
  | 15 => ⟨S4x64x32x27, .f32⟩
  | 16 => ⟨S4x64x16x16x16, .f32⟩
  | 17 => ⟨S4x4x16x16x16x16, .f32⟩
  | 18 => ⟨S_, .f32⟩
  | 19 => ⟨S4x4x16x16x16, .f32⟩
  | 20 => ⟨S_, .f32⟩
  | 21 => ⟨S4x16x16x16, .f32⟩
  | 22 => ⟨S_, .f32⟩
  | 23 => ⟨S4x16x16x16, .f32⟩
  | 24 => ⟨S4x16x16x16, .f32⟩
  | 25 => ⟨S4x1x16x16x16, .f32⟩
  | 26 => ⟨S4x4x16x16x16, .f32⟩
  | 27 => ⟨S4x4x16x16x16, .f32⟩
  | 28 => ⟨S4x4x16x16x16, .f32⟩
  | 29 => ⟨S_, .f32⟩
  | 30 => ⟨S4x16x16x16, .f32⟩
  | 31 => ⟨S4x1x16x16x16, .f32⟩
  | 32 => ⟨S4x4x16x16x16, .f32⟩
  | 33 => ⟨S4x4x16x16x16, .f32⟩
  | 34 => ⟨S4x4x1x16x16x16, .f32⟩
  | 35 => ⟨S4x4x16x16x16x16, .f32⟩
  | 36 => ⟨S4x4x16x16x16x16, .f32⟩
  | 37 => ⟨S_, .f32⟩
  | 38 => ⟨S4x16x16x16x16, .f32⟩
  | 39 => ⟨S4x16x16x16x16, .f32⟩
  | 40 => ⟨S_, .f32⟩
  | 41 => ⟨S4x16x16x16, .f32⟩
  | 42 => ⟨S4x1x16x16x16, .f32⟩
  | 43 => ⟨S_, .f32⟩
  | 44 => ⟨S4x1x16x16x16, .f32⟩
  | 45 => ⟨S4x1x16x16x16, .f32⟩
  | 46 => ⟨S4x1x16x16x16, .f32⟩
  | 47 => ⟨S4x16x16x16x16, .f32⟩
  | 48 => ⟨S4x16x16x16x16, .f32⟩
  | 49 => ⟨S_, .f32⟩
  | 50 => ⟨S4x1x16x16x16, .f32⟩
  | 51 => ⟨S4x1x16x16x16, .f32⟩
  | 52 => ⟨S4x1x16x16x16, .f32⟩
  | 53 => ⟨S4x16x16x16x16, .f32⟩
  | 54 => ⟨S4x16x16x16x16, .f32⟩
  | 55 => ⟨S1x4x16x16x16x16, .f32⟩
  | 56 => ⟨S4x4x16x16x16x16, .f32⟩
  | 57 => ⟨S4x4x16x16x16x16, .f32⟩
  | 58 => ⟨S_, .f32⟩
  | 59 => ⟨S4x4x16x16x16, .f32⟩
  | 60 => ⟨S4x4x16x16x16, .f32⟩
  | 61 => ⟨S_, .f32⟩
  | 62 => ⟨S4x16x16x16, .f32⟩
  | 63 => ⟨S_, .f32⟩
  | 64 => ⟨S4x16x16x16, .f32⟩
  | 65 => ⟨S4x16x16x16, .f32⟩
  | 66 => ⟨S4x1x16x16x16, .f32⟩
  | 67 => ⟨S4x4x16x16x16, .f32⟩
  | 68 => ⟨S4x4x16x16x16, .f32⟩
  | 69 => ⟨S4x4x16x16x16, .f32⟩
  | 70 => ⟨S_, .f32⟩
  | 71 => ⟨S4x16x16x16, .f32⟩
  | 72 => ⟨S4x1x16x16x16, .f32⟩
  | 73 => ⟨S4x4x16x16x16, .f32⟩
  | 74 => ⟨S4x4x16x16x16, .f32⟩
  | 75 => ⟨S4x4x1x16x16x16, .f32⟩
  | 76 => ⟨S4x4x16x16x16x16, .f32⟩
  | 77 => ⟨S4x4x16x16x16x16, .f32⟩
  | 78 => ⟨S_, .f32⟩
  | 79 => ⟨S4x16x16x16x16, .f32⟩
  | 80 => ⟨S4x16x16x16x16, .f32⟩
  | 81 => ⟨S_, .f32⟩
  | 82 => ⟨S4x16x16x16, .f32⟩
  | 83 => ⟨S4x1x16x16x16, .f32⟩
  | 84 => ⟨S_, .f32⟩
  | 85 => ⟨S4x1x16x16x16, .f32⟩
  | 86 => ⟨S4x1x16x16x16, .f32⟩
  | 87 => ⟨S4x1x16x16x16, .f32⟩
  | 88 => ⟨S4x16x16x16x16, .f32⟩
  | 89 => ⟨S4x16x16x16x16, .f32⟩
  | 90 => ⟨S_, .f32⟩
  | 91 => ⟨S4x1x16x16x16, .f32⟩
  | 92 => ⟨S4x1x16x16x16, .f32⟩
  | 93 => ⟨S4x1x16x16x16, .f32⟩
  | 94 => ⟨S4x16x16x16x16, .f32⟩
  | 95 => ⟨S4x16x16x16x16, .f32⟩
  | 96 => ⟨S1x4x16x16x16x16, .f32⟩
  | 97 => ⟨S4x4x16x16x16x16, .f32⟩
  | 98 => ⟨S4x4x16x16x16x16, .f32⟩
  | 99 => ⟨S_, .f32⟩
  | 100 => ⟨S4x4x16x16x16, .f32⟩
  | 101 => ⟨S4x4x16x16x16, .f32⟩
  | 102 => ⟨S_, .f32⟩
  | 103 => ⟨S4x16x16x16, .f32⟩
  | 104 => ⟨S_, .f32⟩
  | 105 => ⟨S4x16x16x16, .f32⟩
  | 106 => ⟨S4x16x16x16, .f32⟩
  | 107 => ⟨S4x1x16x16x16, .f32⟩
  | 108 => ⟨S4x4x16x16x16, .f32⟩
  | 109 => ⟨S4x4x16x16x16, .f32⟩
  | 110 => ⟨S4x4x16x16x16, .f32⟩
  | 111 => ⟨S_, .f32⟩
  | 112 => ⟨S4x16x16x16, .f32⟩
  | 113 => ⟨S4x1x16x16x16, .f32⟩
  | 114 => ⟨S4x4x16x16x16, .f32⟩
  | 115 => ⟨S4x4x16x16x16, .f32⟩
  | 116 => ⟨S4x4x1x16x16x16, .f32⟩
  | 117 => ⟨S4x4x16x16x16x16, .f32⟩
  | 118 => ⟨S4x4x16x16x16x16, .f32⟩
  | 119 => ⟨S_, .f32⟩
  | 120 => ⟨S4x16x16x16x16, .f32⟩
  | 121 => ⟨S4x16x16x16x16, .f32⟩
  | 122 => ⟨S_, .f32⟩
  | 123 => ⟨S4x16x16x16, .f32⟩
  | 124 => ⟨S4x1x16x16x16, .f32⟩
  | 125 => ⟨S_, .f32⟩
  | 126 => ⟨S4x1x16x16x16, .f32⟩
  | 127 => ⟨S4x1x16x16x16, .f32⟩
  | _ => ⟨S1x4x14x14x14, .f32⟩

abbrev hbmTy0_10 (i : Nat) : BufTy := match i % 128 with
  | 0 => ⟨S4x1x16x16x16, .f32⟩
  | 1 => ⟨S4x16x16x16x16, .f32⟩
  | 2 => ⟨S4x16x16x16x16, .f32⟩
  | 3 => ⟨S_, .f32⟩
  | 4 => ⟨S4x1x16x16x16, .f32⟩
  | 5 => ⟨S4x1x16x16x16, .f32⟩
  | 6 => ⟨S4x1x16x16x16, .f32⟩
  | 7 => ⟨S4x16x16x16x16, .f32⟩
  | 8 => ⟨S4x16x16x16x16, .f32⟩
  | 9 => ⟨S8x16x16x16x16, .f32⟩
  | 10 => ⟨S_, .i32⟩
  | 11 => ⟨S_, .f32⟩
  | 12 => ⟨S8x16x18x18x18, .f32⟩
  | 13 => ⟨S8x16x16x18x18, .f32⟩
  | 14 => ⟨S8x16x16x18x18, .f32⟩
  | 15 => ⟨S8x16x16x18x18, .f32⟩
  | 16 => ⟨S8x16x1x16x18x18, .f32⟩
  | 17 => ⟨S8x16x1x16x18x18, .f32⟩
  | 18 => ⟨S8x16x1x16x18x18, .f32⟩
  | 19 => ⟨S8x16x3x16x18x18, .f32⟩
  | 20 => ⟨S8x16x3x16x16x18, .f32⟩
  | 21 => ⟨S8x16x3x16x16x18, .f32⟩
  | 22 => ⟨S8x16x3x16x16x18, .f32⟩
  | 23 => ⟨S8x16x3x1x16x16x18, .f32⟩
  | 24 => ⟨S8x16x3x1x16x16x18, .f32⟩
  | 25 => ⟨S8x16x3x1x16x16x18, .f32⟩
  | 26 => ⟨S8x16x3x3x16x16x18, .f32⟩
  | 27 => ⟨S8x16x3x3x16x16x16, .f32⟩
  | 28 => ⟨S8x16x3x3x16x16x16, .f32⟩
  | 29 => ⟨S8x16x3x3x16x16x16, .f32⟩
  | 30 => ⟨S8x16x3x3x1x16x16x16, .f32⟩
  | 31 => ⟨S8x16x3x3x1x16x16x16, .f32⟩
  | 32 => ⟨S8x16x3x3x1x16x16x16, .f32⟩
  | 33 => ⟨S8x16x3x3x3x16x16x16, .f32⟩
  | 34 => ⟨S8x16x27x16x16x16, .f32⟩
  | 35 => ⟨S8x64x16x27, .f32⟩
  | 36 => ⟨S8x64x16x16x16, .f32⟩
  | 37 => ⟨S8x4x16x16x16x16, .f32⟩
  | 38 => ⟨S_, .f32⟩
  | 39 => ⟨S8x4x16x16x16, .f32⟩
  | 40 => ⟨S_, .f32⟩
  | 41 => ⟨S8x16x16x16, .f32⟩
  | 42 => ⟨S_, .f32⟩
  | 43 => ⟨S8x16x16x16, .f32⟩
  | 44 => ⟨S8x16x16x16, .f32⟩
  | 45 => ⟨S8x1x16x16x16, .f32⟩
  | 46 => ⟨S8x4x16x16x16, .f32⟩
  | 47 => ⟨S8x4x16x16x16, .f32⟩
  | 48 => ⟨S8x4x16x16x16, .f32⟩
  | 49 => ⟨S_, .f32⟩
  | 50 => ⟨S8x16x16x16, .f32⟩
  | 51 => ⟨S8x1x16x16x16, .f32⟩
  | 52 => ⟨S8x4x16x16x16, .f32⟩
  | 53 => ⟨S8x4x16x16x16, .f32⟩
  | 54 => ⟨S8x4x1x16x16x16, .f32⟩
  | 55 => ⟨S8x4x16x16x16x16, .f32⟩
  | 56 => ⟨S8x4x16x16x16x16, .f32⟩
  | 57 => ⟨S_, .f32⟩
  | 58 => ⟨S4x16x16x16x16, .f32⟩
  | 59 => ⟨S4x16x16x16x16, .f32⟩
  | 60 => ⟨S_, .f32⟩
  | 61 => ⟨S4x16x16x16, .f32⟩
  | 62 => ⟨S4x1x16x16x16, .f32⟩
  | 63 => ⟨S_, .f32⟩
  | 64 => ⟨S4x1x16x16x16, .f32⟩
  | 65 => ⟨S4x1x16x16x16, .f32⟩
  | 66 => ⟨S4x1x16x16x16, .f32⟩
  | 67 => ⟨S4x16x16x16x16, .f32⟩
  | 68 => ⟨S4x16x16x16x16, .f32⟩
  | 69 => ⟨S_, .f32⟩
  | 70 => ⟨S4x1x16x16x16, .f32⟩
  | 71 => ⟨S4x1x16x16x16, .f32⟩
  | 72 => ⟨S4x1x16x16x16, .f32⟩
  | 73 => ⟨S4x16x16x16x16, .f32⟩
  | 74 => ⟨S4x16x16x16x16, .f32⟩
  | 75 => ⟨S1x4x16x16x16x16, .f32⟩
  | 76 => ⟨S8x4x16x16x16x16, .f32⟩
  | 77 => ⟨S8x4x16x16x16x16, .f32⟩
  | 78 => ⟨S_, .f32⟩
  | 79 => ⟨S8x4x16x16x16, .f32⟩
  | 80 => ⟨S8x4x16x16x16, .f32⟩
  | 81 => ⟨S_, .f32⟩
  | 82 => ⟨S8x16x16x16, .f32⟩
  | 83 => ⟨S_, .f32⟩
  | 84 => ⟨S8x16x16x16, .f32⟩
  | 85 => ⟨S8x16x16x16, .f32⟩
  | 86 => ⟨S8x1x16x16x16, .f32⟩
  | 87 => ⟨S8x4x16x16x16, .f32⟩
  | 88 => ⟨S8x4x16x16x16, .f32⟩
  | 89 => ⟨S8x4x16x16x16, .f32⟩
  | 90 => ⟨S_, .f32⟩
  | 91 => ⟨S8x16x16x16, .f32⟩
  | 92 => ⟨S8x1x16x16x16, .f32⟩
  | 93 => ⟨S8x4x16x16x16, .f32⟩
  | 94 => ⟨S8x4x16x16x16, .f32⟩
  | 95 => ⟨S8x4x1x16x16x16, .f32⟩
  | 96 => ⟨S8x4x16x16x16x16, .f32⟩
  | 97 => ⟨S8x4x16x16x16x16, .f32⟩
  | 98 => ⟨S_, .f32⟩
  | 99 => ⟨S4x16x16x16x16, .f32⟩
  | 100 => ⟨S4x16x16x16x16, .f32⟩
  | 101 => ⟨S_, .f32⟩
  | 102 => ⟨S4x16x16x16, .f32⟩
  | 103 => ⟨S4x1x16x16x16, .f32⟩
  | 104 => ⟨S_, .f32⟩
  | 105 => ⟨S4x1x16x16x16, .f32⟩
  | 106 => ⟨S4x1x16x16x16, .f32⟩
  | 107 => ⟨S4x1x16x16x16, .f32⟩
  | 108 => ⟨S4x16x16x16x16, .f32⟩
  | 109 => ⟨S4x16x16x16x16, .f32⟩
  | 110 => ⟨S_, .f32⟩
  | 111 => ⟨S4x1x16x16x16, .f32⟩
  | 112 => ⟨S4x1x16x16x16, .f32⟩
  | 113 => ⟨S4x1x16x16x16, .f32⟩
  | 114 => ⟨S4x16x16x16x16, .f32⟩
  | 115 => ⟨S4x16x16x16x16, .f32⟩
  | 116 => ⟨S1x4x16x16x16x16, .f32⟩
  | 117 => ⟨S8x4x16x16x16x16, .f32⟩
  | 118 => ⟨S8x4x16x16x16x16, .f32⟩
  | 119 => ⟨S_, .f32⟩
  | 120 => ⟨S8x4x16x16x16, .f32⟩
  | 121 => ⟨S8x4x16x16x16, .f32⟩
  | 122 => ⟨S_, .f32⟩
  | 123 => ⟨S8x16x16x16, .f32⟩
  | 124 => ⟨S_, .f32⟩
  | 125 => ⟨S8x16x16x16, .f32⟩
  | 126 => ⟨S8x16x16x16, .f32⟩
  | 127 => ⟨S8x1x16x16x16, .f32⟩
  | _ => ⟨S1x4x14x14x14, .f32⟩

abbrev hbmTy0_11 (i : Nat) : BufTy := match i % 128 with
  | 0 => ⟨S8x4x16x16x16, .f32⟩
  | 1 => ⟨S8x4x16x16x16, .f32⟩
  | 2 => ⟨S8x4x16x16x16, .f32⟩
  | 3 => ⟨S_, .f32⟩
  | 4 => ⟨S8x16x16x16, .f32⟩
  | 5 => ⟨S8x1x16x16x16, .f32⟩
  | 6 => ⟨S8x4x16x16x16, .f32⟩
  | 7 => ⟨S8x4x16x16x16, .f32⟩
  | 8 => ⟨S8x4x1x16x16x16, .f32⟩
  | 9 => ⟨S8x4x16x16x16x16, .f32⟩
  | 10 => ⟨S8x4x16x16x16x16, .f32⟩
  | 11 => ⟨S_, .f32⟩
  | 12 => ⟨S4x16x16x16x16, .f32⟩
  | 13 => ⟨S4x16x16x16x16, .f32⟩
  | 14 => ⟨S_, .f32⟩
  | 15 => ⟨S4x16x16x16, .f32⟩
  | 16 => ⟨S4x1x16x16x16, .f32⟩
  | 17 => ⟨S_, .f32⟩
  | 18 => ⟨S4x1x16x16x16, .f32⟩
  | 19 => ⟨S4x1x16x16x16, .f32⟩
  | 20 => ⟨S4x1x16x16x16, .f32⟩
  | 21 => ⟨S4x16x16x16x16, .f32⟩
  | 22 => ⟨S4x16x16x16x16, .f32⟩
  | 23 => ⟨S_, .f32⟩
  | 24 => ⟨S4x1x16x16x16, .f32⟩
  | 25 => ⟨S4x1x16x16x16, .f32⟩
  | 26 => ⟨S4x1x16x16x16, .f32⟩
  | 27 => ⟨S4x16x16x16x16, .f32⟩
  | 28 => ⟨S4x16x16x16x16, .f32⟩
  | 29 => ⟨S4x32x16x3x3x3, .f32⟩
  | 30 => ⟨S_, .i32⟩
  | 31 => ⟨S_, .f32⟩
  | 32 => ⟨S4x16x18x18x18, .f32⟩
  | 33 => ⟨S4x16x16x18x18, .f32⟩
  | 34 => ⟨S4x16x16x18x18, .f32⟩
  | 35 => ⟨S4x16x16x18x18, .f32⟩
  | 36 => ⟨S4x16x1x16x18x18, .f32⟩
  | 37 => ⟨S4x16x1x16x18x18, .f32⟩
  | 38 => ⟨S4x16x1x16x18x18, .f32⟩
  | 39 => ⟨S4x16x3x16x18x18, .f32⟩
  | 40 => ⟨S4x16x3x16x16x18, .f32⟩
  | 41 => ⟨S4x16x3x16x16x18, .f32⟩
  | 42 => ⟨S4x16x3x16x16x18, .f32⟩
  | 43 => ⟨S4x16x3x1x16x16x18, .f32⟩
  | 44 => ⟨S4x16x3x1x16x16x18, .f32⟩
  | 45 => ⟨S4x16x3x1x16x16x18, .f32⟩
  | 46 => ⟨S4x16x3x3x16x16x18, .f32⟩
  | 47 => ⟨S4x16x3x3x16x16x16, .f32⟩
  | 48 => ⟨S4x16x3x3x16x16x16, .f32⟩
  | 49 => ⟨S4x16x3x3x16x16x16, .f32⟩
  | 50 => ⟨S4x16x3x3x1x16x16x16, .f32⟩
  | 51 => ⟨S4x16x3x3x1x16x16x16, .f32⟩
  | 52 => ⟨S4x16x3x3x1x16x16x16, .f32⟩
  | 53 => ⟨S4x16x3x3x3x16x16x16, .f32⟩
  | 54 => ⟨S4x16x27x16x16x16, .f32⟩
  | 55 => ⟨S4x32x16x27, .f32⟩
  | 56 => ⟨S4x32x16x16x16, .f32⟩
  | 57 => ⟨S4x2x16x16x16x16, .f32⟩
  | 58 => ⟨S_, .f32⟩
  | 59 => ⟨S4x2x16x16x16, .f32⟩
  | 60 => ⟨S_, .f32⟩
  | 61 => ⟨S4x16x16x16, .f32⟩
  | 62 => ⟨S_, .f32⟩
  | 63 => ⟨S4x16x16x16, .f32⟩
  | 64 => ⟨S4x16x16x16, .f32⟩
  | 65 => ⟨S4x1x16x16x16, .f32⟩
  | 66 => ⟨S4x2x16x16x16, .f32⟩
  | 67 => ⟨S4x2x16x16x16, .f32⟩
  | 68 => ⟨S4x2x16x16x16, .f32⟩
  | 69 => ⟨S_, .f32⟩
  | 70 => ⟨S4x16x16x16, .f32⟩
  | 71 => ⟨S4x1x16x16x16, .f32⟩
  | 72 => ⟨S4x2x16x16x16, .f32⟩
  | 73 => ⟨S4x2x16x16x16, .f32⟩
  | 74 => ⟨S4x2x1x16x16x16, .f32⟩
  | 75 => ⟨S4x2x16x16x16x16, .f32⟩
  | 76 => ⟨S4x2x16x16x16x16, .f32⟩
  | 77 => ⟨S_, .f32⟩
  | 78 => ⟨S2x16x16x16x16, .f32⟩
  | 79 => ⟨S2x16x16x16x16, .f32⟩
  | 80 => ⟨S_, .f32⟩
  | 81 => ⟨S2x16x16x16, .f32⟩
  | 82 => ⟨S2x1x16x16x16, .f32⟩
  | 83 => ⟨S_, .f32⟩
  | 84 => ⟨S2x1x16x16x16, .f32⟩
  | 85 => ⟨S2x1x16x16x16, .f32⟩
  | 86 => ⟨S2x1x16x16x16, .f32⟩
  | 87 => ⟨S2x16x16x16x16, .f32⟩
  | 88 => ⟨S2x16x16x16x16, .f32⟩
  | 89 => ⟨S_, .f32⟩
  | 90 => ⟨S2x1x16x16x16, .f32⟩
  | 91 => ⟨S2x1x16x16x16, .f32⟩
  | 92 => ⟨S2x1x16x16x16, .f32⟩
  | 93 => ⟨S2x16x16x16x16, .f32⟩
  | 94 => ⟨S2x16x16x16x16, .f32⟩
  | 95 => ⟨S1x2x16x16x16x16, .f32⟩
  | 96 => ⟨S4x2x16x16x16x16, .f32⟩
  | 97 => ⟨S4x2x16x16x16x16, .f32⟩
  | 98 => ⟨S_, .f32⟩
  | 99 => ⟨S4x2x16x16x16, .f32⟩
  | 100 => ⟨S4x2x16x16x16, .f32⟩
  | 101 => ⟨S_, .f32⟩
  | 102 => ⟨S4x16x16x16, .f32⟩
  | 103 => ⟨S_, .f32⟩
  | 104 => ⟨S4x16x16x16, .f32⟩
  | 105 => ⟨S4x16x16x16, .f32⟩
  | 106 => ⟨S4x1x16x16x16, .f32⟩
  | 107 => ⟨S4x2x16x16x16, .f32⟩
  | 108 => ⟨S4x2x16x16x16, .f32⟩
  | 109 => ⟨S4x2x16x16x16, .f32⟩
  | 110 => ⟨S_, .f32⟩
  | 111 => ⟨S4x16x16x16, .f32⟩
  | 112 => ⟨S4x1x16x16x16, .f32⟩
  | 113 => ⟨S4x2x16x16x16, .f32⟩
  | 114 => ⟨S4x2x16x16x16, .f32⟩
  | 115 => ⟨S4x2x1x16x16x16, .f32⟩
  | 116 => ⟨S4x2x16x16x16x16, .f32⟩
  | 117 => ⟨S4x2x16x16x16x16, .f32⟩
  | 118 => ⟨S_, .f32⟩
  | 119 => ⟨S2x16x16x16x16, .f32⟩
  | 120 => ⟨S2x16x16x16x16, .f32⟩
  | 121 => ⟨S_, .f32⟩
  | 122 => ⟨S2x16x16x16, .f32⟩
  | 123 => ⟨S2x1x16x16x16, .f32⟩
  | 124 => ⟨S_, .f32⟩
  | 125 => ⟨S2x1x16x16x16, .f32⟩
  | 126 => ⟨S2x1x16x16x16, .f32⟩
  | 127 => ⟨S2x1x16x16x16, .f32⟩
  | _ => ⟨S1x4x14x14x14, .f32⟩

abbrev hbmTy0_12 (i : Nat) : BufTy := match i % 128 with
  | 0 => ⟨S2x16x16x16x16, .f32⟩
  | 1 => ⟨S2x16x16x16x16, .f32⟩
  | 2 => ⟨S_, .f32⟩
  | 3 => ⟨S2x1x16x16x16, .f32⟩
  | 4 => ⟨S2x1x16x16x16, .f32⟩
  | 5 => ⟨S2x1x16x16x16, .f32⟩
  | 6 => ⟨S2x16x16x16x16, .f32⟩
  | 7 => ⟨S2x16x16x16x16, .f32⟩
  | 8 => ⟨S1x2x16x16x16x16, .f32⟩
  | 9 => ⟨S4x2x16x16x16x16, .f32⟩
  | 10 => ⟨S4x2x16x16x16x16, .f32⟩
  | 11 => ⟨S_, .f32⟩
  | 12 => ⟨S4x2x16x16x16, .f32⟩
  | 13 => ⟨S4x2x16x16x16, .f32⟩
  | 14 => ⟨S_, .f32⟩
  | 15 => ⟨S4x16x16x16, .f32⟩
  | 16 => ⟨S_, .f32⟩
  | 17 => ⟨S4x16x16x16, .f32⟩
  | 18 => ⟨S4x16x16x16, .f32⟩
  | 19 => ⟨S4x1x16x16x16, .f32⟩
  | 20 => ⟨S4x2x16x16x16, .f32⟩
  | 21 => ⟨S4x2x16x16x16, .f32⟩
  | 22 => ⟨S4x2x16x16x16, .f32⟩
  | 23 => ⟨S_, .f32⟩
  | 24 => ⟨S4x16x16x16, .f32⟩
  | 25 => ⟨S4x1x16x16x16, .f32⟩
  | 26 => ⟨S4x2x16x16x16, .f32⟩
  | 27 => ⟨S4x2x16x16x16, .f32⟩
  | 28 => ⟨S4x2x1x16x16x16, .f32⟩
  | 29 => ⟨S4x2x16x16x16x16, .f32⟩
  | 30 => ⟨S4x2x16x16x16x16, .f32⟩
  | 31 => ⟨S_, .f32⟩
  | 32 => ⟨S2x16x16x16x16, .f32⟩
  | 33 => ⟨S2x16x16x16x16, .f32⟩
  | 34 => ⟨S_, .f32⟩
  | 35 => ⟨S2x16x16x16, .f32⟩
  | 36 => ⟨S2x1x16x16x16, .f32⟩
  | 37 => ⟨S_, .f32⟩
  | 38 => ⟨S2x1x16x16x16, .f32⟩
  | 39 => ⟨S2x1x16x16x16, .f32⟩
  | 40 => ⟨S2x1x16x16x16, .f32⟩
  | 41 => ⟨S2x16x16x16x16, .f32⟩
  | 42 => ⟨S2x16x16x16x16, .f32⟩
  | 43 => ⟨S_, .f32⟩
  | 44 => ⟨S2x1x16x16x16, .f32⟩
  | 45 => ⟨S2x1x16x16x16, .f32⟩
  | 46 => ⟨S2x1x16x16x16, .f32⟩
  | 47 => ⟨S2x16x16x16x16, .f32⟩
  | 48 => ⟨S2x16x16x16x16, .f32⟩
  | 49 => ⟨S3x16x16x16x16, .f32⟩
  | 50 => ⟨S_, .i32⟩
  | 51 => ⟨S_, .f32⟩
  | 52 => ⟨S3x16x18x18x18, .f32⟩
  | 53 => ⟨S3x16x16x18x18, .f32⟩
  | 54 => ⟨S3x16x16x18x18, .f32⟩
  | 55 => ⟨S3x16x16x18x18, .f32⟩
  | 56 => ⟨S3x16x1x16x18x18, .f32⟩
  | 57 => ⟨S3x16x1x16x18x18, .f32⟩
  | 58 => ⟨S3x16x1x16x18x18, .f32⟩
  | 59 => ⟨S3x16x3x16x18x18, .f32⟩
  | 60 => ⟨S3x16x3x16x16x18, .f32⟩
  | 61 => ⟨S3x16x3x16x16x18, .f32⟩
  | 62 => ⟨S3x16x3x16x16x18, .f32⟩
  | 63 => ⟨S3x16x3x1x16x16x18, .f32⟩
  | 64 => ⟨S3x16x3x1x16x16x18, .f32⟩
  | 65 => ⟨S3x16x3x1x16x16x18, .f32⟩
  | 66 => ⟨S3x16x3x3x16x16x18, .f32⟩
  | 67 => ⟨S3x16x3x3x16x16x16, .f32⟩
  | 68 => ⟨S3x16x3x3x16x16x16, .f32⟩
  | 69 => ⟨S3x16x3x3x16x16x16, .f32⟩
  | 70 => ⟨S3x16x3x3x1x16x16x16, .f32⟩
  | 71 => ⟨S3x16x3x3x1x16x16x16, .f32⟩
  | 72 => ⟨S3x16x3x3x1x16x16x16, .f32⟩
  | 73 => ⟨S3x16x3x3x3x16x16x16, .f32⟩
  | 74 => ⟨S3x16x27x16x16x16, .f32⟩
  | 75 => ⟨S3x16x16x27, .f32⟩
  | 76 => ⟨S3x16x16x16x16, .f32⟩
  | 77 => ⟨S3x1x16x16x16x16, .f32⟩
  | 78 => ⟨S_, .f32⟩
  | 79 => ⟨S3x1x16x16x16, .f32⟩
  | 80 => ⟨S_, .f32⟩
  | 81 => ⟨S3x16x16x16, .f32⟩
  | 82 => ⟨S_, .f32⟩
  | 83 => ⟨S3x16x16x16, .f32⟩
  | 84 => ⟨S3x16x16x16, .f32⟩
  | 85 => ⟨S3x1x16x16x16, .f32⟩
  | 86 => ⟨S3x1x16x16x16, .f32⟩
  | 87 => ⟨S3x1x16x16x16, .f32⟩
  | 88 => ⟨S_, .f32⟩
  | 89 => ⟨S3x16x16x16, .f32⟩
  | 90 => ⟨S3x1x16x16x16, .f32⟩
  | 91 => ⟨S3x1x16x16x16, .f32⟩
  | 92 => ⟨S3x1x1x16x16x16, .f32⟩
  | 93 => ⟨S3x1x16x16x16x16, .f32⟩
  | 94 => ⟨S3x1x16x16x16x16, .f32⟩
  | 95 => ⟨S_, .f32⟩
  | 96 => ⟨S1x16x16x16x16, .f32⟩
  | 97 => ⟨S1x16x16x16x16, .f32⟩
  | 98 => ⟨S_, .f32⟩
  | 99 => ⟨S1x16x16x16, .f32⟩
  | 100 => ⟨S1x1x16x16x16, .f32⟩
  | 101 => ⟨S_, .f32⟩
  | 102 => ⟨S1x1x16x16x16, .f32⟩
  | 103 => ⟨S1x1x16x16x16, .f32⟩
  | 104 => ⟨S1x1x16x16x16, .f32⟩
  | 105 => ⟨S1x16x16x16x16, .f32⟩
  | 106 => ⟨S1x16x16x16x16, .f32⟩
  | 107 => ⟨S_, .f32⟩
  | 108 => ⟨S1x1x16x16x16, .f32⟩
  | 109 => ⟨S1x1x16x16x16, .f32⟩
  | 110 => ⟨S1x1x16x16x16, .f32⟩
  | 111 => ⟨S1x16x16x16x16, .f32⟩
  | 112 => ⟨S1x16x16x16x16, .f32⟩
  | 113 => ⟨S1x1x16x16x16x16, .f32⟩
  | 114 => ⟨S3x1x16x16x16x16, .f32⟩
  | 115 => ⟨S3x1x16x16x16x16, .f32⟩
  | 116 => ⟨S_, .f32⟩
  | 117 => ⟨S3x1x16x16x16, .f32⟩
  | 118 => ⟨S3x1x16x16x16, .f32⟩
  | 119 => ⟨S_, .f32⟩
  | 120 => ⟨S3x16x16x16, .f32⟩
  | 121 => ⟨S_, .f32⟩
  | 122 => ⟨S3x16x16x16, .f32⟩
  | 123 => ⟨S3x16x16x16, .f32⟩
  | 124 => ⟨S3x1x16x16x16, .f32⟩
  | 125 => ⟨S3x1x16x16x16, .f32⟩
  | 126 => ⟨S3x1x16x16x16, .f32⟩
  | 127 => ⟨S_, .f32⟩
  | _ => ⟨S1x4x14x14x14, .f32⟩

abbrev hbmTy0_13 (i : Nat) : BufTy := match i % 128 with
  | 0 => ⟨S3x16x16x16, .f32⟩
  | 1 => ⟨S3x1x16x16x16, .f32⟩
  | 2 => ⟨S3x1x16x16x16, .f32⟩
  | 3 => ⟨S3x1x1x16x16x16, .f32⟩
  | 4 => ⟨S3x1x16x16x16x16, .f32⟩
  | 5 => ⟨S3x1x16x16x16x16, .f32⟩
  | 6 => ⟨S_, .f32⟩
  | 7 => ⟨S1x16x16x16x16, .f32⟩
  | 8 => ⟨S1x16x16x16x16, .f32⟩
  | 9 => ⟨S_, .f32⟩
  | 10 => ⟨S1x16x16x16, .f32⟩
  | 11 => ⟨S1x1x16x16x16, .f32⟩
  | 12 => ⟨S_, .f32⟩
  | 13 => ⟨S1x1x16x16x16, .f32⟩
  | 14 => ⟨S1x1x16x16x16, .f32⟩
  | 15 => ⟨S1x1x16x16x16, .f32⟩
  | 16 => ⟨S1x16x16x16x16, .f32⟩
  | 17 => ⟨S1x16x16x16x16, .f32⟩
  | 18 => ⟨S_, .f32⟩
  | 19 => ⟨S1x1x16x16x16, .f32⟩
  | 20 => ⟨S1x1x16x16x16, .f32⟩
  | 21 => ⟨S1x1x16x16x16, .f32⟩
  | 22 => ⟨S1x16x16x16x16, .f32⟩
  | 23 => ⟨S1x16x16x16x16, .f32⟩
  | 24 => ⟨S1x1x16x16x16x16, .f32⟩
  | 25 => ⟨S3x1x16x16x16x16, .f32⟩
  | 26 => ⟨S3x1x16x16x16x16, .f32⟩
  | 27 => ⟨S_, .f32⟩
  | 28 => ⟨S3x1x16x16x16, .f32⟩
  | 29 => ⟨S3x1x16x16x16, .f32⟩
  | 30 => ⟨S_, .f32⟩
  | 31 => ⟨S3x16x16x16, .f32⟩
  | 32 => ⟨S_, .f32⟩
  | 33 => ⟨S3x16x16x16, .f32⟩
  | 34 => ⟨S3x16x16x16, .f32⟩
  | 35 => ⟨S3x1x16x16x16, .f32⟩
  | 36 => ⟨S3x1x16x16x16, .f32⟩
  | 37 => ⟨S3x1x16x16x16, .f32⟩
  | 38 => ⟨S_, .f32⟩
  | 39 => ⟨S3x16x16x16, .f32⟩
  | 40 => ⟨S3x1x16x16x16, .f32⟩
  | 41 => ⟨S3x1x16x16x16, .f32⟩
  | 42 => ⟨S3x1x1x16x16x16, .f32⟩
  | 43 => ⟨S3x1x16x16x16x16, .f32⟩
  | 44 => ⟨S3x1x16x16x16x16, .f32⟩
  | 45 => ⟨S_, .f32⟩
  | 46 => ⟨S1x16x16x16x16, .f32⟩
  | 47 => ⟨S1x16x16x16x16, .f32⟩
  | 48 => ⟨S_, .f32⟩
  | 49 => ⟨S1x16x16x16, .f32⟩
  | 50 => ⟨S1x1x16x16x16, .f32⟩
  | 51 => ⟨S_, .f32⟩
  | 52 => ⟨S1x1x16x16x16, .f32⟩
  | 53 => ⟨S1x1x16x16x16, .f32⟩
  | 54 => ⟨S1x1x16x16x16, .f32⟩
  | 55 => ⟨S1x16x16x16x16, .f32⟩
  | 56 => ⟨S1x16x16x16x16, .f32⟩
  | 57 => ⟨S_, .f32⟩
  | 58 => ⟨S1x1x16x16x16, .f32⟩
  | 59 => ⟨S1x1x16x16x16, .f32⟩
  | 60 => ⟨S1x1x16x16x16, .f32⟩
  | 61 => ⟨S1x16x16x16x16, .f32⟩
  | 62 => ⟨S1x16x16x16x16, .f32⟩
  | 63 => ⟨S16x16x16x16, .f32⟩
  | 64 => ⟨S16x16x16x16, .f32⟩
  | 65 => ⟨S_, .f32⟩
  | 66 => ⟨S16x16x16, .f32⟩
  | 67 => ⟨S1x1x16x16x16, .f32⟩
  | 68 => ⟨S_, .f32⟩
  | 69 => ⟨S1x1x16x16x16, .f32⟩
  | 70 => ⟨S1x1x16x16x16, .f32⟩
  | 71 => ⟨S1x1x16x16x16, .f32⟩
  | _ => ⟨S1x4x14x14x14, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S1x4x14x14x14, .f32⟩

abbrev bufTy : (tb : Table) → Fin (tcTables nBuf tb) → BufTy
  | .hbm, ⟨i, _⟩ => hbmTy i
  | _, _ => ⟨S1x4x14x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩
abbrev main_c_0 : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_1 : Ref sig .tc := ⟨.hbm, 73, rfl⟩
abbrev main_v54 : Ref sig .tc := ⟨.hbm, 74, rfl⟩
abbrev main_cst_2 : Ref sig .tc := ⟨.hbm, 75, rfl⟩
abbrev main_v55 : Ref sig .tc := ⟨.hbm, 76, rfl⟩
abbrev main_cst_3 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_4 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_5 : Ref sig .tc := ⟨.hbm, 92, rfl⟩
abbrev main_v69 : Ref sig .tc := ⟨.hbm, 93, rfl⟩
abbrev main_v70 : Ref sig .tc := ⟨.hbm, 94, rfl⟩
abbrev main_cst_6 : Ref sig .tc := ⟨.hbm, 95, rfl⟩
abbrev main_v71 : Ref sig .tc := ⟨.hbm, 96, rfl⟩
abbrev main_v72 : Ref sig .tc := ⟨.hbm, 97, rfl⟩
abbrev main_cst_7 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_8 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_9 : Ref sig .tc := ⟨.hbm, 110, rfl⟩
abbrev main_call2_v0 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_10 : Ref sig .tc := ⟨.hbm, 138, rfl⟩
abbrev main_v109 : Ref sig .tc := ⟨.hbm, 139, rfl⟩
abbrev main_cst_11 : Ref sig .tc := ⟨.hbm, 140, rfl⟩
abbrev main_v110 : Ref sig .tc := ⟨.hbm, 141, rfl⟩
abbrev main_cst_12 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_13 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_14 : Ref sig .tc := ⟨.hbm, 157, rfl⟩
abbrev main_v124 : Ref sig .tc := ⟨.hbm, 158, rfl⟩
abbrev main_v125 : Ref sig .tc := ⟨.hbm, 159, rfl⟩
abbrev main_cst_15 : Ref sig .tc := ⟨.hbm, 160, rfl⟩
abbrev main_v126 : Ref sig .tc := ⟨.hbm, 161, rfl⟩
abbrev main_v127 : Ref sig .tc := ⟨.hbm, 162, rfl⟩
abbrev main_cst_16 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_17 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_18 : Ref sig .tc := ⟨.hbm, 178, rfl⟩
abbrev main_v141 : Ref sig .tc := ⟨.hbm, 179, rfl⟩
abbrev main_v142 : Ref sig .tc := ⟨.hbm, 180, rfl⟩
abbrev main_cst_19 : Ref sig .tc := ⟨.hbm, 181, rfl⟩
abbrev main_v143 : Ref sig .tc := ⟨.hbm, 182, rfl⟩
abbrev main_cst_20 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_cst_21 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_cst_22 : Ref sig .tc := ⟨.hbm, 198, rfl⟩
abbrev main_v157 : Ref sig .tc := ⟨.hbm, 199, rfl⟩
abbrev main_v158 : Ref sig .tc := ⟨.hbm, 200, rfl⟩
abbrev main_cst_23 : Ref sig .tc := ⟨.hbm, 201, rfl⟩
abbrev main_v159 : Ref sig .tc := ⟨.hbm, 202, rfl⟩
abbrev main_v160 : Ref sig .tc := ⟨.hbm, 203, rfl⟩
abbrev main_cst_24 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_cst_25 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_cst_26 : Ref sig .tc := ⟨.hbm, 219, rfl⟩
abbrev main_v174 : Ref sig .tc := ⟨.hbm, 220, rfl⟩
abbrev main_v175 : Ref sig .tc := ⟨.hbm, 221, rfl⟩
abbrev main_cst_27 : Ref sig .tc := ⟨.hbm, 222, rfl⟩
abbrev main_v176 : Ref sig .tc := ⟨.hbm, 223, rfl⟩
abbrev main_cst_28 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_cst_29 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_cst_30 : Ref sig .tc := ⟨.hbm, 239, rfl⟩
abbrev main_v190 : Ref sig .tc := ⟨.hbm, 240, rfl⟩
abbrev main_v191 : Ref sig .tc := ⟨.hbm, 241, rfl⟩
abbrev main_cst_31 : Ref sig .tc := ⟨.hbm, 242, rfl⟩
abbrev main_v192 : Ref sig .tc := ⟨.hbm, 243, rfl⟩
abbrev main_v193 : Ref sig .tc := ⟨.hbm, 244, rfl⟩
abbrev main_cst_32 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_cst_33 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_c_34 : Ref sig .tc := ⟨.hbm, 257, rfl⟩
abbrev main_call3_v0 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_cst_35 : Ref sig .tc := ⟨.hbm, 285, rfl⟩
abbrev main_v230 : Ref sig .tc := ⟨.hbm, 286, rfl⟩
abbrev main_cst_36 : Ref sig .tc := ⟨.hbm, 287, rfl⟩
abbrev main_v231 : Ref sig .tc := ⟨.hbm, 288, rfl⟩
abbrev main_cst_37 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_cst_38 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_cst_39 : Ref sig .tc := ⟨.hbm, 304, rfl⟩
abbrev main_v245 : Ref sig .tc := ⟨.hbm, 305, rfl⟩
abbrev main_v246 : Ref sig .tc := ⟨.hbm, 306, rfl⟩
abbrev main_cst_40 : Ref sig .tc := ⟨.hbm, 307, rfl⟩
abbrev main_v247 : Ref sig .tc := ⟨.hbm, 308, rfl⟩
abbrev main_v248 : Ref sig .tc := ⟨.hbm, 309, rfl⟩
abbrev main_cst_41 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_cst_42 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_cst_43 : Ref sig .tc := ⟨.hbm, 325, rfl⟩
abbrev main_v262 : Ref sig .tc := ⟨.hbm, 326, rfl⟩
abbrev main_v263 : Ref sig .tc := ⟨.hbm, 327, rfl⟩
abbrev main_cst_44 : Ref sig .tc := ⟨.hbm, 328, rfl⟩
abbrev main_v264 : Ref sig .tc := ⟨.hbm, 329, rfl⟩
abbrev main_cst_45 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_cst_46 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_cst_47 : Ref sig .tc := ⟨.hbm, 345, rfl⟩
abbrev main_v278 : Ref sig .tc := ⟨.hbm, 346, rfl⟩
abbrev main_v279 : Ref sig .tc := ⟨.hbm, 347, rfl⟩
abbrev main_cst_48 : Ref sig .tc := ⟨.hbm, 348, rfl⟩
abbrev main_v280 : Ref sig .tc := ⟨.hbm, 349, rfl⟩
abbrev main_v281 : Ref sig .tc := ⟨.hbm, 350, rfl⟩
abbrev main_cst_49 : Ref sig .tc := ⟨.hbm, 351, rfl⟩
abbrev main_v282 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_v286 : Ref sig .tc := ⟨.hbm, 356, rfl⟩
abbrev main_cst_50 : Ref sig .tc := ⟨.hbm, 357, rfl⟩
abbrev main_v287 : Ref sig .tc := ⟨.hbm, 358, rfl⟩
abbrev main_v288 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_cst_51 : Ref sig .tc := ⟨.hbm, 366, rfl⟩
abbrev main_v295 : Ref sig .tc := ⟨.hbm, 367, rfl⟩
abbrev main_v296 : Ref sig .tc := ⟨.hbm, 368, rfl⟩
abbrev main_cst_52 : Ref sig .tc := ⟨.hbm, 369, rfl⟩
abbrev main_v297 : Ref sig .tc := ⟨.hbm, 370, rfl⟩
abbrev main_cst_53 : Ref sig .tc := ⟨.hbm, 371, rfl⟩
abbrev main_v298 : Ref sig .tc := ⟨.hbm, 372, rfl⟩
abbrev main_v299 : Ref sig .tc := ⟨.hbm, 373, rfl⟩
abbrev main_v300 : Ref sig .tc := ⟨.hbm, 374, rfl⟩
abbrev main_v301 : Ref sig .tc := ⟨.hbm, 375, rfl⟩
abbrev main_v302 : Ref sig .tc := ⟨.hbm, 376, rfl⟩
abbrev main_v303 : Ref sig .tc := ⟨.hbm, 377, rfl⟩
abbrev main_cst_54 : Ref sig .tc := ⟨.hbm, 378, rfl⟩
abbrev main_v304 : Ref sig .tc := ⟨.hbm, 379, rfl⟩
abbrev main_v305 : Ref sig .tc := ⟨.hbm, 380, rfl⟩
abbrev main_v306 : Ref sig .tc := ⟨.hbm, 381, rfl⟩
abbrev main_v307 : Ref sig .tc := ⟨.hbm, 382, rfl⟩
abbrev main_v308 : Ref sig .tc := ⟨.hbm, 383, rfl⟩
abbrev main_v309 : Ref sig .tc := ⟨.hbm, 384, rfl⟩
abbrev main_v310 : Ref sig .tc := ⟨.hbm, 385, rfl⟩
abbrev main_cst_55 : Ref sig .tc := ⟨.hbm, 386, rfl⟩
abbrev main_v311 : Ref sig .tc := ⟨.hbm, 387, rfl⟩
abbrev main_v312 : Ref sig .tc := ⟨.hbm, 388, rfl⟩
abbrev main_cst_56 : Ref sig .tc := ⟨.hbm, 389, rfl⟩
abbrev main_v313 : Ref sig .tc := ⟨.hbm, 390, rfl⟩
abbrev main_v314 : Ref sig .tc := ⟨.hbm, 391, rfl⟩
abbrev main_cst_57 : Ref sig .tc := ⟨.hbm, 392, rfl⟩
abbrev main_v315 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_v319 : Ref sig .tc := ⟨.hbm, 397, rfl⟩
abbrev main_cst_58 : Ref sig .tc := ⟨.hbm, 398, rfl⟩
abbrev main_v320 : Ref sig .tc := ⟨.hbm, 399, rfl⟩
abbrev main_v321 : Ref sig .tc := ⟨.hbm, 400, rfl⟩
abbrev main_v322 : Ref sig .tc := ⟨.hbm, 401, rfl⟩
abbrev main_v323 : Ref sig .tc := ⟨.hbm, 402, rfl⟩
abbrev main_v324 : Ref sig .tc := ⟨.hbm, 403, rfl⟩
abbrev main_c_59 : Ref sig .tc := ⟨.hbm, 404, rfl⟩
abbrev main_call4_v0 : Ref sig .tc := ⟨.hbm, 405, rfl⟩
abbrev main_v325 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_v333 : Ref sig .tc := ⟨.hbm, 414, rfl⟩
abbrev main_v334 : Ref sig .tc := ⟨.hbm, 415, rfl⟩
abbrev main_v335 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_v339 : Ref sig .tc := ⟨.hbm, 420, rfl⟩
abbrev main_v340 : Ref sig .tc := ⟨.hbm, 421, rfl⟩
abbrev main_v341 : Ref sig .tc := ⟨.hbm, 422, rfl⟩
abbrev main_v342 : Ref sig .tc := ⟨.hbm, 423, rfl⟩
abbrev main_v343 : Ref sig .tc := ⟨.hbm, 424, rfl⟩
abbrev main_v344 : Ref sig .tc := ⟨.hbm, 425, rfl⟩
abbrev main_v345 : Ref sig .tc := ⟨.hbm, 426, rfl⟩
abbrev main_v346 : Ref sig .tc := ⟨.hbm, 427, rfl⟩
abbrev main_v347 : Ref sig .tc := ⟨.hbm, 428, rfl⟩
abbrev main_v348 : Ref sig .tc := ⟨.hbm, 429, rfl⟩
abbrev main_v349 : Ref sig .tc := ⟨.hbm, 430, rfl⟩
abbrev main_v350 : Ref sig .tc := ⟨.hbm, 431, rfl⟩
abbrev main_cst_60 : Ref sig .tc := ⟨.hbm, 432, rfl⟩
abbrev main_v351 : Ref sig .tc := ⟨.hbm, 433, rfl⟩
abbrev main_cst_61 : Ref sig .tc := ⟨.hbm, 434, rfl⟩
abbrev main_v352 : Ref sig .tc := ⟨.hbm, 435, rfl⟩
abbrev main_cst_62 : Ref sig .tc := ⟨.hbm, 436, rfl⟩
abbrev main_v353 : Ref sig .tc := ⟨.hbm, 437, rfl⟩
abbrev main_v354 : Ref sig .tc := ⟨.hbm, 438, rfl⟩
abbrev main_v355 : Ref sig .tc := ⟨.hbm, 439, rfl⟩
abbrev main_v356 : Ref sig .tc := ⟨.hbm, 440, rfl⟩
abbrev main_v357 : Ref sig .tc := ⟨.hbm, 441, rfl⟩
abbrev main_v358 : Ref sig .tc := ⟨.hbm, 442, rfl⟩
abbrev main_cst_63 : Ref sig .tc := ⟨.hbm, 443, rfl⟩
abbrev main_v359 : Ref sig .tc := ⟨.hbm, 444, rfl⟩
abbrev main_v360 : Ref sig .tc := ⟨.hbm, 445, rfl⟩
abbrev main_v361 : Ref sig .tc := ⟨.hbm, 446, rfl⟩
abbrev main_v362 : Ref sig .tc := ⟨.hbm, 447, rfl⟩
abbrev main_v363 : Ref sig .tc := ⟨.hbm, 448, rfl⟩
abbrev main_v364 : Ref sig .tc := ⟨.hbm, 449, rfl⟩
abbrev main_v365 : Ref sig .tc := ⟨.hbm, 450, rfl⟩
abbrev main_cst_64 : Ref sig .tc := ⟨.hbm, 451, rfl⟩
abbrev main_v366 : Ref sig .tc := ⟨.hbm, 452, rfl⟩
abbrev main_v367 : Ref sig .tc := ⟨.hbm, 453, rfl⟩
abbrev main_cst_65 : Ref sig .tc := ⟨.hbm, 454, rfl⟩
abbrev main_v368 : Ref sig .tc := ⟨.hbm, 455, rfl⟩
abbrev main_v369 : Ref sig .tc := ⟨.hbm, 456, rfl⟩
abbrev main_cst_66 : Ref sig .tc := ⟨.hbm, 457, rfl⟩
abbrev main_v370 : Ref sig .tc := ⟨.hbm, 458, rfl⟩
abbrev main_v371 : Ref sig .tc := ⟨.hbm, 459, rfl⟩
abbrev main_v372 : Ref sig .tc := ⟨.hbm, 460, rfl⟩
abbrev main_v373 : Ref sig .tc := ⟨.hbm, 461, rfl⟩
abbrev main_v374 : Ref sig .tc := ⟨.hbm, 462, rfl⟩
abbrev main_cst_67 : Ref sig .tc := ⟨.hbm, 463, rfl⟩
abbrev main_v375 : Ref sig .tc := ⟨.hbm, 464, rfl⟩
abbrev main_v376 : Ref sig .tc := ⟨.hbm, 465, rfl⟩
abbrev main_v377 : Ref sig .tc := ⟨.hbm, 466, rfl⟩
abbrev main_v378 : Ref sig .tc := ⟨.hbm, 467, rfl⟩
abbrev main_v379 : Ref sig .tc := ⟨.hbm, 468, rfl⟩
abbrev main_v380 : Ref sig .tc := ⟨.hbm, 469, rfl⟩
abbrev main_v381 : Ref sig .tc := ⟨.hbm, 470, rfl⟩
abbrev main_v382 : Ref sig .tc := ⟨.hbm, 471, rfl⟩
abbrev main_cst_68 : Ref sig .tc := ⟨.hbm, 472, rfl⟩
abbrev main_v383 : Ref sig .tc := ⟨.hbm, 473, rfl⟩
abbrev main_v384 : Ref sig .tc := ⟨.hbm, 474, rfl⟩
abbrev main_cst_69 : Ref sig .tc := ⟨.hbm, 475, rfl⟩
abbrev main_v385 : Ref sig .tc := ⟨.hbm, 476, rfl⟩
abbrev main_cst_70 : Ref sig .tc := ⟨.hbm, 477, rfl⟩
abbrev main_v386 : Ref sig .tc := ⟨.hbm, 478, rfl⟩
abbrev main_v387 : Ref sig .tc := ⟨.hbm, 479, rfl⟩
abbrev main_v388 : Ref sig .tc := ⟨.hbm, 480, rfl⟩
abbrev main_v389 : Ref sig .tc := ⟨.hbm, 481, rfl⟩
abbrev main_v390 : Ref sig .tc := ⟨.hbm, 482, rfl⟩
abbrev main_v391 : Ref sig .tc := ⟨.hbm, 483, rfl⟩
abbrev main_cst_71 : Ref sig .tc := ⟨.hbm, 484, rfl⟩
abbrev main_v392 : Ref sig .tc := ⟨.hbm, 485, rfl⟩
abbrev main_v393 : Ref sig .tc := ⟨.hbm, 486, rfl⟩
abbrev main_v394 : Ref sig .tc := ⟨.hbm, 487, rfl⟩
abbrev main_v395 : Ref sig .tc := ⟨.hbm, 488, rfl⟩
abbrev main_v396 : Ref sig .tc := ⟨.hbm, 489, rfl⟩
abbrev main_v397 : Ref sig .tc := ⟨.hbm, 490, rfl⟩
abbrev main_v398 : Ref sig .tc := ⟨.hbm, 491, rfl⟩
abbrev main_cst_72 : Ref sig .tc := ⟨.hbm, 492, rfl⟩
abbrev main_v399 : Ref sig .tc := ⟨.hbm, 493, rfl⟩
abbrev main_v400 : Ref sig .tc := ⟨.hbm, 494, rfl⟩
abbrev main_cst_73 : Ref sig .tc := ⟨.hbm, 495, rfl⟩
abbrev main_v401 : Ref sig .tc := ⟨.hbm, 496, rfl⟩
abbrev main_v402 : Ref sig .tc := ⟨.hbm, 497, rfl⟩
abbrev main_cst_74 : Ref sig .tc := ⟨.hbm, 498, rfl⟩
abbrev main_v403 : Ref sig .tc := ⟨.hbm, 499, rfl⟩
abbrev main_v404 : Ref sig .tc := ⟨.hbm, 500, rfl⟩
abbrev main_v405 : Ref sig .tc := ⟨.hbm, 501, rfl⟩
abbrev main_v406 : Ref sig .tc := ⟨.hbm, 502, rfl⟩
abbrev main_v407 : Ref sig .tc := ⟨.hbm, 503, rfl⟩
abbrev main_cst_75 : Ref sig .tc := ⟨.hbm, 504, rfl⟩
abbrev main_v408 : Ref sig .tc := ⟨.hbm, 505, rfl⟩
abbrev main_v409 : Ref sig .tc := ⟨.hbm, 506, rfl⟩
abbrev main_v410 : Ref sig .tc := ⟨.hbm, 507, rfl⟩
abbrev main_v411 : Ref sig .tc := ⟨.hbm, 508, rfl⟩
abbrev main_v412 : Ref sig .tc := ⟨.hbm, 509, rfl⟩
abbrev main_v413 : Ref sig .tc := ⟨.hbm, 510, rfl⟩
abbrev main_v414 : Ref sig .tc := ⟨.hbm, 511, rfl⟩
abbrev main_v415 : Ref sig .tc := ⟨.hbm, 512, rfl⟩
abbrev main_cst_76 : Ref sig .tc := ⟨.hbm, 513, rfl⟩
abbrev main_v416 : Ref sig .tc := ⟨.hbm, 514, rfl⟩
abbrev main_v417 : Ref sig .tc := ⟨.hbm, 515, rfl⟩
abbrev main_cst_77 : Ref sig .tc := ⟨.hbm, 516, rfl⟩
abbrev main_v418 : Ref sig .tc := ⟨.hbm, 517, rfl⟩
abbrev main_cst_78 : Ref sig .tc := ⟨.hbm, 518, rfl⟩
abbrev main_v419 : Ref sig .tc := ⟨.hbm, 519, rfl⟩
abbrev main_v420 : Ref sig .tc := ⟨.hbm, 520, rfl⟩
abbrev main_v421 : Ref sig .tc := ⟨.hbm, 521, rfl⟩
abbrev main_v422 : Ref sig .tc := ⟨.hbm, 522, rfl⟩
abbrev main_v423 : Ref sig .tc := ⟨.hbm, 523, rfl⟩
abbrev main_v424 : Ref sig .tc := ⟨.hbm, 524, rfl⟩
abbrev main_cst_79 : Ref sig .tc := ⟨.hbm, 525, rfl⟩
abbrev main_v425 : Ref sig .tc := ⟨.hbm, 526, rfl⟩
abbrev main_v426 : Ref sig .tc := ⟨.hbm, 527, rfl⟩
abbrev main_v427 : Ref sig .tc := ⟨.hbm, 528, rfl⟩
abbrev main_v428 : Ref sig .tc := ⟨.hbm, 529, rfl⟩
abbrev main_v429 : Ref sig .tc := ⟨.hbm, 530, rfl⟩
abbrev main_v430 : Ref sig .tc := ⟨.hbm, 531, rfl⟩
abbrev main_v431 : Ref sig .tc := ⟨.hbm, 532, rfl⟩
abbrev main_cst_80 : Ref sig .tc := ⟨.hbm, 533, rfl⟩
abbrev main_v432 : Ref sig .tc := ⟨.hbm, 534, rfl⟩
abbrev main_v433 : Ref sig .tc := ⟨.hbm, 535, rfl⟩
abbrev main_cst_81 : Ref sig .tc := ⟨.hbm, 536, rfl⟩
abbrev main_v434 : Ref sig .tc := ⟨.hbm, 537, rfl⟩
abbrev main_v435 : Ref sig .tc := ⟨.hbm, 538, rfl⟩
abbrev main_cst_82 : Ref sig .tc := ⟨.hbm, 539, rfl⟩
abbrev main_v436 : Ref sig .tc := ⟨.hbm, 540, rfl⟩
abbrev main_v437 : Ref sig .tc := ⟨.hbm, 541, rfl⟩
abbrev main_v438 : Ref sig .tc := ⟨.hbm, 542, rfl⟩
abbrev main_v439 : Ref sig .tc := ⟨.hbm, 543, rfl⟩
abbrev main_v440 : Ref sig .tc := ⟨.hbm, 544, rfl⟩
abbrev main_cst_83 : Ref sig .tc := ⟨.hbm, 545, rfl⟩
abbrev main_v441 : Ref sig .tc := ⟨.hbm, 546, rfl⟩
abbrev main_v442 : Ref sig .tc := ⟨.hbm, 547, rfl⟩
abbrev main_v443 : Ref sig .tc := ⟨.hbm, 548, rfl⟩
abbrev main_v444 : Ref sig .tc := ⟨.hbm, 549, rfl⟩
abbrev main_v445 : Ref sig .tc := ⟨.hbm, 550, rfl⟩
abbrev main_c_84 : Ref sig .tc := ⟨.hbm, 551, rfl⟩
abbrev main_call5_v0 : Ref sig .tc := ⟨.hbm, 552, rfl⟩
abbrev main_v446 : Ref sig .tc := ⟨.hbm, 553, rfl⟩
abbrev main_v447 : Ref sig .tc := ⟨.hbm, 554, rfl⟩
abbrev main_v448 : Ref sig .tc := ⟨.hbm, 555, rfl⟩
abbrev main_v449 : Ref sig .tc := ⟨.hbm, 556, rfl⟩
abbrev main_v450 : Ref sig .tc := ⟨.hbm, 557, rfl⟩
abbrev main_v451 : Ref sig .tc := ⟨.hbm, 558, rfl⟩
abbrev main_v452 : Ref sig .tc := ⟨.hbm, 559, rfl⟩
abbrev main_v453 : Ref sig .tc := ⟨.hbm, 560, rfl⟩
abbrev main_v454 : Ref sig .tc := ⟨.hbm, 561, rfl⟩
abbrev main_v455 : Ref sig .tc := ⟨.hbm, 562, rfl⟩
abbrev main_v456 : Ref sig .tc := ⟨.hbm, 563, rfl⟩
abbrev main_v457 : Ref sig .tc := ⟨.hbm, 564, rfl⟩
abbrev main_v458 : Ref sig .tc := ⟨.hbm, 565, rfl⟩
abbrev main_v459 : Ref sig .tc := ⟨.hbm, 566, rfl⟩
abbrev main_v460 : Ref sig .tc := ⟨.hbm, 567, rfl⟩
abbrev main_v461 : Ref sig .tc := ⟨.hbm, 568, rfl⟩
abbrev main_v462 : Ref sig .tc := ⟨.hbm, 569, rfl⟩
abbrev main_v463 : Ref sig .tc := ⟨.hbm, 570, rfl⟩
abbrev main_v464 : Ref sig .tc := ⟨.hbm, 571, rfl⟩
abbrev main_v465 : Ref sig .tc := ⟨.hbm, 572, rfl⟩
abbrev main_v466 : Ref sig .tc := ⟨.hbm, 573, rfl⟩
abbrev main_v467 : Ref sig .tc := ⟨.hbm, 574, rfl⟩
abbrev main_v468 : Ref sig .tc := ⟨.hbm, 575, rfl⟩
abbrev main_v469 : Ref sig .tc := ⟨.hbm, 576, rfl⟩
abbrev main_v470 : Ref sig .tc := ⟨.hbm, 577, rfl⟩
abbrev main_v471 : Ref sig .tc := ⟨.hbm, 578, rfl⟩
abbrev main_cst_85 : Ref sig .tc := ⟨.hbm, 579, rfl⟩
abbrev main_v472 : Ref sig .tc := ⟨.hbm, 580, rfl⟩
abbrev main_cst_86 : Ref sig .tc := ⟨.hbm, 581, rfl⟩
abbrev main_v473 : Ref sig .tc := ⟨.hbm, 582, rfl⟩
abbrev main_cst_87 : Ref sig .tc := ⟨.hbm, 583, rfl⟩
abbrev main_v474 : Ref sig .tc := ⟨.hbm, 584, rfl⟩
abbrev main_v475 : Ref sig .tc := ⟨.hbm, 585, rfl⟩
abbrev main_v476 : Ref sig .tc := ⟨.hbm, 586, rfl⟩
abbrev main_v477 : Ref sig .tc := ⟨.hbm, 587, rfl⟩
abbrev main_v478 : Ref sig .tc := ⟨.hbm, 588, rfl⟩
abbrev main_v479 : Ref sig .tc := ⟨.hbm, 589, rfl⟩
abbrev main_cst_88 : Ref sig .tc := ⟨.hbm, 590, rfl⟩
abbrev main_v480 : Ref sig .tc := ⟨.hbm, 591, rfl⟩
abbrev main_v481 : Ref sig .tc := ⟨.hbm, 592, rfl⟩
abbrev main_v482 : Ref sig .tc := ⟨.hbm, 593, rfl⟩
abbrev main_v483 : Ref sig .tc := ⟨.hbm, 594, rfl⟩
abbrev main_v484 : Ref sig .tc := ⟨.hbm, 595, rfl⟩
abbrev main_v485 : Ref sig .tc := ⟨.hbm, 596, rfl⟩
abbrev main_v486 : Ref sig .tc := ⟨.hbm, 597, rfl⟩
abbrev main_cst_89 : Ref sig .tc := ⟨.hbm, 598, rfl⟩
abbrev main_v487 : Ref sig .tc := ⟨.hbm, 599, rfl⟩
abbrev main_v488 : Ref sig .tc := ⟨.hbm, 600, rfl⟩
abbrev main_cst_90 : Ref sig .tc := ⟨.hbm, 601, rfl⟩
abbrev main_v489 : Ref sig .tc := ⟨.hbm, 602, rfl⟩
abbrev main_v490 : Ref sig .tc := ⟨.hbm, 603, rfl⟩
abbrev main_cst_91 : Ref sig .tc := ⟨.hbm, 604, rfl⟩
abbrev main_v491 : Ref sig .tc := ⟨.hbm, 605, rfl⟩
abbrev main_v492 : Ref sig .tc := ⟨.hbm, 606, rfl⟩
abbrev main_v493 : Ref sig .tc := ⟨.hbm, 607, rfl⟩
abbrev main_v494 : Ref sig .tc := ⟨.hbm, 608, rfl⟩
abbrev main_v495 : Ref sig .tc := ⟨.hbm, 609, rfl⟩
abbrev main_cst_92 : Ref sig .tc := ⟨.hbm, 610, rfl⟩
abbrev main_v496 : Ref sig .tc := ⟨.hbm, 611, rfl⟩
abbrev main_v497 : Ref sig .tc := ⟨.hbm, 612, rfl⟩
abbrev main_v498 : Ref sig .tc := ⟨.hbm, 613, rfl⟩
abbrev main_v499 : Ref sig .tc := ⟨.hbm, 614, rfl⟩
abbrev main_v500 : Ref sig .tc := ⟨.hbm, 615, rfl⟩
abbrev main_v501 : Ref sig .tc := ⟨.hbm, 616, rfl⟩
abbrev main_v502 : Ref sig .tc := ⟨.hbm, 617, rfl⟩
abbrev main_v503 : Ref sig .tc := ⟨.hbm, 618, rfl⟩
abbrev main_cst_93 : Ref sig .tc := ⟨.hbm, 619, rfl⟩
abbrev main_v504 : Ref sig .tc := ⟨.hbm, 620, rfl⟩
abbrev main_v505 : Ref sig .tc := ⟨.hbm, 621, rfl⟩
abbrev main_cst_94 : Ref sig .tc := ⟨.hbm, 622, rfl⟩
abbrev main_v506 : Ref sig .tc := ⟨.hbm, 623, rfl⟩
abbrev main_cst_95 : Ref sig .tc := ⟨.hbm, 624, rfl⟩
abbrev main_v507 : Ref sig .tc := ⟨.hbm, 625, rfl⟩
abbrev main_v508 : Ref sig .tc := ⟨.hbm, 626, rfl⟩
abbrev main_v509 : Ref sig .tc := ⟨.hbm, 627, rfl⟩
abbrev main_v510 : Ref sig .tc := ⟨.hbm, 628, rfl⟩
abbrev main_v511 : Ref sig .tc := ⟨.hbm, 629, rfl⟩
abbrev main_v512 : Ref sig .tc := ⟨.hbm, 630, rfl⟩
abbrev main_cst_96 : Ref sig .tc := ⟨.hbm, 631, rfl⟩
abbrev main_v513 : Ref sig .tc := ⟨.hbm, 632, rfl⟩
abbrev main_v514 : Ref sig .tc := ⟨.hbm, 633, rfl⟩
abbrev main_v515 : Ref sig .tc := ⟨.hbm, 634, rfl⟩
abbrev main_v516 : Ref sig .tc := ⟨.hbm, 635, rfl⟩
abbrev main_v517 : Ref sig .tc := ⟨.hbm, 636, rfl⟩
abbrev main_v518 : Ref sig .tc := ⟨.hbm, 637, rfl⟩
abbrev main_v519 : Ref sig .tc := ⟨.hbm, 638, rfl⟩
abbrev main_cst_97 : Ref sig .tc := ⟨.hbm, 639, rfl⟩
abbrev main_v520 : Ref sig .tc := ⟨.hbm, 640, rfl⟩
abbrev main_v521 : Ref sig .tc := ⟨.hbm, 641, rfl⟩
abbrev main_cst_98 : Ref sig .tc := ⟨.hbm, 642, rfl⟩
abbrev main_v522 : Ref sig .tc := ⟨.hbm, 643, rfl⟩
abbrev main_v523 : Ref sig .tc := ⟨.hbm, 644, rfl⟩
abbrev main_cst_99 : Ref sig .tc := ⟨.hbm, 645, rfl⟩
abbrev main_v524 : Ref sig .tc := ⟨.hbm, 646, rfl⟩
abbrev main_v525 : Ref sig .tc := ⟨.hbm, 647, rfl⟩
abbrev main_v526 : Ref sig .tc := ⟨.hbm, 648, rfl⟩
abbrev main_v527 : Ref sig .tc := ⟨.hbm, 649, rfl⟩
abbrev main_v528 : Ref sig .tc := ⟨.hbm, 650, rfl⟩
abbrev main_cst_100 : Ref sig .tc := ⟨.hbm, 651, rfl⟩
abbrev main_v529 : Ref sig .tc := ⟨.hbm, 652, rfl⟩
abbrev main_v530 : Ref sig .tc := ⟨.hbm, 653, rfl⟩
abbrev main_v531 : Ref sig .tc := ⟨.hbm, 654, rfl⟩
abbrev main_v532 : Ref sig .tc := ⟨.hbm, 655, rfl⟩
abbrev main_v533 : Ref sig .tc := ⟨.hbm, 656, rfl⟩
abbrev main_v534 : Ref sig .tc := ⟨.hbm, 657, rfl⟩
abbrev main_v535 : Ref sig .tc := ⟨.hbm, 658, rfl⟩
abbrev main_v536 : Ref sig .tc := ⟨.hbm, 659, rfl⟩
abbrev main_cst_101 : Ref sig .tc := ⟨.hbm, 660, rfl⟩
abbrev main_v537 : Ref sig .tc := ⟨.hbm, 661, rfl⟩
abbrev main_v538 : Ref sig .tc := ⟨.hbm, 662, rfl⟩
abbrev main_cst_102 : Ref sig .tc := ⟨.hbm, 663, rfl⟩
abbrev main_v539 : Ref sig .tc := ⟨.hbm, 664, rfl⟩
abbrev main_cst_103 : Ref sig .tc := ⟨.hbm, 665, rfl⟩
abbrev main_v540 : Ref sig .tc := ⟨.hbm, 666, rfl⟩
abbrev main_v541 : Ref sig .tc := ⟨.hbm, 667, rfl⟩
abbrev main_v542 : Ref sig .tc := ⟨.hbm, 668, rfl⟩
abbrev main_v543 : Ref sig .tc := ⟨.hbm, 669, rfl⟩
abbrev main_v544 : Ref sig .tc := ⟨.hbm, 670, rfl⟩
abbrev main_v545 : Ref sig .tc := ⟨.hbm, 671, rfl⟩
abbrev main_cst_104 : Ref sig .tc := ⟨.hbm, 672, rfl⟩
abbrev main_v546 : Ref sig .tc := ⟨.hbm, 673, rfl⟩
abbrev main_v547 : Ref sig .tc := ⟨.hbm, 674, rfl⟩
abbrev main_v548 : Ref sig .tc := ⟨.hbm, 675, rfl⟩
abbrev main_v549 : Ref sig .tc := ⟨.hbm, 676, rfl⟩
abbrev main_v550 : Ref sig .tc := ⟨.hbm, 677, rfl⟩
abbrev main_v551 : Ref sig .tc := ⟨.hbm, 678, rfl⟩
abbrev main_v552 : Ref sig .tc := ⟨.hbm, 679, rfl⟩
abbrev main_cst_105 : Ref sig .tc := ⟨.hbm, 680, rfl⟩
abbrev main_v553 : Ref sig .tc := ⟨.hbm, 681, rfl⟩
abbrev main_v554 : Ref sig .tc := ⟨.hbm, 682, rfl⟩
abbrev main_cst_106 : Ref sig .tc := ⟨.hbm, 683, rfl⟩
abbrev main_v555 : Ref sig .tc := ⟨.hbm, 684, rfl⟩
abbrev main_v556 : Ref sig .tc := ⟨.hbm, 685, rfl⟩
abbrev main_cst_107 : Ref sig .tc := ⟨.hbm, 686, rfl⟩
abbrev main_v557 : Ref sig .tc := ⟨.hbm, 687, rfl⟩
abbrev main_v558 : Ref sig .tc := ⟨.hbm, 688, rfl⟩
abbrev main_v559 : Ref sig .tc := ⟨.hbm, 689, rfl⟩
abbrev main_v560 : Ref sig .tc := ⟨.hbm, 690, rfl⟩
abbrev main_v561 : Ref sig .tc := ⟨.hbm, 691, rfl⟩
abbrev main_cst_108 : Ref sig .tc := ⟨.hbm, 692, rfl⟩
abbrev main_v562 : Ref sig .tc := ⟨.hbm, 693, rfl⟩
abbrev main_v563 : Ref sig .tc := ⟨.hbm, 694, rfl⟩
abbrev main_v564 : Ref sig .tc := ⟨.hbm, 695, rfl⟩
abbrev main_v565 : Ref sig .tc := ⟨.hbm, 696, rfl⟩
abbrev main_v566 : Ref sig .tc := ⟨.hbm, 697, rfl⟩
abbrev main_c_109 : Ref sig .tc := ⟨.hbm, 698, rfl⟩
abbrev main_call6_v0 : Ref sig .tc := ⟨.hbm, 699, rfl⟩
abbrev main_v567 : Ref sig .tc := ⟨.hbm, 700, rfl⟩
abbrev main_v568 : Ref sig .tc := ⟨.hbm, 701, rfl⟩
abbrev main_v569 : Ref sig .tc := ⟨.hbm, 702, rfl⟩
abbrev main_v570 : Ref sig .tc := ⟨.hbm, 703, rfl⟩
abbrev main_v571 : Ref sig .tc := ⟨.hbm, 704, rfl⟩
abbrev main_v572 : Ref sig .tc := ⟨.hbm, 705, rfl⟩
abbrev main_v573 : Ref sig .tc := ⟨.hbm, 706, rfl⟩
abbrev main_v574 : Ref sig .tc := ⟨.hbm, 707, rfl⟩
abbrev main_v575 : Ref sig .tc := ⟨.hbm, 708, rfl⟩
abbrev main_v576 : Ref sig .tc := ⟨.hbm, 709, rfl⟩
abbrev main_v577 : Ref sig .tc := ⟨.hbm, 710, rfl⟩
abbrev main_v578 : Ref sig .tc := ⟨.hbm, 711, rfl⟩
abbrev main_v579 : Ref sig .tc := ⟨.hbm, 712, rfl⟩
abbrev main_v580 : Ref sig .tc := ⟨.hbm, 713, rfl⟩
abbrev main_v581 : Ref sig .tc := ⟨.hbm, 714, rfl⟩
abbrev main_v582 : Ref sig .tc := ⟨.hbm, 715, rfl⟩
abbrev main_v583 : Ref sig .tc := ⟨.hbm, 716, rfl⟩
abbrev main_v584 : Ref sig .tc := ⟨.hbm, 717, rfl⟩
abbrev main_v585 : Ref sig .tc := ⟨.hbm, 718, rfl⟩
abbrev main_v586 : Ref sig .tc := ⟨.hbm, 719, rfl⟩
abbrev main_v587 : Ref sig .tc := ⟨.hbm, 720, rfl⟩
abbrev main_v588 : Ref sig .tc := ⟨.hbm, 721, rfl⟩
abbrev main_v589 : Ref sig .tc := ⟨.hbm, 722, rfl⟩
abbrev main_v590 : Ref sig .tc := ⟨.hbm, 723, rfl⟩
abbrev main_v591 : Ref sig .tc := ⟨.hbm, 724, rfl⟩
abbrev main_v592 : Ref sig .tc := ⟨.hbm, 725, rfl⟩
abbrev main_cst_110 : Ref sig .tc := ⟨.hbm, 726, rfl⟩
abbrev main_v593 : Ref sig .tc := ⟨.hbm, 727, rfl⟩
abbrev main_cst_111 : Ref sig .tc := ⟨.hbm, 728, rfl⟩
abbrev main_v594 : Ref sig .tc := ⟨.hbm, 729, rfl⟩
abbrev main_cst_112 : Ref sig .tc := ⟨.hbm, 730, rfl⟩
abbrev main_v595 : Ref sig .tc := ⟨.hbm, 731, rfl⟩
abbrev main_v596 : Ref sig .tc := ⟨.hbm, 732, rfl⟩
abbrev main_v597 : Ref sig .tc := ⟨.hbm, 733, rfl⟩
abbrev main_v598 : Ref sig .tc := ⟨.hbm, 734, rfl⟩
abbrev main_v599 : Ref sig .tc := ⟨.hbm, 735, rfl⟩
abbrev main_v600 : Ref sig .tc := ⟨.hbm, 736, rfl⟩
abbrev main_cst_113 : Ref sig .tc := ⟨.hbm, 737, rfl⟩
abbrev main_v601 : Ref sig .tc := ⟨.hbm, 738, rfl⟩
abbrev main_v602 : Ref sig .tc := ⟨.hbm, 739, rfl⟩
abbrev main_v603 : Ref sig .tc := ⟨.hbm, 740, rfl⟩
abbrev main_v604 : Ref sig .tc := ⟨.hbm, 741, rfl⟩
abbrev main_v605 : Ref sig .tc := ⟨.hbm, 742, rfl⟩
abbrev main_v606 : Ref sig .tc := ⟨.hbm, 743, rfl⟩
abbrev main_v607 : Ref sig .tc := ⟨.hbm, 744, rfl⟩
abbrev main_cst_114 : Ref sig .tc := ⟨.hbm, 745, rfl⟩
abbrev main_v608 : Ref sig .tc := ⟨.hbm, 746, rfl⟩
abbrev main_v609 : Ref sig .tc := ⟨.hbm, 747, rfl⟩
abbrev main_cst_115 : Ref sig .tc := ⟨.hbm, 748, rfl⟩
abbrev main_v610 : Ref sig .tc := ⟨.hbm, 749, rfl⟩
abbrev main_v611 : Ref sig .tc := ⟨.hbm, 750, rfl⟩
abbrev main_cst_116 : Ref sig .tc := ⟨.hbm, 751, rfl⟩
abbrev main_v612 : Ref sig .tc := ⟨.hbm, 752, rfl⟩
abbrev main_v613 : Ref sig .tc := ⟨.hbm, 753, rfl⟩
abbrev main_v614 : Ref sig .tc := ⟨.hbm, 754, rfl⟩
abbrev main_v615 : Ref sig .tc := ⟨.hbm, 755, rfl⟩
abbrev main_v616 : Ref sig .tc := ⟨.hbm, 756, rfl⟩
abbrev main_cst_117 : Ref sig .tc := ⟨.hbm, 757, rfl⟩
abbrev main_v617 : Ref sig .tc := ⟨.hbm, 758, rfl⟩
abbrev main_v618 : Ref sig .tc := ⟨.hbm, 759, rfl⟩
abbrev main_v619 : Ref sig .tc := ⟨.hbm, 760, rfl⟩
abbrev main_v620 : Ref sig .tc := ⟨.hbm, 761, rfl⟩
abbrev main_v621 : Ref sig .tc := ⟨.hbm, 762, rfl⟩
abbrev main_v622 : Ref sig .tc := ⟨.hbm, 763, rfl⟩
abbrev main_v623 : Ref sig .tc := ⟨.hbm, 764, rfl⟩
abbrev main_v624 : Ref sig .tc := ⟨.hbm, 765, rfl⟩
abbrev main_cst_118 : Ref sig .tc := ⟨.hbm, 766, rfl⟩
abbrev main_v625 : Ref sig .tc := ⟨.hbm, 767, rfl⟩
abbrev main_v626 : Ref sig .tc := ⟨.hbm, 768, rfl⟩
abbrev main_cst_119 : Ref sig .tc := ⟨.hbm, 769, rfl⟩
abbrev main_v627 : Ref sig .tc := ⟨.hbm, 770, rfl⟩
abbrev main_cst_120 : Ref sig .tc := ⟨.hbm, 771, rfl⟩
abbrev main_v628 : Ref sig .tc := ⟨.hbm, 772, rfl⟩
abbrev main_v629 : Ref sig .tc := ⟨.hbm, 773, rfl⟩
abbrev main_v630 : Ref sig .tc := ⟨.hbm, 774, rfl⟩
abbrev main_v631 : Ref sig .tc := ⟨.hbm, 775, rfl⟩
abbrev main_v632 : Ref sig .tc := ⟨.hbm, 776, rfl⟩
abbrev main_v633 : Ref sig .tc := ⟨.hbm, 777, rfl⟩
abbrev main_cst_121 : Ref sig .tc := ⟨.hbm, 778, rfl⟩
abbrev main_v634 : Ref sig .tc := ⟨.hbm, 779, rfl⟩
abbrev main_v635 : Ref sig .tc := ⟨.hbm, 780, rfl⟩
abbrev main_v636 : Ref sig .tc := ⟨.hbm, 781, rfl⟩
abbrev main_v637 : Ref sig .tc := ⟨.hbm, 782, rfl⟩
abbrev main_v638 : Ref sig .tc := ⟨.hbm, 783, rfl⟩
abbrev main_v639 : Ref sig .tc := ⟨.hbm, 784, rfl⟩
abbrev main_v640 : Ref sig .tc := ⟨.hbm, 785, rfl⟩
abbrev main_cst_122 : Ref sig .tc := ⟨.hbm, 786, rfl⟩
abbrev main_v641 : Ref sig .tc := ⟨.hbm, 787, rfl⟩
abbrev main_v642 : Ref sig .tc := ⟨.hbm, 788, rfl⟩
abbrev main_cst_123 : Ref sig .tc := ⟨.hbm, 789, rfl⟩
abbrev main_v643 : Ref sig .tc := ⟨.hbm, 790, rfl⟩
abbrev main_v644 : Ref sig .tc := ⟨.hbm, 791, rfl⟩
abbrev main_cst_124 : Ref sig .tc := ⟨.hbm, 792, rfl⟩
abbrev main_v645 : Ref sig .tc := ⟨.hbm, 793, rfl⟩
abbrev main_v646 : Ref sig .tc := ⟨.hbm, 794, rfl⟩
abbrev main_v647 : Ref sig .tc := ⟨.hbm, 795, rfl⟩
abbrev main_v648 : Ref sig .tc := ⟨.hbm, 796, rfl⟩
abbrev main_v649 : Ref sig .tc := ⟨.hbm, 797, rfl⟩
abbrev main_cst_125 : Ref sig .tc := ⟨.hbm, 798, rfl⟩
abbrev main_v650 : Ref sig .tc := ⟨.hbm, 799, rfl⟩
abbrev main_v651 : Ref sig .tc := ⟨.hbm, 800, rfl⟩
abbrev main_v652 : Ref sig .tc := ⟨.hbm, 801, rfl⟩
abbrev main_v653 : Ref sig .tc := ⟨.hbm, 802, rfl⟩
abbrev main_v654 : Ref sig .tc := ⟨.hbm, 803, rfl⟩
abbrev main_v655 : Ref sig .tc := ⟨.hbm, 804, rfl⟩
abbrev main_v656 : Ref sig .tc := ⟨.hbm, 805, rfl⟩
abbrev main_v657 : Ref sig .tc := ⟨.hbm, 806, rfl⟩
abbrev main_cst_126 : Ref sig .tc := ⟨.hbm, 807, rfl⟩
abbrev main_v658 : Ref sig .tc := ⟨.hbm, 808, rfl⟩
abbrev main_v659 : Ref sig .tc := ⟨.hbm, 809, rfl⟩
abbrev main_cst_127 : Ref sig .tc := ⟨.hbm, 810, rfl⟩
abbrev main_v660 : Ref sig .tc := ⟨.hbm, 811, rfl⟩
abbrev main_cst_128 : Ref sig .tc := ⟨.hbm, 812, rfl⟩
abbrev main_v661 : Ref sig .tc := ⟨.hbm, 813, rfl⟩
abbrev main_v662 : Ref sig .tc := ⟨.hbm, 814, rfl⟩
abbrev main_v663 : Ref sig .tc := ⟨.hbm, 815, rfl⟩
abbrev main_v664 : Ref sig .tc := ⟨.hbm, 816, rfl⟩
abbrev main_v665 : Ref sig .tc := ⟨.hbm, 817, rfl⟩
abbrev main_v666 : Ref sig .tc := ⟨.hbm, 818, rfl⟩
abbrev main_cst_129 : Ref sig .tc := ⟨.hbm, 819, rfl⟩
abbrev main_v667 : Ref sig .tc := ⟨.hbm, 820, rfl⟩
abbrev main_v668 : Ref sig .tc := ⟨.hbm, 821, rfl⟩
abbrev main_v669 : Ref sig .tc := ⟨.hbm, 822, rfl⟩
abbrev main_v670 : Ref sig .tc := ⟨.hbm, 823, rfl⟩
abbrev main_v671 : Ref sig .tc := ⟨.hbm, 824, rfl⟩
abbrev main_v672 : Ref sig .tc := ⟨.hbm, 825, rfl⟩
abbrev main_v673 : Ref sig .tc := ⟨.hbm, 826, rfl⟩
abbrev main_cst_130 : Ref sig .tc := ⟨.hbm, 827, rfl⟩
abbrev main_v674 : Ref sig .tc := ⟨.hbm, 828, rfl⟩
abbrev main_v675 : Ref sig .tc := ⟨.hbm, 829, rfl⟩
abbrev main_cst_131 : Ref sig .tc := ⟨.hbm, 830, rfl⟩
abbrev main_v676 : Ref sig .tc := ⟨.hbm, 831, rfl⟩
abbrev main_v677 : Ref sig .tc := ⟨.hbm, 832, rfl⟩
abbrev main_cst_132 : Ref sig .tc := ⟨.hbm, 833, rfl⟩
abbrev main_v678 : Ref sig .tc := ⟨.hbm, 834, rfl⟩
abbrev main_v679 : Ref sig .tc := ⟨.hbm, 835, rfl⟩
abbrev main_v680 : Ref sig .tc := ⟨.hbm, 836, rfl⟩
abbrev main_v681 : Ref sig .tc := ⟨.hbm, 837, rfl⟩
abbrev main_v682 : Ref sig .tc := ⟨.hbm, 838, rfl⟩
abbrev main_cst_133 : Ref sig .tc := ⟨.hbm, 839, rfl⟩
abbrev main_v683 : Ref sig .tc := ⟨.hbm, 840, rfl⟩
abbrev main_v684 : Ref sig .tc := ⟨.hbm, 841, rfl⟩
abbrev main_v685 : Ref sig .tc := ⟨.hbm, 842, rfl⟩
abbrev main_v686 : Ref sig .tc := ⟨.hbm, 843, rfl⟩
abbrev main_v687 : Ref sig .tc := ⟨.hbm, 844, rfl⟩
abbrev main_v688 : Ref sig .tc := ⟨.hbm, 845, rfl⟩
abbrev main_c_134 : Ref sig .tc := ⟨.hbm, 846, rfl⟩
abbrev main_call8_v0 : Ref sig .tc := ⟨.hbm, 847, rfl⟩
abbrev main_v689 : Ref sig .tc := ⟨.hbm, 848, rfl⟩
abbrev main_v690 : Ref sig .tc := ⟨.hbm, 849, rfl⟩
abbrev main_v691 : Ref sig .tc := ⟨.hbm, 850, rfl⟩
abbrev main_v692 : Ref sig .tc := ⟨.hbm, 851, rfl⟩
abbrev main_v693 : Ref sig .tc := ⟨.hbm, 852, rfl⟩
abbrev main_v694 : Ref sig .tc := ⟨.hbm, 853, rfl⟩
abbrev main_v695 : Ref sig .tc := ⟨.hbm, 854, rfl⟩
abbrev main_v696 : Ref sig .tc := ⟨.hbm, 855, rfl⟩
abbrev main_v697 : Ref sig .tc := ⟨.hbm, 856, rfl⟩
abbrev main_v698 : Ref sig .tc := ⟨.hbm, 857, rfl⟩
abbrev main_v699 : Ref sig .tc := ⟨.hbm, 858, rfl⟩
abbrev main_v700 : Ref sig .tc := ⟨.hbm, 859, rfl⟩
abbrev main_v701 : Ref sig .tc := ⟨.hbm, 860, rfl⟩
abbrev main_v702 : Ref sig .tc := ⟨.hbm, 861, rfl⟩
abbrev main_v703 : Ref sig .tc := ⟨.hbm, 862, rfl⟩
abbrev main_v704 : Ref sig .tc := ⟨.hbm, 863, rfl⟩
abbrev main_v705 : Ref sig .tc := ⟨.hbm, 864, rfl⟩
abbrev main_v706 : Ref sig .tc := ⟨.hbm, 865, rfl⟩
abbrev main_v707 : Ref sig .tc := ⟨.hbm, 866, rfl⟩
abbrev main_v708 : Ref sig .tc := ⟨.hbm, 867, rfl⟩
abbrev main_v709 : Ref sig .tc := ⟨.hbm, 868, rfl⟩
abbrev main_v710 : Ref sig .tc := ⟨.hbm, 869, rfl⟩
abbrev main_v711 : Ref sig .tc := ⟨.hbm, 870, rfl⟩
abbrev main_v712 : Ref sig .tc := ⟨.hbm, 871, rfl⟩
abbrev main_v713 : Ref sig .tc := ⟨.hbm, 872, rfl⟩
abbrev main_v714 : Ref sig .tc := ⟨.hbm, 873, rfl⟩
abbrev main_cst_135 : Ref sig .tc := ⟨.hbm, 874, rfl⟩
abbrev main_v715 : Ref sig .tc := ⟨.hbm, 875, rfl⟩
abbrev main_cst_136 : Ref sig .tc := ⟨.hbm, 876, rfl⟩
abbrev main_v716 : Ref sig .tc := ⟨.hbm, 877, rfl⟩
abbrev main_cst_137 : Ref sig .tc := ⟨.hbm, 878, rfl⟩
abbrev main_v717 : Ref sig .tc := ⟨.hbm, 879, rfl⟩
abbrev main_v718 : Ref sig .tc := ⟨.hbm, 880, rfl⟩
abbrev main_v719 : Ref sig .tc := ⟨.hbm, 881, rfl⟩
abbrev main_v720 : Ref sig .tc := ⟨.hbm, 882, rfl⟩
abbrev main_v721 : Ref sig .tc := ⟨.hbm, 883, rfl⟩
abbrev main_v722 : Ref sig .tc := ⟨.hbm, 884, rfl⟩
abbrev main_cst_138 : Ref sig .tc := ⟨.hbm, 885, rfl⟩
abbrev main_v723 : Ref sig .tc := ⟨.hbm, 886, rfl⟩
abbrev main_v724 : Ref sig .tc := ⟨.hbm, 887, rfl⟩
abbrev main_v725 : Ref sig .tc := ⟨.hbm, 888, rfl⟩
abbrev main_v726 : Ref sig .tc := ⟨.hbm, 889, rfl⟩
abbrev main_v727 : Ref sig .tc := ⟨.hbm, 890, rfl⟩
abbrev main_v728 : Ref sig .tc := ⟨.hbm, 891, rfl⟩
abbrev main_v729 : Ref sig .tc := ⟨.hbm, 892, rfl⟩
abbrev main_cst_139 : Ref sig .tc := ⟨.hbm, 893, rfl⟩
abbrev main_v730 : Ref sig .tc := ⟨.hbm, 894, rfl⟩
abbrev main_v731 : Ref sig .tc := ⟨.hbm, 895, rfl⟩
abbrev main_cst_140 : Ref sig .tc := ⟨.hbm, 896, rfl⟩
abbrev main_v732 : Ref sig .tc := ⟨.hbm, 897, rfl⟩
abbrev main_v733 : Ref sig .tc := ⟨.hbm, 898, rfl⟩
abbrev main_cst_141 : Ref sig .tc := ⟨.hbm, 899, rfl⟩
abbrev main_v734 : Ref sig .tc := ⟨.hbm, 900, rfl⟩
abbrev main_v735 : Ref sig .tc := ⟨.hbm, 901, rfl⟩
abbrev main_v736 : Ref sig .tc := ⟨.hbm, 902, rfl⟩
abbrev main_v737 : Ref sig .tc := ⟨.hbm, 903, rfl⟩
abbrev main_v738 : Ref sig .tc := ⟨.hbm, 904, rfl⟩
abbrev main_cst_142 : Ref sig .tc := ⟨.hbm, 905, rfl⟩
abbrev main_v739 : Ref sig .tc := ⟨.hbm, 906, rfl⟩
abbrev main_v740 : Ref sig .tc := ⟨.hbm, 907, rfl⟩
abbrev main_v741 : Ref sig .tc := ⟨.hbm, 908, rfl⟩
abbrev main_v742 : Ref sig .tc := ⟨.hbm, 909, rfl⟩
abbrev main_v743 : Ref sig .tc := ⟨.hbm, 910, rfl⟩
abbrev main_v744 : Ref sig .tc := ⟨.hbm, 911, rfl⟩
abbrev main_v745 : Ref sig .tc := ⟨.hbm, 912, rfl⟩
abbrev main_v746 : Ref sig .tc := ⟨.hbm, 913, rfl⟩
abbrev main_cst_143 : Ref sig .tc := ⟨.hbm, 914, rfl⟩
abbrev main_v747 : Ref sig .tc := ⟨.hbm, 915, rfl⟩
abbrev main_v748 : Ref sig .tc := ⟨.hbm, 916, rfl⟩
abbrev main_cst_144 : Ref sig .tc := ⟨.hbm, 917, rfl⟩
abbrev main_v749 : Ref sig .tc := ⟨.hbm, 918, rfl⟩
abbrev main_cst_145 : Ref sig .tc := ⟨.hbm, 919, rfl⟩
abbrev main_v750 : Ref sig .tc := ⟨.hbm, 920, rfl⟩
abbrev main_v751 : Ref sig .tc := ⟨.hbm, 921, rfl⟩
abbrev main_v752 : Ref sig .tc := ⟨.hbm, 922, rfl⟩
abbrev main_v753 : Ref sig .tc := ⟨.hbm, 923, rfl⟩
abbrev main_v754 : Ref sig .tc := ⟨.hbm, 924, rfl⟩
abbrev main_v755 : Ref sig .tc := ⟨.hbm, 925, rfl⟩
abbrev main_cst_146 : Ref sig .tc := ⟨.hbm, 926, rfl⟩
abbrev main_v756 : Ref sig .tc := ⟨.hbm, 927, rfl⟩
abbrev main_v757 : Ref sig .tc := ⟨.hbm, 928, rfl⟩
abbrev main_v758 : Ref sig .tc := ⟨.hbm, 929, rfl⟩
abbrev main_v759 : Ref sig .tc := ⟨.hbm, 930, rfl⟩
abbrev main_v760 : Ref sig .tc := ⟨.hbm, 931, rfl⟩
abbrev main_v761 : Ref sig .tc := ⟨.hbm, 932, rfl⟩
abbrev main_v762 : Ref sig .tc := ⟨.hbm, 933, rfl⟩
abbrev main_cst_147 : Ref sig .tc := ⟨.hbm, 934, rfl⟩
abbrev main_v763 : Ref sig .tc := ⟨.hbm, 935, rfl⟩
abbrev main_v764 : Ref sig .tc := ⟨.hbm, 936, rfl⟩
abbrev main_cst_148 : Ref sig .tc := ⟨.hbm, 937, rfl⟩
abbrev main_v765 : Ref sig .tc := ⟨.hbm, 938, rfl⟩
abbrev main_v766 : Ref sig .tc := ⟨.hbm, 939, rfl⟩
abbrev main_cst_149 : Ref sig .tc := ⟨.hbm, 940, rfl⟩
abbrev main_v767 : Ref sig .tc := ⟨.hbm, 941, rfl⟩
abbrev main_v768 : Ref sig .tc := ⟨.hbm, 942, rfl⟩
abbrev main_v769 : Ref sig .tc := ⟨.hbm, 943, rfl⟩
abbrev main_v770 : Ref sig .tc := ⟨.hbm, 944, rfl⟩
abbrev main_v771 : Ref sig .tc := ⟨.hbm, 945, rfl⟩
abbrev main_cst_150 : Ref sig .tc := ⟨.hbm, 946, rfl⟩
abbrev main_v772 : Ref sig .tc := ⟨.hbm, 947, rfl⟩
abbrev main_v773 : Ref sig .tc := ⟨.hbm, 948, rfl⟩
abbrev main_v774 : Ref sig .tc := ⟨.hbm, 949, rfl⟩
abbrev main_v775 : Ref sig .tc := ⟨.hbm, 950, rfl⟩
abbrev main_v776 : Ref sig .tc := ⟨.hbm, 951, rfl⟩
abbrev main_v777 : Ref sig .tc := ⟨.hbm, 952, rfl⟩
abbrev main_v778 : Ref sig .tc := ⟨.hbm, 953, rfl⟩
abbrev main_v779 : Ref sig .tc := ⟨.hbm, 954, rfl⟩
abbrev main_cst_151 : Ref sig .tc := ⟨.hbm, 955, rfl⟩
abbrev main_v780 : Ref sig .tc := ⟨.hbm, 956, rfl⟩
abbrev main_v781 : Ref sig .tc := ⟨.hbm, 957, rfl⟩
abbrev main_cst_152 : Ref sig .tc := ⟨.hbm, 958, rfl⟩
abbrev main_v782 : Ref sig .tc := ⟨.hbm, 959, rfl⟩
abbrev main_cst_153 : Ref sig .tc := ⟨.hbm, 960, rfl⟩
abbrev main_v783 : Ref sig .tc := ⟨.hbm, 961, rfl⟩
abbrev main_v784 : Ref sig .tc := ⟨.hbm, 962, rfl⟩
abbrev main_v785 : Ref sig .tc := ⟨.hbm, 963, rfl⟩
abbrev main_v786 : Ref sig .tc := ⟨.hbm, 964, rfl⟩
abbrev main_v787 : Ref sig .tc := ⟨.hbm, 965, rfl⟩
abbrev main_v788 : Ref sig .tc := ⟨.hbm, 966, rfl⟩
abbrev main_cst_154 : Ref sig .tc := ⟨.hbm, 967, rfl⟩
abbrev main_v789 : Ref sig .tc := ⟨.hbm, 968, rfl⟩
abbrev main_v790 : Ref sig .tc := ⟨.hbm, 969, rfl⟩
abbrev main_v791 : Ref sig .tc := ⟨.hbm, 970, rfl⟩
abbrev main_v792 : Ref sig .tc := ⟨.hbm, 971, rfl⟩
abbrev main_v793 : Ref sig .tc := ⟨.hbm, 972, rfl⟩
abbrev main_v794 : Ref sig .tc := ⟨.hbm, 973, rfl⟩
abbrev main_v795 : Ref sig .tc := ⟨.hbm, 974, rfl⟩
abbrev main_cst_155 : Ref sig .tc := ⟨.hbm, 975, rfl⟩
abbrev main_v796 : Ref sig .tc := ⟨.hbm, 976, rfl⟩
abbrev main_v797 : Ref sig .tc := ⟨.hbm, 977, rfl⟩
abbrev main_cst_156 : Ref sig .tc := ⟨.hbm, 978, rfl⟩
abbrev main_v798 : Ref sig .tc := ⟨.hbm, 979, rfl⟩
abbrev main_v799 : Ref sig .tc := ⟨.hbm, 980, rfl⟩
abbrev main_cst_157 : Ref sig .tc := ⟨.hbm, 981, rfl⟩
abbrev main_v800 : Ref sig .tc := ⟨.hbm, 982, rfl⟩
abbrev main_v801 : Ref sig .tc := ⟨.hbm, 983, rfl⟩
abbrev main_v802 : Ref sig .tc := ⟨.hbm, 984, rfl⟩
abbrev main_v803 : Ref sig .tc := ⟨.hbm, 985, rfl⟩
abbrev main_v804 : Ref sig .tc := ⟨.hbm, 986, rfl⟩
abbrev main_cst_158 : Ref sig .tc := ⟨.hbm, 987, rfl⟩
abbrev main_v805 : Ref sig .tc := ⟨.hbm, 988, rfl⟩
abbrev main_v806 : Ref sig .tc := ⟨.hbm, 989, rfl⟩
abbrev main_v807 : Ref sig .tc := ⟨.hbm, 990, rfl⟩
abbrev main_v808 : Ref sig .tc := ⟨.hbm, 991, rfl⟩
abbrev main_v809 : Ref sig .tc := ⟨.hbm, 992, rfl⟩
abbrev main_v810 : Ref sig .tc := ⟨.hbm, 993, rfl⟩
abbrev main_c_159 : Ref sig .tc := ⟨.hbm, 994, rfl⟩
abbrev main_call9_v0 : Ref sig .tc := ⟨.hbm, 995, rfl⟩
abbrev main_v811 : Ref sig .tc := ⟨.hbm, 996, rfl⟩
abbrev main_v812 : Ref sig .tc := ⟨.hbm, 997, rfl⟩
abbrev main_v813 : Ref sig .tc := ⟨.hbm, 998, rfl⟩
abbrev main_v814 : Ref sig .tc := ⟨.hbm, 999, rfl⟩
abbrev main_v815 : Ref sig .tc := ⟨.hbm, 1000, rfl⟩
abbrev main_v816 : Ref sig .tc := ⟨.hbm, 1001, rfl⟩
abbrev main_v817 : Ref sig .tc := ⟨.hbm, 1002, rfl⟩
abbrev main_v818 : Ref sig .tc := ⟨.hbm, 1003, rfl⟩
abbrev main_v819 : Ref sig .tc := ⟨.hbm, 1004, rfl⟩
abbrev main_v820 : Ref sig .tc := ⟨.hbm, 1005, rfl⟩
abbrev main_v821 : Ref sig .tc := ⟨.hbm, 1006, rfl⟩
abbrev main_v822 : Ref sig .tc := ⟨.hbm, 1007, rfl⟩
abbrev main_v823 : Ref sig .tc := ⟨.hbm, 1008, rfl⟩
abbrev main_v824 : Ref sig .tc := ⟨.hbm, 1009, rfl⟩
abbrev main_v825 : Ref sig .tc := ⟨.hbm, 1010, rfl⟩
abbrev main_v826 : Ref sig .tc := ⟨.hbm, 1011, rfl⟩
abbrev main_v827 : Ref sig .tc := ⟨.hbm, 1012, rfl⟩
abbrev main_v828 : Ref sig .tc := ⟨.hbm, 1013, rfl⟩
abbrev main_v829 : Ref sig .tc := ⟨.hbm, 1014, rfl⟩
abbrev main_v830 : Ref sig .tc := ⟨.hbm, 1015, rfl⟩
abbrev main_v831 : Ref sig .tc := ⟨.hbm, 1016, rfl⟩
abbrev main_v832 : Ref sig .tc := ⟨.hbm, 1017, rfl⟩
abbrev main_v833 : Ref sig .tc := ⟨.hbm, 1018, rfl⟩
abbrev main_v834 : Ref sig .tc := ⟨.hbm, 1019, rfl⟩
abbrev main_v835 : Ref sig .tc := ⟨.hbm, 1020, rfl⟩
abbrev main_v836 : Ref sig .tc := ⟨.hbm, 1021, rfl⟩
abbrev main_cst_160 : Ref sig .tc := ⟨.hbm, 1022, rfl⟩
abbrev main_v837 : Ref sig .tc := ⟨.hbm, 1023, rfl⟩
abbrev main_cst_161 : Ref sig .tc := ⟨.hbm, 1024, rfl⟩
abbrev main_v838 : Ref sig .tc := ⟨.hbm, 1025, rfl⟩
abbrev main_cst_162 : Ref sig .tc := ⟨.hbm, 1026, rfl⟩
abbrev main_v839 : Ref sig .tc := ⟨.hbm, 1027, rfl⟩
abbrev main_v840 : Ref sig .tc := ⟨.hbm, 1028, rfl⟩
abbrev main_v841 : Ref sig .tc := ⟨.hbm, 1029, rfl⟩
abbrev main_v842 : Ref sig .tc := ⟨.hbm, 1030, rfl⟩
abbrev main_v843 : Ref sig .tc := ⟨.hbm, 1031, rfl⟩
abbrev main_v844 : Ref sig .tc := ⟨.hbm, 1032, rfl⟩
abbrev main_cst_163 : Ref sig .tc := ⟨.hbm, 1033, rfl⟩
abbrev main_v845 : Ref sig .tc := ⟨.hbm, 1034, rfl⟩
abbrev main_v846 : Ref sig .tc := ⟨.hbm, 1035, rfl⟩
abbrev main_v847 : Ref sig .tc := ⟨.hbm, 1036, rfl⟩
abbrev main_v848 : Ref sig .tc := ⟨.hbm, 1037, rfl⟩
abbrev main_v849 : Ref sig .tc := ⟨.hbm, 1038, rfl⟩
abbrev main_v850 : Ref sig .tc := ⟨.hbm, 1039, rfl⟩
abbrev main_v851 : Ref sig .tc := ⟨.hbm, 1040, rfl⟩
abbrev main_cst_164 : Ref sig .tc := ⟨.hbm, 1041, rfl⟩
abbrev main_v852 : Ref sig .tc := ⟨.hbm, 1042, rfl⟩
abbrev main_v853 : Ref sig .tc := ⟨.hbm, 1043, rfl⟩
abbrev main_cst_165 : Ref sig .tc := ⟨.hbm, 1044, rfl⟩
abbrev main_v854 : Ref sig .tc := ⟨.hbm, 1045, rfl⟩
abbrev main_v855 : Ref sig .tc := ⟨.hbm, 1046, rfl⟩
abbrev main_cst_166 : Ref sig .tc := ⟨.hbm, 1047, rfl⟩
abbrev main_v856 : Ref sig .tc := ⟨.hbm, 1048, rfl⟩
abbrev main_v857 : Ref sig .tc := ⟨.hbm, 1049, rfl⟩
abbrev main_v858 : Ref sig .tc := ⟨.hbm, 1050, rfl⟩
abbrev main_v859 : Ref sig .tc := ⟨.hbm, 1051, rfl⟩
abbrev main_v860 : Ref sig .tc := ⟨.hbm, 1052, rfl⟩
abbrev main_cst_167 : Ref sig .tc := ⟨.hbm, 1053, rfl⟩
abbrev main_v861 : Ref sig .tc := ⟨.hbm, 1054, rfl⟩
abbrev main_v862 : Ref sig .tc := ⟨.hbm, 1055, rfl⟩
abbrev main_v863 : Ref sig .tc := ⟨.hbm, 1056, rfl⟩
abbrev main_v864 : Ref sig .tc := ⟨.hbm, 1057, rfl⟩
abbrev main_v865 : Ref sig .tc := ⟨.hbm, 1058, rfl⟩
abbrev main_v866 : Ref sig .tc := ⟨.hbm, 1059, rfl⟩
abbrev main_v867 : Ref sig .tc := ⟨.hbm, 1060, rfl⟩
abbrev main_v868 : Ref sig .tc := ⟨.hbm, 1061, rfl⟩
abbrev main_cst_168 : Ref sig .tc := ⟨.hbm, 1062, rfl⟩
abbrev main_v869 : Ref sig .tc := ⟨.hbm, 1063, rfl⟩
abbrev main_v870 : Ref sig .tc := ⟨.hbm, 1064, rfl⟩
abbrev main_cst_169 : Ref sig .tc := ⟨.hbm, 1065, rfl⟩
abbrev main_v871 : Ref sig .tc := ⟨.hbm, 1066, rfl⟩
abbrev main_cst_170 : Ref sig .tc := ⟨.hbm, 1067, rfl⟩
abbrev main_v872 : Ref sig .tc := ⟨.hbm, 1068, rfl⟩
abbrev main_v873 : Ref sig .tc := ⟨.hbm, 1069, rfl⟩
abbrev main_v874 : Ref sig .tc := ⟨.hbm, 1070, rfl⟩
abbrev main_v875 : Ref sig .tc := ⟨.hbm, 1071, rfl⟩
abbrev main_v876 : Ref sig .tc := ⟨.hbm, 1072, rfl⟩
abbrev main_v877 : Ref sig .tc := ⟨.hbm, 1073, rfl⟩
abbrev main_cst_171 : Ref sig .tc := ⟨.hbm, 1074, rfl⟩
abbrev main_v878 : Ref sig .tc := ⟨.hbm, 1075, rfl⟩
abbrev main_v879 : Ref sig .tc := ⟨.hbm, 1076, rfl⟩
abbrev main_v880 : Ref sig .tc := ⟨.hbm, 1077, rfl⟩
abbrev main_v881 : Ref sig .tc := ⟨.hbm, 1078, rfl⟩
abbrev main_v882 : Ref sig .tc := ⟨.hbm, 1079, rfl⟩
abbrev main_v883 : Ref sig .tc := ⟨.hbm, 1080, rfl⟩
abbrev main_v884 : Ref sig .tc := ⟨.hbm, 1081, rfl⟩
abbrev main_cst_172 : Ref sig .tc := ⟨.hbm, 1082, rfl⟩
abbrev main_v885 : Ref sig .tc := ⟨.hbm, 1083, rfl⟩
abbrev main_v886 : Ref sig .tc := ⟨.hbm, 1084, rfl⟩
abbrev main_cst_173 : Ref sig .tc := ⟨.hbm, 1085, rfl⟩
abbrev main_v887 : Ref sig .tc := ⟨.hbm, 1086, rfl⟩
abbrev main_v888 : Ref sig .tc := ⟨.hbm, 1087, rfl⟩
abbrev main_cst_174 : Ref sig .tc := ⟨.hbm, 1088, rfl⟩
abbrev main_v889 : Ref sig .tc := ⟨.hbm, 1089, rfl⟩
abbrev main_v890 : Ref sig .tc := ⟨.hbm, 1090, rfl⟩
abbrev main_v891 : Ref sig .tc := ⟨.hbm, 1091, rfl⟩
abbrev main_v892 : Ref sig .tc := ⟨.hbm, 1092, rfl⟩
abbrev main_v893 : Ref sig .tc := ⟨.hbm, 1093, rfl⟩
abbrev main_cst_175 : Ref sig .tc := ⟨.hbm, 1094, rfl⟩
abbrev main_v894 : Ref sig .tc := ⟨.hbm, 1095, rfl⟩
abbrev main_v895 : Ref sig .tc := ⟨.hbm, 1096, rfl⟩
abbrev main_v896 : Ref sig .tc := ⟨.hbm, 1097, rfl⟩
abbrev main_v897 : Ref sig .tc := ⟨.hbm, 1098, rfl⟩
abbrev main_v898 : Ref sig .tc := ⟨.hbm, 1099, rfl⟩
abbrev main_v899 : Ref sig .tc := ⟨.hbm, 1100, rfl⟩
abbrev main_v900 : Ref sig .tc := ⟨.hbm, 1101, rfl⟩
abbrev main_v901 : Ref sig .tc := ⟨.hbm, 1102, rfl⟩
abbrev main_cst_176 : Ref sig .tc := ⟨.hbm, 1103, rfl⟩
abbrev main_v902 : Ref sig .tc := ⟨.hbm, 1104, rfl⟩
abbrev main_v903 : Ref sig .tc := ⟨.hbm, 1105, rfl⟩
abbrev main_cst_177 : Ref sig .tc := ⟨.hbm, 1106, rfl⟩
abbrev main_v904 : Ref sig .tc := ⟨.hbm, 1107, rfl⟩
abbrev main_cst_178 : Ref sig .tc := ⟨.hbm, 1108, rfl⟩
abbrev main_v905 : Ref sig .tc := ⟨.hbm, 1109, rfl⟩
abbrev main_v906 : Ref sig .tc := ⟨.hbm, 1110, rfl⟩
abbrev main_v907 : Ref sig .tc := ⟨.hbm, 1111, rfl⟩
abbrev main_v908 : Ref sig .tc := ⟨.hbm, 1112, rfl⟩
abbrev main_v909 : Ref sig .tc := ⟨.hbm, 1113, rfl⟩
abbrev main_v910 : Ref sig .tc := ⟨.hbm, 1114, rfl⟩
abbrev main_cst_179 : Ref sig .tc := ⟨.hbm, 1115, rfl⟩
abbrev main_v911 : Ref sig .tc := ⟨.hbm, 1116, rfl⟩
abbrev main_v912 : Ref sig .tc := ⟨.hbm, 1117, rfl⟩
abbrev main_v913 : Ref sig .tc := ⟨.hbm, 1118, rfl⟩
abbrev main_v914 : Ref sig .tc := ⟨.hbm, 1119, rfl⟩
abbrev main_v915 : Ref sig .tc := ⟨.hbm, 1120, rfl⟩
abbrev main_v916 : Ref sig .tc := ⟨.hbm, 1121, rfl⟩
abbrev main_v917 : Ref sig .tc := ⟨.hbm, 1122, rfl⟩
abbrev main_cst_180 : Ref sig .tc := ⟨.hbm, 1123, rfl⟩
abbrev main_v918 : Ref sig .tc := ⟨.hbm, 1124, rfl⟩
abbrev main_v919 : Ref sig .tc := ⟨.hbm, 1125, rfl⟩
abbrev main_cst_181 : Ref sig .tc := ⟨.hbm, 1126, rfl⟩
abbrev main_v920 : Ref sig .tc := ⟨.hbm, 1127, rfl⟩
abbrev main_v921 : Ref sig .tc := ⟨.hbm, 1128, rfl⟩
abbrev main_cst_182 : Ref sig .tc := ⟨.hbm, 1129, rfl⟩
abbrev main_v922 : Ref sig .tc := ⟨.hbm, 1130, rfl⟩
abbrev main_v923 : Ref sig .tc := ⟨.hbm, 1131, rfl⟩
abbrev main_v924 : Ref sig .tc := ⟨.hbm, 1132, rfl⟩
abbrev main_v925 : Ref sig .tc := ⟨.hbm, 1133, rfl⟩
abbrev main_v926 : Ref sig .tc := ⟨.hbm, 1134, rfl⟩
abbrev main_cst_183 : Ref sig .tc := ⟨.hbm, 1135, rfl⟩
abbrev main_v927 : Ref sig .tc := ⟨.hbm, 1136, rfl⟩
abbrev main_v928 : Ref sig .tc := ⟨.hbm, 1137, rfl⟩
abbrev main_v929 : Ref sig .tc := ⟨.hbm, 1138, rfl⟩
abbrev main_v930 : Ref sig .tc := ⟨.hbm, 1139, rfl⟩
abbrev main_v931 : Ref sig .tc := ⟨.hbm, 1140, rfl⟩
abbrev main_v932 : Ref sig .tc := ⟨.hbm, 1141, rfl⟩
abbrev main_c_184 : Ref sig .tc := ⟨.hbm, 1142, rfl⟩
abbrev main_call11_v0 : Ref sig .tc := ⟨.hbm, 1143, rfl⟩
abbrev main_v933 : Ref sig .tc := ⟨.hbm, 1144, rfl⟩
abbrev main_v934 : Ref sig .tc := ⟨.hbm, 1145, rfl⟩
abbrev main_v935 : Ref sig .tc := ⟨.hbm, 1146, rfl⟩
abbrev main_v936 : Ref sig .tc := ⟨.hbm, 1147, rfl⟩
abbrev main_v937 : Ref sig .tc := ⟨.hbm, 1148, rfl⟩
abbrev main_v938 : Ref sig .tc := ⟨.hbm, 1149, rfl⟩
abbrev main_v939 : Ref sig .tc := ⟨.hbm, 1150, rfl⟩
abbrev main_v940 : Ref sig .tc := ⟨.hbm, 1151, rfl⟩
abbrev main_v941 : Ref sig .tc := ⟨.hbm, 1152, rfl⟩
abbrev main_v942 : Ref sig .tc := ⟨.hbm, 1153, rfl⟩
abbrev main_v943 : Ref sig .tc := ⟨.hbm, 1154, rfl⟩
abbrev main_v944 : Ref sig .tc := ⟨.hbm, 1155, rfl⟩
abbrev main_v945 : Ref sig .tc := ⟨.hbm, 1156, rfl⟩
abbrev main_v946 : Ref sig .tc := ⟨.hbm, 1157, rfl⟩
abbrev main_v947 : Ref sig .tc := ⟨.hbm, 1158, rfl⟩
abbrev main_v948 : Ref sig .tc := ⟨.hbm, 1159, rfl⟩
abbrev main_v949 : Ref sig .tc := ⟨.hbm, 1160, rfl⟩
abbrev main_v950 : Ref sig .tc := ⟨.hbm, 1161, rfl⟩
abbrev main_v951 : Ref sig .tc := ⟨.hbm, 1162, rfl⟩
abbrev main_v952 : Ref sig .tc := ⟨.hbm, 1163, rfl⟩
abbrev main_v953 : Ref sig .tc := ⟨.hbm, 1164, rfl⟩
abbrev main_v954 : Ref sig .tc := ⟨.hbm, 1165, rfl⟩
abbrev main_v955 : Ref sig .tc := ⟨.hbm, 1166, rfl⟩
abbrev main_v956 : Ref sig .tc := ⟨.hbm, 1167, rfl⟩
abbrev main_v957 : Ref sig .tc := ⟨.hbm, 1168, rfl⟩
abbrev main_v958 : Ref sig .tc := ⟨.hbm, 1169, rfl⟩
abbrev main_cst_185 : Ref sig .tc := ⟨.hbm, 1170, rfl⟩
abbrev main_v959 : Ref sig .tc := ⟨.hbm, 1171, rfl⟩
abbrev main_cst_186 : Ref sig .tc := ⟨.hbm, 1172, rfl⟩
abbrev main_v960 : Ref sig .tc := ⟨.hbm, 1173, rfl⟩
abbrev main_cst_187 : Ref sig .tc := ⟨.hbm, 1174, rfl⟩
abbrev main_v961 : Ref sig .tc := ⟨.hbm, 1175, rfl⟩
abbrev main_v962 : Ref sig .tc := ⟨.hbm, 1176, rfl⟩
abbrev main_v963 : Ref sig .tc := ⟨.hbm, 1177, rfl⟩
abbrev main_v964 : Ref sig .tc := ⟨.hbm, 1178, rfl⟩
abbrev main_v965 : Ref sig .tc := ⟨.hbm, 1179, rfl⟩
abbrev main_v966 : Ref sig .tc := ⟨.hbm, 1180, rfl⟩
abbrev main_cst_188 : Ref sig .tc := ⟨.hbm, 1181, rfl⟩
abbrev main_v967 : Ref sig .tc := ⟨.hbm, 1182, rfl⟩
abbrev main_v968 : Ref sig .tc := ⟨.hbm, 1183, rfl⟩
abbrev main_v969 : Ref sig .tc := ⟨.hbm, 1184, rfl⟩
abbrev main_v970 : Ref sig .tc := ⟨.hbm, 1185, rfl⟩
abbrev main_v971 : Ref sig .tc := ⟨.hbm, 1186, rfl⟩
abbrev main_v972 : Ref sig .tc := ⟨.hbm, 1187, rfl⟩
abbrev main_v973 : Ref sig .tc := ⟨.hbm, 1188, rfl⟩
abbrev main_cst_189 : Ref sig .tc := ⟨.hbm, 1189, rfl⟩
abbrev main_v974 : Ref sig .tc := ⟨.hbm, 1190, rfl⟩
abbrev main_v975 : Ref sig .tc := ⟨.hbm, 1191, rfl⟩
abbrev main_cst_190 : Ref sig .tc := ⟨.hbm, 1192, rfl⟩
abbrev main_v976 : Ref sig .tc := ⟨.hbm, 1193, rfl⟩
abbrev main_v977 : Ref sig .tc := ⟨.hbm, 1194, rfl⟩
abbrev main_cst_191 : Ref sig .tc := ⟨.hbm, 1195, rfl⟩
abbrev main_v978 : Ref sig .tc := ⟨.hbm, 1196, rfl⟩
abbrev main_v979 : Ref sig .tc := ⟨.hbm, 1197, rfl⟩
abbrev main_v980 : Ref sig .tc := ⟨.hbm, 1198, rfl⟩
abbrev main_v981 : Ref sig .tc := ⟨.hbm, 1199, rfl⟩
abbrev main_v982 : Ref sig .tc := ⟨.hbm, 1200, rfl⟩
abbrev main_cst_192 : Ref sig .tc := ⟨.hbm, 1201, rfl⟩
abbrev main_v983 : Ref sig .tc := ⟨.hbm, 1202, rfl⟩
abbrev main_v984 : Ref sig .tc := ⟨.hbm, 1203, rfl⟩
abbrev main_v985 : Ref sig .tc := ⟨.hbm, 1204, rfl⟩
abbrev main_v986 : Ref sig .tc := ⟨.hbm, 1205, rfl⟩
abbrev main_v987 : Ref sig .tc := ⟨.hbm, 1206, rfl⟩
abbrev main_v988 : Ref sig .tc := ⟨.hbm, 1207, rfl⟩
abbrev main_v989 : Ref sig .tc := ⟨.hbm, 1208, rfl⟩
abbrev main_v990 : Ref sig .tc := ⟨.hbm, 1209, rfl⟩
abbrev main_cst_193 : Ref sig .tc := ⟨.hbm, 1210, rfl⟩
abbrev main_v991 : Ref sig .tc := ⟨.hbm, 1211, rfl⟩
abbrev main_v992 : Ref sig .tc := ⟨.hbm, 1212, rfl⟩
abbrev main_cst_194 : Ref sig .tc := ⟨.hbm, 1213, rfl⟩
abbrev main_v993 : Ref sig .tc := ⟨.hbm, 1214, rfl⟩
abbrev main_cst_195 : Ref sig .tc := ⟨.hbm, 1215, rfl⟩
abbrev main_v994 : Ref sig .tc := ⟨.hbm, 1216, rfl⟩
abbrev main_v995 : Ref sig .tc := ⟨.hbm, 1217, rfl⟩
abbrev main_v996 : Ref sig .tc := ⟨.hbm, 1218, rfl⟩
abbrev main_v997 : Ref sig .tc := ⟨.hbm, 1219, rfl⟩
abbrev main_v998 : Ref sig .tc := ⟨.hbm, 1220, rfl⟩
abbrev main_v999 : Ref sig .tc := ⟨.hbm, 1221, rfl⟩
abbrev main_cst_196 : Ref sig .tc := ⟨.hbm, 1222, rfl⟩
abbrev main_v1000 : Ref sig .tc := ⟨.hbm, 1223, rfl⟩
abbrev main_v1001 : Ref sig .tc := ⟨.hbm, 1224, rfl⟩
abbrev main_v1002 : Ref sig .tc := ⟨.hbm, 1225, rfl⟩
abbrev main_v1003 : Ref sig .tc := ⟨.hbm, 1226, rfl⟩
abbrev main_v1004 : Ref sig .tc := ⟨.hbm, 1227, rfl⟩
abbrev main_v1005 : Ref sig .tc := ⟨.hbm, 1228, rfl⟩
abbrev main_v1006 : Ref sig .tc := ⟨.hbm, 1229, rfl⟩
abbrev main_cst_197 : Ref sig .tc := ⟨.hbm, 1230, rfl⟩
abbrev main_v1007 : Ref sig .tc := ⟨.hbm, 1231, rfl⟩
abbrev main_v1008 : Ref sig .tc := ⟨.hbm, 1232, rfl⟩
abbrev main_cst_198 : Ref sig .tc := ⟨.hbm, 1233, rfl⟩
abbrev main_v1009 : Ref sig .tc := ⟨.hbm, 1234, rfl⟩
abbrev main_v1010 : Ref sig .tc := ⟨.hbm, 1235, rfl⟩
abbrev main_cst_199 : Ref sig .tc := ⟨.hbm, 1236, rfl⟩
abbrev main_v1011 : Ref sig .tc := ⟨.hbm, 1237, rfl⟩
abbrev main_v1012 : Ref sig .tc := ⟨.hbm, 1238, rfl⟩
abbrev main_v1013 : Ref sig .tc := ⟨.hbm, 1239, rfl⟩
abbrev main_v1014 : Ref sig .tc := ⟨.hbm, 1240, rfl⟩
abbrev main_v1015 : Ref sig .tc := ⟨.hbm, 1241, rfl⟩
abbrev main_cst_200 : Ref sig .tc := ⟨.hbm, 1242, rfl⟩
abbrev main_v1016 : Ref sig .tc := ⟨.hbm, 1243, rfl⟩
abbrev main_v1017 : Ref sig .tc := ⟨.hbm, 1244, rfl⟩
abbrev main_v1018 : Ref sig .tc := ⟨.hbm, 1245, rfl⟩
abbrev main_v1019 : Ref sig .tc := ⟨.hbm, 1246, rfl⟩
abbrev main_v1020 : Ref sig .tc := ⟨.hbm, 1247, rfl⟩
abbrev main_v1021 : Ref sig .tc := ⟨.hbm, 1248, rfl⟩
abbrev main_v1022 : Ref sig .tc := ⟨.hbm, 1249, rfl⟩
abbrev main_v1023 : Ref sig .tc := ⟨.hbm, 1250, rfl⟩
abbrev main_cst_201 : Ref sig .tc := ⟨.hbm, 1251, rfl⟩
abbrev main_v1024 : Ref sig .tc := ⟨.hbm, 1252, rfl⟩
abbrev main_v1025 : Ref sig .tc := ⟨.hbm, 1253, rfl⟩
abbrev main_cst_202 : Ref sig .tc := ⟨.hbm, 1254, rfl⟩
abbrev main_v1026 : Ref sig .tc := ⟨.hbm, 1255, rfl⟩
abbrev main_cst_203 : Ref sig .tc := ⟨.hbm, 1256, rfl⟩
abbrev main_v1027 : Ref sig .tc := ⟨.hbm, 1257, rfl⟩
abbrev main_v1028 : Ref sig .tc := ⟨.hbm, 1258, rfl⟩
abbrev main_v1029 : Ref sig .tc := ⟨.hbm, 1259, rfl⟩
abbrev main_v1030 : Ref sig .tc := ⟨.hbm, 1260, rfl⟩
abbrev main_v1031 : Ref sig .tc := ⟨.hbm, 1261, rfl⟩
abbrev main_v1032 : Ref sig .tc := ⟨.hbm, 1262, rfl⟩
abbrev main_cst_204 : Ref sig .tc := ⟨.hbm, 1263, rfl⟩
abbrev main_v1033 : Ref sig .tc := ⟨.hbm, 1264, rfl⟩
abbrev main_v1034 : Ref sig .tc := ⟨.hbm, 1265, rfl⟩
abbrev main_v1035 : Ref sig .tc := ⟨.hbm, 1266, rfl⟩
abbrev main_v1036 : Ref sig .tc := ⟨.hbm, 1267, rfl⟩
abbrev main_v1037 : Ref sig .tc := ⟨.hbm, 1268, rfl⟩
abbrev main_v1038 : Ref sig .tc := ⟨.hbm, 1269, rfl⟩
abbrev main_v1039 : Ref sig .tc := ⟨.hbm, 1270, rfl⟩
abbrev main_cst_205 : Ref sig .tc := ⟨.hbm, 1271, rfl⟩
abbrev main_v1040 : Ref sig .tc := ⟨.hbm, 1272, rfl⟩
abbrev main_v1041 : Ref sig .tc := ⟨.hbm, 1273, rfl⟩
abbrev main_cst_206 : Ref sig .tc := ⟨.hbm, 1274, rfl⟩
abbrev main_v1042 : Ref sig .tc := ⟨.hbm, 1275, rfl⟩
abbrev main_v1043 : Ref sig .tc := ⟨.hbm, 1276, rfl⟩
abbrev main_cst_207 : Ref sig .tc := ⟨.hbm, 1277, rfl⟩
abbrev main_v1044 : Ref sig .tc := ⟨.hbm, 1278, rfl⟩
abbrev main_v1045 : Ref sig .tc := ⟨.hbm, 1279, rfl⟩
abbrev main_v1046 : Ref sig .tc := ⟨.hbm, 1280, rfl⟩
abbrev main_v1047 : Ref sig .tc := ⟨.hbm, 1281, rfl⟩
abbrev main_v1048 : Ref sig .tc := ⟨.hbm, 1282, rfl⟩
abbrev main_cst_208 : Ref sig .tc := ⟨.hbm, 1283, rfl⟩
abbrev main_v1049 : Ref sig .tc := ⟨.hbm, 1284, rfl⟩
abbrev main_v1050 : Ref sig .tc := ⟨.hbm, 1285, rfl⟩
abbrev main_v1051 : Ref sig .tc := ⟨.hbm, 1286, rfl⟩
abbrev main_v1052 : Ref sig .tc := ⟨.hbm, 1287, rfl⟩
abbrev main_v1053 : Ref sig .tc := ⟨.hbm, 1288, rfl⟩
abbrev main_v1054 : Ref sig .tc := ⟨.hbm, 1289, rfl⟩
abbrev main_c_209 : Ref sig .tc := ⟨.hbm, 1290, rfl⟩
abbrev main_call12_v0 : Ref sig .tc := ⟨.hbm, 1291, rfl⟩
abbrev main_v1055 : Ref sig .tc := ⟨.hbm, 1292, rfl⟩
abbrev main_v1056 : Ref sig .tc := ⟨.hbm, 1293, rfl⟩
abbrev main_v1057 : Ref sig .tc := ⟨.hbm, 1294, rfl⟩
abbrev main_v1058 : Ref sig .tc := ⟨.hbm, 1295, rfl⟩
abbrev main_v1059 : Ref sig .tc := ⟨.hbm, 1296, rfl⟩
abbrev main_v1060 : Ref sig .tc := ⟨.hbm, 1297, rfl⟩
abbrev main_v1061 : Ref sig .tc := ⟨.hbm, 1298, rfl⟩
abbrev main_v1062 : Ref sig .tc := ⟨.hbm, 1299, rfl⟩
abbrev main_v1063 : Ref sig .tc := ⟨.hbm, 1300, rfl⟩
abbrev main_v1064 : Ref sig .tc := ⟨.hbm, 1301, rfl⟩
abbrev main_v1065 : Ref sig .tc := ⟨.hbm, 1302, rfl⟩
abbrev main_v1066 : Ref sig .tc := ⟨.hbm, 1303, rfl⟩
abbrev main_v1067 : Ref sig .tc := ⟨.hbm, 1304, rfl⟩
abbrev main_v1068 : Ref sig .tc := ⟨.hbm, 1305, rfl⟩
abbrev main_v1069 : Ref sig .tc := ⟨.hbm, 1306, rfl⟩
abbrev main_v1070 : Ref sig .tc := ⟨.hbm, 1307, rfl⟩
abbrev main_v1071 : Ref sig .tc := ⟨.hbm, 1308, rfl⟩
abbrev main_v1072 : Ref sig .tc := ⟨.hbm, 1309, rfl⟩
abbrev main_v1073 : Ref sig .tc := ⟨.hbm, 1310, rfl⟩
abbrev main_v1074 : Ref sig .tc := ⟨.hbm, 1311, rfl⟩
abbrev main_v1075 : Ref sig .tc := ⟨.hbm, 1312, rfl⟩
abbrev main_v1076 : Ref sig .tc := ⟨.hbm, 1313, rfl⟩
abbrev main_v1077 : Ref sig .tc := ⟨.hbm, 1314, rfl⟩
abbrev main_v1078 : Ref sig .tc := ⟨.hbm, 1315, rfl⟩
abbrev main_v1079 : Ref sig .tc := ⟨.hbm, 1316, rfl⟩
abbrev main_v1080 : Ref sig .tc := ⟨.hbm, 1317, rfl⟩
abbrev main_cst_210 : Ref sig .tc := ⟨.hbm, 1318, rfl⟩
abbrev main_v1081 : Ref sig .tc := ⟨.hbm, 1319, rfl⟩
abbrev main_cst_211 : Ref sig .tc := ⟨.hbm, 1320, rfl⟩
abbrev main_v1082 : Ref sig .tc := ⟨.hbm, 1321, rfl⟩
abbrev main_cst_212 : Ref sig .tc := ⟨.hbm, 1322, rfl⟩
abbrev main_v1083 : Ref sig .tc := ⟨.hbm, 1323, rfl⟩
abbrev main_v1084 : Ref sig .tc := ⟨.hbm, 1324, rfl⟩
abbrev main_v1085 : Ref sig .tc := ⟨.hbm, 1325, rfl⟩
abbrev main_v1086 : Ref sig .tc := ⟨.hbm, 1326, rfl⟩
abbrev main_v1087 : Ref sig .tc := ⟨.hbm, 1327, rfl⟩
abbrev main_v1088 : Ref sig .tc := ⟨.hbm, 1328, rfl⟩
abbrev main_cst_213 : Ref sig .tc := ⟨.hbm, 1329, rfl⟩
abbrev main_v1089 : Ref sig .tc := ⟨.hbm, 1330, rfl⟩
abbrev main_v1090 : Ref sig .tc := ⟨.hbm, 1331, rfl⟩
abbrev main_v1091 : Ref sig .tc := ⟨.hbm, 1332, rfl⟩
abbrev main_v1092 : Ref sig .tc := ⟨.hbm, 1333, rfl⟩
abbrev main_v1093 : Ref sig .tc := ⟨.hbm, 1334, rfl⟩
abbrev main_v1094 : Ref sig .tc := ⟨.hbm, 1335, rfl⟩
abbrev main_v1095 : Ref sig .tc := ⟨.hbm, 1336, rfl⟩
abbrev main_cst_214 : Ref sig .tc := ⟨.hbm, 1337, rfl⟩
abbrev main_v1096 : Ref sig .tc := ⟨.hbm, 1338, rfl⟩
abbrev main_v1097 : Ref sig .tc := ⟨.hbm, 1339, rfl⟩
abbrev main_cst_215 : Ref sig .tc := ⟨.hbm, 1340, rfl⟩
abbrev main_v1098 : Ref sig .tc := ⟨.hbm, 1341, rfl⟩
abbrev main_v1099 : Ref sig .tc := ⟨.hbm, 1342, rfl⟩
abbrev main_cst_216 : Ref sig .tc := ⟨.hbm, 1343, rfl⟩
abbrev main_v1100 : Ref sig .tc := ⟨.hbm, 1344, rfl⟩
abbrev main_v1101 : Ref sig .tc := ⟨.hbm, 1345, rfl⟩
abbrev main_v1102 : Ref sig .tc := ⟨.hbm, 1346, rfl⟩
abbrev main_v1103 : Ref sig .tc := ⟨.hbm, 1347, rfl⟩
abbrev main_v1104 : Ref sig .tc := ⟨.hbm, 1348, rfl⟩
abbrev main_cst_217 : Ref sig .tc := ⟨.hbm, 1349, rfl⟩
abbrev main_v1105 : Ref sig .tc := ⟨.hbm, 1350, rfl⟩
abbrev main_v1106 : Ref sig .tc := ⟨.hbm, 1351, rfl⟩
abbrev main_v1107 : Ref sig .tc := ⟨.hbm, 1352, rfl⟩
abbrev main_v1108 : Ref sig .tc := ⟨.hbm, 1353, rfl⟩
abbrev main_v1109 : Ref sig .tc := ⟨.hbm, 1354, rfl⟩
abbrev main_v1110 : Ref sig .tc := ⟨.hbm, 1355, rfl⟩
abbrev main_v1111 : Ref sig .tc := ⟨.hbm, 1356, rfl⟩
abbrev main_v1112 : Ref sig .tc := ⟨.hbm, 1357, rfl⟩
abbrev main_cst_218 : Ref sig .tc := ⟨.hbm, 1358, rfl⟩
abbrev main_v1113 : Ref sig .tc := ⟨.hbm, 1359, rfl⟩
abbrev main_v1114 : Ref sig .tc := ⟨.hbm, 1360, rfl⟩
abbrev main_cst_219 : Ref sig .tc := ⟨.hbm, 1361, rfl⟩
abbrev main_v1115 : Ref sig .tc := ⟨.hbm, 1362, rfl⟩
abbrev main_cst_220 : Ref sig .tc := ⟨.hbm, 1363, rfl⟩
abbrev main_v1116 : Ref sig .tc := ⟨.hbm, 1364, rfl⟩
abbrev main_v1117 : Ref sig .tc := ⟨.hbm, 1365, rfl⟩
abbrev main_v1118 : Ref sig .tc := ⟨.hbm, 1366, rfl⟩
abbrev main_v1119 : Ref sig .tc := ⟨.hbm, 1367, rfl⟩
abbrev main_v1120 : Ref sig .tc := ⟨.hbm, 1368, rfl⟩
abbrev main_v1121 : Ref sig .tc := ⟨.hbm, 1369, rfl⟩
abbrev main_cst_221 : Ref sig .tc := ⟨.hbm, 1370, rfl⟩
abbrev main_v1122 : Ref sig .tc := ⟨.hbm, 1371, rfl⟩
abbrev main_v1123 : Ref sig .tc := ⟨.hbm, 1372, rfl⟩
abbrev main_v1124 : Ref sig .tc := ⟨.hbm, 1373, rfl⟩
abbrev main_v1125 : Ref sig .tc := ⟨.hbm, 1374, rfl⟩
abbrev main_v1126 : Ref sig .tc := ⟨.hbm, 1375, rfl⟩
abbrev main_v1127 : Ref sig .tc := ⟨.hbm, 1376, rfl⟩
abbrev main_v1128 : Ref sig .tc := ⟨.hbm, 1377, rfl⟩
abbrev main_cst_222 : Ref sig .tc := ⟨.hbm, 1378, rfl⟩
abbrev main_v1129 : Ref sig .tc := ⟨.hbm, 1379, rfl⟩
abbrev main_v1130 : Ref sig .tc := ⟨.hbm, 1380, rfl⟩
abbrev main_cst_223 : Ref sig .tc := ⟨.hbm, 1381, rfl⟩
abbrev main_v1131 : Ref sig .tc := ⟨.hbm, 1382, rfl⟩
abbrev main_v1132 : Ref sig .tc := ⟨.hbm, 1383, rfl⟩
abbrev main_cst_224 : Ref sig .tc := ⟨.hbm, 1384, rfl⟩
abbrev main_v1133 : Ref sig .tc := ⟨.hbm, 1385, rfl⟩
abbrev main_v1134 : Ref sig .tc := ⟨.hbm, 1386, rfl⟩
abbrev main_v1135 : Ref sig .tc := ⟨.hbm, 1387, rfl⟩
abbrev main_v1136 : Ref sig .tc := ⟨.hbm, 1388, rfl⟩
abbrev main_v1137 : Ref sig .tc := ⟨.hbm, 1389, rfl⟩
abbrev main_cst_225 : Ref sig .tc := ⟨.hbm, 1390, rfl⟩
abbrev main_v1138 : Ref sig .tc := ⟨.hbm, 1391, rfl⟩
abbrev main_v1139 : Ref sig .tc := ⟨.hbm, 1392, rfl⟩
abbrev main_v1140 : Ref sig .tc := ⟨.hbm, 1393, rfl⟩
abbrev main_v1141 : Ref sig .tc := ⟨.hbm, 1394, rfl⟩
abbrev main_v1142 : Ref sig .tc := ⟨.hbm, 1395, rfl⟩
abbrev main_v1143 : Ref sig .tc := ⟨.hbm, 1396, rfl⟩
abbrev main_v1144 : Ref sig .tc := ⟨.hbm, 1397, rfl⟩
abbrev main_v1145 : Ref sig .tc := ⟨.hbm, 1398, rfl⟩
abbrev main_cst_226 : Ref sig .tc := ⟨.hbm, 1399, rfl⟩
abbrev main_v1146 : Ref sig .tc := ⟨.hbm, 1400, rfl⟩
abbrev main_v1147 : Ref sig .tc := ⟨.hbm, 1401, rfl⟩
abbrev main_cst_227 : Ref sig .tc := ⟨.hbm, 1402, rfl⟩
abbrev main_v1148 : Ref sig .tc := ⟨.hbm, 1403, rfl⟩
abbrev main_cst_228 : Ref sig .tc := ⟨.hbm, 1404, rfl⟩
abbrev main_v1149 : Ref sig .tc := ⟨.hbm, 1405, rfl⟩
abbrev main_v1150 : Ref sig .tc := ⟨.hbm, 1406, rfl⟩
abbrev main_v1151 : Ref sig .tc := ⟨.hbm, 1407, rfl⟩
abbrev main_v1152 : Ref sig .tc := ⟨.hbm, 1408, rfl⟩
abbrev main_v1153 : Ref sig .tc := ⟨.hbm, 1409, rfl⟩
abbrev main_v1154 : Ref sig .tc := ⟨.hbm, 1410, rfl⟩
abbrev main_cst_229 : Ref sig .tc := ⟨.hbm, 1411, rfl⟩
abbrev main_v1155 : Ref sig .tc := ⟨.hbm, 1412, rfl⟩
abbrev main_v1156 : Ref sig .tc := ⟨.hbm, 1413, rfl⟩
abbrev main_v1157 : Ref sig .tc := ⟨.hbm, 1414, rfl⟩
abbrev main_v1158 : Ref sig .tc := ⟨.hbm, 1415, rfl⟩
abbrev main_v1159 : Ref sig .tc := ⟨.hbm, 1416, rfl⟩
abbrev main_v1160 : Ref sig .tc := ⟨.hbm, 1417, rfl⟩
abbrev main_v1161 : Ref sig .tc := ⟨.hbm, 1418, rfl⟩
abbrev main_cst_230 : Ref sig .tc := ⟨.hbm, 1419, rfl⟩
abbrev main_v1162 : Ref sig .tc := ⟨.hbm, 1420, rfl⟩
abbrev main_v1163 : Ref sig .tc := ⟨.hbm, 1421, rfl⟩
abbrev main_cst_231 : Ref sig .tc := ⟨.hbm, 1422, rfl⟩
abbrev main_v1164 : Ref sig .tc := ⟨.hbm, 1423, rfl⟩
abbrev main_v1165 : Ref sig .tc := ⟨.hbm, 1424, rfl⟩
abbrev main_cst_232 : Ref sig .tc := ⟨.hbm, 1425, rfl⟩
abbrev main_v1166 : Ref sig .tc := ⟨.hbm, 1426, rfl⟩
abbrev main_v1167 : Ref sig .tc := ⟨.hbm, 1427, rfl⟩
abbrev main_v1168 : Ref sig .tc := ⟨.hbm, 1428, rfl⟩
abbrev main_v1169 : Ref sig .tc := ⟨.hbm, 1429, rfl⟩
abbrev main_v1170 : Ref sig .tc := ⟨.hbm, 1430, rfl⟩
abbrev main_cst_233 : Ref sig .tc := ⟨.hbm, 1431, rfl⟩
abbrev main_v1171 : Ref sig .tc := ⟨.hbm, 1432, rfl⟩
abbrev main_v1172 : Ref sig .tc := ⟨.hbm, 1433, rfl⟩
abbrev main_v1173 : Ref sig .tc := ⟨.hbm, 1434, rfl⟩
abbrev main_v1174 : Ref sig .tc := ⟨.hbm, 1435, rfl⟩
abbrev main_v1175 : Ref sig .tc := ⟨.hbm, 1436, rfl⟩
abbrev main_v1176 : Ref sig .tc := ⟨.hbm, 1437, rfl⟩
abbrev main_c_234 : Ref sig .tc := ⟨.hbm, 1438, rfl⟩
abbrev main_call14_v0 : Ref sig .tc := ⟨.hbm, 1439, rfl⟩
abbrev main_v1177 : Ref sig .tc := ⟨.hbm, 1440, rfl⟩
abbrev main_v1178 : Ref sig .tc := ⟨.hbm, 1441, rfl⟩
abbrev main_v1179 : Ref sig .tc := ⟨.hbm, 1442, rfl⟩
abbrev main_v1180 : Ref sig .tc := ⟨.hbm, 1443, rfl⟩
abbrev main_v1181 : Ref sig .tc := ⟨.hbm, 1444, rfl⟩
abbrev main_v1182 : Ref sig .tc := ⟨.hbm, 1445, rfl⟩
abbrev main_v1183 : Ref sig .tc := ⟨.hbm, 1446, rfl⟩
abbrev main_v1184 : Ref sig .tc := ⟨.hbm, 1447, rfl⟩
abbrev main_v1185 : Ref sig .tc := ⟨.hbm, 1448, rfl⟩
abbrev main_v1186 : Ref sig .tc := ⟨.hbm, 1449, rfl⟩
abbrev main_v1187 : Ref sig .tc := ⟨.hbm, 1450, rfl⟩
abbrev main_v1188 : Ref sig .tc := ⟨.hbm, 1451, rfl⟩
abbrev main_v1189 : Ref sig .tc := ⟨.hbm, 1452, rfl⟩
abbrev main_v1190 : Ref sig .tc := ⟨.hbm, 1453, rfl⟩
abbrev main_v1191 : Ref sig .tc := ⟨.hbm, 1454, rfl⟩
abbrev main_v1192 : Ref sig .tc := ⟨.hbm, 1455, rfl⟩
abbrev main_v1193 : Ref sig .tc := ⟨.hbm, 1456, rfl⟩
abbrev main_v1194 : Ref sig .tc := ⟨.hbm, 1457, rfl⟩
abbrev main_v1195 : Ref sig .tc := ⟨.hbm, 1458, rfl⟩
abbrev main_v1196 : Ref sig .tc := ⟨.hbm, 1459, rfl⟩
abbrev main_v1197 : Ref sig .tc := ⟨.hbm, 1460, rfl⟩
abbrev main_v1198 : Ref sig .tc := ⟨.hbm, 1461, rfl⟩
abbrev main_v1199 : Ref sig .tc := ⟨.hbm, 1462, rfl⟩
abbrev main_v1200 : Ref sig .tc := ⟨.hbm, 1463, rfl⟩
abbrev main_v1201 : Ref sig .tc := ⟨.hbm, 1464, rfl⟩
abbrev main_v1202 : Ref sig .tc := ⟨.hbm, 1465, rfl⟩
abbrev main_cst_235 : Ref sig .tc := ⟨.hbm, 1466, rfl⟩
abbrev main_v1203 : Ref sig .tc := ⟨.hbm, 1467, rfl⟩
abbrev main_cst_236 : Ref sig .tc := ⟨.hbm, 1468, rfl⟩
abbrev main_v1204 : Ref sig .tc := ⟨.hbm, 1469, rfl⟩
abbrev main_cst_237 : Ref sig .tc := ⟨.hbm, 1470, rfl⟩
abbrev main_v1205 : Ref sig .tc := ⟨.hbm, 1471, rfl⟩
abbrev main_v1206 : Ref sig .tc := ⟨.hbm, 1472, rfl⟩
abbrev main_v1207 : Ref sig .tc := ⟨.hbm, 1473, rfl⟩
abbrev main_v1208 : Ref sig .tc := ⟨.hbm, 1474, rfl⟩
abbrev main_v1209 : Ref sig .tc := ⟨.hbm, 1475, rfl⟩
abbrev main_v1210 : Ref sig .tc := ⟨.hbm, 1476, rfl⟩
abbrev main_cst_238 : Ref sig .tc := ⟨.hbm, 1477, rfl⟩
abbrev main_v1211 : Ref sig .tc := ⟨.hbm, 1478, rfl⟩
abbrev main_v1212 : Ref sig .tc := ⟨.hbm, 1479, rfl⟩
abbrev main_v1213 : Ref sig .tc := ⟨.hbm, 1480, rfl⟩
abbrev main_v1214 : Ref sig .tc := ⟨.hbm, 1481, rfl⟩
abbrev main_v1215 : Ref sig .tc := ⟨.hbm, 1482, rfl⟩
abbrev main_v1216 : Ref sig .tc := ⟨.hbm, 1483, rfl⟩
abbrev main_v1217 : Ref sig .tc := ⟨.hbm, 1484, rfl⟩
abbrev main_cst_239 : Ref sig .tc := ⟨.hbm, 1485, rfl⟩
abbrev main_v1218 : Ref sig .tc := ⟨.hbm, 1486, rfl⟩
abbrev main_v1219 : Ref sig .tc := ⟨.hbm, 1487, rfl⟩
abbrev main_cst_240 : Ref sig .tc := ⟨.hbm, 1488, rfl⟩
abbrev main_v1220 : Ref sig .tc := ⟨.hbm, 1489, rfl⟩
abbrev main_v1221 : Ref sig .tc := ⟨.hbm, 1490, rfl⟩
abbrev main_cst_241 : Ref sig .tc := ⟨.hbm, 1491, rfl⟩
abbrev main_v1222 : Ref sig .tc := ⟨.hbm, 1492, rfl⟩
abbrev main_v1223 : Ref sig .tc := ⟨.hbm, 1493, rfl⟩
abbrev main_v1224 : Ref sig .tc := ⟨.hbm, 1494, rfl⟩
abbrev main_v1225 : Ref sig .tc := ⟨.hbm, 1495, rfl⟩
abbrev main_v1226 : Ref sig .tc := ⟨.hbm, 1496, rfl⟩
abbrev main_cst_242 : Ref sig .tc := ⟨.hbm, 1497, rfl⟩
abbrev main_v1227 : Ref sig .tc := ⟨.hbm, 1498, rfl⟩
abbrev main_v1228 : Ref sig .tc := ⟨.hbm, 1499, rfl⟩
abbrev main_v1229 : Ref sig .tc := ⟨.hbm, 1500, rfl⟩
abbrev main_v1230 : Ref sig .tc := ⟨.hbm, 1501, rfl⟩
abbrev main_v1231 : Ref sig .tc := ⟨.hbm, 1502, rfl⟩
abbrev main_v1232 : Ref sig .tc := ⟨.hbm, 1503, rfl⟩
abbrev main_v1233 : Ref sig .tc := ⟨.hbm, 1504, rfl⟩
abbrev main_v1234 : Ref sig .tc := ⟨.hbm, 1505, rfl⟩
abbrev main_cst_243 : Ref sig .tc := ⟨.hbm, 1506, rfl⟩
abbrev main_v1235 : Ref sig .tc := ⟨.hbm, 1507, rfl⟩
abbrev main_v1236 : Ref sig .tc := ⟨.hbm, 1508, rfl⟩
abbrev main_cst_244 : Ref sig .tc := ⟨.hbm, 1509, rfl⟩
abbrev main_v1237 : Ref sig .tc := ⟨.hbm, 1510, rfl⟩
abbrev main_cst_245 : Ref sig .tc := ⟨.hbm, 1511, rfl⟩
abbrev main_v1238 : Ref sig .tc := ⟨.hbm, 1512, rfl⟩
abbrev main_v1239 : Ref sig .tc := ⟨.hbm, 1513, rfl⟩
abbrev main_v1240 : Ref sig .tc := ⟨.hbm, 1514, rfl⟩
abbrev main_v1241 : Ref sig .tc := ⟨.hbm, 1515, rfl⟩
abbrev main_v1242 : Ref sig .tc := ⟨.hbm, 1516, rfl⟩
abbrev main_v1243 : Ref sig .tc := ⟨.hbm, 1517, rfl⟩
abbrev main_cst_246 : Ref sig .tc := ⟨.hbm, 1518, rfl⟩
abbrev main_v1244 : Ref sig .tc := ⟨.hbm, 1519, rfl⟩
abbrev main_v1245 : Ref sig .tc := ⟨.hbm, 1520, rfl⟩
abbrev main_v1246 : Ref sig .tc := ⟨.hbm, 1521, rfl⟩
abbrev main_v1247 : Ref sig .tc := ⟨.hbm, 1522, rfl⟩
abbrev main_v1248 : Ref sig .tc := ⟨.hbm, 1523, rfl⟩
abbrev main_v1249 : Ref sig .tc := ⟨.hbm, 1524, rfl⟩
abbrev main_v1250 : Ref sig .tc := ⟨.hbm, 1525, rfl⟩
abbrev main_cst_247 : Ref sig .tc := ⟨.hbm, 1526, rfl⟩
abbrev main_v1251 : Ref sig .tc := ⟨.hbm, 1527, rfl⟩
abbrev main_v1252 : Ref sig .tc := ⟨.hbm, 1528, rfl⟩
abbrev main_cst_248 : Ref sig .tc := ⟨.hbm, 1529, rfl⟩
abbrev main_v1253 : Ref sig .tc := ⟨.hbm, 1530, rfl⟩
abbrev main_v1254 : Ref sig .tc := ⟨.hbm, 1531, rfl⟩
abbrev main_cst_249 : Ref sig .tc := ⟨.hbm, 1532, rfl⟩
abbrev main_v1255 : Ref sig .tc := ⟨.hbm, 1533, rfl⟩
abbrev main_v1256 : Ref sig .tc := ⟨.hbm, 1534, rfl⟩
abbrev main_v1257 : Ref sig .tc := ⟨.hbm, 1535, rfl⟩
abbrev main_v1258 : Ref sig .tc := ⟨.hbm, 1536, rfl⟩
abbrev main_v1259 : Ref sig .tc := ⟨.hbm, 1537, rfl⟩
abbrev main_cst_250 : Ref sig .tc := ⟨.hbm, 1538, rfl⟩
abbrev main_v1260 : Ref sig .tc := ⟨.hbm, 1539, rfl⟩
abbrev main_v1261 : Ref sig .tc := ⟨.hbm, 1540, rfl⟩
abbrev main_v1262 : Ref sig .tc := ⟨.hbm, 1541, rfl⟩
abbrev main_v1263 : Ref sig .tc := ⟨.hbm, 1542, rfl⟩
abbrev main_v1264 : Ref sig .tc := ⟨.hbm, 1543, rfl⟩
abbrev main_v1265 : Ref sig .tc := ⟨.hbm, 1544, rfl⟩
abbrev main_v1266 : Ref sig .tc := ⟨.hbm, 1545, rfl⟩
abbrev main_v1267 : Ref sig .tc := ⟨.hbm, 1546, rfl⟩
abbrev main_cst_251 : Ref sig .tc := ⟨.hbm, 1547, rfl⟩
abbrev main_v1268 : Ref sig .tc := ⟨.hbm, 1548, rfl⟩
abbrev main_v1269 : Ref sig .tc := ⟨.hbm, 1549, rfl⟩
abbrev main_cst_252 : Ref sig .tc := ⟨.hbm, 1550, rfl⟩
abbrev main_v1270 : Ref sig .tc := ⟨.hbm, 1551, rfl⟩
abbrev main_cst_253 : Ref sig .tc := ⟨.hbm, 1552, rfl⟩
abbrev main_v1271 : Ref sig .tc := ⟨.hbm, 1553, rfl⟩
abbrev main_v1272 : Ref sig .tc := ⟨.hbm, 1554, rfl⟩
abbrev main_v1273 : Ref sig .tc := ⟨.hbm, 1555, rfl⟩
abbrev main_v1274 : Ref sig .tc := ⟨.hbm, 1556, rfl⟩
abbrev main_v1275 : Ref sig .tc := ⟨.hbm, 1557, rfl⟩
abbrev main_v1276 : Ref sig .tc := ⟨.hbm, 1558, rfl⟩
abbrev main_cst_254 : Ref sig .tc := ⟨.hbm, 1559, rfl⟩
abbrev main_v1277 : Ref sig .tc := ⟨.hbm, 1560, rfl⟩
abbrev main_v1278 : Ref sig .tc := ⟨.hbm, 1561, rfl⟩
abbrev main_v1279 : Ref sig .tc := ⟨.hbm, 1562, rfl⟩
abbrev main_v1280 : Ref sig .tc := ⟨.hbm, 1563, rfl⟩
abbrev main_v1281 : Ref sig .tc := ⟨.hbm, 1564, rfl⟩
abbrev main_v1282 : Ref sig .tc := ⟨.hbm, 1565, rfl⟩
abbrev main_v1283 : Ref sig .tc := ⟨.hbm, 1566, rfl⟩
abbrev main_cst_255 : Ref sig .tc := ⟨.hbm, 1567, rfl⟩
abbrev main_v1284 : Ref sig .tc := ⟨.hbm, 1568, rfl⟩
abbrev main_v1285 : Ref sig .tc := ⟨.hbm, 1569, rfl⟩
abbrev main_cst_256 : Ref sig .tc := ⟨.hbm, 1570, rfl⟩
abbrev main_v1286 : Ref sig .tc := ⟨.hbm, 1571, rfl⟩
abbrev main_v1287 : Ref sig .tc := ⟨.hbm, 1572, rfl⟩
abbrev main_cst_257 : Ref sig .tc := ⟨.hbm, 1573, rfl⟩
abbrev main_v1288 : Ref sig .tc := ⟨.hbm, 1574, rfl⟩
abbrev main_v1289 : Ref sig .tc := ⟨.hbm, 1575, rfl⟩
abbrev main_v1290 : Ref sig .tc := ⟨.hbm, 1576, rfl⟩
abbrev main_v1291 : Ref sig .tc := ⟨.hbm, 1577, rfl⟩
abbrev main_v1292 : Ref sig .tc := ⟨.hbm, 1578, rfl⟩
abbrev main_cst_258 : Ref sig .tc := ⟨.hbm, 1579, rfl⟩
abbrev main_v1293 : Ref sig .tc := ⟨.hbm, 1580, rfl⟩
abbrev main_v1294 : Ref sig .tc := ⟨.hbm, 1581, rfl⟩
abbrev main_v1295 : Ref sig .tc := ⟨.hbm, 1582, rfl⟩
abbrev main_v1296 : Ref sig .tc := ⟨.hbm, 1583, rfl⟩
abbrev main_v1297 : Ref sig .tc := ⟨.hbm, 1584, rfl⟩
abbrev main_v1298 : Ref sig .tc := ⟨.hbm, 1585, rfl⟩
abbrev main_c_259 : Ref sig .tc := ⟨.hbm, 1586, rfl⟩
abbrev main_call15_v0 : Ref sig .tc := ⟨.hbm, 1587, rfl⟩
abbrev main_v1299 : Ref sig .tc := ⟨.hbm, 1588, rfl⟩
abbrev main_v1300 : Ref sig .tc := ⟨.hbm, 1589, rfl⟩
abbrev main_v1301 : Ref sig .tc := ⟨.hbm, 1590, rfl⟩
abbrev main_v1302 : Ref sig .tc := ⟨.hbm, 1591, rfl⟩
abbrev main_v1303 : Ref sig .tc := ⟨.hbm, 1592, rfl⟩
abbrev main_v1304 : Ref sig .tc := ⟨.hbm, 1593, rfl⟩
abbrev main_v1305 : Ref sig .tc := ⟨.hbm, 1594, rfl⟩
abbrev main_v1306 : Ref sig .tc := ⟨.hbm, 1595, rfl⟩
abbrev main_v1307 : Ref sig .tc := ⟨.hbm, 1596, rfl⟩
abbrev main_v1308 : Ref sig .tc := ⟨.hbm, 1597, rfl⟩
abbrev main_v1309 : Ref sig .tc := ⟨.hbm, 1598, rfl⟩
abbrev main_v1310 : Ref sig .tc := ⟨.hbm, 1599, rfl⟩
abbrev main_v1311 : Ref sig .tc := ⟨.hbm, 1600, rfl⟩
abbrev main_v1312 : Ref sig .tc := ⟨.hbm, 1601, rfl⟩
abbrev main_v1313 : Ref sig .tc := ⟨.hbm, 1602, rfl⟩
abbrev main_v1314 : Ref sig .tc := ⟨.hbm, 1603, rfl⟩
abbrev main_v1315 : Ref sig .tc := ⟨.hbm, 1604, rfl⟩
abbrev main_v1316 : Ref sig .tc := ⟨.hbm, 1605, rfl⟩
abbrev main_v1317 : Ref sig .tc := ⟨.hbm, 1606, rfl⟩
abbrev main_v1318 : Ref sig .tc := ⟨.hbm, 1607, rfl⟩
abbrev main_v1319 : Ref sig .tc := ⟨.hbm, 1608, rfl⟩
abbrev main_v1320 : Ref sig .tc := ⟨.hbm, 1609, rfl⟩
abbrev main_v1321 : Ref sig .tc := ⟨.hbm, 1610, rfl⟩
abbrev main_v1322 : Ref sig .tc := ⟨.hbm, 1611, rfl⟩
abbrev main_v1323 : Ref sig .tc := ⟨.hbm, 1612, rfl⟩
abbrev main_v1324 : Ref sig .tc := ⟨.hbm, 1613, rfl⟩
abbrev main_cst_260 : Ref sig .tc := ⟨.hbm, 1614, rfl⟩
abbrev main_v1325 : Ref sig .tc := ⟨.hbm, 1615, rfl⟩
abbrev main_cst_261 : Ref sig .tc := ⟨.hbm, 1616, rfl⟩
abbrev main_v1326 : Ref sig .tc := ⟨.hbm, 1617, rfl⟩
abbrev main_cst_262 : Ref sig .tc := ⟨.hbm, 1618, rfl⟩
abbrev main_v1327 : Ref sig .tc := ⟨.hbm, 1619, rfl⟩
abbrev main_v1328 : Ref sig .tc := ⟨.hbm, 1620, rfl⟩
abbrev main_v1329 : Ref sig .tc := ⟨.hbm, 1621, rfl⟩
abbrev main_v1330 : Ref sig .tc := ⟨.hbm, 1622, rfl⟩
abbrev main_v1331 : Ref sig .tc := ⟨.hbm, 1623, rfl⟩
abbrev main_cst_263 : Ref sig .tc := ⟨.hbm, 1624, rfl⟩
abbrev main_v1332 : Ref sig .tc := ⟨.hbm, 1625, rfl⟩
abbrev main_v1333 : Ref sig .tc := ⟨.hbm, 1626, rfl⟩
abbrev main_v1334 : Ref sig .tc := ⟨.hbm, 1627, rfl⟩
abbrev main_v1335 : Ref sig .tc := ⟨.hbm, 1628, rfl⟩
abbrev main_v1336 : Ref sig .tc := ⟨.hbm, 1629, rfl⟩
abbrev main_v1337 : Ref sig .tc := ⟨.hbm, 1630, rfl⟩
abbrev main_cst_264 : Ref sig .tc := ⟨.hbm, 1631, rfl⟩
abbrev main_v1338 : Ref sig .tc := ⟨.hbm, 1632, rfl⟩
abbrev main_v1339 : Ref sig .tc := ⟨.hbm, 1633, rfl⟩
abbrev main_cst_265 : Ref sig .tc := ⟨.hbm, 1634, rfl⟩
abbrev main_v1340 : Ref sig .tc := ⟨.hbm, 1635, rfl⟩
abbrev main_v1341 : Ref sig .tc := ⟨.hbm, 1636, rfl⟩
abbrev main_cst_266 : Ref sig .tc := ⟨.hbm, 1637, rfl⟩
abbrev main_v1342 : Ref sig .tc := ⟨.hbm, 1638, rfl⟩
abbrev main_v1343 : Ref sig .tc := ⟨.hbm, 1639, rfl⟩
abbrev main_v1344 : Ref sig .tc := ⟨.hbm, 1640, rfl⟩
abbrev main_v1345 : Ref sig .tc := ⟨.hbm, 1641, rfl⟩
abbrev main_v1346 : Ref sig .tc := ⟨.hbm, 1642, rfl⟩
abbrev main_cst_267 : Ref sig .tc := ⟨.hbm, 1643, rfl⟩
abbrev main_v1347 : Ref sig .tc := ⟨.hbm, 1644, rfl⟩
abbrev main_v1348 : Ref sig .tc := ⟨.hbm, 1645, rfl⟩
abbrev main_v1349 : Ref sig .tc := ⟨.hbm, 1646, rfl⟩
abbrev main_v1350 : Ref sig .tc := ⟨.hbm, 1647, rfl⟩
abbrev main_v1351 : Ref sig .tc := ⟨.hbm, 1648, rfl⟩
abbrev main_v1352 : Ref sig .tc := ⟨.hbm, 1649, rfl⟩
abbrev main_v1353 : Ref sig .tc := ⟨.hbm, 1650, rfl⟩
abbrev main_v1354 : Ref sig .tc := ⟨.hbm, 1651, rfl⟩
abbrev main_cst_268 : Ref sig .tc := ⟨.hbm, 1652, rfl⟩
abbrev main_v1355 : Ref sig .tc := ⟨.hbm, 1653, rfl⟩
abbrev main_v1356 : Ref sig .tc := ⟨.hbm, 1654, rfl⟩
abbrev main_cst_269 : Ref sig .tc := ⟨.hbm, 1655, rfl⟩
abbrev main_v1357 : Ref sig .tc := ⟨.hbm, 1656, rfl⟩
abbrev main_cst_270 : Ref sig .tc := ⟨.hbm, 1657, rfl⟩
abbrev main_v1358 : Ref sig .tc := ⟨.hbm, 1658, rfl⟩
abbrev main_v1359 : Ref sig .tc := ⟨.hbm, 1659, rfl⟩
abbrev main_v1360 : Ref sig .tc := ⟨.hbm, 1660, rfl⟩
abbrev main_v1361 : Ref sig .tc := ⟨.hbm, 1661, rfl⟩
abbrev main_v1362 : Ref sig .tc := ⟨.hbm, 1662, rfl⟩
abbrev main_cst_271 : Ref sig .tc := ⟨.hbm, 1663, rfl⟩
abbrev main_v1363 : Ref sig .tc := ⟨.hbm, 1664, rfl⟩
abbrev main_v1364 : Ref sig .tc := ⟨.hbm, 1665, rfl⟩
abbrev main_v1365 : Ref sig .tc := ⟨.hbm, 1666, rfl⟩
abbrev main_v1366 : Ref sig .tc := ⟨.hbm, 1667, rfl⟩
abbrev main_v1367 : Ref sig .tc := ⟨.hbm, 1668, rfl⟩
abbrev main_v1368 : Ref sig .tc := ⟨.hbm, 1669, rfl⟩
abbrev main_cst_272 : Ref sig .tc := ⟨.hbm, 1670, rfl⟩
abbrev main_v1369 : Ref sig .tc := ⟨.hbm, 1671, rfl⟩
abbrev main_v1370 : Ref sig .tc := ⟨.hbm, 1672, rfl⟩
abbrev main_cst_273 : Ref sig .tc := ⟨.hbm, 1673, rfl⟩
abbrev main_v1371 : Ref sig .tc := ⟨.hbm, 1674, rfl⟩
abbrev main_v1372 : Ref sig .tc := ⟨.hbm, 1675, rfl⟩
abbrev main_cst_274 : Ref sig .tc := ⟨.hbm, 1676, rfl⟩
abbrev main_v1373 : Ref sig .tc := ⟨.hbm, 1677, rfl⟩
abbrev main_v1374 : Ref sig .tc := ⟨.hbm, 1678, rfl⟩
abbrev main_v1375 : Ref sig .tc := ⟨.hbm, 1679, rfl⟩
abbrev main_v1376 : Ref sig .tc := ⟨.hbm, 1680, rfl⟩
abbrev main_v1377 : Ref sig .tc := ⟨.hbm, 1681, rfl⟩
abbrev main_cst_275 : Ref sig .tc := ⟨.hbm, 1682, rfl⟩
abbrev main_v1378 : Ref sig .tc := ⟨.hbm, 1683, rfl⟩
abbrev main_v1379 : Ref sig .tc := ⟨.hbm, 1684, rfl⟩
abbrev main_v1380 : Ref sig .tc := ⟨.hbm, 1685, rfl⟩
abbrev main_v1381 : Ref sig .tc := ⟨.hbm, 1686, rfl⟩
abbrev main_v1382 : Ref sig .tc := ⟨.hbm, 1687, rfl⟩
abbrev main_v1383 : Ref sig .tc := ⟨.hbm, 1688, rfl⟩
abbrev main_v1384 : Ref sig .tc := ⟨.hbm, 1689, rfl⟩
abbrev main_v1385 : Ref sig .tc := ⟨.hbm, 1690, rfl⟩
abbrev main_cst_276 : Ref sig .tc := ⟨.hbm, 1691, rfl⟩
abbrev main_v1386 : Ref sig .tc := ⟨.hbm, 1692, rfl⟩
abbrev main_v1387 : Ref sig .tc := ⟨.hbm, 1693, rfl⟩
abbrev main_cst_277 : Ref sig .tc := ⟨.hbm, 1694, rfl⟩
abbrev main_v1388 : Ref sig .tc := ⟨.hbm, 1695, rfl⟩
abbrev main_cst_278 : Ref sig .tc := ⟨.hbm, 1696, rfl⟩
abbrev main_v1389 : Ref sig .tc := ⟨.hbm, 1697, rfl⟩
abbrev main_v1390 : Ref sig .tc := ⟨.hbm, 1698, rfl⟩
abbrev main_v1391 : Ref sig .tc := ⟨.hbm, 1699, rfl⟩
abbrev main_v1392 : Ref sig .tc := ⟨.hbm, 1700, rfl⟩
abbrev main_v1393 : Ref sig .tc := ⟨.hbm, 1701, rfl⟩
abbrev main_cst_279 : Ref sig .tc := ⟨.hbm, 1702, rfl⟩
abbrev main_v1394 : Ref sig .tc := ⟨.hbm, 1703, rfl⟩
abbrev main_v1395 : Ref sig .tc := ⟨.hbm, 1704, rfl⟩
abbrev main_v1396 : Ref sig .tc := ⟨.hbm, 1705, rfl⟩
abbrev main_v1397 : Ref sig .tc := ⟨.hbm, 1706, rfl⟩
abbrev main_v1398 : Ref sig .tc := ⟨.hbm, 1707, rfl⟩
abbrev main_v1399 : Ref sig .tc := ⟨.hbm, 1708, rfl⟩
abbrev main_cst_280 : Ref sig .tc := ⟨.hbm, 1709, rfl⟩
abbrev main_v1400 : Ref sig .tc := ⟨.hbm, 1710, rfl⟩
abbrev main_v1401 : Ref sig .tc := ⟨.hbm, 1711, rfl⟩
abbrev main_cst_281 : Ref sig .tc := ⟨.hbm, 1712, rfl⟩
abbrev main_v1402 : Ref sig .tc := ⟨.hbm, 1713, rfl⟩
abbrev main_v1403 : Ref sig .tc := ⟨.hbm, 1714, rfl⟩
abbrev main_cst_282 : Ref sig .tc := ⟨.hbm, 1715, rfl⟩
abbrev main_v1404 : Ref sig .tc := ⟨.hbm, 1716, rfl⟩
abbrev main_v1405 : Ref sig .tc := ⟨.hbm, 1717, rfl⟩
abbrev main_v1406 : Ref sig .tc := ⟨.hbm, 1718, rfl⟩
abbrev main_v1407 : Ref sig .tc := ⟨.hbm, 1719, rfl⟩
abbrev main_v1408 : Ref sig .tc := ⟨.hbm, 1720, rfl⟩
abbrev main_cst_283 : Ref sig .tc := ⟨.hbm, 1721, rfl⟩
abbrev main_v1409 : Ref sig .tc := ⟨.hbm, 1722, rfl⟩
abbrev main_v1410 : Ref sig .tc := ⟨.hbm, 1723, rfl⟩
abbrev main_v1411 : Ref sig .tc := ⟨.hbm, 1724, rfl⟩
abbrev main_v1412 : Ref sig .tc := ⟨.hbm, 1725, rfl⟩
abbrev main_v1413 : Ref sig .tc := ⟨.hbm, 1726, rfl⟩
abbrev main_v1414 : Ref sig .tc := ⟨.hbm, 1727, rfl⟩
abbrev main_v1415 : Ref sig .tc := ⟨.hbm, 1728, rfl⟩
abbrev main_cst_284 : Ref sig .tc := ⟨.hbm, 1729, rfl⟩
abbrev main_v1416 : Ref sig .tc := ⟨.hbm, 1730, rfl⟩
abbrev main_v1417 : Ref sig .tc := ⟨.hbm, 1731, rfl⟩
abbrev main_cst_285 : Ref sig .tc := ⟨.hbm, 1732, rfl⟩
abbrev main_v1418 : Ref sig .tc := ⟨.hbm, 1733, rfl⟩
abbrev main_v1419 : Ref sig .tc := ⟨.hbm, 1734, rfl⟩
abbrev main_v1420 : Ref sig .tc := ⟨.hbm, 1735, rfl⟩

abbrev nD : Nat := 1
abbrev τ : Topo := Topo.v7x

variable {F : FTy → Type} [FloatOps F]
-- ==== Proof.Shapes.lean ====
/- Shapes by their sizes, and the shape conditions that the layer's operations state, at any sizes. -/
module

public import Idealize.ShloMosaic.Adequacy
public import Idealize.ShloMosaic.Init
public import Idealize.ShloMosaic.Lib.Pipeline.FrameBody
public import Idealize.ShloMosaic.Lib.ValueIdx

@[expose] public section

namespace Caps

open Idealize.ShloMosaic

/-- The shape of one axis. -/
abbrev s1 (a : Nat) : Shape := ⟨1, ![a]⟩
/-- The shape of two axes. -/
abbrev s2 (a b : Nat) : Shape := ⟨2, ![a, b]⟩
/-- The shape of three axes. -/
abbrev s3 (a b c : Nat) : Shape := ⟨3, ![a, b, c]⟩
/-- The shape of four axes. -/
abbrev s4 (a b c d : Nat) : Shape := ⟨4, ![a, b, c, d]⟩

theorem numel1 (a : Nat) : (s1 a).numel = a := by simp [Shape.numel]
theorem numel2 (a b : Nat) : (s2 a b).numel = a * b := by simp [Shape.numel]
theorem numel3 (a b c : Nat) : (s3 a b c).numel = a * b * c := by
  simp [Shape.numel, Fin.prod_univ_succ, Nat.mul_assoc]
theorem numel4 (a b c d : Nat) : (s4 a b c d).numel = a * b * c * d := by
  simp [Shape.numel, Fin.prod_univ_succ, Nat.mul_assoc]

theorem cast_1ab_ab (a b : Nat) : (s3 1 a b).ShapeCasts (s2 a b) := by
  unfold Shape.ShapeCasts; rw [numel2, numel3, Nat.one_mul]
theorem cast_1abc_abc (a b c : Nat) : (s4 1 a b c).ShapeCasts (s3 a b c) := by
  unfold Shape.ShapeCasts; rw [numel3, numel4, Nat.one_mul]
theorem cast_abc_1abc (a b c : Nat) : (s3 a b c).ShapeCasts (s4 1 a b c) := by
  unfold Shape.ShapeCasts; rw [numel3, numel4, Nat.one_mul]
theorem cast_split (a b c : Nat) : (s2 (a * b) c).ShapeCasts (s3 a b c) := by
  unfold Shape.ShapeCasts; rw [numel2, numel3]
theorem cast_join (a b c : Nat) : (s3 a b c).ShapeCasts (s2 (a * b) c) := by
  unfold Shape.ShapeCasts; rw [numel2, numel3]
theorem cast_ab_a1b (a b : Nat) : (s2 a b).ShapeCasts (s3 a 1 b) := by
  unfold Shape.ShapeCasts; rw [numel2, numel3, Nat.mul_one]
theorem cast_a_1a (a : Nat) : (s1 a).ShapeCasts (s2 1 a) := by
  unfold Shape.ShapeCasts; rw [numel2, numel1, Nat.one_mul]

theorem bc_1b_ab (a b : Nat) : (s2 1 b).Broadcasts (s2 a b) := by
  refine ⟨Nat.le_refl _, fun x => ?_⟩
  match x with
  | ⟨0, _⟩ => exact Or.inl rfl
  | ⟨1, _⟩ => exact Or.inr fun _ => rfl
theorem bc_a1c_abc (a b c : Nat) : (s3 a 1 c).Broadcasts (s3 a b c) := by
  refine ⟨Nat.le_refl _, fun x => ?_⟩
  match x with
  | ⟨0, _⟩ => exact Or.inr fun _ => rfl
  | ⟨1, _⟩ => exact Or.inl rfl
  | ⟨2, _⟩ => exact Or.inr fun _ => rfl

theorem iota_lane (S : Nat) : (s2 1 S).Iotas .tc 32 [1] :=
  ⟨by simp, fun _ => ⟨Or.inr rfl, Nat.le_refl _⟩, fun h => absurd rfl h⟩

theorem red0 (a b : Nat) : (s2 a b).Reduces [0] (s1 b) :=
  ⟨rfl, Nat.one_pos, fun x => by match x with | ⟨0, _⟩ => rfl⟩
theorem red1 (a b c : Nat) : (s3 a b c).Reduces [1] (s2 a c) :=
  ⟨rfl, Nat.two_pos, fun x => by match x with | ⟨0, _⟩ => rfl | ⟨1, _⟩ => rfl⟩

theorem slices2 {C W z S : Nat} (o p : Nat) (h0 : o + z ≤ C) (h1 : p + S ≤ W) : (s2 C W).Slices ![o, p] (s2 z S) :=
  ⟨rfl, fun x => by match x with | ⟨0, _⟩ => exact h0 | ⟨1, _⟩ => exact h1⟩

theorem inb2 {C W z S : Nat} (o p : Nat) (h0 : o + z ≤ C) (h1 : p + S ≤ W) :
    ∀ a, (![o, p] : Fin 2 → Nat) a + (s2 z S).size a ≤ (s2 C W).size a :=
  fun x => by match x with | ⟨0, _⟩ => exact h0 | ⟨1, _⟩ => exact h1
theorem inb3 {t a b : Nat} (g : Fin t) : ∀ x, (![g.1, 0, 0] : Fin 3 → Nat) x + (s3 1 a b).size x ≤ (s3 t a b).size x :=
  fun x => by
    match x with
    | ⟨0, _⟩ => exact g.2
    | ⟨1, _⟩ => exact (Nat.zero_add _).le
    | ⟨2, _⟩ => exact (Nat.zero_add _).le
theorem inb4 {t a b c : Nat} (g : Fin t) :
    ∀ x, (![g.1, 0, 0, 0] : Fin 4 → Nat) x + (s4 1 a b c).size x ≤ (s4 t a b c).size x :=
  fun x => by
    match x with
    | ⟨0, _⟩ => exact g.2
    | ⟨1, _⟩ => exact (Nat.zero_add _).le
    | ⟨2, _⟩ => exact (Nat.zero_add _).le
    | ⟨3, _⟩ => exact (Nat.zero_add _).le

theorem mul_add_le {t z : Nat} (g : Fin t) : g.1 * z + z ≤ t * z := by
  have h := Nat.mul_le_mul_right z g.2
  rwa [Nat.succ_mul] at h

end Caps
-- ==== Proof.Body.lean ====
/- One layer's kernel body as a function of its sizes: the masked, shifted rows of the input, the product of each
   input type's weights with them, and the routing. -/
module

public import proofs.«01_k».proof.Proof.Shapes

@[expose] public section

noncomputable section

namespace Caps

open Idealize.ShloMosaic

variable {F : FTy → Type} [FloatOps F]

/-- A tap: the lane at which its slice begins, and the words added to the row and column numbers to mask it (none where
    the tap stays in its row and column). -/
structure Tap (P : Nat) where
  off : Nat
  hoff : off ≤ P
  m : Option (BitVec 32 × BitVec 32)

/-- The lanes' numbers. -/
def lanes (S : Nat) : IVec (s2 1 S) 32 := iota .tc (s2 1 S) 32 [1] (iota_lane S)
/-- The lanes' columns. -/
def xg (S : Nat) : IVec (s2 1 S) 32 := andi (lanes S) (broadcast (s2 1 S) 15#32)
/-- The lanes' rows. -/
def yg (S : Nat) : IVec (s2 1 S) 32 := andi (shrsi (lanes S) (broadcast (s2 1 S) 4#32)) (broadcast (s2 1 S) 15#32)

/-- One where the lane moved by (dy, dx) stays in the plane, zero elsewhere. -/
def mask (S : Nat) (dy dx : BitVec 32) : FVec F (s2 1 S) .f32 :=
  sitofp .f32 (extui 32 (andi (andi (andi (cmpi .sge (addi (xg S) (broadcast (s2 1 S) dx)) (broadcast (s2 1 S) 0#32))
    (cmpi .slt (addi (xg S) (broadcast (s2 1 S) dx)) (broadcast (s2 1 S) 16#32)))
    (cmpi .sge (addi (yg S) (broadcast (s2 1 S) dy)) (broadcast (s2 1 S) 0#32)))
    (cmpi .slt (addi (yg S) (broadcast (s2 1 S) dy)) (broadcast (s2 1 S) 16#32))) (by decide : 1 < 32))

section Rows
variable {t0 z0 P : Nat} (S : Nat)

/-- Tap t of input type g: z0 rows of the input moved by the tap, masked. -/
def src (u : FVec F (s2 (t0 * z0) (S + P)) .f32) (g : Fin t0) (t : Tap P) : FVec F (s2 z0 S) .f32 :=
  match t.m with
  | none => extractStridedSlice (s2 z0 S) ![g.1 * z0, t.off] u
      (slices2 _ _ (mul_add_le g) (by have := t.hoff; omega))
  | some q => mulf (extractStridedSlice (s2 z0 S) ![g.1 * z0, t.off] u
      (slices2 _ _ (mul_add_le g) (by have := t.hoff; omega))) (broadcastTo (s2 z0 S) (mask S q.1 q.2) (bc_1b_ab z0 S))

/-- The stores of type g's taps, the last first, over the stores L before them. -/
def addTaps (u : FVec F (s2 (t0 * z0) (S + P)) .f32) (g : Fin t0) (nt : Nat) :
    (ts : List (Tap P)) → (ti : Nat) → ti + ts.length ≤ nt → List (View.Piece (Elt F) (s2 (nt * z0) S) .f32) →
      List (View.Piece (Elt F) (s2 (nt * z0) S) .f32)
  | [], _, _, L => L
  | t :: ts, ti, h, L => addTaps u g nt ts (ti + 1) (by simp only [List.length_cons] at h; omega)
      (⟨Rect.unit ![ti * z0, 0] (s2 z0 S).size (inb2 _ _
          (mul_add_le (⟨ti, by simp only [List.length_cons] at h; omega⟩ : Fin nt)) (Nat.zero_add S).le),
        shapeCast (s2 z0 S) (src S u g t) rfl⟩ :: L)

/-- The stores of the taps of all types below n. -/
def colL (u : FVec F (s2 (t0 * z0) (S + P)) .f32) (taps : List (Tap P)) (nt : Nat) (hn : taps.length ≤ nt) :
    (n : Nat) → n ≤ t0 → List (View.Piece (Elt F) (s2 (nt * z0) S) .f32)
  | 0, _ => []
  | n + 1, h => addTaps S u ⟨n, h⟩ nt taps 0 (by omega) (colL u taps nt hn n (Nat.le_of_succ_le h))

end Rows

section Whole
variable {t0 z0 P : Nat} (t1 z1 S nt : Nat) {sig : RefSig}

/-- The whole input block as the body loads it. -/
def uload (arg1 : Memref sig .tc .vmem (s3 1 (t0 * z0) (S + P)) .f32) (h1 : arg1.IsWhole)
    (x0 : FVec F (s3 1 (t0 * z0) (S + P)) .f32) : FVec F (s2 (t0 * z0) (S + P)) .f32 :=
  shapeCast (s2 (t0 * z0) (S + P))
    (View.readAt (Elt F) arg1.view (Rect.unit ![0, 0, 0] (s3 1 (t0 * z0) (S + P)).size
      (inb3 (0 : Fin 1))).toLoadRect (h1.unread x0)) (cast_1ab_ab _ _)

/-- The weights of input type g as the body loads them. -/
def wload {K M : Nat} (arg2 : Memref sig .tc .vmem (s3 t0 M K) .bf16) (h2 : arg2.IsWhole)
    (x1 : FVec F (s3 t0 M K) .bf16) (g : Fin t0) : FVec F (s3 1 M K) .bf16 :=
  View.readAt (Elt F) arg2.view (Rect.unit (s := s3 t0 M K) ![g.1, 0, 0] (s3 1 M K).size (inb3 g)).toLoadRect (h2.unread x1)

/-- The rows of type g gathered in the scratch buffer. -/
def col (arg5 : Memref sig .tc .vmem (s2 (nt * z0) S) .f32) (u : FVec F (s2 (t0 * z0) (S + P)) .f32)
    (taps : List (Tap P)) (hn : taps.length ≤ nt) (g : Fin t0) : FVec F (s2 (nt * z0) S) .f32 :=
  arg5.view.readCov (colL S u taps nt hn (g.1 + 1) g.2)
    (Rect.unit ![0, 0] (s2 (nt * z0) S).size (inb2 _ _ (Nat.zero_add _).le (Nat.zero_add S).le)).toLoadRect

/-- The product of type g. -/
def prod {K M : Nat} (w : FVec F (s3 1 M K) .bf16) (cl : FVec F (s2 K S) .f32) : FVec F (s2 M S) .f32 :=
  matmul (DotDims.plain M K S) none (shapeCast (s2 M K) w (cast_1ab_ab _ _))
    (truncf .bf16 cl (by decide : FTy.bf16.bits < FTy.f32.bits)) (constant (s2 M S) .f32 0x00000000#32)

/-- The stores of the products of all types below n. -/
def uhatL (q : Fin t0 → FVec F (s2 (t1 * z1) S) .f32) :
    (n : Nat) → n ≤ t0 → List (View.Piece (Elt F) (s4 t0 t1 z1 S) .f32)
  | 0, _ => []
  | n + 1, h => ⟨Rect.unit ![n, 0, 0, 0] (s4 1 t1 z1 S).size (inb4 (⟨n, h⟩ : Fin t0)),
      shapeCast (s4 1 t1 z1 S) (shapeCast (s3 t1 z1 S) (q ⟨n, h⟩) (cast_split _ _ _)) (cast_abc_1abc _ _ _)⟩ ::
      uhatL q n (Nat.le_of_succ_le h)

/-- The product of type g as the body loads it back. -/
def uhat (arg4 : Memref sig .tc .vmem (s4 t0 t1 z1 S) .f32) (q : Fin t0 → FVec F (s2 (t1 * z1) S) .f32) (g : Fin t0) :
    FVec F (s4 1 t1 z1 S) .f32 :=
  arg4.view.readCov (uhatL t1 z1 S q t0 (Nat.le_refl _)) (Rect.unit (s := s4 t0 t1 z1 S) ![g.1, 0, 0, 0] (s4 1 t1 z1 S).size (inb4 g)).toLoadRect

end Whole

section Routing
variable {t0 t1 z1 S : Nat} (br : FVec F (s2 1 S) .f32 → FVec F (s2 t1 S) .f32)

/-- A product loaded back, without its leading axis. -/
def uh3 (uh : Fin t0 → FVec F (s4 1 t1 z1 S) .f32) (g : Fin t0) : FVec F (s3 t1 z1 S) .f32 :=
  shapeCast (s3 t1 z1 S) (uh g) (cast_1abc_abc _ _ _)

/-- The exponentials of the softmax along the rows. -/
def smE (b : FVec F (s2 t1 S) .f32) : FVec F (s2 t1 S) .f32 :=
  exp (subf b (br (shapeCast (s2 1 S)
    (maximumf (broadcast (s1 S) (FloatOps.ofBits .f32 0xFF800000#32))
      (multiReduction .maximumf [0] (s1 S) b 0xFF800000#32 (red0 t1 S) (by decide) (by decide))) (cast_a_1a S))))

/-- The softmax along the rows. -/
def sm (b : FVec F (s2 t1 S) .f32) : FVec F (s2 t1 S) .f32 :=
  divf (smE br b) (br (shapeCast (s2 1 S)
    (multiReduction .add [0] (s1 S) (smE br b) 0x00000000#32 (red0 t1 S) (by decide) (by decide)) (cast_a_1a S)))

/-- One type's term of the weighted sum. -/
def term (uh : Fin t0 → FVec F (s4 1 t1 z1 S) .f32) (b : Fin t0 → FVec F (s2 t1 S) .f32) (g : Fin t0) :
    FVec F (s3 t1 z1 S) .f32 :=
  mulf (broadcastTo (s3 t1 z1 S) (shapeCast (s3 t1 1 S) (sm br (b g)) (cast_ab_a1b _ _)) (bc_a1c_abc t1 z1 S)) (uh3 uh g)

/-- The weighted sum of the types up to n. -/
def sacc (uh : Fin t0 → FVec F (s4 1 t1 z1 S) .f32) (b : Fin t0 → FVec F (s2 t1 S) .f32) :
    (n : Nat) → n < t0 → FVec F (s3 t1 z1 S) .f32
  | 0, h => term br uh b ⟨0, h⟩
  | n + 1, h => addf (sacc uh b n (Nat.lt_of_succ_lt h)) (term br uh b ⟨n + 1, h⟩)

/-- The squared lengths. -/
def n2 (s : FVec F (s3 t1 z1 S) .f32) : FVec F (s3 t1 1 S) .f32 :=
  shapeCast (s3 t1 1 S) (multiReduction .add [1] (s2 t1 S) (mulf s s) 0x00000000#32 (red1 t1 z1 S) (by decide) (by decide))
    (cast_ab_a1b _ _)

/-- The squashed vectors. -/
def squash (s : FVec F (s3 t1 z1 S) .f32) : FVec F (s3 t1 z1 S) .f32 :=
  mulf (mulf (broadcastTo (s3 t1 z1 S)
      (divf (n2 s) (addf (broadcast (s3 t1 1 S) (FloatOps.ofBits .f32 0x3F800000#32)) (n2 s))) (bc_a1c_abc t1 z1 S)) s)
    (broadcastTo (s3 t1 z1 S) (rsqrt (addf (n2 s) (broadcast (s3 t1 1 S) (FloatOps.ofBits .f32 814313567#32))))
      (bc_a1c_abc t1 z1 S))

/-- One pass: the squashed weighted sum. -/
def pass (h0 : 0 < t0) (uh : Fin t0 → FVec F (s4 1 t1 z1 S) .f32) (b : Fin t0 → FVec F (s2 t1 S) .f32) :
    FVec F (s3 t1 z1 S) .f32 :=
  squash (sacc br uh b (t0 - 1) (Nat.sub_lt h0 Nat.one_pos))

/-- The logits after a pass that gave v. -/
def agree (uh : Fin t0 → FVec F (s4 1 t1 z1 S) .f32) (b : Fin t0 → FVec F (s2 t1 S) .f32) (v : FVec F (s3 t1 z1 S) .f32)
    (g : Fin t0) : FVec F (s2 t1 S) .f32 :=
  addf (b g) (multiReduction .add [1] (s2 t1 S) (mulf (uh3 uh g) v) 0x00000000#32 (red1 t1 z1 S) (by decide) (by decide))

/-- The logits after n passes. -/
def logits (h0 : 0 < t0) (uh : Fin t0 → FVec F (s4 1 t1 z1 S) .f32) : Nat → Fin t0 → FVec F (s2 t1 S) .f32
  | 0 => fun _ => broadcast (s2 t1 S) (FloatOps.ofBits .f32 0x00000000#32)
  | n + 1 => agree uh (logits h0 uh n) (pass br h0 uh (logits h0 uh n))

/-- The result of n + 1 passes. -/
def routed (h0 : 0 < t0) (n : Nat) (uh : Fin t0 → FVec F (s4 1 t1 z1 S) .f32) : FVec F (s3 t1 z1 S) .f32 :=
  pass br h0 uh (logits br h0 uh n)

/-- The lengths of the vectors of the one type there is. -/
def normOut (v : FVec F (s3 1 z1 S) .f32) : FVec F (s2 1 S) .f32 :=
  sqrt (addf (shapeCast (s2 1 S) (multiReduction .add [0] (s1 S)
      (mulf (shapeCast (s2 z1 S) v (cast_1ab_ab _ _)) (shapeCast (s2 z1 S) v (cast_1ab_ab _ _))) 0x00000000#32
      (red0 z1 S) (by decide) (by decide)) (cast_a_1a S)) (broadcast (s2 1 S) (FloatOps.ofBits .f32 814313567#32)))

end Routing

/-- A layer's block: the routed products. -/
def bodyOut {t0 z0 P : Nat} (t1 z1 S nt n : Nat) (h0 : 0 < t0) {sig : RefSig} (taps : List (Tap P)) (hn : taps.length ≤ nt)
    (arg1 : Memref sig .tc .vmem (s3 1 (t0 * z0) (S + P)) .f32) (h1 : arg1.IsWhole)
    (arg2 : Memref sig .tc .vmem (s3 t0 (t1 * z1) (nt * z0)) .bf16) (h2 : arg2.IsWhole)
    (arg4 : Memref sig .tc .vmem (s4 t0 t1 z1 S) .f32) (arg5 : Memref sig .tc .vmem (s2 (nt * z0) S) .f32)
    (x0 : FVec F (s3 1 (t0 * z0) (S + P)) .f32) (x1 : FVec F (s3 t0 (t1 * z1) (nt * z0)) .bf16) : FVec F (s2 (t1 * z1) S) .f32 :=
  shapeCast (s2 (t1 * z1) S)
    (routed (fun x => broadcastTo (s2 t1 S) x (bc_1b_ab t1 S)) h0 n (uhat t1 z1 S arg4 fun g => prod S (wload arg2 h2 x1 g) (col S nt arg5 (uload S arg1 h1 x0) taps hn g)))
    (cast_join _ _ _)

/-- The 27 taps of a window of radius one, with 512 lanes before the block. -/
def taps3 : List (Tap 1024) :=
  [⟨239, by decide, some (0xFFFFFFFF#32, 0xFFFFFFFF#32)⟩,
   ⟨240, by decide, some (0xFFFFFFFF#32, 0#32)⟩,
   ⟨241, by decide, some (0xFFFFFFFF#32, 0x1#32)⟩,
   ⟨255, by decide, some (0#32, 0xFFFFFFFF#32)⟩,
   ⟨256, by decide, none⟩,
   ⟨257, by decide, some (0#32, 0x1#32)⟩,
   ⟨271, by decide, some (0x1#32, 0xFFFFFFFF#32)⟩,
   ⟨272, by decide, some (0x1#32, 0#32)⟩,
   ⟨273, by decide, some (0x1#32, 0x1#32)⟩,
   ⟨495, by decide, some (0xFFFFFFFF#32, 0xFFFFFFFF#32)⟩,
   ⟨496, by decide, some (0xFFFFFFFF#32, 0#32)⟩,
   ⟨497, by decide, some (0xFFFFFFFF#32, 0x1#32)⟩,
   ⟨511, by decide, some (0#32, 0xFFFFFFFF#32)⟩,
   ⟨512, by decide, none⟩,
   ⟨513, by decide, some (0#32, 0x1#32)⟩,
   ⟨527, by decide, some (0x1#32, 0xFFFFFFFF#32)⟩,
   ⟨528, by decide, some (0x1#32, 0#32)⟩,
   ⟨529, by decide, some (0x1#32, 0x1#32)⟩,
   ⟨751, by decide, some (0xFFFFFFFF#32, 0xFFFFFFFF#32)⟩,
   ⟨752, by decide, some (0xFFFFFFFF#32, 0#32)⟩,
   ⟨753, by decide, some (0xFFFFFFFF#32, 0x1#32)⟩,
   ⟨767, by decide, some (0#32, 0xFFFFFFFF#32)⟩,
   ⟨768, by decide, none⟩,
   ⟨769, by decide, some (0#32, 0x1#32)⟩,
   ⟨783, by decide, some (0x1#32, 0xFFFFFFFF#32)⟩,
   ⟨784, by decide, some (0x1#32, 0#32)⟩,
   ⟨785, by decide, some (0x1#32, 0x1#32)⟩]

/-- The 27 taps of a window that ends at the position itself, with 1024 lanes before the block. -/
def taps5 : List (Tap 2048) :=
  [⟨478, by decide, some (0xFFFFFFFE#32, 0xFFFFFFFE#32)⟩,
   ⟨479, by decide, some (0xFFFFFFFE#32, 0xFFFFFFFF#32)⟩,
   ⟨480, by decide, some (0xFFFFFFFE#32, 0#32)⟩,
   ⟨494, by decide, some (0xFFFFFFFF#32, 0xFFFFFFFE#32)⟩,
   ⟨495, by decide, some (0xFFFFFFFF#32, 0xFFFFFFFF#32)⟩,
   ⟨496, by decide, some (0xFFFFFFFF#32, 0#32)⟩,
   ⟨510, by decide, some (0#32, 0xFFFFFFFE#32)⟩,
   ⟨511, by decide, some (0#32, 0xFFFFFFFF#32)⟩,
   ⟨512, by decide, none⟩,
   ⟨734, by decide, some (0xFFFFFFFE#32, 0xFFFFFFFE#32)⟩,
   ⟨735, by decide, some (0xFFFFFFFE#32, 0xFFFFFFFF#32)⟩,
   ⟨736, by decide, some (0xFFFFFFFE#32, 0#32)⟩,
   ⟨750, by decide, some (0xFFFFFFFF#32, 0xFFFFFFFE#32)⟩,
   ⟨751, by decide, some (0xFFFFFFFF#32, 0xFFFFFFFF#32)⟩,
   ⟨752, by decide, some (0xFFFFFFFF#32, 0#32)⟩,
   ⟨766, by decide, some (0#32, 0xFFFFFFFE#32)⟩,
   ⟨767, by decide, some (0#32, 0xFFFFFFFF#32)⟩,
   ⟨768, by decide, none⟩,
   ⟨990, by decide, some (0xFFFFFFFE#32, 0xFFFFFFFE#32)⟩,
   ⟨991, by decide, some (0xFFFFFFFE#32, 0xFFFFFFFF#32)⟩,
   ⟨992, by decide, some (0xFFFFFFFE#32, 0#32)⟩,
   ⟨1006, by decide, some (0xFFFFFFFF#32, 0xFFFFFFFE#32)⟩,
   ⟨1007, by decide, some (0xFFFFFFFF#32, 0xFFFFFFFF#32)⟩,
   ⟨1008, by decide, some (0xFFFFFFFF#32, 0#32)⟩,
   ⟨1022, by decide, some (0#32, 0xFFFFFFFE#32)⟩,
   ⟨1023, by decide, some (0#32, 0xFFFFFFFF#32)⟩,
   ⟨1024, by decide, none⟩]

/-- The first layer's rows, one piece for each tap. -/
def pieces0 (u : FVec F (s2 (1 * 4) (1024 + 2048)) .f32) : List ((s : Shape) × FVec F s .f32) :=
  taps5.map fun t => ⟨s2 4 1024, src 1024 u (0 : Fin 1) t⟩

theorem concat0 (u : FVec F (s2 (1 * 4) (1024 + 2048)) .f32) :
    Shape.Concatenates ((pieces0 u).map (·.1)) (s2 108 1024) 0 := by
  show Shape.Concatenates (List.replicate 27 (s2 4 1024)) (s2 108 1024) 0
  decide

/-- The first layer's rows, gathered without a scratch buffer. -/
def col0 (u : FVec F (s2 (1 * 4) (1024 + 2048)) .f32) : FVec F (s2 108 1024) .f32 :=
  concatenate (s2 108 1024) 0 (pieces0 u) (concat0 u)

/-- The first layer's block. -/
def bodyOut0 {sig : RefSig}
    (arg1 : Memref sig .tc .vmem (s3 1 (1 * 4) (1024 + 2048)) .f32) (h1 : arg1.IsWhole)
    (arg2 : Memref sig .tc .vmem (s3 1 16 108) .bf16) (h2 : arg2.IsWhole)
    (x0 : FVec F (s3 1 (1 * 4) (1024 + 2048)) .f32) (x1 : FVec F (s3 1 16 108) .bf16) : FVec F (s2 16 1024) .f32 :=
  maximumf (prod 1024 (wload arg2 h2 x1 0) (col0 (uload 1024 arg1 h1 x0)))
    (broadcast (s2 16 1024) (FloatOps.ofBits .f32 0x00000000#32))

/-- The last layer's block: the lengths of the routed vectors of its one output type. -/
def bodyOutN {t0 z0 P : Nat} (z1 S nt n : Nat) (h0 : 0 < t0) {sig : RefSig} (taps : List (Tap P)) (hn : taps.length ≤ nt)
    (arg1 : Memref sig .tc .vmem (s3 1 (t0 * z0) (S + P)) .f32) (h1 : arg1.IsWhole)
    (arg2 : Memref sig .tc .vmem (s3 t0 (1 * z1) (nt * z0)) .bf16) (h2 : arg2.IsWhole)
    (arg4 : Memref sig .tc .vmem (s4 t0 1 z1 S) .f32) (arg5 : Memref sig .tc .vmem (s2 (nt * z0) S) .f32)
    (x0 : FVec F (s3 1 (t0 * z0) (S + P)) .f32) (x1 : FVec F (s3 t0 (1 * z1) (nt * z0)) .bf16) : FVec F (s2 1 S) .f32 :=
  normOut (routed (fun x => x) h0 n (uhat 1 z1 S arg4 fun g => prod S (wload arg2 h2 x1 g) (col S nt arg5 (uload S arg1 h1 x0) taps hn g)))

end Caps

end
-- ==== Proof.Match.lean ====
/- Each region's block is the layer's body at the region's sizes. -/
module

public import proofs.«01_k».proof.Proof.Body
public import proofs.«01_k».proof.Proof.Gen.KernelIdeal.Frame

@[expose] public section

set_option maxRecDepth 16384

noncomputable section

namespace Caps

open Idealize.ShloMosaic Idealize.ShloMosaic.TcCoe Idealize.ShloMosaic.Tactic Cert.KernelIdeal Cert.KernelIdeal.Gen

variable {F : FTy → Type} [FloatOps F]

theorem run1 (c : Dev nD) (i : grid1.Coords) (arg1 : Memref sig .tc .vmem S1x16x2048 .f32) (harg1 : arg1.IsWhole)
    (arg2 : Memref sig .tc .vmem S1x32x432 .bf16) (harg2 : arg2.IsWhole) (arg3 : Memref sig .tc .vmem S32x1024 .f32)
    (harg3 : arg3.IsWhole) (arg4 : Memref sig .tc .vmem S1x2x16x1024 .f32) (harg4 : arg4.IsWhole)
    (arg5 : Memref sig .tc .vmem S432x1024 .f32) (harg5 : arg5.IsWhole) (x0 : Vec F S1x16x2048 .f32) (x1 : Vec F S1x32x432 .bf16) :
    (kernelRun1_A c i arg1 harg1 arg2 harg2 arg3 harg3 arg4 harg4 arg5 harg5 x0 x1).1
      = [⟨Rect.unit ![0, 0] (s2 32 1024).size (inb2 _ _ (Nat.le_refl _) (Nat.le_refl _)),
          bodyOut (t0 := 1) (z0 := 16) (P := 1024) 2 16 1024 27 0 (by decide) taps3 (by decide) arg1 harg1 arg2 harg2 arg4 arg5 x0 x1⟩] := by
  sl_kernel_rfl

theorem run2 (c : Dev nD) (i : grid2.Coords) (arg1 : Memref sig .tc .vmem S1x32x2048 .f32) (harg1 : arg1.IsWhole)
    (arg2 : Memref sig .tc .vmem S2x64x432 .bf16) (harg2 : arg2.IsWhole) (arg3 : Memref sig .tc .vmem S64x1024 .f32)
    (harg3 : arg3.IsWhole) (arg4 : Memref sig .tc .vmem S2x4x16x1024 .f32) (harg4 : arg4.IsWhole)
    (arg5 : Memref sig .tc .vmem S432x1024 .f32) (harg5 : arg5.IsWhole) (x0 : Vec F S1x32x2048 .f32) (x1 : Vec F S2x64x432 .bf16) :
    (kernelRun2_A c i arg1 harg1 arg2 harg2 arg3 harg3 arg4 harg4 arg5 harg5 x0 x1).1
      = [⟨Rect.unit ![0, 0] (s2 64 1024).size (inb2 _ _ (Nat.le_refl _) (Nat.le_refl _)),
          bodyOut (t0 := 2) (z0 := 16) (P := 1024) 4 16 1024 27 2 (by decide) taps3 (by decide) arg1 harg1 arg2 harg2 arg4 arg5 x0 x1⟩] := by
  sl_kernel_rfl

theorem run3 (c : Dev nD) (i : grid3.Coords) (arg1 : Memref sig .tc .vmem S1x64x2048 .f32) (harg1 : arg1.IsWhole)
    (arg2 : Memref sig .tc .vmem S4x128x432 .bf16) (harg2 : arg2.IsWhole) (arg3 : Memref sig .tc .vmem S128x1024 .f32)
    (harg3 : arg3.IsWhole) (arg4 : Memref sig .tc .vmem S4x4x32x1024 .f32) (harg4 : arg4.IsWhole)
    (arg5 : Memref sig .tc .vmem S432x1024 .f32) (harg5 : arg5.IsWhole) (x0 : Vec F S1x64x2048 .f32) (x1 : Vec F S4x128x432 .bf16) :
    (kernelRun3_A c i arg1 harg1 arg2 harg2 arg3 harg3 arg4 harg4 arg5 harg5 x0 x1).1
      = [⟨Rect.unit ![0, 0] (s2 128 1024).size (inb2 _ _ (Nat.le_refl _) (Nat.le_refl _)),
          bodyOut (t0 := 4) (z0 := 16) (P := 1024) 4 32 1024 27 2 (by decide) taps3 (by decide) arg1 harg1 arg2 harg2 arg4 arg5 x0 x1⟩] := by
  sl_kernel_rfl

theorem run4 (c : Dev nD) (i : grid4.Coords) (arg1 : Memref sig .tc .vmem S1x128x2048 .f32) (harg1 : arg1.IsWhole)
    (arg2 : Memref sig .tc .vmem S4x256x864 .bf16) (harg2 : arg2.IsWhole) (arg3 : Memref sig .tc .vmem S256x1024 .f32)
    (harg3 : arg3.IsWhole) (arg4 : Memref sig .tc .vmem S4x8x32x1024 .f32) (harg4 : arg4.IsWhole)
    (arg5 : Memref sig .tc .vmem S864x1024 .f32) (harg5 : arg5.IsWhole) (x0 : Vec F S1x128x2048 .f32) (x1 : Vec F S4x256x864 .bf16) :
    (kernelRun4_A c i arg1 harg1 arg2 harg2 arg3 harg3 arg4 harg4 arg5 harg5 x0 x1).1
      = [⟨Rect.unit ![0, 0] (s2 256 1024).size (inb2 _ _ (Nat.le_refl _) (Nat.le_refl _)),
          bodyOut (t0 := 4) (z0 := 32) (P := 1024) 8 32 1024 27 2 (by decide) taps3 (by decide) arg1 harg1 arg2 harg2 arg4 arg5 x0 x1⟩] := by
  sl_kernel_rfl

theorem run5 (c : Dev nD) (i : grid5.Coords) (arg1 : Memref sig .tc .vmem S1x256x1536 .f32) (harg1 : arg1.IsWhole)
    (arg2 : Memref sig .tc .vmem S8x512x864 .bf16) (harg2 : arg2.IsWhole) (arg3 : Memref sig .tc .vmem S512x512 .f32)
    (harg3 : arg3.IsWhole) (arg4 : Memref sig .tc .vmem S8x8x64x512 .f32) (harg4 : arg4.IsWhole)
    (arg5 : Memref sig .tc .vmem S864x512 .f32) (harg5 : arg5.IsWhole) (x0 : Vec F S1x256x1536 .f32) (x1 : Vec F S8x512x864 .bf16) :
    (kernelRun5_A c i arg1 harg1 arg2 harg2 arg3 harg3 arg4 harg4 arg5 harg5 x0 x1).1
      = [⟨Rect.unit ![0, 0] (s2 512 512).size (inb2 _ _ (Nat.le_refl _) (Nat.le_refl _)),
          bodyOut (t0 := 8) (z0 := 32) (P := 1024) 8 64 512 27 2 (by decide) taps3 (by decide) arg1 harg1 arg2 harg2 arg4 arg5 x0 x1⟩] := by
  sl_kernel_rfl

theorem run6 (c : Dev nD) (i : grid6.Coords) (arg1 : Memref sig .tc .vmem S1x512x1536 .f32) (harg1 : arg1.IsWhole)
    (arg2 : Memref sig .tc .vmem S8x256x1728 .bf16) (harg2 : arg2.IsWhole) (arg3 : Memref sig .tc .vmem S256x512 .f32)
    (harg3 : arg3.IsWhole) (arg4 : Memref sig .tc .vmem S8x8x32x512 .f32) (harg4 : arg4.IsWhole)
    (arg5 : Memref sig .tc .vmem S1728x512 .f32) (harg5 : arg5.IsWhole) (x0 : Vec F S1x512x1536 .f32) (x1 : Vec F S8x256x1728 .bf16) :
    (kernelRun6_A c i arg1 harg1 arg2 harg2 arg3 harg3 arg4 harg4 arg5 harg5 x0 x1).1
      = [⟨Rect.unit ![0, 0] (s2 256 512).size (inb2 _ _ (Nat.le_refl _) (Nat.le_refl _)),
          bodyOut (t0 := 8) (z0 := 64) (P := 1024) 8 32 512 27 2 (by decide) taps3 (by decide) arg1 harg1 arg2 harg2 arg4 arg5 x0 x1⟩] := by
  sl_kernel_rfl

theorem run7 (c : Dev nD) (i : grid7.Coords) (arg1 : Memref sig .tc .vmem S1x256x1536 .f32) (harg1 : arg1.IsWhole)
    (arg2 : Memref sig .tc .vmem S8x256x864 .bf16) (harg2 : arg2.IsWhole) (arg3 : Memref sig .tc .vmem S256x512 .f32)
    (harg3 : arg3.IsWhole) (arg4 : Memref sig .tc .vmem S8x8x32x512 .f32) (harg4 : arg4.IsWhole)
    (arg5 : Memref sig .tc .vmem S864x512 .f32) (harg5 : arg5.IsWhole) (x0 : Vec F S1x256x1536 .f32) (x1 : Vec F S8x256x864 .bf16) :
    (kernelRun7_A c i arg1 harg1 arg2 harg2 arg3 harg3 arg4 harg4 arg5 harg5 x0 x1).1
      = [⟨Rect.unit ![0, 0] (s2 256 512).size (inb2 _ _ (Nat.le_refl _) (Nat.le_refl _)),
          bodyOut (t0 := 8) (z0 := 32) (P := 1024) 8 32 512 27 2 (by decide) taps3 (by decide) arg1 harg1 arg2 harg2 arg4 arg5 x0 x1⟩] := by
  sl_kernel_rfl

theorem run8 (c : Dev nD) (i : grid8.Coords) (arg1 : Memref sig .tc .vmem S1x512x1536 .f32) (harg1 : arg1.IsWhole)
    (arg2 : Memref sig .tc .vmem S16x128x864 .bf16) (harg2 : arg2.IsWhole) (arg3 : Memref sig .tc .vmem S128x512 .f32)
    (harg3 : arg3.IsWhole) (arg4 : Memref sig .tc .vmem S16x4x32x512 .f32) (harg4 : arg4.IsWhole)
    (arg5 : Memref sig .tc .vmem S864x512 .f32) (harg5 : arg5.IsWhole) (x0 : Vec F S1x512x1536 .f32) (x1 : Vec F S16x128x864 .bf16) :
    (kernelRun8_A c i arg1 harg1 arg2 harg2 arg3 harg3 arg4 harg4 arg5 harg5 x0 x1).1
      = [⟨Rect.unit ![0, 0] (s2 128 512).size (inb2 _ _ (Nat.le_refl _) (Nat.le_refl _)),
          bodyOut (t0 := 16) (z0 := 32) (P := 1024) 4 32 512 27 2 (by decide) taps3 (by decide) arg1 harg1 arg2 harg2 arg4 arg5 x0 x1⟩] := by
  sl_kernel_rfl

theorem run9 (c : Dev nD) (i : grid9.Coords) (arg1 : Memref sig .tc .vmem S1x128x2048 .f32) (harg1 : arg1.IsWhole)
    (arg2 : Memref sig .tc .vmem S4x64x864 .bf16) (harg2 : arg2.IsWhole) (arg3 : Memref sig .tc .vmem S64x1024 .f32)
    (harg3 : arg3.IsWhole) (arg4 : Memref sig .tc .vmem S4x4x16x1024 .f32) (harg4 : arg4.IsWhole)
    (arg5 : Memref sig .tc .vmem S864x1024 .f32) (harg5 : arg5.IsWhole) (x0 : Vec F S1x128x2048 .f32) (x1 : Vec F S4x64x864 .bf16) :
    (kernelRun9_A c i arg1 harg1 arg2 harg2 arg3 harg3 arg4 harg4 arg5 harg5 x0 x1).1
      = [⟨Rect.unit ![0, 0] (s2 64 1024).size (inb2 _ _ (Nat.le_refl _) (Nat.le_refl _)),
          bodyOut (t0 := 4) (z0 := 32) (P := 1024) 4 16 1024 27 2 (by decide) taps3 (by decide) arg1 harg1 arg2 harg2 arg4 arg5 x0 x1⟩] := by
  sl_kernel_rfl

theorem run10 (c : Dev nD) (i : grid10.Coords) (arg1 : Memref sig .tc .vmem S1x128x2048 .f32) (harg1 : arg1.IsWhole)
    (arg2 : Memref sig .tc .vmem S8x64x432 .bf16) (harg2 : arg2.IsWhole) (arg3 : Memref sig .tc .vmem S64x1024 .f32)
    (harg3 : arg3.IsWhole) (arg4 : Memref sig .tc .vmem S8x4x16x1024 .f32) (harg4 : arg4.IsWhole)
    (arg5 : Memref sig .tc .vmem S432x1024 .f32) (harg5 : arg5.IsWhole) (x0 : Vec F S1x128x2048 .f32) (x1 : Vec F S8x64x432 .bf16) :
    (kernelRun10_A c i arg1 harg1 arg2 harg2 arg3 harg3 arg4 harg4 arg5 harg5 x0 x1).1
      = [⟨Rect.unit ![0, 0] (s2 64 1024).size (inb2 _ _ (Nat.le_refl _) (Nat.le_refl _)),
          bodyOut (t0 := 8) (z0 := 16) (P := 1024) 4 16 1024 27 2 (by decide) taps3 (by decide) arg1 harg1 arg2 harg2 arg4 arg5 x0 x1⟩] := by
  sl_kernel_rfl

theorem run11 (c : Dev nD) (i : grid11.Coords) (arg1 : Memref sig .tc .vmem S1x64x2048 .f32) (harg1 : arg1.IsWhole)
    (arg2 : Memref sig .tc .vmem S4x32x432 .bf16) (harg2 : arg2.IsWhole) (arg3 : Memref sig .tc .vmem S32x1024 .f32)
    (harg3 : arg3.IsWhole) (arg4 : Memref sig .tc .vmem S4x2x16x1024 .f32) (harg4 : arg4.IsWhole)
    (arg5 : Memref sig .tc .vmem S432x1024 .f32) (harg5 : arg5.IsWhole) (x0 : Vec F S1x64x2048 .f32) (x1 : Vec F S4x32x432 .bf16) :
    (kernelRun11_A c i arg1 harg1 arg2 harg2 arg3 harg3 arg4 harg4 arg5 harg5 x0 x1).1
      = [⟨Rect.unit ![0, 0] (s2 32 1024).size (inb2 _ _ (Nat.le_refl _) (Nat.le_refl _)),
          bodyOut (t0 := 4) (z0 := 16) (P := 1024) 2 16 1024 27 2 (by decide) taps3 (by decide) arg1 harg1 arg2 harg2 arg4 arg5 x0 x1⟩] := by
  sl_kernel_rfl

theorem run12 (c : Dev nD) (i : grid12.Coords) (arg1 : Memref sig .tc .vmem S1x48x2048 .f32) (harg1 : arg1.IsWhole)
    (arg2 : Memref sig .tc .vmem S3x16x432 .bf16) (harg2 : arg2.IsWhole) (arg3 : Memref sig .tc .vmem S1x1024 .f32)
    (harg3 : arg3.IsWhole) (arg4 : Memref sig .tc .vmem S3x1x16x1024 .f32) (harg4 : arg4.IsWhole)
    (arg5 : Memref sig .tc .vmem S432x1024 .f32) (harg5 : arg5.IsWhole) (x0 : Vec F S1x48x2048 .f32) (x1 : Vec F S3x16x432 .bf16) :
    (kernelRun12_A c i arg1 harg1 arg2 harg2 arg3 harg3 arg4 harg4 arg5 harg5 x0 x1).1
      = [⟨Rect.unit ![0, 0] (s2 1 1024).size (inb2 _ _ (Nat.le_refl _) (Nat.le_refl _)),
          bodyOutN (t0 := 3) (z0 := 16) (P := 1024) 16 1024 27 2 (by decide) taps3 (by decide) arg1 harg1 arg2 harg2 arg4 arg5 x0 x1⟩] := by
  sl_kernel_rfl

theorem run0 (c : Dev nD) (i : grid0.Coords) (arg1 : Memref sig .tc .vmem S1x4x3072 .f32) (harg1 : arg1.IsWhole)
    (arg2 : Memref sig .tc .vmem S1x16x108 .bf16) (harg2 : arg2.IsWhole) (arg3 : Memref sig .tc .vmem S16x1024 .f32)
    (harg3 : arg3.IsWhole) (arg4 : Memref sig .tc .vmem S1x1x16x1024 .f32) (harg4 : arg4.IsWhole)
    (arg5 : Memref sig .tc .vmem S8x128 .f32) (harg5 : arg5.IsWhole) (x0 : Vec F S1x4x3072 .f32) (x1 : Vec F S1x16x108 .bf16) :
    (kernelRun0_A c i arg1 harg1 arg2 harg2 arg3 harg3 arg4 harg4 arg5 harg5 x0 x1).1
      = [⟨Rect.unit ![0, 0] (s2 16 1024).size (inb2 _ _ (Nat.le_refl _) (Nat.le_refl _)),
          bodyOut0 arg1 harg1 arg2 harg2 x0 x1⟩] := by
  sl_kernel_rfl

end Caps

end
-- ==== Proof.Layer.lean ====
/- The layer in extended reals, element by element: the softmax, the weighted sum, the squash, the logits. -/
module

public import proofs.«01_k».proof.Proof.Body
public import Idealize.ShloMosaic.Lib.Pointwise.Reduce
public import Idealize.ShloMosaic.Lib.Pointwise.Contract
public import Idealize.ShloMosaic.Lib.ValueLayout

@[expose] public section

noncomputable section

namespace Caps

open Idealize.ShloMosaic hiding ix1 ix2 ix3 ix4 ix5
open Idealize.ShloMosaic.ValueIdx

section Functions
variable {t0 t1 z1 : Nat}

/-- The largest of a family, at least minus infinity. -/
def top (b : Fin t1 → EReal) : EReal :=
  max (Ideal.ofBits .f32 0xFF800000#32) ((Finset.univ : Finset (Fin t1)).fold max (Ideal.ofBits .f32 0xFF800000#32) b)

/-- The softmax of a family. -/
def smx (b : Fin t1 → EReal) (j : Fin t1) : EReal :=
  Ideal.div (Ideal.exp (b j - top b)) (∑ i : Fin t1, Ideal.exp (b i - top b))

/-- The sum of the types' vectors, weighted by the softmax of the logits. -/
def wsum (u : Fin t0 → Fin t1 → Fin z1 → EReal) (b : Fin t0 → Fin t1 → EReal) (j : Fin t1) (k : Fin z1) : EReal :=
  ∑ g : Fin t0, smx (b g) j * u g j k

/-- The squared length of a vector. -/
def len2 (s : Fin t1 → Fin z1 → EReal) (j : Fin t1) : EReal := ∑ k : Fin z1, s j k * s j k

/-- The squashed vectors. -/
def sq (s : Fin t1 → Fin z1 → EReal) (j : Fin t1) (k : Fin z1) : EReal :=
  Ideal.div (len2 s j) (Ideal.ofBits .f32 0x3F800000#32 + len2 s j) * s j k
    * Ideal.rsqrt (len2 s j + Ideal.ofBits .f32 814313567#32)

/-- The logits after n passes. -/
def lg (u : Fin t0 → Fin t1 → Fin z1 → EReal) : Nat → Fin t0 → Fin t1 → EReal
  | 0 => fun _ _ => 0
  | n + 1 => fun g j => lg u n g j + ∑ k : Fin z1, u g j k * sq (wsum u (lg u n)) j k

/-- The result of n + 1 passes. -/
def route (n : Nat) (u : Fin t0 → Fin t1 → Fin z1 → EReal) : Fin t1 → Fin z1 → EReal := sq (wsum u (lg u n))

/-- The length of the one vector there is. -/
def nrm (s : Fin 1 → Fin z1 → EReal) : EReal :=
  Ideal.sqrt ((∑ k : Fin z1, s 0 k * s 0 k) + Ideal.ofBits .f32 814313567#32)

end Functions

theorem bits_zero : Ideal.ofBits .f32 0x00000000#32 = 0 := by
  simp [Ideal.ofBits, Ideal.ieee]

section Reductions
variable {a b c : Nat}

theorem sum_axis0 (h : (s2 a b).Reduces [0] (s1 b)) (v : FVec Ideal (s2 a b) .f32) (hφ) (ha) (s : Fin b) :
    multiReduction .add [0] (s1 b) v 0x00000000#32 h hφ ha (ix1 s) = ∑ i : Fin a, v (ix2 i s) :=
  (Ideal.reduceAdd_r2_a0 h v (ix1 s)).trans (Finset.sum_congr rfl fun k _ => congrArg v (by
    funext x; match x with | ⟨0, _⟩ => rfl | ⟨1, _⟩ => rfl))

theorem sum_axis1 (h : (s3 a b c).Reduces [1] (s2 a c)) (v : FVec Ideal (s3 a b c) .f32) (hφ) (ha) (i : Fin a) (s : Fin c) :
    multiReduction .add [1] (s2 a c) v 0x00000000#32 h hφ ha (ix2 i s) = ∑ k : Fin b, v (ix3 i k s) :=
  (Ideal.reduceAdd_r3_a1 h v (ix2 i s)).trans (Finset.sum_congr rfl fun k _ => congrArg v (by
    funext x; match x with | ⟨0, _⟩ => rfl | ⟨1, _⟩ => rfl | ⟨2, _⟩ => rfl))

theorem max_axis0 (h : (s2 a b).Reduces [0] (s1 b)) (v : FVec Ideal (s2 a b) .f32) (hφ) (ha) (s : Fin b) :
    multiReduction .maximumf [0] (s1 b) v 0xFF800000#32 h hφ ha (ix1 s)
      = (Finset.univ : Finset (Fin a)).fold max (Ideal.ofBits .f32 0xFF800000#32) fun i => v (ix2 i s) := by
  rw [multiReduction_maximumf_eq_reduceFold]
  refine (reduceFold_eq_fold h (max : EReal → EReal → EReal) _ v (ix1 s)).trans ?_
  refine (h.fold_fiber_r2_a0 (ix1 s) max _ v).trans ?_
  refine congrArg (fun f => (Finset.univ : Finset (Fin a)).fold max (Ideal.ofBits .f32 0xFF800000#32) f) (funext fun k => congrArg v ?_)
  funext x; match x with | ⟨0, _⟩ => rfl | ⟨1, _⟩ => rfl

theorem cast_ab_a1b_apply {α : Type} (x : (s2 a b).Idx → α) (h : (s2 a b).ShapeCasts (s3 a 1 b)) (i : Fin a) (o : Fin 1)
    (j : Fin b) : shapeCast (s3 a 1 b) x h (ix3 i o j) = x (ix2 i j) :=
  shapeCast_apply x h _ _ (by
    have : o.val = 0 := by omega
    rw [Shape.rowMajor_val_three, Shape.rowMajor_val_two]
    show i.val * b + j.val = (i.val * 1 + o.val) * b + j.val
    rw [this, Nat.mul_one, Nat.add_zero])

theorem bc_a1c_apply {α : Type} (x : (s3 a 1 c).Idx → α) (h : (s3 a 1 c).Broadcasts (s3 a b c)) (i : Fin a) (j : Fin b)
    (k : Fin c) : broadcastTo (s3 a b c) x h (ix3 i j k) = x (ix3 i (0 : Fin 1) k) := by
  refine broadcastTo_apply x h _ _ fun ax => ?_
  match ax with | ⟨0, _⟩ => ?_ | ⟨1, _⟩ => rfl | ⟨2, _⟩ => ?_
  · show i.val = if a = 1 then 0 else i.val
    split <;> omega
  · show k.val = if c = 1 then 0 else k.val
    split <;> omega

theorem cast_split_apply {α : Type} (x : (s2 (a * b) c).Idx → α) (h : (s2 (a * b) c).ShapeCasts (s3 a b c)) (i : Fin a)
    (j : Fin b) (k : Fin c) (m : Fin (a * b)) (hm : m.val = i.val * b + j.val) :
    shapeCast (s3 a b c) x h (ix3 i j k) = x (ix2 m k) :=
  shapeCast_apply x h _ _ (by
    rw [Shape.rowMajor_val_three, Shape.rowMajor_val_two]
    show m.val * c + k.val = (i.val * b + j.val) * c + k.val
    rw [hm])

theorem cast_join_apply {α : Type} (x : (s3 a b c).Idx → α) (h : (s3 a b c).ShapeCasts (s2 (a * b) c)) (i : Fin a)
    (j : Fin b) (k : Fin c) (m : Fin (a * b)) (hm : m.val = i.val * b + j.val) :
    shapeCast (s2 (a * b) c) x h (ix2 m k) = x (ix3 i j k) :=
  shapeCast_apply x h _ _ (by
    rw [Shape.rowMajor_val_three, Shape.rowMajor_val_two]
    show (i.val * b + j.val) * c + k.val = m.val * c + k.val
    rw [hm])

end Reductions

section Routing
variable {t0 t1 z1 S : Nat} (br : FVec Ideal (s2 1 S) .f32 → FVec Ideal (s2 t1 S) .f32)
  (hbr : ∀ x j s, br x (ix2 j s) = x (ix2 (0 : Fin 1) s))
include hbr

theorem smE_apply (b : FVec Ideal (s2 t1 S) .f32) (j : Fin t1) (s : Fin S) :
    smE br b (ix2 j s) = Ideal.exp (b (ix2 j s) - top fun i => b (ix2 i s)) := by
  show Ideal.exp (b (ix2 j s) - br _ (ix2 j s)) = _
  rw [hbr, shapeCast_a_1a_apply, maximumf_apply, max_axis0]
  rfl

theorem sm_apply (b : FVec Ideal (s2 t1 S) .f32) (j : Fin t1) (s : Fin S) :
    sm br b (ix2 j s) = smx (fun i => b (ix2 i s)) j := by
  unfold sm
  rw [divf_apply, hbr, shapeCast_a_1a_apply, sum_axis0, smE_apply br hbr]
  simp only [smE_apply br hbr]
  rfl

theorem term_apply (uh : Fin t0 → FVec Ideal (s4 1 t1 z1 S) .f32) (b : Fin t0 → FVec Ideal (s2 t1 S) .f32) (g : Fin t0)
    (j : Fin t1) (k : Fin z1) (s : Fin S) :
    term br uh b g (ix3 j k s) = smx (fun i => b g (ix2 i s)) j * uh g (ix4 (0 : Fin 1) j k s) := by
  unfold term uh3
  rw [mulf_apply, bc_a1c_apply, cast_ab_a1b_apply, sm_apply br hbr, shapeCast_1abc_abc_apply]

theorem sacc_apply (uh : Fin t0 → FVec Ideal (s4 1 t1 z1 S) .f32) (b : Fin t0 → FVec Ideal (s2 t1 S) .f32)
    (j : Fin t1) (k : Fin z1) (s : Fin S) : ∀ (n : Nat) (h : n < t0), sacc br uh b n h (ix3 j k s)
      = ∑ g : Fin (n + 1), smx (fun i => b ⟨g.1, by omega⟩ (ix2 i s)) j * uh ⟨g.1, by omega⟩ (ix4 (0 : Fin 1) j k s)
  | 0, h => by
    rw [Fin.sum_univ_one]; exact term_apply br hbr uh b ⟨0, h⟩ j k s
  | n + 1, h => by
    rw [Fin.sum_univ_castSucc]
    show sacc br uh b n _ (ix3 j k s) + term br uh b ⟨n + 1, h⟩ (ix3 j k s) = _
    rw [sacc_apply uh b j k s n, term_apply br hbr]
    rfl

theorem wsum_apply (h0 : 0 < t0) (uh : Fin t0 → FVec Ideal (s4 1 t1 z1 S) .f32) (b : Fin t0 → FVec Ideal (s2 t1 S) .f32)
    (j : Fin t1) (k : Fin z1) (s : Fin S) : sacc br uh b (t0 - 1) (Nat.sub_lt h0 Nat.one_pos) (ix3 j k s)
      = wsum (fun g j k => uh g (ix4 (0 : Fin 1) j k s)) (fun g i => b g (ix2 i s)) j k := by
  cases t0 with
  | zero => omega
  | succ m => exact sacc_apply br hbr uh b j k s m (Nat.lt_succ_self m)

omit hbr in
theorem n2_apply (v : FVec Ideal (s3 t1 z1 S) .f32) (j : Fin t1) (o : Fin 1) (s : Fin S) :
    n2 v (ix3 j o s) = len2 (fun j k => v (ix3 j k s)) j := by
  unfold n2
  rw [cast_ab_a1b_apply, sum_axis1]
  rfl

omit hbr in
theorem squash_apply (v : FVec Ideal (s3 t1 z1 S) .f32) (j : Fin t1) (k : Fin z1) (s : Fin S) :
    squash v (ix3 j k s) = sq (fun j k => v (ix3 j k s)) j k := by
  unfold squash
  rw [mulf_apply, mulf_apply, bc_a1c_apply, bc_a1c_apply, divf_apply, addf_apply, n2_apply]
  show _ * Ideal.rsqrt (n2 v (ix3 j 0 s) + _) = _
  rw [n2_apply]
  rfl

theorem pass_apply (h0 : 0 < t0) (uh : Fin t0 → FVec Ideal (s4 1 t1 z1 S) .f32) (b : Fin t0 → FVec Ideal (s2 t1 S) .f32)
    (j : Fin t1) (k : Fin z1) (s : Fin S) : pass br h0 uh b (ix3 j k s)
      = sq (wsum (fun g j k => uh g (ix4 (0 : Fin 1) j k s)) (fun g i => b g (ix2 i s))) j k := by
  unfold pass
  rw [squash_apply]
  exact congrArg (fun f => sq f j k) (funext fun j => funext fun k => wsum_apply br hbr h0 uh b j k s)

theorem logits_apply (h0 : 0 < t0) (uh : Fin t0 → FVec Ideal (s4 1 t1 z1 S) .f32) (s : Fin S) :
    ∀ (n : Nat) (g : Fin t0) (j : Fin t1), logits br h0 uh n g (ix2 j s)
      = lg (fun g j k => uh g (ix4 (0 : Fin 1) j k s)) n g j
  | 0, g, j => bits_zero
  | n + 1, g, j => by
    show agree uh (logits br h0 uh n) (pass br h0 uh (logits br h0 uh n)) g (ix2 j s) = _
    unfold agree uh3
    rw [addf_apply, sum_axis1, logits_apply h0 uh s n g j]
    simp only [mulf_apply, shapeCast_1abc_abc_apply, pass_apply br hbr, logits_apply h0 uh s n]
    rfl

/-- The routed products at an index. -/
theorem routed_apply (h0 : 0 < t0) (n : Nat) (uh : Fin t0 → FVec Ideal (s4 1 t1 z1 S) .f32) (j : Fin t1) (k : Fin z1)
    (s : Fin S) : routed br h0 n uh (ix3 j k s) = route n (fun g j k => uh g (ix4 (0 : Fin 1) j k s)) j k := by
  unfold routed route
  rw [pass_apply br hbr]
  simp only [logits_apply br hbr]

omit hbr in
theorem normOut_apply (v : FVec Ideal (s3 1 z1 S) .f32) (o : Fin 1) (s : Fin S) :
    normOut v (ix2 o s) = nrm (fun j k => v (ix3 j k s)) := by
  unfold normOut
  show Ideal.sqrt (_ + _) = _
  rw [shapeCast_a_1a_apply, sum_axis0]
  simp only [mulf_apply, shapeCast_1ab_ab_apply]
  rfl

end Routing

end Caps

end
-- ==== Proof.Cols.lean ====
/- The layer's rows and products in extended reals: each tap as the zero-padded input moved by it. -/
module

public import proofs.«01_k».proof.Proof.Layer
public import Idealize.ShloMosaic.Lib.WholeRead

@[expose] public section

noncomputable section

namespace Caps

open Idealize.ShloMosaic hiding ix1 ix2 ix3 ix4 ix5
open Idealize.ShloMosaic.ValueIdx

/-- The element of the 16 × 16 × 16 plane of row r that tap (a, b, c) of a window reads at position p, zero outside. -/
def tapv (lo : Nat) (X : Nat → Nat → EReal) (r p a b c : Nat) : EReal :=
  if (lo ≤ p / 256 + a ∧ p / 256 + a < lo + 16) ∧ (lo ≤ p / 16 % 16 + b ∧ p / 16 % 16 + b < lo + 16)
      ∧ (lo ≤ p % 16 + c ∧ p % 16 + c < lo + 16)
  then X r ((p / 256 + a - lo) * 256 + (p / 16 % 16 + b - lo) * 16 + (p % 16 + c - lo)) else 0

/-- Block tt's lane q of row r of the input with H lanes of zeros around it. -/
def slab (S H : Nat) (X : Nat → Nat → EReal) (tt r q : Nat) : EReal :=
  if H ≤ tt * S + q ∧ tt * S + q < H + 4096 then X r (tt * S + q - H) else 0

/-- The taps of a list are those of a window that begins lo before the position, H lanes of zeros before the block. -/
def IsTaps {P : Nat} (lo H : Nat) (taps : List (Tap P)) : Prop :=
  ∃ h : taps.length = 27, ∀ ti : Fin 27,
    (taps.get (ti.cast h.symm)).off + lo * 273 = H + (ti.1 / 9 * 256 + ti.1 / 3 % 3 * 16 + ti.1 % 3)
    ∧ (((taps.get (ti.cast h.symm)).m = none ∧ ti.1 / 3 % 3 = lo ∧ ti.1 % 3 = lo)
      ∨ (taps.get (ti.cast h.symm)).m
        = some (BitVec.ofNat 32 (ti.1 / 3 % 3) - BitVec.ofNat 32 lo, BitVec.ofNat 32 (ti.1 % 3) - BitVec.ofNat 32 lo))

theorem isTaps3 : IsTaps 1 512 taps3 := ⟨rfl, by decide +kernel⟩
theorem isTaps5 : IsTaps 2 1024 taps5 := ⟨rfl, by decide +kernel⟩

/-- The mask's bit of a lane. -/
def bit (n dy dx : BitVec 32) : BitVec 1 :=
  IntOp.andi (IntOp.andi (IntOp.andi
    (IntOp.cmpi .sge (IntOp.addi (IntOp.andi n 15#32) dx) 0#32)
    (IntOp.cmpi .slt (IntOp.addi (IntOp.andi n 15#32) dx) 16#32))
    (IntOp.cmpi .sge (IntOp.addi (IntOp.andi (IntOp.shrsi .vector n 4#32) 15#32) dy) 0#32))
    (IntOp.cmpi .slt (IntOp.addi (IntOp.andi (IntOp.shrsi .vector n 4#32) 15#32) dy) 16#32)

theorem col_eq : ∀ s : Fin 1024, IntOp.andi (BitVec.ofNat 32 s.1) 15#32 = BitVec.ofNat 32 (s.1 % 16) := by decide +kernel

theorem row_eq : ∀ s : Fin 1024, IntOp.andi (IntOp.shrsi .vector (BitVec.ofNat 32 s.1) 4#32) 15#32
    = BitVec.ofNat 32 (s.1 / 16 % 16) := by decide +kernel

theorem inside_eq : ∀ lo b : Fin 3, ∀ v : Fin 16,
    (IntOp.cmpi .sge (IntOp.addi (BitVec.ofNat 32 v.1) (BitVec.ofNat 32 b.1 - BitVec.ofNat 32 lo.1)) 0#32)
      = BitVec.ofBool (decide (lo.1 ≤ v.1 + b.1))
    ∧ (IntOp.cmpi .slt (IntOp.addi (BitVec.ofNat 32 v.1) (BitVec.ofNat 32 b.1 - BitVec.ofNat 32 lo.1)) 16#32)
      = BitVec.ofBool (decide (v.1 + b.1 < lo.1 + 16)) := by decide +kernel

theorem andi_ofBool (p q : Bool) : IntOp.andi (BitVec.ofBool p) (BitVec.ofBool q) = BitVec.ofBool (p && q) := by
  cases p <;> cases q <;> rfl

theorem bit_eq (lo b c : Fin 3) (s : Fin 1024) :
    bit (BitVec.ofNat 32 s.1) (BitVec.ofNat 32 b.1 - BitVec.ofNat 32 lo.1) (BitVec.ofNat 32 c.1 - BitVec.ofNat 32 lo.1)
      = BitVec.ofBool (decide ((lo.1 ≤ s.1 / 16 % 16 + b.1 ∧ s.1 / 16 % 16 + b.1 < lo.1 + 16)
      ∧ (lo.1 ≤ s.1 % 16 + c.1 ∧ s.1 % 16 + c.1 < lo.1 + 16))) := by
  unfold bit
  rw [col_eq, row_eq]
  obtain ⟨h1, h2⟩ := inside_eq lo c ⟨s.1 % 16, by omega⟩
  obtain ⟨h3, h4⟩ := inside_eq lo b ⟨s.1 / 16 % 16, by omega⟩
  simp only at h1 h2 h3 h4
  rw [h1, h2, h3, h4, andi_ofBool, andi_ofBool, andi_ofBool]
  congr 1
  by_cases a1 : lo.1 ≤ s.1 % 16 + c.1 <;> by_cases a2 : s.1 % 16 + c.1 < lo.1 + 16 <;>
    by_cases a3 : lo.1 ≤ s.1 / 16 % 16 + b.1 <;> by_cases a4 : s.1 / 16 % 16 + b.1 < lo.1 + 16 <;>
    simp [a1, a2, a3, a4]

theorem mask_apply {S : Nat} (hS : S ≤ 1024) (lo b c : Fin 3) (o : Fin 1) (s : Fin S) :
    mask (F := Ideal) S (BitVec.ofNat 32 b.1 - BitVec.ofNat 32 lo.1) (BitVec.ofNat 32 c.1 - BitVec.ofNat 32 lo.1) (ix2 o s)
      = if (lo.1 ≤ s.1 / 16 % 16 + b.1 ∧ s.1 / 16 % 16 + b.1 < lo.1 + 16)
        ∧ (lo.1 ≤ s.1 % 16 + c.1 ∧ s.1 % 16 + c.1 < lo.1 + 16) then 1 else 0 := by
  have hl : lanes S (ix2 o s) = BitVec.ofNat 32 s.1 := by
    show BitVec.ofNat 32 (0 * S + s.1) = _
    rw [Nat.zero_mul, Nat.zero_add]
  show (((BitVec.setWidth 32 (bit (lanes S (ix2 o s)) (BitVec.ofNat 32 b.1 - BitVec.ofNat 32 lo.1)
    (BitVec.ofNat 32 c.1 - BitVec.ofNat 32 lo.1))).toInt : ℝ) : EReal) = _
  rw [hl, bit_eq lo b c ⟨s.1, Nat.lt_of_lt_of_le s.2 hS⟩]
  split <;> rename_i h
  · rw [decide_eq_true h]; simp
  · rw [decide_eq_false h]; simp

section Src
variable {t0 z0 P S : Nat}

theorem slice_apply (u : FVec Ideal (s2 (t0 * z0) (S + P)) .f32) (g : Fin t0) (off : Nat) (hoff : off ≤ P)
    (h : (s2 (t0 * z0) (S + P)).Slices ![g.1 * z0, off] (s2 z0 S)) (i : Fin z0) (s : Fin S) :
    extractStridedSlice (s2 z0 S) ![g.1 * z0, off] u h (ix2 i s)
      = u (ix2 ⟨g.1 * z0 + i.1, by have := mul_add_le (z := z0) g; omega⟩ ⟨off + s.1, by omega⟩) :=
  extractStridedSlice_apply _ _ _ _ _ (fun ax => by
    match ax with | ⟨0, _⟩ => rfl | ⟨1, _⟩ => rfl)

theorem place_eq (w d y x a b c lo H off : Nat) (hoff : off + lo * 273 = H + (a * 256 + b * 16 + c))
    (h1 : lo ≤ y + b) (h2 : y + b < lo + 16) (h3 : lo ≤ x + c) (h4 : x + c < lo + 16) :
    (H ≤ 256 * w + (off + (256 * d + 16 * y + x)) ∧ 256 * w + (off + (256 * d + 16 * y + x)) < H + 4096
        ↔ lo ≤ w + d + a ∧ w + d + a < lo + 16)
      ∧ (lo ≤ w + d + a → 256 * w + (off + (256 * d + 16 * y + x)) - H
        = (w + d + a - lo) * 256 + (y + b - lo) * 16 + (x + c - lo)) := by
  obtain ⟨y', hy⟩ := Nat.exists_eq_add_of_le h1
  obtain ⟨x', hx⟩ := Nat.exists_eq_add_of_le h3
  have e : 256 * w + (off + (256 * d + 16 * y + x)) + lo * 256 = H + (256 * (w + d + a) + 16 * y' + x') := by omega
  have hy' : y' < 16 := by omega
  have hx' : x' < 16 := by omega
  rw [hy, hx, Nat.add_sub_cancel_left, Nat.add_sub_cancel_left]
  generalize 256 * w + (off + (256 * d + 16 * y + x)) = q at e ⊢
  generalize w + d + a = z at e ⊢
  clear hoff h1 h2 h3 h4 hy hx
  constructor
  · omega
  · omega

/-- A tap of the layer is the zero-padded input moved by it. -/
theorem src_apply (u : FVec Ideal (s2 (t0 * z0) (S + P)) .f32) (X : Nat → Nat → EReal) {lo H : Nat} (tt : Nat)
    (hlo : lo < 3) (hH : lo * 273 ≤ H) (hS : S ≤ 1024) (hS2 : S % 256 = 0) (ht : tt * S + S ≤ 4096)
    (hu : ∀ r q, u (ix2 r q) = slab S H X tt r.1 q.1)
    {taps : List (Tap P)} (htaps : IsTaps lo H taps) (ti : Nat) (hti : ti < taps.length) (g : Fin t0) (i : Fin z0) (s : Fin S) :
    src S u g (taps.get ⟨ti, hti⟩) (ix2 i s)
      = tapv lo X (g.1 * z0 + i.1) (tt * S + s.1) (ti / 9) (ti / 3 % 3) (ti % 3) := by
  obtain ⟨hlen, hall⟩ := htaps
  obtain ⟨hoff, hm⟩ := hall ⟨ti, hlen ▸ hti⟩
  change (taps.get ⟨ti, hti⟩).off + _ = _ at hoff
  change ((taps.get ⟨ti, hti⟩).m = _ ∧ _) ∨ (taps.get ⟨ti, hti⟩).m = _ at hm
  simp only at hoff hm
  generalize taps.get ⟨ti, hti⟩ = t at hoff hm ⊢
  have hti27 : ti < 27 := hlen ▸ hti
  have hs := s.2
  obtain ⟨m, rfl⟩ : ∃ m, S = 256 * m := ⟨S / 256, by omega⟩
  have hz : (tt * (256 * m) + s.1) / 256 = tt * m + s.1 / 256 := by
    rw [show tt * (256 * m) = 256 * (tt * m) by ring]; omega
  have hy : (tt * (256 * m) + s.1) / 16 % 16 = s.1 / 16 % 16 := by
    rw [show tt * (256 * m) = 256 * (tt * m) by ring]; omega
  have hx : (tt * (256 * m) + s.1) % 16 = s.1 % 16 := by
    rw [show tt * (256 * m) = 256 * (tt * m) by ring]; omega
  have hp : tt * (256 * m) = 256 * (tt * m) := by ring
  have key : (lo ≤ s.1 / 16 % 16 + ti / 3 % 3 ∧ s.1 / 16 % 16 + ti / 3 % 3 < lo + 16)
      ∧ (lo ≤ s.1 % 16 + ti % 3 ∧ s.1 % 16 + ti % 3 < lo + 16) →
      slab (256 * m) H X tt (g.1 * z0 + i.1) (t.off + s.1)
        = tapv lo X (g.1 * z0 + i.1) (tt * (256 * m) + s.1) (ti / 9) (ti / 3 % 3) (ti % 3) := by
    rintro ⟨⟨h1, h2⟩, h3, h4⟩
    obtain ⟨e1, e2⟩ := place_eq (tt * m) (s.1 / 256) (s.1 / 16 % 16) (s.1 % 16) (ti / 9) (ti / 3 % 3) (ti % 3) lo H t.off hoff h1 h2 h3 h4
    have hd : 256 * (s.1 / 256) + 16 * (s.1 / 16 % 16) + s.1 % 16 = s.1 := by omega
    rw [hd] at e1 e2
    unfold slab tapv
    rw [hz, hy, hx, hp]
    by_cases hc : lo ≤ tt * m + s.1 / 256 + ti / 9 ∧ tt * m + s.1 / 256 + ti / 9 < lo + 16
    · rw [if_pos (e1.2 hc), if_pos ⟨hc, ⟨h1, h2⟩, h3, h4⟩, e2 hc.1]
    · rw [if_neg (fun h => hc (e1.1 h)), if_neg (fun h => hc h.1)]
  obtain ⟨off, hoff', mm⟩ := t
  simp only at hoff hm key
  rcases hm with ⟨h, hb, hc⟩ | h
  · subst h
    refine (slice_apply u g off hoff' (slices2 _ _ (mul_add_le g) (by omega)) i s).trans ?_
    rw [hu]
    refine key ?_
    rw [hb, hc]; omega
  · subst h
    refine (congrArg₂ (· * ·) (slice_apply u g off hoff' (slices2 _ _ (mul_add_le g) (by omega)) i s) (broadcastTo_1b_ab_apply (mask (F := Ideal) (256 * m) _ _) _ i s)).trans ?_
    rw [hu]
    simp only
    rw [mask_apply hS ⟨lo, hlo⟩ ⟨ti / 3 % 3, by omega⟩ ⟨ti % 3, by omega⟩]
    simp only
    split <;> rename_i hin
    · rw [mul_one]; exact key hin
    · rw [mul_zero]
      unfold tapv
      rw [hy, hx, if_neg (fun h => hin h.2)]

end Src

section Col
variable {t0 z0 P S : Nat}

theorem canon_addTaps_old (u : FVec Ideal (s2 (t0 * z0) (S + P)) .f32) (g : Fin t0) (nt : Nat) :
    ∀ (ts : List (Tap P)) (ti : Nat) (h : ti + ts.length ≤ nt) (L : List (View.Piece (Elt Ideal) (s2 (nt * z0) S) .f32))
      (r : Fin (nt * z0)) (s : Fin S), r.1 < ti * z0 →
      View.canon (addTaps S u g nt ts ti h L) (ix2 r s) = View.canon L (ix2 r s)
  | [], _, _, _, _, _, _ => rfl
  | t :: ts, ti, h, L, r, s, hr => by
    refine (canon_addTaps_old u g nt ts (ti + 1) _ _ r s (by rw [Nat.succ_mul]; omega)).trans ?_
    exact View.canon_cons_of_not_mem _ _ (Rect.not_mem_set_of_axis _ _ (0 : Fin 2) (ti * z0) z0 rfl rfl rfl (Or.inl hr))

theorem canon_addTaps (u : FVec Ideal (s2 (t0 * z0) (S + P)) .f32) (g : Fin t0) (nt : Nat) :
    ∀ (ts : List (Tap P)) (ti : Nat) (h : ti + ts.length ≤ nt) (L : List (View.Piece (Elt Ideal) (s2 (nt * z0) S) .f32))
      (k : Nat) (hk : k < ts.length) (i : Fin z0) (s : Fin S) (r : Fin (nt * z0)), r.1 = (ti + k) * z0 + i.1 →
      View.canon (addTaps S u g nt ts ti h L) (ix2 r s) = src S u g (ts.get ⟨k, hk⟩) (ix2 i s)
  | t :: ts, ti, h, L, 0, hk, i, s, r, hr => by
    rw [Nat.add_zero] at hr
    refine (canon_addTaps_old u g nt ts (ti + 1) _ _ r s (by rw [Nat.succ_mul]; omega)).trans ?_
    have e : ix2 r s = (Rect.unit (s := s2 (nt * z0) S) ![ti * z0, 0] (s2 z0 S).size (inb2 _ _
          (mul_add_le (⟨ti, by simp only [List.length_cons] at h; omega⟩ : Fin nt)) (Nat.zero_add S).le)).emb (ix2 i s) := by
      funext a; apply Fin.ext
      match a with
      | ⟨0, _⟩ => show r.1 = ti * z0 + 1 * i.1; rw [hr, Nat.one_mul]
      | ⟨1, _⟩ => show s.1 = 0 + 1 * s.1; omega
    rw [e]
    refine (View.canon_cons_emb _ _ _ _).trans ?_
    exact congrFun (shapeCast_self _ _) _
  | t :: ts, ti, h, L, k + 1, hk, i, s, r, hr => by
    refine (canon_addTaps u g nt ts (ti + 1) _ _ k (by simpa using hk) i s r ?_).trans rfl
    rw [hr, show ti + 1 + k = ti + (k + 1) by omega]

/-- The gathered rows at an index. -/
theorem col_apply {sig : RefSig} (arg5 : Memref sig .tc .vmem (s2 (27 * z0) S) .f32) (u : FVec Ideal (s2 (t0 * z0) (S + P)) .f32)
    (taps : List (Tap P)) (hlen : taps.length = 27) (hn : taps.length ≤ 27) (g : Fin t0) (ti : Fin 27) (i : Fin z0) (s : Fin S) (r : Fin (27 * z0))
    (hr : r.1 = ti.1 * z0 + i.1) :
    col S 27 arg5 u taps hn g (ix2 r s) = src S u g (taps.get (ti.cast hlen.symm)) (ix2 i s) := by
  unfold col
  rw [View.readCov_eq_canon']
  have e : (Rect.unit (s := s2 (27 * z0) S) ![0, 0] (s2 (27 * z0) S).size (inb2 _ _ (Nat.zero_add _).le (Nat.zero_add S).le)).toLoadRect.idx (ix2 r s)
      = ix2 r s := by
    funext a; apply Fin.ext
    match a with
    | ⟨0, _⟩ => show 0 + 1 * r.1 = r.1; omega
    | ⟨1, _⟩ => show 0 + 1 * s.1 = s.1; omega
  refine (congrArg (View.canon _) e).trans ?_
  exact canon_addTaps u g 27 taps 0 _ _ ti.1 (by have := ti.2; omega) i s r (by rw [hr, Nat.zero_add])

end Col

section Loads
variable {t0 z0 P S : Nat} {sig : RefSig}

theorem uload_apply (arg1 : Memref sig .tc .vmem (s3 1 (t0 * z0) (S + P)) .f32) (h1 : arg1.IsWhole)
    (x0 : FVec Ideal (s3 1 (t0 * z0) (S + P)) .f32) (r : Fin (t0 * z0)) (q : Fin (S + P)) :
    uload S arg1 h1 x0 (ix2 r q) = x0 (ix3 (0 : Fin 1) r q) := by
  unfold uload
  rw [shapeCast_1ab_ab_apply, Memref.IsWhole.readAt_unread]
  congr 1
  funext a; apply Fin.ext
  match a with
  | ⟨0, _⟩ => rfl
  | ⟨1, _⟩ => show 0 + 1 * r.1 = r.1; omega
  | ⟨2, _⟩ => show 0 + 1 * q.1 = q.1; omega

theorem wload_apply {K M : Nat} (arg2 : Memref sig .tc .vmem (s3 t0 M K) .bf16) (h2 : arg2.IsWhole)
    (x1 : FVec Ideal (s3 t0 M K) .bf16) (g : Fin t0) (o : Fin 1) (m : Fin M) (k : Fin K) :
    wload arg2 h2 x1 g (ix3 o m k) = x1 (ix3 g m k) := by
  unfold wload
  rw [Memref.IsWhole.readAt_unread]
  congr 1
  funext a; apply Fin.ext
  match a with
  | ⟨0, _⟩ => show g.1 + 1 * o.1 = g.1; omega
  | ⟨1, _⟩ => show 0 + 1 * m.1 = m.1; omega
  | ⟨2, _⟩ => show 0 + 1 * k.1 = k.1; omega

theorem prod_apply {K M : Nat} (w : FVec Ideal (s3 1 M K) .bf16) (cl : FVec Ideal (s2 K S) .f32) (m : Fin M) (s : Fin S) :
    prod S w cl (ix2 m s) = ∑ k : Fin K, w (ix3 (0 : Fin 1) m k) * cl (ix2 k s) := by
  unfold prod
  refine (Ideal.matmul_apply₁_of (DotDims.plain M K S) (a := 1) rfl rfl _ _ _ (ix2 m s) (fun k => ix2 m k) (fun k => ix2 k s) ?_ ?_).trans ?_
  · intro k; funext a; match a with | ⟨0, _⟩ => rfl | ⟨1, _⟩ => rfl
  · intro k; funext a; match a with | ⟨0, _⟩ => rfl | ⟨1, _⟩ => rfl
  · rw [constant_apply, bits_zero, zero_add]
    refine Finset.sum_congr rfl fun k _ => ?_
    exact congrArg (· * cl (ix2 k s)) (shapeCast_1ab_ab_apply w _ m k)

theorem canon_uhatL {t1 z1 : Nat} (q : Fin t0 → FVec Ideal (s2 (t1 * z1) S) .f32) (g : Fin t0) (j : Fin t1) (k : Fin z1)
    (s : Fin S) (m : Fin (t1 * z1)) (hm : m.1 = j.1 * z1 + k.1) : ∀ (n : Nat) (h : n ≤ t0), g.1 < n →
      View.canon (uhatL t1 z1 S q n h) (ix4 g j k s) = q g (ix2 m s)
  | n + 1, h, hg => by
    by_cases e : g.1 = n
    · have e' : ix4 g j k s = (Rect.unit (s := s4 t0 t1 z1 S) ![n, 0, 0, 0] (s4 1 t1 z1 S).size (inb4 (⟨n, h⟩ : Fin t0))).emb
          (ix4 (0 : Fin 1) j k s) := by
        funext a; apply Fin.ext
        match a with
        | ⟨0, _⟩ => exact e
        | ⟨1, _⟩ => show j.1 = 0 + 1 * j.1; omega
        | ⟨2, _⟩ => show k.1 = 0 + 1 * k.1; omega
        | ⟨3, _⟩ => show s.1 = 0 + 1 * s.1; omega
      rw [e']
      refine (View.canon_cons_emb _ _ _ _).trans ?_
      refine (shapeCast_abc_1abc_apply _ _ _ _ _ _).trans ?_
      refine (cast_split_apply _ _ _ _ _ m hm).trans ?_
      rw [show (⟨n, h⟩ : Fin t0) = g from Fin.ext e.symm]
    · exact (View.canon_cons_of_not_mem _ _ (Rect.not_mem_set_of_axis _ _ (0 : Fin 4) n 1 rfl rfl rfl
        (Or.inl (show g.1 < n by omega)))).trans (canon_uhatL q g j k s m hm n _ (by omega))

theorem uhat_apply {t1 z1 : Nat} (arg4 : Memref sig .tc .vmem (s4 t0 t1 z1 S) .f32) (q : Fin t0 → FVec Ideal (s2 (t1 * z1) S) .f32)
    (g : Fin t0) (o : Fin 1) (j : Fin t1) (k : Fin z1) (s : Fin S) (m : Fin (t1 * z1)) (hm : m.1 = j.1 * z1 + k.1) :
    uhat t1 z1 S arg4 q g (ix4 o j k s) = q g (ix2 m s) := by
  unfold uhat
  rw [View.readCov_eq_canon']
  have e : (Rect.unit (s := s4 t0 t1 z1 S) ![g.1, 0, 0, 0] (s4 1 t1 z1 S).size (inb4 g)).toLoadRect.idx (ix4 o j k s)
      = ix4 g j k s := by
    funext a; apply Fin.ext
    match a with
    | ⟨0, _⟩ => show g.1 + 1 * o.1 = g.1; omega
    | ⟨1, _⟩ => show 0 + 1 * j.1 = j.1; omega
    | ⟨2, _⟩ => show 0 + 1 * k.1 = k.1; omega
    | ⟨3, _⟩ => show 0 + 1 * s.1 = s.1; omega
  refine (congrArg (View.canon _) e).trans ?_
  exact canon_uhatL q g j k s m hm t0 _ g.2

end Loads

end Caps

end
-- ==== Proof.Block.lean ====
/- A layer's block in extended reals as a function of its input and its weights. -/
module

public import proofs.«01_k».proof.Proof.Cols
public import Idealize.ShloMosaic.Lib.Pipeline.Value

@[expose] public section

noncomputable section

namespace Caps

open Idealize.ShloMosaic hiding ix1 ix2 ix3 ix4 ix5
open Idealize.ShloMosaic.ValueIdx

/-- The product of a row of weights (input channel, tap) with the window of type g's channels at position p. -/
def conv (z0 lo : Nat) (X : Nat → Nat → EReal) (w : Nat → Nat → EReal) (g p : Nat) : EReal :=
  ∑ ti : Fin 27, ∑ i : Fin z0, w i.1 ti.1 * tapv lo X (g * z0 + i.1) p (ti.1 / 9) (ti.1 / 3 % 3) (ti.1 % 3)

/-- The products of every input type for every output type at position p: weights by input type, row, channel, tap. -/
def uhv (t0 z0 t1 z1 lo : Nat) (X : Nat → Nat → EReal) (w : Nat → Nat → Nat → Nat → EReal) (p : Nat) (g : Fin t0) (j : Fin t1)
    (k : Fin z1) : EReal := conv z0 lo X (w g.1 (j.1 * z1 + k.1)) g.1 p

theorem sum_taps {M : Type*} [AddCommMonoid M] (z : Nat) (f : Fin (27 * z) → M) (F : Nat → Nat → M)
    (h : ∀ (ti : Fin 27) (i : Fin z) (r : Fin (27 * z)), r.1 = ti.1 * z + i.1 → f r = F ti.1 i.1) :
    ∑ r, f r = ∑ ti : Fin 27, ∑ i : Fin z, F ti.1 i.1 := by
  rw [← Fintype.sum_equiv finProdFinEquiv (fun x : Fin 27 × Fin z => F x.1.1 x.2.1) f (fun x => (h x.1 x.2 _ (by
    show x.2.1 + z * x.1.1 = _; rw [Nat.mul_comm, Nat.add_comm])).symm), Fintype.sum_prod_type]

section
variable {t0 z0 P : Nat} {S : Nat} {sig : RefSig}

/-- The product of type g at an index. -/
theorem product_apply {M lo H tt : Nat} (hlo : lo < 3) (hH : lo * 273 ≤ H) (hS : S ≤ 1024) (hS2 : S % 256 = 0)
    (ht : tt * S + S ≤ 4096) {taps : List (Tap P)} (htaps : IsTaps lo H taps) (hn : taps.length ≤ 27)
    (arg1 : Memref sig .tc .vmem (s3 1 (t0 * z0) (S + P)) .f32) (h1 : arg1.IsWhole)
    (arg2 : Memref sig .tc .vmem (s3 t0 M (27 * z0)) .bf16) (h2 : arg2.IsWhole)
    (arg5 : Memref sig .tc .vmem (s2 (27 * z0) S) .f32)
    (x0 : FVec Ideal (s3 1 (t0 * z0) (S + P)) .f32) (x1 : FVec Ideal (s3 t0 M (27 * z0)) .bf16)
    (X : Nat → Nat → EReal) (w : Nat → Nat → Nat → Nat → EReal)
    (hx : ∀ r q, x0 (ix3 (0 : Fin 1) r q) = slab S H X tt r.1 q.1)
    (hw : ∀ (g : Fin t0) (m : Fin M) (ti : Fin 27) (i : Fin z0) (k : Fin (27 * z0)), k.1 = ti.1 * z0 + i.1 →
      x1 (ix3 g m k) = w g.1 m.1 i.1 ti.1) (g : Fin t0) (m : Fin M) (s : Fin S) :
    prod S (wload arg2 h2 x1 g) (col S 27 arg5 (uload S arg1 h1 x0) taps hn g) (ix2 m s)
      = conv z0 lo X (w g.1 m.1) g.1 (tt * S + s.1) := by
  rw [prod_apply]
  refine sum_taps z0 _ (fun ti i => w g.1 m.1 i ti * tapv lo X (g.1 * z0 + i) (tt * S + s.1) (ti / 9) (ti / 3 % 3) (ti % 3)) ?_
  intro ti i r hr
  rw [wload_apply, hw g m ti i r hr, col_apply arg5 _ taps htaps.1 hn g ti i s r hr]
  rw [← src_apply (uload S arg1 h1 x0) X tt hlo hH hS hS2 ht (fun r q => (uload_apply arg1 h1 x0 r q).trans (hx r q)) htaps ti.1
    (by have := ti.2; have := htaps.1; omega) g i s]
  rfl

/-- A layer's block at an index. -/
theorem bodyOut_apply {t1 z1 n tt H : Nat} (h0 : 0 < t0) (hH : 273 ≤ H) (hS : S ≤ 1024) (hS2 : S % 256 = 0)
    (ht : tt * S + S ≤ 4096) {taps : List (Tap P)} (htaps : IsTaps 1 H taps) (hn : taps.length ≤ 27)
    (arg1 : Memref sig .tc .vmem (s3 1 (t0 * z0) (S + P)) .f32) (h1 : arg1.IsWhole)
    (arg2 : Memref sig .tc .vmem (s3 t0 (t1 * z1) (27 * z0)) .bf16) (h2 : arg2.IsWhole)
    (arg4 : Memref sig .tc .vmem (s4 t0 t1 z1 S) .f32) (arg5 : Memref sig .tc .vmem (s2 (27 * z0) S) .f32)
    (x0 : FVec Ideal (s3 1 (t0 * z0) (S + P)) .f32) (x1 : FVec Ideal (s3 t0 (t1 * z1) (27 * z0)) .bf16)
    (X : Nat → Nat → EReal) (w : Nat → Nat → Nat → Nat → EReal)
    (hx : ∀ r q, x0 (ix3 (0 : Fin 1) r q) = slab S H X tt r.1 q.1)
    (hw : ∀ (g : Fin t0) (m : Fin (t1 * z1)) (ti : Fin 27) (i : Fin z0) (k : Fin (27 * z0)), k.1 = ti.1 * z0 + i.1 →
      x1 (ix3 g m k) = w g.1 m.1 i.1 ti.1) (j : Fin t1) (k : Fin z1) (m : Fin (t1 * z1)) (hm : m.1 = j.1 * z1 + k.1) (s : Fin S) :
    bodyOut t1 z1 S 27 n h0 taps hn arg1 h1 arg2 h2 arg4 arg5 x0 x1 (ix2 m s)
      = route n (uhv t0 z0 t1 z1 1 X w (tt * S + s.1)) j k := by
  unfold bodyOut
  rw [cast_join_apply _ _ j k s m hm, routed_apply _ (fun x j s => broadcastTo_1b_ab_apply x _ j s)]
  refine congrArg (fun u => route n u j k) (funext fun g => funext fun j => funext fun k => ?_)
  have hlt : j.1 * z1 + k.1 < t1 * z1 := by have := mul_add_le (z := z1) j; omega
  rw [uhat_apply arg4 _ g 0 j k s ⟨j.1 * z1 + k.1, hlt⟩ rfl,
    product_apply (by decide : 1 < 3) hH hS hS2 ht htaps hn arg1 h1 arg2 h2 arg5 x0 x1 X w hx hw]
  rfl

/-- The last layer's block at an index. -/
theorem bodyOutN_apply {z1 n tt H : Nat} (h0 : 0 < t0) (hH : 273 ≤ H) (hS : S ≤ 1024) (hS2 : S % 256 = 0)
    (ht : tt * S + S ≤ 4096) {taps : List (Tap P)} (htaps : IsTaps 1 H taps) (hn : taps.length ≤ 27)
    (arg1 : Memref sig .tc .vmem (s3 1 (t0 * z0) (S + P)) .f32) (h1 : arg1.IsWhole)
    (arg2 : Memref sig .tc .vmem (s3 t0 (1 * z1) (27 * z0)) .bf16) (h2 : arg2.IsWhole)
    (arg4 : Memref sig .tc .vmem (s4 t0 1 z1 S) .f32) (arg5 : Memref sig .tc .vmem (s2 (27 * z0) S) .f32)
    (x0 : FVec Ideal (s3 1 (t0 * z0) (S + P)) .f32) (x1 : FVec Ideal (s3 t0 (1 * z1) (27 * z0)) .bf16)
    (X : Nat → Nat → EReal) (w : Nat → Nat → Nat → Nat → EReal)
    (hx : ∀ r q, x0 (ix3 (0 : Fin 1) r q) = slab S H X tt r.1 q.1)
    (hw : ∀ (g : Fin t0) (m : Fin (1 * z1)) (ti : Fin 27) (i : Fin z0) (k : Fin (27 * z0)), k.1 = ti.1 * z0 + i.1 →
      x1 (ix3 g m k) = w g.1 m.1 i.1 ti.1) (o : Fin 1) (s : Fin S) :
    bodyOutN z1 S 27 n h0 taps hn arg1 h1 arg2 h2 arg4 arg5 x0 x1 (ix2 o s)
      = nrm (route n (uhv t0 z0 1 z1 1 X w (tt * S + s.1))) := by
  unfold bodyOutN
  rw [normOut_apply]
  refine congrArg nrm (funext fun j => funext fun k => ?_)
  rw [routed_apply _ (fun x j s => congrArg (fun i => x (ix2 i s)) (Subsingleton.elim j 0))]
  refine congrArg (fun u => route n u j k) (funext fun g => funext fun j => funext fun k => ?_)
  have hlt : j.1 * z1 + k.1 < 1 * z1 := by have := mul_add_le (z := z1) j; omega
  rw [uhat_apply arg4 _ g 0 j k s ⟨j.1 * z1 + k.1, hlt⟩ rfl,
    product_apply (by decide : 1 < 3) hH hS hS2 ht htaps hn arg1 h1 arg2 h2 arg5 x0 x1 X w hx hw]
  rfl

theorem col0_apply (u : FVec Ideal (s2 (1 * 4) (1024 + 2048)) .f32) (ti : Fin 27) (i : Fin 4) (s : Fin 1024) (r : Fin 108)
    (hr : r.1 = ti.1 * 4 + i.1) : col0 u (ix2 r s) = src 1024 u (0 : Fin 1) (taps5.get ti) (ix2 i s) := by
  unfold col0
  refine concatenate_apply_piece (0 : Fin 2) (pieces0 u) (concat0 u) (ix2 r s) ti.1 ti.2 (s2 4 1024) (src 1024 u (0 : Fin 1) (taps5.get ti))
    ?_ rfl (4 * ti.1) ?_ (ix2 i s) ?_ ?_
  · exact List.getElem_map (l := taps5) (fun t => (⟨s2 4 1024, src 1024 u (0 : Fin 1) t⟩ : (s : Shape) × FVec Ideal s .f32))
  · rw [List.map_take]
    show ((List.take ti.1 (List.replicate 27 (s2 4 1024))).map _).sum = _
    rw [List.take_replicate, List.map_replicate, List.sum_replicate, Nat.min_eq_left (by omega)]
    show ti.1 * 4 = _
    omega
  · intro b hb
    match b with
    | ⟨0, _⟩ => exact absurd rfl hb
    | ⟨1, _⟩ => rfl
  · show 4 * ti.1 + i.1 = r.1
    omega

/-- The first layer's block at an index. -/
theorem bodyOut0_apply {tt : Nat} (ht : tt * 1024 + 1024 ≤ 4096)
    (arg1 : Memref sig .tc .vmem (s3 1 (1 * 4) (1024 + 2048)) .f32) (h1 : arg1.IsWhole)
    (arg2 : Memref sig .tc .vmem (s3 1 16 108) .bf16) (h2 : arg2.IsWhole)
    (x0 : FVec Ideal (s3 1 (1 * 4) (1024 + 2048)) .f32) (x1 : FVec Ideal (s3 1 16 108) .bf16)
    (X : Nat → Nat → EReal) (w : Nat → Nat → Nat → Nat → EReal)
    (hx : ∀ r q, x0 (ix3 (0 : Fin 1) r q) = slab 1024 1024 X tt r.1 q.1)
    (hw : ∀ (g : Fin 1) (m : Fin 16) (ti : Fin 27) (i : Fin 4) (k : Fin 108), k.1 = ti.1 * 4 + i.1 →
      x1 (ix3 g m k) = w g.1 m.1 i.1 ti.1) (m : Fin 16) (s : Fin 1024) :
    bodyOut0 arg1 h1 arg2 h2 x0 x1 (ix2 m s) = max (conv 4 2 X (w 0 m.1) 0 (tt * 1024 + s.1)) 0 := by
  unfold bodyOut0
  rw [maximumf_apply, prod_apply]
  refine congrArg₂ max ?_ bits_zero
  refine sum_taps 4 _ (fun ti i => w 0 m.1 i ti * tapv 2 X (0 * 4 + i) (tt * 1024 + s.1) (ti / 9) (ti / 3 % 3) (ti % 3)) ?_
  intro ti i r hr
  rw [wload_apply, hw 0 m ti i r hr, col0_apply _ ti i s r hr]
  exact congrArg (w 0 m.1 i.1 ti.1 * ·) (src_apply (uload 1024 arg1 h1 x0) X tt (by decide : 2 < 3) (by decide : 2 * 273 ≤ 1024)
    (Nat.le_refl _) rfl ht (fun r q => (uload_apply arg1 h1 x0 r q).trans (hx r q)) isTaps5 ti.1 ti.2 (0 : Fin 1) i s)

end

end Caps

end
-- ==== Proof.Regions.lean ====
/- What each region leaves in its result, from what it finds in its input and its weights. -/
module

public import proofs.«01_k».proof.Proof.Match
public import proofs.«01_k».proof.Proof.Block
public import Idealize.ShloMosaic.Lib.Pipeline.ValueKit
public import Idealize.ShloMosaic.Lib.VecWindow

@[expose] public section

set_option maxRecDepth 16384

noncomputable section

namespace Caps

open Idealize.ShloMosaic hiding ix1 ix2 ix3 ix4 ix5
open Idealize.ShloMosaic.ValueIdx Idealize.ShloMosaic.TcCoe Cert.KernelIdeal Cert.KernelIdeal.Gen

/-- A capsule layer as a function of the row and the position. -/
def caps (n t0 z0 t1 z1 : Nat) (X : Nat → Nat → EReal) (w : Nat → Nat → Nat → Nat → EReal) (m p : Nat) : EReal :=
  if h : m / z1 < t1 ∧ m % z1 < z1 then route n (uhv t0 z0 t1 z1 1 X w p) ⟨m / z1, h.1⟩ ⟨m % z1, h.2⟩ else 0

theorem caps_of {n t0 z0 t1 z1 : Nat} (X : Nat → Nat → EReal) (w : Nat → Nat → Nat → Nat → EReal) (m p : Nat) (j : Fin t1) (k : Fin z1)
    (hm : m = j.1 * z1 + k.1) : caps n t0 z0 t1 z1 X w m p = route n (uhv t0 z0 t1 z1 1 X w p) j k := by
  have hj : m / z1 = j.1 := by
    rw [hm, Nat.add_comm, Nat.add_mul_div_right _ _ (by have := k.2; omega), Nat.div_eq_of_lt k.2, Nat.zero_add]
  have hk : m % z1 = k.1 := by
    rw [hm, Nat.add_comm, Nat.add_mul_mod_self_right, Nat.mod_eq_of_lt k.2]
  unfold caps
  rw [dif_pos ⟨by rw [hj]; exact j.2, by rw [hk]; exact k.2⟩]
  congr 1
  · exact Fin.ext hj
  · exact Fin.ext hk

variable {t0 z0 t1 z1 P S : Nat}

theorem body_at {n tt H : Nat} (h0 : 0 < t0) (hz : 0 < z1) (hH : 273 ≤ H) (hS : S ≤ 1024) (hS2 : S % 256 = 0)
    (ht : tt * S + S ≤ 4096) {taps : List (Tap P)} (htaps : IsTaps 1 H taps) (hn : taps.length ≤ 27)
    (arg1 : Memref sig .tc .vmem (s3 1 (t0 * z0) (S + P)) .f32) (h1 : arg1.IsWhole)
    (arg2 : Memref sig .tc .vmem (s3 t0 (t1 * z1) (27 * z0)) .bf16) (h2 : arg2.IsWhole)
    (arg4 : Memref sig .tc .vmem (s4 t0 t1 z1 S) .f32) (arg5 : Memref sig .tc .vmem (s2 (27 * z0) S) .f32)
    (x0 : FVec Ideal (s3 1 (t0 * z0) (S + P)) .f32) (x1 : FVec Ideal (s3 t0 (t1 * z1) (27 * z0)) .bf16)
    (X : Nat → Nat → EReal) (w : Nat → Nat → Nat → Nat → EReal)
    (hx : ∀ r q, x0 (ix3 (0 : Fin 1) r q) = slab S H X tt r.1 q.1)
    (hw : ∀ (g : Fin t0) (m : Fin (t1 * z1)) (ti : Fin 27) (i : Fin z0) (k : Fin (27 * z0)), k.1 = ti.1 * z0 + i.1 →
      x1 (ix3 g m k) = w g.1 m.1 i.1 ti.1) (y : (s2 (t1 * z1) S).Idx) :
    bodyOut t1 z1 S 27 n h0 taps hn arg1 h1 arg2 h2 arg4 arg5 x0 x1 y
      = caps n t0 z0 t1 z1 X w (y 0).1 (tt * S + (y 1).1) := by
  have hy : y = ix2 (y 0) (y 1) := by
    funext a
    match a with
    | ⟨0, _⟩ => rfl
    | ⟨1, _⟩ => rfl
  have hlt : (y 0).1 < z1 * t1 := by
    have h : (y 0).1 < t1 * z1 := (y 0).2
    exact Nat.mul_comm t1 z1 ▸ h
  have e : (y 0).1 = ((y 0).1 / z1) * z1 + (y 0).1 % z1 := (Nat.div_add_mod' _ _).symm
  rw [caps_of X w (y 0).1 _ ⟨(y 0).1 / z1, Nat.div_lt_of_lt_mul hlt⟩ ⟨(y 0).1 % z1, Nat.mod_lt _ hz⟩ e]
  conv_lhs => rw [hy]
  exact bodyOut_apply h0 hH hS hS2 ht htaps hn arg1 h1 arg2 h2 arg4 arg5 x0 x1 X w hx hw _ _ _ e _

/-- Weights: by input type, row, channel, tap. -/
def IsW (t0 z0 M : Nat) (x : FVec Ideal (s3 t0 M (27 * z0)) .bf16) (w : Nat → Nat → Nat → Nat → EReal) : Prop :=
  ∀ (g : Fin t0) (m : Fin M) (ti : Fin 27) (i : Fin z0) (k : Fin (27 * z0)), k.1 = ti.1 * z0 + i.1 →
      x (ix3 g m k) = w g.1 m.1 i.1 ti.1

def IsSlabs (T R S P H : Nat) (x : FVec Ideal (s3 T R (S + P)) .f32) (X : Nat → Nat → EReal) : Prop :=
  ∀ tt r q, x (ix3 tt r q) = slab S H X tt.1 r.1 q.1

def IsRows (R : Nat) (x : FVec Ideal (s2 R 4096) .f32) (X : Nat → Nat → EReal) : Prop :=
  ∀ i : (s2 R 4096).Idx, x i = X (i 0).1 (i 1).1

/-- The first layer as a function of the row and the position. -/
def conv1 (X : Nat → Nat → EReal) (w : Nat → Nat → Nat → Nat → EReal) (m p : Nat) : EReal := max (conv 4 2 X (w 0 m) 0 p) 0

/-- The last layer, one row, as a function of the row and the position. -/
def capsN (n t0 z0 z1 : Nat) (X : Nat → Nat → EReal) (w : Nat → Nat → Nat → Nat → EReal) (_ p : Nat) : EReal :=
  nrm (route n (uhv t0 z0 1 z1 1 X w p))

theorem body_at0 {tt : Nat} (ht : tt * 1024 + 1024 ≤ 4096)
    (arg1 : Memref sig .tc .vmem (s3 1 (1 * 4) (1024 + 2048)) .f32) (h1 : arg1.IsWhole)
    (arg2 : Memref sig .tc .vmem (s3 1 16 108) .bf16) (h2 : arg2.IsWhole)
    (x0 : FVec Ideal (s3 1 (1 * 4) (1024 + 2048)) .f32) (x1 : FVec Ideal (s3 1 16 108) .bf16)
    (X : Nat → Nat → EReal) (w : Nat → Nat → Nat → Nat → EReal)
    (hx : ∀ r q, x0 (ix3 (0 : Fin 1) r q) = slab 1024 1024 X tt r.1 q.1)
    (hw : ∀ (g : Fin 1) (m : Fin 16) (ti : Fin 27) (i : Fin 4) (k : Fin 108), k.1 = ti.1 * 4 + i.1 →
      x1 (ix3 g m k) = w g.1 m.1 i.1 ti.1) (y : (s2 16 1024).Idx) :
    bodyOut0 arg1 h1 arg2 h2 x0 x1 y = conv1 X w (y 0).1 (tt * 1024 + (y 1).1) := by
  have hy : y = ix2 (y 0) (y 1) := by
    funext a
    match a with
    | ⟨0, _⟩ => rfl
    | ⟨1, _⟩ => rfl
  conv_lhs => rw [hy]
  exact bodyOut0_apply ht arg1 h1 arg2 h2 x0 x1 X w hx hw _ _

theorem body_atN {n tt H : Nat} (h0 : 0 < t0) (hH : 273 ≤ H) (hS : S ≤ 1024) (hS2 : S % 256 = 0)
    (ht : tt * S + S ≤ 4096) {taps : List (Tap P)} (htaps : IsTaps 1 H taps) (hn : taps.length ≤ 27)
    (arg1 : Memref sig .tc .vmem (s3 1 (t0 * z0) (S + P)) .f32) (h1 : arg1.IsWhole)
    (arg2 : Memref sig .tc .vmem (s3 t0 (1 * z1) (27 * z0)) .bf16) (h2 : arg2.IsWhole)
    (arg4 : Memref sig .tc .vmem (s4 t0 1 z1 S) .f32) (arg5 : Memref sig .tc .vmem (s2 (27 * z0) S) .f32)
    (x0 : FVec Ideal (s3 1 (t0 * z0) (S + P)) .f32) (x1 : FVec Ideal (s3 t0 (1 * z1) (27 * z0)) .bf16)
    (X : Nat → Nat → EReal) (w : Nat → Nat → Nat → Nat → EReal)
    (hx : ∀ r q, x0 (ix3 (0 : Fin 1) r q) = slab S H X tt r.1 q.1)
    (hw : ∀ (g : Fin t0) (m : Fin (1 * z1)) (ti : Fin 27) (i : Fin z0) (k : Fin (27 * z0)), k.1 = ti.1 * z0 + i.1 →
      x1 (ix3 g m k) = w g.1 m.1 i.1 ti.1) (y : (s2 1 S).Idx) :
    bodyOutN z1 S 27 n h0 taps hn arg1 h1 arg2 h2 arg4 arg5 x0 x1 y
      = capsN n t0 z0 z1 X w (y 0).1 (tt * S + (y 1).1) := by
  have hy : y = ix2 (y 0) (y 1) := by
    funext a
    match a with
    | ⟨0, _⟩ => rfl
    | ⟨1, _⟩ => rfl
  conv_lhs => rw [hy]
  exact bodyOutN_apply h0 hH hS hS2 ht htaps hn arg1 h1 arg2 h2 arg4 arg5 x0 x1 X w hx hw _ _

variable (V : (c : Dev nD) → (b : Ref sig .tc) → Buf (Elt Ideal) ((c : Thread nD τ).loc b))

theorem region0 (c : Dev nD) (X : Nat → Nat → EReal) (w : Nat → Nat → Nat → Nat → EReal)
    (hx : IsSlabs 4 4 1024 2048 1024 (V c main_v17) X) (hw : IsW 1 4 16 (V c main_v7) w) :
    IsRows 16 ((dat0 V c).arrAt 2 cfg0.N) (conv1 X w) := by
  refine congrFun (g := fun i : (s2 16 4096).Idx => conv1 X w (i 0).1 (i 1).1)
    ((dat0 V c).arrAt_eq_of_covers 2 _ (by decide +kernel) fun t hf y => ?_)
  have ht : t.1 < 4 := t.2
  have e2 : ∀ t : Fin cfg0.N, win0_2.index t = ![0, t.1] := (by decide +kernel : ∀ t : Fin grid0.N, _)
  blk_simp
  rw [after0_2]
  unfold outsAt0 out0_A_2
  rw [run0]
  refine (congrFun (View.read_writes_full _ _ _ _ _) y).trans ?_
  refine (body_at0 (tt := t.1) (by omega) _ _ _ _ (iblk0 V c 0 t) (iblk0 V c 1 t) X w
    (fun r q => ?_) (fun g m ti i k hk => ?_) y).trans ?_
  · refine Eq.trans ?_ (hx ⟨t.1, ht⟩ r q)
    have e0 : ∀ t : Fin cfg0.N, win0_0.index t = ![t.1, 0, 0] := (by decide +kernel : ∀ t : Fin grid0.N, _)
    unfold iblk0
    refine congrArg (V c main_v17) (funext fun a => Fin.ext ?_)
    match a with
    | ⟨0, _⟩ => blk_simp [e0]
    | ⟨1, _⟩ => blk_simp [e0]
    | ⟨2, _⟩ => blk_simp [e0]
  · refine Eq.trans ?_ (hw g m ti i k hk)
    have e1 : ∀ t : Fin cfg0.N, win0_1.index t = ![0, 0, 0] := (by decide +kernel : ∀ t : Fin grid0.N, _)
    unfold iblk0
    refine congrArg (V c main_v7) (funext fun a => Fin.ext ?_)
    match a with
    | ⟨0, _⟩ => blk_simp [e1]
    | ⟨1, _⟩ => blk_simp [e1]
    | ⟨2, _⟩ => blk_simp [e1]
  · rw [e2]
    exact congrArg₂ (conv1 X w) (by show _ = 0 * 16 + _; omega) rfl

theorem region1 (c : Dev nD) (X : Nat → Nat → EReal) (w : Nat → Nat → Nat → Nat → EReal)
    (hx : IsSlabs 4 16 1024 1024 512 (V c main_v32) X) (hw : IsW 1 16 32 (V c main_v22) w) :
    IsRows 32 ((dat1 V c).arrAt 2 cfg1.N) (caps 0 1 16 2 16 X w) := by
  refine congrFun (g := fun i : (s2 32 4096).Idx => caps 0 1 16 2 16 X w (i 0).1 (i 1).1)
    ((dat1 V c).arrAt_eq_of_covers 2 _ (by decide +kernel) fun t hf y => ?_)
  have ht : t.1 < 4 := t.2
  have e2 : ∀ t : Fin cfg1.N, win1_2.index t = ![0, t.1] := (by decide +kernel : ∀ t : Fin grid1.N, _)
  blk_simp
  rw [after1_2]
  unfold outsAt1 out1_A_2
  rw [run1]
  refine (congrFun (View.read_writes_full _ _ _ _ _) y).trans ?_
  refine (body_at (t0 := 1) (z0 := 16) (t1 := 2) (z1 := 16) (P := 1024) (S := 1024) (H := 512) (tt := t.1)
    (by decide) (by decide) (by decide) (by decide) (by decide) (by omega) isTaps3 (by decide) _ _ _ _ _ _ (iblk1 V c 0 t) (iblk1 V c 1 t) X w
    (fun r q => ?_) (fun g m ti i k hk => ?_) y).trans ?_
  · refine Eq.trans ?_ (hx ⟨t.1, ht⟩ r q)
    have e0 : ∀ t : Fin cfg1.N, win1_0.index t = ![t.1, 0, 0] := (by decide +kernel : ∀ t : Fin grid1.N, _)
    unfold iblk1
    refine congrArg (V c main_v32) (funext fun a => Fin.ext ?_)
    match a with
    | ⟨0, _⟩ => blk_simp [e0]
    | ⟨1, _⟩ => blk_simp [e0]
    | ⟨2, _⟩ => blk_simp [e0]
  · refine Eq.trans ?_ (hw g m ti i k hk)
    have e1 : ∀ t : Fin cfg1.N, win1_1.index t = ![0, 0, 0] := (by decide +kernel : ∀ t : Fin grid1.N, _)
    unfold iblk1
    refine congrArg (V c main_v22) (funext fun a => Fin.ext ?_)
    match a with
    | ⟨0, _⟩ => blk_simp [e1]
    | ⟨1, _⟩ => blk_simp [e1]
    | ⟨2, _⟩ => blk_simp [e1]
  · rw [e2]
    exact congrArg₂ (caps 0 1 16 2 16 X w) (by show _ = 0 * 32 + _; omega) rfl

theorem region2 (c : Dev nD) (X : Nat → Nat → EReal) (w : Nat → Nat → Nat → Nat → EReal)
    (hx : IsSlabs 4 32 1024 1024 512 (V c main_v47) X) (hw : IsW 2 16 64 (V c main_v37) w) :
    IsRows 64 ((dat2 V c).arrAt 2 cfg2.N) (caps 2 2 16 4 16 X w) := by
  refine congrFun (g := fun i : (s2 64 4096).Idx => caps 2 2 16 4 16 X w (i 0).1 (i 1).1)
    ((dat2 V c).arrAt_eq_of_covers 2 _ (by decide +kernel) fun t hf y => ?_)
  have ht : t.1 < 4 := t.2
  have e2 : ∀ t : Fin cfg2.N, win2_2.index t = ![0, t.1] := (by decide +kernel : ∀ t : Fin grid2.N, _)
  blk_simp
  rw [after2_2]
  unfold outsAt2 out2_A_2
  rw [run2]
  refine (congrFun (View.read_writes_full _ _ _ _ _) y).trans ?_
  refine (body_at (t0 := 2) (z0 := 16) (t1 := 4) (z1 := 16) (P := 1024) (S := 1024) (H := 512) (tt := t.1)
    (by decide) (by decide) (by decide) (by decide) (by decide) (by omega) isTaps3 (by decide) _ _ _ _ _ _ (iblk2 V c 0 t) (iblk2 V c 1 t) X w
    (fun r q => ?_) (fun g m ti i k hk => ?_) y).trans ?_
  · refine Eq.trans ?_ (hx ⟨t.1, ht⟩ r q)
    have e0 : ∀ t : Fin cfg2.N, win2_0.index t = ![t.1, 0, 0] := (by decide +kernel : ∀ t : Fin grid2.N, _)
    unfold iblk2
    refine congrArg (V c main_v47) (funext fun a => Fin.ext ?_)
    match a with
    | ⟨0, _⟩ => blk_simp [e0]
    | ⟨1, _⟩ => blk_simp [e0]
    | ⟨2, _⟩ => blk_simp [e0]
  · refine Eq.trans ?_ (hw g m ti i k hk)
    have e1 : ∀ t : Fin cfg2.N, win2_1.index t = ![0, 0, 0] := (by decide +kernel : ∀ t : Fin grid2.N, _)
    unfold iblk2
    refine congrArg (V c main_v37) (funext fun a => Fin.ext ?_)
    match a with
    | ⟨0, _⟩ => blk_simp [e1]
    | ⟨1, _⟩ => blk_simp [e1]
    | ⟨2, _⟩ => blk_simp [e1]
  · rw [e2]
    exact congrArg₂ (caps 2 2 16 4 16 X w) (by show _ = 0 * 64 + _; omega) rfl

theorem region3 (c : Dev nD) (X : Nat → Nat → EReal) (w : Nat → Nat → Nat → Nat → EReal)
    (hx : IsSlabs 4 64 1024 1024 512 (V c main_v62) X) (hw : IsW 4 16 128 (V c main_v52) w) :
    IsRows 128 ((dat3 V c).arrAt 2 cfg3.N) (caps 2 4 16 4 32 X w) := by
  refine congrFun (g := fun i : (s2 128 4096).Idx => caps 2 4 16 4 32 X w (i 0).1 (i 1).1)
    ((dat3 V c).arrAt_eq_of_covers 2 _ (by decide +kernel) fun t hf y => ?_)
  have ht : t.1 < 4 := t.2
  have e2 : ∀ t : Fin cfg3.N, win3_2.index t = ![0, t.1] := (by decide +kernel : ∀ t : Fin grid3.N, _)
  blk_simp
  rw [after3_2]
  unfold outsAt3 out3_A_2
  rw [run3]
  refine (congrFun (View.read_writes_full _ _ _ _ _) y).trans ?_
  refine (body_at (t0 := 4) (z0 := 16) (t1 := 4) (z1 := 32) (P := 1024) (S := 1024) (H := 512) (tt := t.1)
    (by decide) (by decide) (by decide) (by decide) (by decide) (by omega) isTaps3 (by decide) _ _ _ _ _ _ (iblk3 V c 0 t) (iblk3 V c 1 t) X w
    (fun r q => ?_) (fun g m ti i k hk => ?_) y).trans ?_
  · refine Eq.trans ?_ (hx ⟨t.1, ht⟩ r q)
    have e0 : ∀ t : Fin cfg3.N, win3_0.index t = ![t.1, 0, 0] := (by decide +kernel : ∀ t : Fin grid3.N, _)
    unfold iblk3
    refine congrArg (V c main_v62) (funext fun a => Fin.ext ?_)
    match a with
    | ⟨0, _⟩ => blk_simp [e0]
    | ⟨1, _⟩ => blk_simp [e0]
    | ⟨2, _⟩ => blk_simp [e0]
  · refine Eq.trans ?_ (hw g m ti i k hk)
    have e1 : ∀ t : Fin cfg3.N, win3_1.index t = ![0, 0, 0] := (by decide +kernel : ∀ t : Fin grid3.N, _)
    unfold iblk3
    refine congrArg (V c main_v52) (funext fun a => Fin.ext ?_)
    match a with
    | ⟨0, _⟩ => blk_simp [e1]
    | ⟨1, _⟩ => blk_simp [e1]
    | ⟨2, _⟩ => blk_simp [e1]
  · rw [e2]
    exact congrArg₂ (caps 2 4 16 4 32 X w) (by show _ = 0 * 128 + _; omega) rfl

theorem region4 (c : Dev nD) (X : Nat → Nat → EReal) (w : Nat → Nat → Nat → Nat → EReal)
    (hx : IsSlabs 4 128 1024 1024 512 (V c main_v77) X) (hw : IsW 4 32 256 (V c main_v67) w) :
    IsRows 256 ((dat4 V c).arrAt 2 cfg4.N) (caps 2 4 32 8 32 X w) := by
  refine congrFun (g := fun i : (s2 256 4096).Idx => caps 2 4 32 8 32 X w (i 0).1 (i 1).1)
    ((dat4 V c).arrAt_eq_of_covers 2 _ (by decide +kernel) fun t hf y => ?_)
  have ht : t.1 < 4 := t.2
  have e2 : ∀ t : Fin cfg4.N, win4_2.index t = ![0, t.1] := (by decide +kernel : ∀ t : Fin grid4.N, _)
  blk_simp
  rw [after4_2]
  unfold outsAt4 out4_A_2
  rw [run4]
  refine (congrFun (View.read_writes_full _ _ _ _ _) y).trans ?_
  refine (body_at (t0 := 4) (z0 := 32) (t1 := 8) (z1 := 32) (P := 1024) (S := 1024) (H := 512) (tt := t.1)
    (by decide) (by decide) (by decide) (by decide) (by decide) (by omega) isTaps3 (by decide) _ _ _ _ _ _ (iblk4 V c 0 t) (iblk4 V c 1 t) X w
    (fun r q => ?_) (fun g m ti i k hk => ?_) y).trans ?_
  · refine Eq.trans ?_ (hx ⟨t.1, ht⟩ r q)
    have e0 : ∀ t : Fin cfg4.N, win4_0.index t = ![t.1, 0, 0] := (by decide +kernel : ∀ t : Fin grid4.N, _)
    unfold iblk4
    refine congrArg (V c main_v77) (funext fun a => Fin.ext ?_)
    match a with
    | ⟨0, _⟩ => blk_simp [e0]
    | ⟨1, _⟩ => blk_simp [e0]
    | ⟨2, _⟩ => blk_simp [e0]
  · refine Eq.trans ?_ (hw g m ti i k hk)
    have e1 : ∀ t : Fin cfg4.N, win4_1.index t = ![0, 0, 0] := (by decide +kernel : ∀ t : Fin grid4.N, _)
    unfold iblk4
    refine congrArg (V c main_v67) (funext fun a => Fin.ext ?_)
    match a with
    | ⟨0, _⟩ => blk_simp [e1]
    | ⟨1, _⟩ => blk_simp [e1]
    | ⟨2, _⟩ => blk_simp [e1]
  · rw [e2]
    exact congrArg₂ (caps 2 4 32 8 32 X w) (by show _ = 0 * 256 + _; omega) rfl

theorem region5 (c : Dev nD) (X : Nat → Nat → EReal) (w : Nat → Nat → Nat → Nat → EReal)
    (hx : IsSlabs 8 256 512 1024 512 (V c main_v100) X) (hw : IsW 8 32 512 (V c main_v82) w) :
    IsRows 512 ((dat5 V c).arrAt 2 cfg5.N) (caps 2 8 32 8 64 X w) := by
  refine congrFun (g := fun i : (s2 512 4096).Idx => caps 2 8 32 8 64 X w (i 0).1 (i 1).1)
    ((dat5 V c).arrAt_eq_of_covers 2 _ (by decide +kernel) fun t hf y => ?_)
  have ht : t.1 < 8 := t.2
  have e2 : ∀ t : Fin cfg5.N, win5_2.index t = ![0, t.1] := (by decide +kernel : ∀ t : Fin grid5.N, _)
  blk_simp
  rw [after5_2]
  unfold outsAt5 out5_A_2
  rw [run5]
  refine (congrFun (View.read_writes_full _ _ _ _ _) y).trans ?_
  refine (body_at (t0 := 8) (z0 := 32) (t1 := 8) (z1 := 64) (P := 1024) (S := 512) (H := 512) (tt := t.1)
    (by decide) (by decide) (by decide) (by decide) (by decide) (by omega) isTaps3 (by decide) _ _ _ _ _ _ (iblk5 V c 0 t) (iblk5 V c 1 t) X w
    (fun r q => ?_) (fun g m ti i k hk => ?_) y).trans ?_
  · refine Eq.trans ?_ (hx ⟨t.1, ht⟩ r q)
    have e0 : ∀ t : Fin cfg5.N, win5_0.index t = ![t.1, 0, 0] := (by decide +kernel : ∀ t : Fin grid5.N, _)
    unfold iblk5
    refine congrArg (V c main_v100) (funext fun a => Fin.ext ?_)
    match a with
    | ⟨0, _⟩ => blk_simp [e0]
    | ⟨1, _⟩ => blk_simp [e0]
    | ⟨2, _⟩ => blk_simp [e0]
  · refine Eq.trans ?_ (hw g m ti i k hk)
    have e1 : ∀ t : Fin cfg5.N, win5_1.index t = ![0, 0, 0] := (by decide +kernel : ∀ t : Fin grid5.N, _)
    unfold iblk5
    refine congrArg (V c main_v82) (funext fun a => Fin.ext ?_)
    match a with
    | ⟨0, _⟩ => blk_simp [e1]
    | ⟨1, _⟩ => blk_simp [e1]
    | ⟨2, _⟩ => blk_simp [e1]
  · rw [e2]
    exact congrArg₂ (caps 2 8 32 8 64 X w) (by show _ = 0 * 512 + _; omega) rfl

theorem region6 (c : Dev nD) (X : Nat → Nat → EReal) (w : Nat → Nat → Nat → Nat → EReal)
    (hx : IsSlabs 8 512 512 1024 512 (V c main_v123) X) (hw : IsW 8 64 256 (V c main_v105) w) :
    IsRows 256 ((dat6 V c).arrAt 2 cfg6.N) (caps 2 8 64 8 32 X w) := by
  refine congrFun (g := fun i : (s2 256 4096).Idx => caps 2 8 64 8 32 X w (i 0).1 (i 1).1)
    ((dat6 V c).arrAt_eq_of_covers 2 _ (by decide +kernel) fun t hf y => ?_)
  have ht : t.1 < 8 := t.2
  have e2 : ∀ t : Fin cfg6.N, win6_2.index t = ![0, t.1] := (by decide +kernel : ∀ t : Fin grid6.N, _)
  blk_simp
  rw [after6_2]
  unfold outsAt6 out6_A_2
  rw [run6]
  refine (congrFun (View.read_writes_full _ _ _ _ _) y).trans ?_
  refine (body_at (t0 := 8) (z0 := 64) (t1 := 8) (z1 := 32) (P := 1024) (S := 512) (H := 512) (tt := t.1)
    (by decide) (by decide) (by decide) (by decide) (by decide) (by omega) isTaps3 (by decide) _ _ _ _ _ _ (iblk6 V c 0 t) (iblk6 V c 1 t) X w
    (fun r q => ?_) (fun g m ti i k hk => ?_) y).trans ?_
  · refine Eq.trans ?_ (hx ⟨t.1, ht⟩ r q)
    have e0 : ∀ t : Fin cfg6.N, win6_0.index t = ![t.1, 0, 0] := (by decide +kernel : ∀ t : Fin grid6.N, _)
    unfold iblk6
    refine congrArg (V c main_v123) (funext fun a => Fin.ext ?_)
    match a with
    | ⟨0, _⟩ => blk_simp [e0]
    | ⟨1, _⟩ => blk_simp [e0]
    | ⟨2, _⟩ => blk_simp [e0]
  · refine Eq.trans ?_ (hw g m ti i k hk)
    have e1 : ∀ t : Fin cfg6.N, win6_1.index t = ![0, 0, 0] := (by decide +kernel : ∀ t : Fin grid6.N, _)
    unfold iblk6
    refine congrArg (V c main_v105) (funext fun a => Fin.ext ?_)
    match a with
    | ⟨0, _⟩ => blk_simp [e1]
    | ⟨1, _⟩ => blk_simp [e1]
    | ⟨2, _⟩ => blk_simp [e1]
  · rw [e2]
    exact congrArg₂ (caps 2 8 64 8 32 X w) (by show _ = 0 * 256 + _; omega) rfl

theorem region7 (c : Dev nD) (X : Nat → Nat → EReal) (w : Nat → Nat → Nat → Nat → EReal)
    (hx : IsSlabs 8 256 512 1024 512 (V c main_v147) X) (hw : IsW 8 32 256 (V c main_v129) w) :
    IsRows 256 ((dat7 V c).arrAt 2 cfg7.N) (caps 2 8 32 8 32 X w) := by
  refine congrFun (g := fun i : (s2 256 4096).Idx => caps 2 8 32 8 32 X w (i 0).1 (i 1).1)
    ((dat7 V c).arrAt_eq_of_covers 2 _ (by decide +kernel) fun t hf y => ?_)
  have ht : t.1 < 8 := t.2
  have e2 : ∀ t : Fin cfg7.N, win7_2.index t = ![0, t.1] := (by decide +kernel : ∀ t : Fin grid7.N, _)
  blk_simp
  rw [after7_2]
  unfold outsAt7 out7_A_2
  rw [run7]
  refine (congrFun (View.read_writes_full _ _ _ _ _) y).trans ?_
  refine (body_at (t0 := 8) (z0 := 32) (t1 := 8) (z1 := 32) (P := 1024) (S := 512) (H := 512) (tt := t.1)
    (by decide) (by decide) (by decide) (by decide) (by decide) (by omega) isTaps3 (by decide) _ _ _ _ _ _ (iblk7 V c 0 t) (iblk7 V c 1 t) X w
    (fun r q => ?_) (fun g m ti i k hk => ?_) y).trans ?_
  · refine Eq.trans ?_ (hx ⟨t.1, ht⟩ r q)
    have e0 : ∀ t : Fin cfg7.N, win7_0.index t = ![t.1, 0, 0] := (by decide +kernel : ∀ t : Fin grid7.N, _)
    unfold iblk7
    refine congrArg (V c main_v147) (funext fun a => Fin.ext ?_)
    match a with
    | ⟨0, _⟩ => blk_simp [e0]
    | ⟨1, _⟩ => blk_simp [e0]
    | ⟨2, _⟩ => blk_simp [e0]
  · refine Eq.trans ?_ (hw g m ti i k hk)
    have e1 : ∀ t : Fin cfg7.N, win7_1.index t = ![0, 0, 0] := (by decide +kernel : ∀ t : Fin grid7.N, _)
    unfold iblk7
    refine congrArg (V c main_v129) (funext fun a => Fin.ext ?_)
    match a with
    | ⟨0, _⟩ => blk_simp [e1]
    | ⟨1, _⟩ => blk_simp [e1]
    | ⟨2, _⟩ => blk_simp [e1]
  · rw [e2]
    exact congrArg₂ (caps 2 8 32 8 32 X w) (by show _ = 0 * 256 + _; omega) rfl

theorem region8 (c : Dev nD) (X : Nat → Nat → EReal) (w : Nat → Nat → Nat → Nat → EReal)
    (hx : IsSlabs 8 512 512 1024 512 (V c main_v171) X) (hw : IsW 16 32 128 (V c main_v153) w) :
    IsRows 128 ((dat8 V c).arrAt 2 cfg8.N) (caps 2 16 32 4 32 X w) := by
  refine congrFun (g := fun i : (s2 128 4096).Idx => caps 2 16 32 4 32 X w (i 0).1 (i 1).1)
    ((dat8 V c).arrAt_eq_of_covers 2 _ (by decide +kernel) fun t hf y => ?_)
  have ht : t.1 < 8 := t.2
  have e2 : ∀ t : Fin cfg8.N, win8_2.index t = ![0, t.1] := (by decide +kernel : ∀ t : Fin grid8.N, _)
  blk_simp
  rw [after8_2]
  unfold outsAt8 out8_A_2
  rw [run8]
  refine (congrFun (View.read_writes_full _ _ _ _ _) y).trans ?_
  refine (body_at (t0 := 16) (z0 := 32) (t1 := 4) (z1 := 32) (P := 1024) (S := 512) (H := 512) (tt := t.1)
    (by decide) (by decide) (by decide) (by decide) (by decide) (by omega) isTaps3 (by decide) _ _ _ _ _ _ (iblk8 V c 0 t) (iblk8 V c 1 t) X w
    (fun r q => ?_) (fun g m ti i k hk => ?_) y).trans ?_
  · refine Eq.trans ?_ (hx ⟨t.1, ht⟩ r q)
    have e0 : ∀ t : Fin cfg8.N, win8_0.index t = ![t.1, 0, 0] := (by decide +kernel : ∀ t : Fin grid8.N, _)
    unfold iblk8
    refine congrArg (V c main_v171) (funext fun a => Fin.ext ?_)
    match a with
    | ⟨0, _⟩ => blk_simp [e0]
    | ⟨1, _⟩ => blk_simp [e0]
    | ⟨2, _⟩ => blk_simp [e0]
  · refine Eq.trans ?_ (hw g m ti i k hk)
    have e1 : ∀ t : Fin cfg8.N, win8_1.index t = ![0, 0, 0] := (by decide +kernel : ∀ t : Fin grid8.N, _)
    unfold iblk8
    refine congrArg (V c main_v153) (funext fun a => Fin.ext ?_)
    match a with
    | ⟨0, _⟩ => blk_simp [e1]
    | ⟨1, _⟩ => blk_simp [e1]
    | ⟨2, _⟩ => blk_simp [e1]
  · rw [e2]
    exact congrArg₂ (caps 2 16 32 4 32 X w) (by show _ = 0 * 128 + _; omega) rfl

theorem region9 (c : Dev nD) (X : Nat → Nat → EReal) (w : Nat → Nat → Nat → Nat → EReal)
    (hx : IsSlabs 4 128 1024 1024 512 (V c main_v187) X) (hw : IsW 4 32 64 (V c main_v177) w) :
    IsRows 64 ((dat9 V c).arrAt 2 cfg9.N) (caps 2 4 32 4 16 X w) := by
  refine congrFun (g := fun i : (s2 64 4096).Idx => caps 2 4 32 4 16 X w (i 0).1 (i 1).1)
    ((dat9 V c).arrAt_eq_of_covers 2 _ (by decide +kernel) fun t hf y => ?_)
  have ht : t.1 < 4 := t.2
  have e2 : ∀ t : Fin cfg9.N, win9_2.index t = ![0, t.1] := (by decide +kernel : ∀ t : Fin grid9.N, _)
  blk_simp
  rw [after9_2]
  unfold outsAt9 out9_A_2
  rw [run9]
  refine (congrFun (View.read_writes_full _ _ _ _ _) y).trans ?_
  refine (body_at (t0 := 4) (z0 := 32) (t1 := 4) (z1 := 16) (P := 1024) (S := 1024) (H := 512) (tt := t.1)
    (by decide) (by decide) (by decide) (by decide) (by decide) (by omega) isTaps3 (by decide) _ _ _ _ _ _ (iblk9 V c 0 t) (iblk9 V c 1 t) X w
    (fun r q => ?_) (fun g m ti i k hk => ?_) y).trans ?_
  · refine Eq.trans ?_ (hx ⟨t.1, ht⟩ r q)
    have e0 : ∀ t : Fin cfg9.N, win9_0.index t = ![t.1, 0, 0] := (by decide +kernel : ∀ t : Fin grid9.N, _)
    unfold iblk9
    refine congrArg (V c main_v187) (funext fun a => Fin.ext ?_)
    match a with
    | ⟨0, _⟩ => blk_simp [e0]
    | ⟨1, _⟩ => blk_simp [e0]
    | ⟨2, _⟩ => blk_simp [e0]
  · refine Eq.trans ?_ (hw g m ti i k hk)
    have e1 : ∀ t : Fin cfg9.N, win9_1.index t = ![0, 0, 0] := (by decide +kernel : ∀ t : Fin grid9.N, _)
    unfold iblk9
    refine congrArg (V c main_v177) (funext fun a => Fin.ext ?_)
    match a with
    | ⟨0, _⟩ => blk_simp [e1]
    | ⟨1, _⟩ => blk_simp [e1]
    | ⟨2, _⟩ => blk_simp [e1]
  · rw [e2]
    exact congrArg₂ (caps 2 4 32 4 16 X w) (by show _ = 0 * 64 + _; omega) rfl

theorem region10 (c : Dev nD) (X : Nat → Nat → EReal) (w : Nat → Nat → Nat → Nat → EReal)
    (hx : IsSlabs 4 128 1024 1024 512 (V c main_v203) X) (hw : IsW 8 16 64 (V c main_v193) w) :
    IsRows 64 ((dat10 V c).arrAt 2 cfg10.N) (caps 2 8 16 4 16 X w) := by
  refine congrFun (g := fun i : (s2 64 4096).Idx => caps 2 8 16 4 16 X w (i 0).1 (i 1).1)
    ((dat10 V c).arrAt_eq_of_covers 2 _ (by decide +kernel) fun t hf y => ?_)
  have ht : t.1 < 4 := t.2
  have e2 : ∀ t : Fin cfg10.N, win10_2.index t = ![0, t.1] := (by decide +kernel : ∀ t : Fin grid10.N, _)
  blk_simp
  rw [after10_2]
  unfold outsAt10 out10_A_2
  rw [run10]
  refine (congrFun (View.read_writes_full _ _ _ _ _) y).trans ?_
  refine (body_at (t0 := 8) (z0 := 16) (t1 := 4) (z1 := 16) (P := 1024) (S := 1024) (H := 512) (tt := t.1)
    (by decide) (by decide) (by decide) (by decide) (by decide) (by omega) isTaps3 (by decide) _ _ _ _ _ _ (iblk10 V c 0 t) (iblk10 V c 1 t) X w
    (fun r q => ?_) (fun g m ti i k hk => ?_) y).trans ?_
  · refine Eq.trans ?_ (hx ⟨t.1, ht⟩ r q)
    have e0 : ∀ t : Fin cfg10.N, win10_0.index t = ![t.1, 0, 0] := (by decide +kernel : ∀ t : Fin grid10.N, _)
    unfold iblk10
    refine congrArg (V c main_v203) (funext fun a => Fin.ext ?_)
    match a with
    | ⟨0, _⟩ => blk_simp [e0]
    | ⟨1, _⟩ => blk_simp [e0]
    | ⟨2, _⟩ => blk_simp [e0]
  · refine Eq.trans ?_ (hw g m ti i k hk)
    have e1 : ∀ t : Fin cfg10.N, win10_1.index t = ![0, 0, 0] := (by decide +kernel : ∀ t : Fin grid10.N, _)
    unfold iblk10
    refine congrArg (V c main_v193) (funext fun a => Fin.ext ?_)
    match a with
    | ⟨0, _⟩ => blk_simp [e1]
    | ⟨1, _⟩ => blk_simp [e1]
    | ⟨2, _⟩ => blk_simp [e1]
  · rw [e2]
    exact congrArg₂ (caps 2 8 16 4 16 X w) (by show _ = 0 * 64 + _; omega) rfl

theorem region11 (c : Dev nD) (X : Nat → Nat → EReal) (w : Nat → Nat → Nat → Nat → EReal)
    (hx : IsSlabs 4 64 1024 1024 512 (V c main_v219) X) (hw : IsW 4 16 32 (V c main_v209) w) :
    IsRows 32 ((dat11 V c).arrAt 2 cfg11.N) (caps 2 4 16 2 16 X w) := by
  refine congrFun (g := fun i : (s2 32 4096).Idx => caps 2 4 16 2 16 X w (i 0).1 (i 1).1)
    ((dat11 V c).arrAt_eq_of_covers 2 _ (by decide +kernel) fun t hf y => ?_)
  have ht : t.1 < 4 := t.2
  have e2 : ∀ t : Fin cfg11.N, win11_2.index t = ![0, t.1] := (by decide +kernel : ∀ t : Fin grid11.N, _)
  blk_simp
  rw [after11_2]
  unfold outsAt11 out11_A_2
  rw [run11]
  refine (congrFun (View.read_writes_full _ _ _ _ _) y).trans ?_
  refine (body_at (t0 := 4) (z0 := 16) (t1 := 2) (z1 := 16) (P := 1024) (S := 1024) (H := 512) (tt := t.1)
    (by decide) (by decide) (by decide) (by decide) (by decide) (by omega) isTaps3 (by decide) _ _ _ _ _ _ (iblk11 V c 0 t) (iblk11 V c 1 t) X w
    (fun r q => ?_) (fun g m ti i k hk => ?_) y).trans ?_
  · refine Eq.trans ?_ (hx ⟨t.1, ht⟩ r q)
    have e0 : ∀ t : Fin cfg11.N, win11_0.index t = ![t.1, 0, 0] := (by decide +kernel : ∀ t : Fin grid11.N, _)
    unfold iblk11
    refine congrArg (V c main_v219) (funext fun a => Fin.ext ?_)
    match a with
    | ⟨0, _⟩ => blk_simp [e0]
    | ⟨1, _⟩ => blk_simp [e0]
    | ⟨2, _⟩ => blk_simp [e0]
  · refine Eq.trans ?_ (hw g m ti i k hk)
    have e1 : ∀ t : Fin cfg11.N, win11_1.index t = ![0, 0, 0] := (by decide +kernel : ∀ t : Fin grid11.N, _)
    unfold iblk11
    refine congrArg (V c main_v209) (funext fun a => Fin.ext ?_)
    match a with
    | ⟨0, _⟩ => blk_simp [e1]
    | ⟨1, _⟩ => blk_simp [e1]
    | ⟨2, _⟩ => blk_simp [e1]
  · rw [e2]
    exact congrArg₂ (caps 2 4 16 2 16 X w) (by show _ = 0 * 32 + _; omega) rfl

theorem region12 (c : Dev nD) (X : Nat → Nat → EReal) (w : Nat → Nat → Nat → Nat → EReal)
    (hx : IsSlabs 4 48 1024 1024 512 (V c main_v235) X) (hw : IsW 3 16 16 (V c main_v225) w) :
    IsRows 1 ((dat12 V c).arrAt 2 cfg12.N) (capsN 2 3 16 16 X w) := by
  refine congrFun (g := fun i : (s2 1 4096).Idx => capsN 2 3 16 16 X w (i 0).1 (i 1).1)
    ((dat12 V c).arrAt_eq_of_covers 2 _ (by decide +kernel) fun t hf y => ?_)
  have ht : t.1 < 4 := t.2
  have e2 : ∀ t : Fin cfg12.N, win12_2.index t = ![0, t.1] := (by decide +kernel : ∀ t : Fin grid12.N, _)
  blk_simp
  rw [after12_2]
  unfold outsAt12 out12_A_2
  rw [run12]
  refine (congrFun (View.read_writes_full _ _ _ _ _) y).trans ?_
  refine (body_atN (t0 := 3) (z0 := 16) (z1 := 16) (P := 1024) (S := 1024) (H := 512) (tt := t.1) (by decide) (by decide) (by decide) (by decide) (by omega) isTaps3 (by decide) _ _ _ _ _ _ (iblk12 V c 0 t) (iblk12 V c 1 t) X w
    (fun r q => ?_) (fun g m ti i k hk => ?_) y).trans ?_
  · refine Eq.trans ?_ (hx ⟨t.1, ht⟩ r q)
    have e0 : ∀ t : Fin cfg12.N, win12_0.index t = ![t.1, 0, 0] := (by decide +kernel : ∀ t : Fin grid12.N, _)
    unfold iblk12
    refine congrArg (V c main_v235) (funext fun a => Fin.ext ?_)
    match a with
    | ⟨0, _⟩ => blk_simp [e0]
    | ⟨1, _⟩ => blk_simp [e0]
    | ⟨2, _⟩ => blk_simp [e0]
  · refine Eq.trans ?_ (hw g m ti i k hk)
    have e1 : ∀ t : Fin cfg12.N, win12_1.index t = ![0, 0, 0] := (by decide +kernel : ∀ t : Fin grid12.N, _)
    unfold iblk12
    refine congrArg (V c main_v225) (funext fun a => Fin.ext ?_)
    match a with
    | ⟨0, _⟩ => blk_simp [e1]
    | ⟨1, _⟩ => blk_simp [e1]
    | ⟨2, _⟩ => blk_simp [e1]
  · rw [e2]
    exact congrArg₂ (capsN 2 3 16 16 X w) (by have h : (y 0).1 < 1 := (y 0).2; show (y 0).1 = 0; omega) rfl

end Caps

end
-- ==== Proof.Host.lean ====
/- What the host operations around a region compute: the padded input cut into overlapping slabs, and the prepared weights. -/
module

public import proofs.«01_k».proof.Proof.Regions
public import Idealize.ShloMosaic.Lib.ValueIdxRank6
public import Idealize.ShloMosaic.Lib.KernelVsHost

@[expose] public section

set_option maxRecDepth 16384

noncomputable section

namespace Caps

open Idealize.ShloMosaic hiding ix1 ix2 ix3 ix4 ix5 ix6
open Idealize.ShloMosaic.ValueIdx

abbrev s0 : Shape := ⟨0, ![]⟩
abbrev s6 (a b c d e f : Nat) : Shape := ⟨6, ![a, b, c, d, e, f]⟩

section
variable {F : FTy → Type} [FloatOps F]

/-- The value that the host pads with. -/
def zpad : FVec F s0 .f32 := sitofp .f32 (constantI s0 32 0#32)

/-- The input padded by H positions on both sides and cut into T slabs of W positions, S apart. -/
def slabs (T R S W H L : Nat) (hp : (s2 R 4096).Pads ![0, H] ![0, H] ![0, 0] (s2 R L))
    (hs : ∀ k : Fin T, (s2 R L).Slices ![0, k.1 * S] (s2 R W))
    (hb : (s2 R W).BroadcastsInDim (s3 1 R W) ![1, 2])
    (hc : Shape.Concatenates (List.ofFn fun _ : Fin T => s3 1 R W) (s3 T R W) (0 : Fin 3))
    (x : FVec F (s2 R 4096) .f32) : FVec F (s3 T R W) .f32 :=
  concatenate (s3 T R W) (0 : Fin 3) (List.ofFn fun k : Fin T => (⟨s3 1 R W, broadcastInDim (s3 1 R W) ![1, 2] hb
    (extractStridedSlice (s2 R W) ![0, k.1 * S] (pad (s2 R L) ![0, H] ![0, H] ![0, 0] x (zpad (F := F)) hp (by decide)) (hs k))⟩
      : (s : Shape) × FVec F s .f32)) (by
    rw [List.map_ofFn]; exact hc)

/-- The weights with the taps in front of the channels, in bf16. -/
def wprep (t0 M z0 : Nat) (h1 : (s6 t0 M z0 3 3 3).ShapeCasts (s4 t0 M z0 27)) (h2 : (s4 t0 M z0 27).Transposes [0, 1, 3, 2] (s4 t0 M 27 z0))
    (h3 : (s4 t0 M 27 z0).ShapeCasts (s3 t0 M (27 * z0))) (w : FVec F (s6 t0 M z0 3 3 3) .f32) : FVec F (s3 t0 M (27 * z0)) .bf16 :=
  truncf .bf16 (shapeCast (s3 t0 M (27 * z0)) (transpose (s4 t0 M 27 z0) [0, 1, 3, 2] (shapeCast (s4 t0 M z0 27) w h1) h2) h3) (by decide)

end

theorem zpad_at (i : s0.Idx) : (zpad (F := Ideal)) i = (0 : EReal) := by
  show ((((0#32 : BitVec 32).toInt : ℤ) : ℝ) : EReal) = 0
  simp

variable {t0 M z0 T R S P H L : Nat}

theorem slabs_apply (hp : (s2 R 4096).Pads ![0, H] ![0, H] ![0, 0] (s2 R L))
    (hs : ∀ k : Fin T, (s2 R L).Slices ![0, k.1 * S] (s2 R (S + P)))
    (hb : (s2 R (S + P)).BroadcastsInDim (s3 1 R (S + P)) ![1, 2])
    (hc : Shape.Concatenates (List.ofFn fun _ : Fin T => s3 1 R (S + P)) (s3 T R (S + P)) (0 : Fin 3))
    (x : FVec Ideal (s2 R 4096) .f32) (X : Nat → Nat → EReal) (hx : IsRows R x X) :
    IsSlabs T R S P H (slabs T R S (S + P) H L hp hs hb hc x) X := by
  intro tt r q
  unfold slabs
  refine (concatenate_ofFn_unit_apply (t := s3 T R (S + P)) (s₁ := s3 1 R (S + P)) (0 : Fin 3) _ _ rfl rfl (ix3 tt r q) tt rfl (ix3 (0 : Fin 1) r q) fun b hb => ?_).trans ?_
  · match b with
    | ⟨0, _⟩ => exact absurd rfl hb
    | ⟨1, _⟩ => rfl
    | ⟨2, _⟩ => rfl
  have hq : tt.1 * S + q.1 < L := by
    have h := (hs tt).2 1
    have h2 := q.2
    have h3 : tt.1 * S + (S + P) ≤ L := h
    omega
  refine (broadcastInDim_apply (s := s2 R (S + P)) (t := s3 1 R (S + P)) ![1, 2] hb _ (ix3 (0 : Fin 1) r q) (ix2 r q) fun a => ?_).trans ?_
  · match a with
    | ⟨0, _⟩ =>
      show r.1 = if R = 1 then 0 else r.1
      have := r.2
      split <;> omega
    | ⟨1, _⟩ =>
      show q.1 = if S + P = 1 then 0 else q.1
      have := q.2
      split <;> omega
  refine (extractStridedSlice_apply _ _ (hs tt) (ix2 r q) (ix2 r ⟨tt.1 * S + q.1, hq⟩) fun a => ?_).trans ?_
  · match a with
    | ⟨0, _⟩ => exact (Nat.zero_add _).symm
    | ⟨1, _⟩ => rfl
  unfold slab
  by_cases h : H ≤ tt.1 * S + q.1 ∧ tt.1 * S + q.1 < H + 4096
  · rw [if_pos h]
    refine (pad_apply_of_inside (s := s2 R 4096) (t := s2 R L) ![0, H] ![0, H] ![0, 0] x zpad hp _ (ix2 r ⟨tt.1 * S + q.1, hq⟩)
      (ix2 r ⟨tt.1 * S + q.1 - H, by omega⟩) fun a => ?_).trans (hx _)
    match a with
    | ⟨0, _⟩ => show r.1 = 0 + r.1 * (0 + 1); omega
    | ⟨1, _⟩ => show tt.1 * S + q.1 = H + (tt.1 * S + q.1 - H) * (0 + 1); omega
  · rw [if_neg h]
    refine (pad_apply_of_not_inside (s := s2 R 4096) (t := s2 R L) ![0, H] ![0, H] ![0, 0] x zpad hp _ (ix2 r ⟨tt.1 * S + q.1, hq⟩)
      (1 : Fin 2) fun hn => h ?_).trans (zpad_at _)
    have h1 : H ≤ tt.1 * S + q.1 := hn.1
    have h2 : (tt.1 * S + q.1 - H) / (0 + 1) < 4096 := hn.2.2
    rw [Nat.div_one] at h2
    omega

/-- The weights of an argument: by input type, row, channel, tap. -/
def wOf (t0 M z0 : Nat) (a : FVec Ideal (s6 t0 M z0 3 3 3) .f32) (g m i ti : Nat) : EReal :=
  if h : g < t0 ∧ m < M ∧ i < z0 then
    a (ix6 ⟨g, h.1⟩ ⟨m, h.2.1⟩ ⟨i, h.2.2⟩ ⟨ti / 9 % 3, Nat.mod_lt _ (by decide)⟩ ⟨ti / 3 % 3, Nat.mod_lt _ (by decide)⟩ ⟨ti % 3, Nat.mod_lt _ (by decide)⟩)
  else 0

theorem wOf_at (a : FVec Ideal (s6 t0 M z0 3 3 3) .f32) (g : Fin t0) (m : Fin M) (i : Fin z0) (ti : Nat) (p q r : Fin 3)
    (hp : p.1 = ti / 9 % 3) (hq : q.1 = ti / 3 % 3) (hr : r.1 = ti % 3) : wOf t0 M z0 a g.1 m.1 i.1 ti = a (ix6 g m i p q r) := by
  unfold wOf
  rw [dif_pos ⟨g.2, m.2, i.2⟩]
  refine congrArg a (funext fun x => Fin.ext ?_)
  match x with
  | ⟨0, _⟩ => rfl
  | ⟨1, _⟩ => rfl
  | ⟨2, _⟩ => rfl
  | ⟨3, _⟩ => exact hp.symm
  | ⟨4, _⟩ => exact hq.symm
  | ⟨5, _⟩ => exact hr.symm

theorem wprep_apply (h1 : (s6 t0 M z0 3 3 3).ShapeCasts (s4 t0 M z0 27)) (h2 : (s4 t0 M z0 27).Transposes [0, 1, 3, 2] (s4 t0 M 27 z0))
    (h3 : (s4 t0 M 27 z0).ShapeCasts (s3 t0 M (27 * z0))) (a : FVec Ideal (s6 t0 M z0 3 3 3) .f32) :
    IsW t0 z0 M (wprep t0 M z0 h1 h2 h3 a) (wOf t0 M z0 a) := by
  intro g m ti i k hk
  unfold wprep
  refine Eq.trans (b := shapeCast (s3 t0 M (27 * z0)) (transpose (s4 t0 M 27 z0) [0, 1, 3, 2] (shapeCast (s4 t0 M z0 27) a h1) h2) h3 (ix3 g m k)) rfl ?_
  refine (shapeCast_apply _ h3 (ix3 g m k) (ix4 g m ti i) ?_).trans ?_
  · rw [Shape.rowMajor_val_three, Shape.rowMajor_val_four]
    show ((g.1 * M + m.1) * 27 + ti.1) * z0 + i.1 = (g.1 * M + m.1) * (27 * z0) + k.1
    rw [hk, Nat.add_mul, Nat.mul_assoc _ 27 z0, Nat.add_assoc]
  refine (transpose_apply _ _ h2 (ix4 g m ti i) (ix4 g m i ti) fun b => ?_).trans ?_
  · match b with
    | ⟨0, _⟩ => rfl
    | ⟨1, _⟩ => rfl
    | ⟨2, _⟩ => rfl
    | ⟨3, _⟩ => rfl
  have ht := ti.2
  refine (shapeCast_apply _ h1 (ix4 g m i ti) (ix6 g m i ⟨ti.1 / 9 % 3, by omega⟩ ⟨ti.1 / 3 % 3, by omega⟩ ⟨ti.1 % 3, by omega⟩) ?_).trans ?_
  · rw [Shape.rowMajor_val_four, Shape.rowMajor_val_six]
    show ((((g.1 * M + m.1) * z0 + i.1) * 3 + ti.1 / 9 % 3) * 3 + ti.1 / 3 % 3) * 3 + ti.1 % 3 = ((g.1 * M + m.1) * z0 + i.1) * 27 + ti.1
    generalize (g.1 * M + m.1) * z0 + i.1 = n
    omega
  · exact (wOf_at a g m i ti.1 _ _ _ rfl rfl rfl).symm

/-- Rows of one array followed by the rows of another. -/
def cat (R : Nat) (X Y : Nat → Nat → EReal) (m p : Nat) : EReal := if m < R then X m p else Y (m - R) p

theorem cat_apply {R₁ R₂ R : Nat} (hR : R = R₁ + R₂) (h : Shape.Concatenates [s2 R₁ 4096, s2 R₂ 4096] (s2 R 4096) (0 : Fin 2))
    (x : FVec Ideal (s2 R₁ 4096) .f32) (y : FVec Ideal (s2 R₂ 4096) .f32) (X Y : Nat → Nat → EReal) (hx : IsRows R₁ x X) (hy : IsRows R₂ y Y) :
    IsRows R (concatenate (s2 R 4096) (0 : Fin 2) [⟨s2 R₁ 4096, x⟩, ⟨s2 R₂ 4096, y⟩] h) (cat R₁ X Y) := by
  intro i
  have hi : (i 0).1 < R := (i 0).2
  unfold cat
  by_cases hlt : (i 0).1 < R₁
  · rw [if_pos hlt]
    refine (concatenate_pair_apply_left (0 : Fin 2) x y h i rfl (ix2 (⟨(i 0).1, hlt⟩ : Fin R₁) (i 1)) fun b => ?_).trans (hx _)
    match b with
    | ⟨0, _⟩ => rfl
    | ⟨1, _⟩ => rfl
  · rw [if_neg hlt]
    refine (concatenate_pair_apply_right (0 : Fin 2) x y h i rfl rfl (ix2 (⟨(i 0).1 - R₁, by omega⟩ : Fin R₂) (i 1)) (fun b hb => ?_) ?_).trans (hy _)
    · match b with
      | ⟨0, _⟩ => exact absurd rfl hb
      | ⟨1, _⟩ => rfl
    · show (i 0).1 - R₁ + R₁ = (i 0).1
      omega

/-- The first layer's input, as rows: zero beyond the positions that the argument has. -/
def xOf (a : FVec Ideal (s4 4 14 14 14) .f32) (r p : Nat) : EReal :=
  if h : r < 4 ∧ p / 256 < 14 ∧ p / 16 % 16 < 14 ∧ p % 16 < 14 then a (ix4 ⟨r, h.1⟩ ⟨p / 256, h.2.1⟩ ⟨p / 16 % 16, h.2.2.1⟩ ⟨p % 16, h.2.2.2⟩) else 0

theorem xprep_apply (hp : (s4 4 14 14 14).Pads ![0, 0, 0, 0] ![0, 2, 2, 2] ![0, 0, 0, 0] (s4 4 16 16 16))
    (hc : (s4 4 16 16 16).ShapeCasts (s2 4 4096)) (a : FVec Ideal (s4 4 14 14 14) .f32) :
    IsRows 4 (shapeCast (s2 4 4096) (pad (s4 4 16 16 16) ![0, 0, 0, 0] ![0, 2, 2, 2] ![0, 0, 0, 0] a (zpad (F := Ideal)) hp (by decide)) hc) (xOf a) := by
  intro i
  have h0 : (i 0).1 < 4 := (i 0).2
  have h1 : (i 1).1 < 4096 := (i 1).2
  let j : (s4 4 16 16 16).Idx := ix4 (i 0) ⟨(i 1).1 / 256, by omega⟩ ⟨(i 1).1 / 16 % 16, by omega⟩ ⟨(i 1).1 % 16, by omega⟩
  refine (shapeCast_apply _ hc i j ?_).trans ?_
  · rw [Shape.rowMajor_val_two, Shape.rowMajor_val_four]
    show (((i 0).1 * 16 + (i 1).1 / 256) * 16 + (i 1).1 / 16 % 16) * 16 + (i 1).1 % 16 = (i 0).1 * 4096 + (i 1).1
    omega
  unfold xOf
  by_cases h : (i 0).1 < 4 ∧ (i 1).1 / 256 < 14 ∧ (i 1).1 / 16 % 16 < 14 ∧ (i 1).1 % 16 < 14
  · rw [dif_pos h]
    refine pad_apply_of_inside (s := s4 4 14 14 14) (t := s4 4 16 16 16) _ _ _ a zpad hp _ j _ fun x => ?_
    match x with
    | ⟨0, _⟩ => show (i 0).1 = 0 + (i 0).1 * (0 + 1); omega
    | ⟨1, _⟩ => show (i 1).1 / 256 = 0 + (i 1).1 / 256 * (0 + 1); omega
    | ⟨2, _⟩ => show (i 1).1 / 16 % 16 = 0 + (i 1).1 / 16 % 16 * (0 + 1); omega
    | ⟨3, _⟩ => show (i 1).1 % 16 = 0 + (i 1).1 % 16 * (0 + 1); omega
  · rw [dif_neg h]
    have hn : ∀ x : Fin 4, ¬ (j x).1 < (s4 4 14 14 14).size x → pad (s4 4 16 16 16) ![0, 0, 0, 0] ![0, 2, 2, 2] ![0, 0, 0, 0] a (zpad (F := Ideal)) hp (by decide) j = 0 := by
      intro x hx
      refine (pad_apply_of_not_inside (s := s4 4 14 14 14) (t := s4 4 16 16 16) _ _ _ a zpad hp _ j x fun hh => hx ?_).trans (zpad_at _)
      match x with
      | ⟨0, _⟩ => have := hh.2.2; simpa using this
      | ⟨1, _⟩ => have := hh.2.2; simpa using this
      | ⟨2, _⟩ => have := hh.2.2; simpa using this
      | ⟨3, _⟩ => have := hh.2.2; simpa using this
    by_cases ha : (i 1).1 / 256 < 14
    · by_cases hb : (i 1).1 / 16 % 16 < 14
      · exact hn 3 fun hd => h ⟨h0, ha, hb, hd⟩
      · exact hn 2 hb
    · exact hn 1 ha

end Caps

end
-- ==== Proof.HostOps.lean ====
/- The host lines around each region, as the layer's preparation of input and weights. -/
module

public import proofs.«01_k».proof.Proof.Host

@[expose] public section

set_option maxRecDepth 16384

noncomputable section

open Idealize.ShloMosaic Idealize.ShloMosaic.TcCoe Cert.KernelIdeal Cert.KernelIdeal.Gen
namespace Caps
variable {F : FTy → Type} [FloatOps F] (X : Valuation τ sig (Elt F))

theorem w1 : StableHlo.after hostOps1 X (Proc.devRef .tc main_v22)
    = wprep 1 32 16 (by decide) (by decide) (by decide) (X (Proc.devRef .tc main_arg2)) := by
  after_results
  rfl

theorem x1 : StableHlo.after hostOps1_2 (StableHlo.after hostOps1_1 (StableHlo.after hostOps1 X)) (Proc.devRef .tc main_v32)
    = slabs 4 16 1024 2048 512 5120 (by decide) (by decide) (by decide) (by decide) (X (Proc.devRef .tc main_v18)) := by
  after_results
  rfl

theorem w2 : StableHlo.after hostOps2 X (Proc.devRef .tc main_v37)
    = wprep 2 64 16 (by decide) (by decide) (by decide) (X (Proc.devRef .tc main_arg3)) := by
  after_results
  rfl

theorem x2 : StableHlo.after hostOps2_2 (StableHlo.after hostOps2_1 (StableHlo.after hostOps2 X)) (Proc.devRef .tc main_v47)
    = slabs 4 32 1024 2048 512 5120 (by decide) (by decide) (by decide) (by decide) (X (Proc.devRef .tc main_v33)) := by
  after_results
  rfl

theorem w3 : StableHlo.after hostOps3 X (Proc.devRef .tc main_v52)
    = wprep 4 128 16 (by decide) (by decide) (by decide) (X (Proc.devRef .tc main_arg4)) := by
  after_results
  rfl

theorem x3 : StableHlo.after hostOps3_2 (StableHlo.after hostOps3_1 (StableHlo.after hostOps3 X)) (Proc.devRef .tc main_v62)
    = slabs 4 64 1024 2048 512 5120 (by decide) (by decide) (by decide) (by decide) (X (Proc.devRef .tc main_v48)) := by
  after_results
  rfl

theorem w4 : StableHlo.after hostOps4 X (Proc.devRef .tc main_v67)
    = wprep 4 256 32 (by decide) (by decide) (by decide) (X (Proc.devRef .tc main_arg5)) := by
  after_results
  rfl

theorem x4 : StableHlo.after hostOps4_2 (StableHlo.after hostOps4_1 (StableHlo.after hostOps4 X)) (Proc.devRef .tc main_v77)
    = slabs 4 128 1024 2048 512 5120 (by decide) (by decide) (by decide) (by decide) (X (Proc.devRef .tc main_v63)) := by
  after_results
  rfl

theorem w5 : StableHlo.after hostOps5 X (Proc.devRef .tc main_v82)
    = wprep 8 512 32 (by decide) (by decide) (by decide) (X (Proc.devRef .tc main_arg6)) := by
  after_results
  rfl

theorem x5 : StableHlo.after hostOps5_2 (StableHlo.after hostOps5_1 (StableHlo.after hostOps5 X)) (Proc.devRef .tc main_v100)
    = slabs 8 256 512 1536 512 5120 (by decide) (by decide) (by decide) (by decide) (X (Proc.devRef .tc main_v78)) := by
  after_results
  rfl

theorem w6 : StableHlo.after hostOps6 X (Proc.devRef .tc main_v105)
    = wprep 8 256 64 (by decide) (by decide) (by decide) (X (Proc.devRef .tc main_arg7)) := by
  after_results
  rfl

theorem x6 : StableHlo.after hostOps6_2 (StableHlo.after hostOps6_1 (StableHlo.after hostOps6 X)) (Proc.devRef .tc main_v123)
    = slabs 8 512 512 1536 512 5120 (by decide) (by decide) (by decide) (by decide) (X (Proc.devRef .tc main_v101)) := by
  after_results
  rfl

theorem w7 : StableHlo.after hostOps7_1 (StableHlo.after hostOps7 X) (Proc.devRef .tc main_v129)
    = wprep 8 256 32 (by decide) (by decide) (by decide) (Host.reverse (s := s6 8 256 32 3 3 3) [3, 4, 5] (X (Proc.devRef .tc main_arg8))) := by
  after_results
  rfl

theorem x7 : StableHlo.after hostOps7_3 (StableHlo.after hostOps7_2 (StableHlo.after hostOps7_1 (StableHlo.after hostOps7 X))) (Proc.devRef .tc main_v147)
    = slabs 8 256 512 1536 512 5120 (by decide) (by decide) (by decide) (by decide) (X (Proc.devRef .tc main_v124)) := by
  after_results
  rfl

theorem w8 : StableHlo.after hostOps8 X (Proc.devRef .tc main_v153)
    = wprep 16 128 32 (by decide) (by decide) (by decide) (X (Proc.devRef .tc main_arg9)) := by
  after_results
  rfl

theorem x8 : StableHlo.after hostOps8_2 (StableHlo.after hostOps8_1 (StableHlo.after hostOps8 X)) (Proc.devRef .tc main_v171)
    = slabs 8 512 512 1536 512 5120 (by decide) (by decide) (by decide) (by decide) (concatenate (s2 512 4096) (0 : Fin 2) [⟨s2 256 4096, X (Proc.devRef .tc main_v148)⟩, ⟨s2 256 4096, X (Proc.devRef .tc main_v78)⟩] concatenates_S256x4096_S256x4096_S512x4096_d0) := by
  after_results
  rfl

theorem w9 : StableHlo.after hostOps9_1 (StableHlo.after hostOps9 X) (Proc.devRef .tc main_v177)
    = wprep 4 64 32 (by decide) (by decide) (by decide) (Host.reverse (s := s6 4 64 32 3 3 3) [3, 4, 5] (X (Proc.devRef .tc main_arg10))) := by
  after_results
  rfl

theorem x9 : StableHlo.after hostOps9_3 (StableHlo.after hostOps9_2 (StableHlo.after hostOps9_1 (StableHlo.after hostOps9 X))) (Proc.devRef .tc main_v187)
    = slabs 4 128 1024 2048 512 5120 (by decide) (by decide) (by decide) (by decide) (X (Proc.devRef .tc main_v172)) := by
  after_results
  rfl

theorem w10 : StableHlo.after hostOps10 X (Proc.devRef .tc main_v193)
    = wprep 8 64 16 (by decide) (by decide) (by decide) (X (Proc.devRef .tc main_arg11)) := by
  after_results
  rfl

theorem x10 : StableHlo.after hostOps10_2 (StableHlo.after hostOps10_1 (StableHlo.after hostOps10 X)) (Proc.devRef .tc main_v203)
    = slabs 4 128 1024 2048 512 5120 (by decide) (by decide) (by decide) (by decide) (concatenate (s2 128 4096) (0 : Fin 2) [⟨s2 64 4096, X (Proc.devRef .tc main_v188)⟩, ⟨s2 64 4096, X (Proc.devRef .tc main_v48)⟩] concatenates_S64x4096_S64x4096_S128x4096_d0) := by
  after_results
  rfl

theorem w11 : StableHlo.after hostOps11_1 (StableHlo.after hostOps11 X) (Proc.devRef .tc main_v209)
    = wprep 4 32 16 (by decide) (by decide) (by decide) (Host.reverse (s := s6 4 32 16 3 3 3) [3, 4, 5] (X (Proc.devRef .tc main_arg12))) := by
  after_results
  rfl

theorem x11 : StableHlo.after hostOps11_3 (StableHlo.after hostOps11_2 (StableHlo.after hostOps11_1 (StableHlo.after hostOps11 X))) (Proc.devRef .tc main_v219)
    = slabs 4 64 1024 2048 512 5120 (by decide) (by decide) (by decide) (by decide) (X (Proc.devRef .tc main_v204)) := by
  after_results
  rfl

theorem w12 : StableHlo.after hostOps12 X (Proc.devRef .tc main_v225)
    = wprep 3 16 16 (by decide) (by decide) (by decide) (X (Proc.devRef .tc main_arg13)) := by
  after_results
  rfl

theorem x12 : StableHlo.after hostOps12_2 (StableHlo.after hostOps12_1 (StableHlo.after hostOps12 X)) (Proc.devRef .tc main_v235)
    = slabs 4 48 1024 2048 512 5120 (by decide) (by decide) (by decide) (by decide) (concatenate (s2 48 4096) (0 : Fin 2) [⟨s2 32 4096, X (Proc.devRef .tc main_v220)⟩, ⟨s2 16 4096, X (Proc.devRef .tc main_v18)⟩] concatenates_S32x4096_S16x4096_S48x4096_d0) := by
  after_results
  rfl

theorem w0 : StableHlo.after hostOps0_2 X (Proc.devRef .tc main_v7)
    = wprep 1 16 4 (by decide) (by decide) (by decide) (shapeCast (s6 1 16 4 3 3 3) (X (Proc.devRef .tc main_arg1)) (by decide)) := by
  after_results
  rfl

theorem x0 : StableHlo.after hostOps0_4 (StableHlo.after hostOps0_3 (StableHlo.after hostOps0_2 (StableHlo.after hostOps0_1 (StableHlo.after hostOps0 X)))) (Proc.devRef .tc main_v17)
    = slabs 4 4 1024 3072 1024 6144 (by decide) (by decide) (by decide) (by decide) (shapeCast (s2 4 4096) (pad (s4 4 16 16 16) ![0, 0, 0, 0] ![0, 2, 2, 2] ![0, 0, 0, 0]
        (shapeCast (s4 4 14 14 14) (X (Proc.devRef .tc main_arg0)) (by decide)) (zpad (F := F)) (by decide) (by decide)) (by decide)) := by
  after_results
  rfl

theorem o13 : StableHlo.after hostOps13 X (Proc.devRef .tc main_v237)
    = shapeCast S1x1x16x16x16 (X (Proc.devRef .tc main_v236)) (shapeCasts_S1x4096_S1x1x16x16x16) := by
  after_results
  rfl

end Caps

end
-- ==== Proof.Net.lean ====
/- The thirteen layers as functions of the input and the weights. -/
module

public import proofs.«01_k».proof.Proof.Host

@[expose] public section

noncomputable section

namespace Caps

variable (X : Nat → Nat → EReal) (w : Nat → Nat → Nat → Nat → Nat → EReal)

def L0 : Nat → Nat → EReal := conv1 X (w 0)
def L1 : Nat → Nat → EReal := caps 0 1 16 2 16 (L0 X w) (w 1)
def L2 : Nat → Nat → EReal := caps 2 2 16 4 16 (L1 X w) (w 2)
def L3 : Nat → Nat → EReal := caps 2 4 16 4 32 (L2 X w) (w 3)
def L4 : Nat → Nat → EReal := caps 2 4 32 8 32 (L3 X w) (w 4)
def L5 : Nat → Nat → EReal := caps 2 8 32 8 64 (L4 X w) (w 5)
def L6 : Nat → Nat → EReal := caps 2 8 64 8 32 (L5 X w) (w 6)
def L7 : Nat → Nat → EReal := caps 2 8 32 8 32 (L6 X w) (w 7)
def L8 : Nat → Nat → EReal := caps 2 16 32 4 32 (cat 256 (L7 X w) (L4 X w)) (w 8)
def L9 : Nat → Nat → EReal := caps 2 4 32 4 16 (L8 X w) (w 9)
def L10 : Nat → Nat → EReal := caps 2 8 16 4 16 (cat 64 (L9 X w) (L2 X w)) (w 10)
def L11 : Nat → Nat → EReal := caps 2 4 16 2 16 (L10 X w) (w 11)
def L12 : Nat → Nat → EReal := capsN 2 3 16 16 (cat 32 (L11 X w) (L0 X w)) (w 12)

/-- The weights of the layers, by number. -/
def pick (w0 w1 w2 w3 w4 w5 w6 w7 w8 w9 w10 w11 w12 : Nat → Nat → Nat → Nat → EReal) : Nat → Nat → Nat → Nat → Nat → EReal
  | 0 => w0
  | 1 => w1
  | 2 => w2
  | 3 => w3
  | 4 => w4
  | 5 => w5
  | 6 => w6
  | 7 => w7
  | 8 => w8
  | 9 => w9
  | 10 => w10
  | 11 => w11
  | 12 => w12
  | _ => fun _ _ _ _ => 0

end Caps

end
-- ==== Proof.Chain.lean ====
/- What the kernel's regions leave, layer by layer. -/
module

public import proofs.«01_k».proof.Proof.HostOps
public import proofs.«01_k».proof.Proof.Net

@[expose] public section

set_option maxRecDepth 16384

noncomputable section

namespace Caps

open Idealize.ShloMosaic hiding ix1 ix2 ix3 ix4 ix5 ix6
open Idealize.ShloMosaic.ValueIdx Idealize.ShloMosaic.TcCoe Cert.KernelIdeal Cert.KernelIdeal.Gen

variable (m : (ℓ : Loc nD τ sig) → Buf (Elt Ideal) ℓ) (ρ : Dev nD → PrngReg) (c : Dev nD)

/-- The kernel's input as rows. -/
def kx : Nat → Nat → EReal := xOf (shapeCast (s := (⟨5, ![1, 4, 14, 14, 14]⟩ : Shape)) (s4 4 14 14 14) (m ((c : Thread nD τ).loc main_arg0)) (by decide))

def kw0 : Nat → Nat → Nat → Nat → EReal := wOf 1 16 4 (shapeCast (s := (⟨5, ![16, 4, 3, 3, 3]⟩ : Shape)) (s6 1 16 4 3 3 3) (m ((c : Thread nD τ).loc main_arg1)) (by decide))
def kw1 : Nat → Nat → Nat → Nat → EReal := wOf 1 32 16 (m ((c : Thread nD τ).loc main_arg2))
def kw2 : Nat → Nat → Nat → Nat → EReal := wOf 2 64 16 (m ((c : Thread nD τ).loc main_arg3))
def kw3 : Nat → Nat → Nat → Nat → EReal := wOf 4 128 16 (m ((c : Thread nD τ).loc main_arg4))
def kw4 : Nat → Nat → Nat → Nat → EReal := wOf 4 256 32 (m ((c : Thread nD τ).loc main_arg5))
def kw5 : Nat → Nat → Nat → Nat → EReal := wOf 8 512 32 (m ((c : Thread nD τ).loc main_arg6))
def kw6 : Nat → Nat → Nat → Nat → EReal := wOf 8 256 64 (m ((c : Thread nD τ).loc main_arg7))
def kw7 : Nat → Nat → Nat → Nat → EReal := wOf 8 256 32 (Host.reverse (s := s6 8 256 32 3 3 3) [3, 4, 5] (m ((c : Thread nD τ).loc main_arg8)))
def kw8 : Nat → Nat → Nat → Nat → EReal := wOf 16 128 32 (m ((c : Thread nD τ).loc main_arg9))
def kw9 : Nat → Nat → Nat → Nat → EReal := wOf 4 64 32 (Host.reverse (s := s6 4 64 32 3 3 3) [3, 4, 5] (m ((c : Thread nD τ).loc main_arg10)))
def kw10 : Nat → Nat → Nat → Nat → EReal := wOf 8 64 16 (m ((c : Thread nD τ).loc main_arg11))
def kw11 : Nat → Nat → Nat → Nat → EReal := wOf 4 32 16 (Host.reverse (s := s6 4 32 16 3 3 3) [3, 4, 5] (m ((c : Thread nD τ).loc main_arg12)))
def kw12 : Nat → Nat → Nat → Nat → EReal := wOf 3 16 16 (m ((c : Thread nD τ).loc main_arg13))

/-- The kernel's weights, layer by layer. -/
def kw : Nat → Nat → Nat → Nat → Nat → EReal :=
  pick (kw0 m c) (kw1 m c) (kw2 m c) (kw3 m c) (kw4 m c) (kw5 m c) (kw6 m c) (kw7 m c) (kw8 m c) (kw9 m c) (kw10 m c) (kw11 m c) (kw12 m c)

theorem IsRows_of {R : Nat} {x y : FVec Ideal (s2 R 4096) .f32} {X : Nat → Nat → EReal} (e : x = y) (h : IsRows R y X) : IsRows R x X := e ▸ h
theorem IsSlabs_of {T R S P H : Nat} {x y : FVec Ideal (s3 T R (S + P)) .f32} {X : Nat → Nat → EReal} (e : x = y) (h : IsSlabs T R S P H y X) :
    IsSlabs T R S P H x X := e ▸ h
theorem IsW_of {t0 z0 M : Nat} {x y : FVec Ideal (s3 t0 M (27 * z0)) .bf16} {w : Nat → Nat → Nat → Nat → EReal} (e : x = y)
    (h : IsW t0 z0 M y w) : IsW t0 z0 M x w := e ▸ h

theorem row0 : IsRows 16 (W6 m ρ c (Proc.devRef .tc main_v18)) (L0 (kx m c) (kw m c)) := by
  refine IsRows_of (W6_arr m ρ c 2) (region0 (V5 m ρ) c _ _ ?_ ?_)
  · exact IsSlabs_of (x0 (W0 m ρ c)) (slabs_apply _ _ _ _ _ _ (xprep_apply _ _ _))
  · show IsW _ _ _ _ (kw0 m c)
    exact IsW_of (((W5_of m ρ c main_v7 (by decide)).trans (W4_of m ρ c main_v7 (by decide))).trans ((w0 (W2 m ρ c)).trans (congrArg (fun a : FVec Ideal ((⟨5, ![16, 4, 3, 3, 3]⟩ : Shape)) .f32 => wprep 1 16 4 (by decide) (by decide) (by decide) (shapeCast (s6 1 16 4 3 3 3) a (by decide))) (W2_args m ρ c main_arg1 (by decide))))) (wprep_apply (by decide) (by decide) (by decide) _)

theorem row1 : IsRows 32 (W10 m ρ c (Proc.devRef .tc main_v33)) (L1 (kx m c) (kw m c)) := by
  refine IsRows_of (W10_arr m ρ c 2) (region1 (V9 m ρ) c _ _ ?_ ?_)
  · exact IsSlabs_of (x1 (W6 m ρ c)) (slabs_apply _ _ _ _ _ _ (row0 m ρ c))
  · show IsW _ _ _ _ (kw1 m c)
    exact IsW_of (((W9_of m ρ c main_v22 (by decide)).trans (W8_of m ρ c main_v22 (by decide))).trans ((w1 (W6 m ρ c)).trans (congrArg (fun a : FVec Ideal (s6 1 32 16 3 3 3) .f32 => wprep 1 32 16 (by decide) (by decide) (by decide) a) (W6_args m ρ c main_arg2 (by decide))))) (wprep_apply (by decide) (by decide) (by decide) _)

theorem row2 : IsRows 64 (W14 m ρ c (Proc.devRef .tc main_v48)) (L2 (kx m c) (kw m c)) := by
  refine IsRows_of (W14_arr m ρ c 2) (region2 (V13 m ρ) c _ _ ?_ ?_)
  · exact IsSlabs_of (x2 (W10 m ρ c)) (slabs_apply _ _ _ _ _ _ (row1 m ρ c))
  · show IsW _ _ _ _ (kw2 m c)
    exact IsW_of (((W13_of m ρ c main_v37 (by decide)).trans (W12_of m ρ c main_v37 (by decide))).trans ((w2 (W10 m ρ c)).trans (congrArg (fun a : FVec Ideal (s6 2 64 16 3 3 3) .f32 => wprep 2 64 16 (by decide) (by decide) (by decide) a) (W10_args m ρ c main_arg3 (by decide))))) (wprep_apply (by decide) (by decide) (by decide) _)

theorem row3 : IsRows 128 (W18 m ρ c (Proc.devRef .tc main_v63)) (L3 (kx m c) (kw m c)) := by
  refine IsRows_of (W18_arr m ρ c 2) (region3 (V17 m ρ) c _ _ ?_ ?_)
  · exact IsSlabs_of (x3 (W14 m ρ c)) (slabs_apply _ _ _ _ _ _ (row2 m ρ c))
  · show IsW _ _ _ _ (kw3 m c)
    exact IsW_of (((W17_of m ρ c main_v52 (by decide)).trans (W16_of m ρ c main_v52 (by decide))).trans ((w3 (W14 m ρ c)).trans (congrArg (fun a : FVec Ideal (s6 4 128 16 3 3 3) .f32 => wprep 4 128 16 (by decide) (by decide) (by decide) a) (W14_args m ρ c main_arg4 (by decide))))) (wprep_apply (by decide) (by decide) (by decide) _)

theorem row4 : IsRows 256 (W22 m ρ c (Proc.devRef .tc main_v78)) (L4 (kx m c) (kw m c)) := by
  refine IsRows_of (W22_arr m ρ c 2) (region4 (V21 m ρ) c _ _ ?_ ?_)
  · exact IsSlabs_of (x4 (W18 m ρ c)) (slabs_apply _ _ _ _ _ _ (row3 m ρ c))
  · show IsW _ _ _ _ (kw4 m c)
    exact IsW_of (((W21_of m ρ c main_v67 (by decide)).trans (W20_of m ρ c main_v67 (by decide))).trans ((w4 (W18 m ρ c)).trans (congrArg (fun a : FVec Ideal (s6 4 256 32 3 3 3) .f32 => wprep 4 256 32 (by decide) (by decide) (by decide) a) (W18_args m ρ c main_arg5 (by decide))))) (wprep_apply (by decide) (by decide) (by decide) _)

theorem row5 : IsRows 512 (W26 m ρ c (Proc.devRef .tc main_v101)) (L5 (kx m c) (kw m c)) := by
  refine IsRows_of (W26_arr m ρ c 2) (region5 (V25 m ρ) c _ _ ?_ ?_)
  · exact IsSlabs_of (x5 (W22 m ρ c)) (slabs_apply _ _ _ _ _ _ (row4 m ρ c))
  · show IsW _ _ _ _ (kw5 m c)
    exact IsW_of (((W25_of m ρ c main_v82 (by decide)).trans (W24_of m ρ c main_v82 (by decide))).trans ((w5 (W22 m ρ c)).trans (congrArg (fun a : FVec Ideal (s6 8 512 32 3 3 3) .f32 => wprep 8 512 32 (by decide) (by decide) (by decide) a) (W22_args m ρ c main_arg6 (by decide))))) (wprep_apply (by decide) (by decide) (by decide) _)

theorem row6 : IsRows 256 (W30 m ρ c (Proc.devRef .tc main_v124)) (L6 (kx m c) (kw m c)) := by
  refine IsRows_of (W30_arr m ρ c 2) (region6 (V29 m ρ) c _ _ ?_ ?_)
  · exact IsSlabs_of (x6 (W26 m ρ c)) (slabs_apply _ _ _ _ _ _ (row5 m ρ c))
  · show IsW _ _ _ _ (kw6 m c)
    exact IsW_of (((W29_of m ρ c main_v105 (by decide)).trans (W28_of m ρ c main_v105 (by decide))).trans ((w6 (W26 m ρ c)).trans (congrArg (fun a : FVec Ideal (s6 8 256 64 3 3 3) .f32 => wprep 8 256 64 (by decide) (by decide) (by decide) a) (W26_args m ρ c main_arg7 (by decide))))) (wprep_apply (by decide) (by decide) (by decide) _)

theorem row7 : IsRows 256 (W35 m ρ c (Proc.devRef .tc main_v148)) (L7 (kx m c) (kw m c)) := by
  refine IsRows_of (W35_arr m ρ c 2) (region7 (V34 m ρ) c _ _ ?_ ?_)
  · exact IsSlabs_of (x7 (W30 m ρ c)) (slabs_apply _ _ _ _ _ _ (row6 m ρ c))
  · show IsW _ _ _ _ (kw7 m c)
    exact IsW_of (((W34_of m ρ c main_v129 (by decide)).trans (W33_of m ρ c main_v129 (by decide))).trans ((w7 (W30 m ρ c)).trans (congrArg (fun a : FVec Ideal (s6 8 256 32 3 3 3) .f32 => wprep 8 256 32 (by decide) (by decide) (by decide) (Host.reverse [3, 4, 5] a)) (W30_args m ρ c main_arg8 (by decide))))) (wprep_apply (by decide) (by decide) (by decide) _)

theorem keep8 : IsRows 256 (W35 m ρ c (Proc.devRef .tc main_v78)) (L4 (kx m c) (kw m c)) :=
  IsRows_of ((((((((((((((W35_of m ρ c main_v78 (by decide +kernel)).trans
    (W34_of m ρ c main_v78 (by decide +kernel))).trans
    (W33_of m ρ c main_v78 (by decide +kernel))).trans
    (W32_of m ρ c main_v78 (by decide +kernel))).trans
    (W31_of m ρ c main_v78 (by decide +kernel))).trans
    (W30_of m ρ c main_v78 (by decide +kernel))).trans
    (W29_of m ρ c main_v78 (by decide +kernel))).trans
    (W28_of m ρ c main_v78 (by decide +kernel))).trans
    (W27_of m ρ c main_v78 (by decide +kernel))).trans
    (W26_of m ρ c main_v78 (by decide +kernel))).trans
    (W25_of m ρ c main_v78 (by decide +kernel))).trans
    (W24_of m ρ c main_v78 (by decide +kernel))).trans
    (W23_of m ρ c main_v78 (by decide +kernel)))) (row4 m ρ c)

theorem row8 : IsRows 128 (W39 m ρ c (Proc.devRef .tc main_v172)) (L8 (kx m c) (kw m c)) := by
  refine IsRows_of (W39_arr m ρ c 2) (region8 (V38 m ρ) c _ _ ?_ ?_)
  · exact IsSlabs_of (x8 (W35 m ρ c)) (slabs_apply _ _ _ _ _ _ (cat_apply rfl _ _ _ _ _ (row7 m ρ c) (keep8 m ρ c)))
  · show IsW _ _ _ _ (kw8 m c)
    exact IsW_of (((W38_of m ρ c main_v153 (by decide)).trans (W37_of m ρ c main_v153 (by decide))).trans ((w8 (W35 m ρ c)).trans (congrArg (fun a : FVec Ideal (s6 16 128 32 3 3 3) .f32 => wprep 16 128 32 (by decide) (by decide) (by decide) a) (W35_args m ρ c main_arg9 (by decide))))) (wprep_apply (by decide) (by decide) (by decide) _)

theorem row9 : IsRows 64 (W44 m ρ c (Proc.devRef .tc main_v188)) (L9 (kx m c) (kw m c)) := by
  refine IsRows_of (W44_arr m ρ c 2) (region9 (V43 m ρ) c _ _ ?_ ?_)
  · exact IsSlabs_of (x9 (W39 m ρ c)) (slabs_apply _ _ _ _ _ _ (row8 m ρ c))
  · show IsW _ _ _ _ (kw9 m c)
    exact IsW_of (((W43_of m ρ c main_v177 (by decide)).trans (W42_of m ρ c main_v177 (by decide))).trans ((w9 (W39 m ρ c)).trans (congrArg (fun a : FVec Ideal (s6 4 64 32 3 3 3) .f32 => wprep 4 64 32 (by decide) (by decide) (by decide) (Host.reverse [3, 4, 5] a)) (W39_args m ρ c main_arg10 (by decide))))) (wprep_apply (by decide) (by decide) (by decide) _)

theorem keep10 : IsRows 64 (W44 m ρ c (Proc.devRef .tc main_v48)) (L2 (kx m c) (kw m c)) :=
  IsRows_of (((((((((((((((((((((((((((((((W44_of m ρ c main_v48 (by decide +kernel)).trans
    (W43_of m ρ c main_v48 (by decide +kernel))).trans
    (W42_of m ρ c main_v48 (by decide +kernel))).trans
    (W41_of m ρ c main_v48 (by decide +kernel))).trans
    (W40_of m ρ c main_v48 (by decide +kernel))).trans
    (W39_of m ρ c main_v48 (by decide +kernel))).trans
    (W38_of m ρ c main_v48 (by decide +kernel))).trans
    (W37_of m ρ c main_v48 (by decide +kernel))).trans
    (W36_of m ρ c main_v48 (by decide +kernel))).trans
    (W35_of m ρ c main_v48 (by decide +kernel))).trans
    (W34_of m ρ c main_v48 (by decide +kernel))).trans
    (W33_of m ρ c main_v48 (by decide +kernel))).trans
    (W32_of m ρ c main_v48 (by decide +kernel))).trans
    (W31_of m ρ c main_v48 (by decide +kernel))).trans
    (W30_of m ρ c main_v48 (by decide +kernel))).trans
    (W29_of m ρ c main_v48 (by decide +kernel))).trans
    (W28_of m ρ c main_v48 (by decide +kernel))).trans
    (W27_of m ρ c main_v48 (by decide +kernel))).trans
    (W26_of m ρ c main_v48 (by decide +kernel))).trans
    (W25_of m ρ c main_v48 (by decide +kernel))).trans
    (W24_of m ρ c main_v48 (by decide +kernel))).trans
    (W23_of m ρ c main_v48 (by decide +kernel))).trans
    (W22_of m ρ c main_v48 (by decide +kernel))).trans
    (W21_of m ρ c main_v48 (by decide +kernel))).trans
    (W20_of m ρ c main_v48 (by decide +kernel))).trans
    (W19_of m ρ c main_v48 (by decide +kernel))).trans
    (W18_of m ρ c main_v48 (by decide +kernel))).trans
    (W17_of m ρ c main_v48 (by decide +kernel))).trans
    (W16_of m ρ c main_v48 (by decide +kernel))).trans
    (W15_of m ρ c main_v48 (by decide +kernel)))) (row2 m ρ c)

theorem row10 : IsRows 64 (W48 m ρ c (Proc.devRef .tc main_v204)) (L10 (kx m c) (kw m c)) := by
  refine IsRows_of (W48_arr m ρ c 2) (region10 (V47 m ρ) c _ _ ?_ ?_)
  · exact IsSlabs_of (x10 (W44 m ρ c)) (slabs_apply _ _ _ _ _ _ (cat_apply rfl _ _ _ _ _ (row9 m ρ c) (keep10 m ρ c)))
  · show IsW _ _ _ _ (kw10 m c)
    exact IsW_of (((W47_of m ρ c main_v193 (by decide)).trans (W46_of m ρ c main_v193 (by decide))).trans ((w10 (W44 m ρ c)).trans (congrArg (fun a : FVec Ideal (s6 8 64 16 3 3 3) .f32 => wprep 8 64 16 (by decide) (by decide) (by decide) a) (W44_args m ρ c main_arg11 (by decide))))) (wprep_apply (by decide) (by decide) (by decide) _)

theorem row11 : IsRows 32 (W53 m ρ c (Proc.devRef .tc main_v220)) (L11 (kx m c) (kw m c)) := by
  refine IsRows_of (W53_arr m ρ c 2) (region11 (V52 m ρ) c _ _ ?_ ?_)
  · exact IsSlabs_of (x11 (W48 m ρ c)) (slabs_apply _ _ _ _ _ _ (row10 m ρ c))
  · show IsW _ _ _ _ (kw11 m c)
    exact IsW_of (((W52_of m ρ c main_v209 (by decide)).trans (W51_of m ρ c main_v209 (by decide))).trans ((w11 (W48 m ρ c)).trans (congrArg (fun a : FVec Ideal (s6 4 32 16 3 3 3) .f32 => wprep 4 32 16 (by decide) (by decide) (by decide) (Host.reverse [3, 4, 5] a)) (W48_args m ρ c main_arg12 (by decide))))) (wprep_apply (by decide) (by decide) (by decide) _)

theorem keep12 : IsRows 16 (W53 m ρ c (Proc.devRef .tc main_v18)) (L0 (kx m c) (kw m c)) :=
  IsRows_of ((((((((((((((((((((((((((((((((((((((((((((((((W53_of m ρ c main_v18 (by decide +kernel)).trans
    (W52_of m ρ c main_v18 (by decide +kernel))).trans
    (W51_of m ρ c main_v18 (by decide +kernel))).trans
    (W50_of m ρ c main_v18 (by decide +kernel))).trans
    (W49_of m ρ c main_v18 (by decide +kernel))).trans
    (W48_of m ρ c main_v18 (by decide +kernel))).trans
    (W47_of m ρ c main_v18 (by decide +kernel))).trans
    (W46_of m ρ c main_v18 (by decide +kernel))).trans
    (W45_of m ρ c main_v18 (by decide +kernel))).trans
    (W44_of m ρ c main_v18 (by decide +kernel))).trans
    (W43_of m ρ c main_v18 (by decide +kernel))).trans
    (W42_of m ρ c main_v18 (by decide +kernel))).trans
    (W41_of m ρ c main_v18 (by decide +kernel))).trans
    (W40_of m ρ c main_v18 (by decide +kernel))).trans
    (W39_of m ρ c main_v18 (by decide +kernel))).trans
    (W38_of m ρ c main_v18 (by decide +kernel))).trans
    (W37_of m ρ c main_v18 (by decide +kernel))).trans
    (W36_of m ρ c main_v18 (by decide +kernel))).trans
    (W35_of m ρ c main_v18 (by decide +kernel))).trans
    (W34_of m ρ c main_v18 (by decide +kernel))).trans
    (W33_of m ρ c main_v18 (by decide +kernel))).trans
    (W32_of m ρ c main_v18 (by decide +kernel))).trans
    (W31_of m ρ c main_v18 (by decide +kernel))).trans
    (W30_of m ρ c main_v18 (by decide +kernel))).trans
    (W29_of m ρ c main_v18 (by decide +kernel))).trans
    (W28_of m ρ c main_v18 (by decide +kernel))).trans
    (W27_of m ρ c main_v18 (by decide +kernel))).trans
    (W26_of m ρ c main_v18 (by decide +kernel))).trans
    (W25_of m ρ c main_v18 (by decide +kernel))).trans
    (W24_of m ρ c main_v18 (by decide +kernel))).trans
    (W23_of m ρ c main_v18 (by decide +kernel))).trans
    (W22_of m ρ c main_v18 (by decide +kernel))).trans
    (W21_of m ρ c main_v18 (by decide +kernel))).trans
    (W20_of m ρ c main_v18 (by decide +kernel))).trans
    (W19_of m ρ c main_v18 (by decide +kernel))).trans
    (W18_of m ρ c main_v18 (by decide +kernel))).trans
    (W17_of m ρ c main_v18 (by decide +kernel))).trans
    (W16_of m ρ c main_v18 (by decide +kernel))).trans
    (W15_of m ρ c main_v18 (by decide +kernel))).trans
    (W14_of m ρ c main_v18 (by decide +kernel))).trans
    (W13_of m ρ c main_v18 (by decide +kernel))).trans
    (W12_of m ρ c main_v18 (by decide +kernel))).trans
    (W11_of m ρ c main_v18 (by decide +kernel))).trans
    (W10_of m ρ c main_v18 (by decide +kernel))).trans
    (W9_of m ρ c main_v18 (by decide +kernel))).trans
    (W8_of m ρ c main_v18 (by decide +kernel))).trans
    (W7_of m ρ c main_v18 (by decide +kernel)))) (row0 m ρ c)

theorem row12 : IsRows 1 (W57 m ρ c (Proc.devRef .tc main_v236)) (L12 (kx m c) (kw m c)) := by
  refine IsRows_of (W57_arr m ρ c 2) (region12 (V56 m ρ) c _ _ ?_ ?_)
  · exact IsSlabs_of (x12 (W53 m ρ c)) (slabs_apply _ _ _ _ _ _ (cat_apply rfl _ _ _ _ _ (row11 m ρ c) (keep12 m ρ c)))
  · show IsW _ _ _ _ (kw12 m c)
    exact IsW_of (((W56_of m ρ c main_v225 (by decide)).trans (W55_of m ρ c main_v225 (by decide))).trans ((w12 (W53 m ρ c)).trans (congrArg (fun a : FVec Ideal (s6 3 16 16 3 3 3) .f32 => wprep 3 16 16 (by decide) (by decide) (by decide) a) (W53_args m ρ c main_arg13 (by decide))))) (wprep_apply (by decide) (by decide) (by decide) _)

end Caps

end
-- ==== Proof.RefRoute.lean ====
/- The reference's routing: its operations at any sizes, and what they compute at a position. -/
module

public import proofs.«01_k».proof.Proof.Net

@[expose] public section

set_option maxRecDepth 16384

noncomputable section

namespace Caps

open Idealize.ShloMosaic hiding ix1 ix2 ix3 ix4 ix5 ix6
open Idealize.ShloMosaic.ValueIdx

abbrev s5 (a b c d e : Nat) : Shape := ⟨5, ![a, b, c, d, e]⟩

/-- A position on the grid of 16 × 16 × 16, as one number. -/
def pos (z y x : Fin 16) : Nat := z.1 * 256 + y.1 * 16 + x.1

section Conditions
variable (a b c : Nat)

theorem bd0_4 : s0.BroadcastsInDim (s4 a 16 16 16) ![] := ⟨fun x => x.elim0, fun x => x.elim0⟩
theorem bd0_5 : s0.BroadcastsInDim (s5 a b 16 16 16) ![] := ⟨fun x => x.elim0, fun x => x.elim0⟩
theorem bd4_5 : (s4 a 16 16 16).BroadcastsInDim (s5 a 1 16 16 16) ![0, 2, 3, 4] := by
  refine ⟨?_, fun x => ?_⟩
  · show Function.Injective (![0, 2, 3, 4] : Fin 4 → Fin 5); decide
  · match x with | ⟨0, _⟩ => exact Or.inr rfl | ⟨1, _⟩ => exact Or.inr rfl | ⟨2, _⟩ => exact Or.inr rfl | ⟨3, _⟩ => exact Or.inr rfl
theorem bd5_5 : (s5 a 1 16 16 16).BroadcastsInDim (s5 a b 16 16 16) ![0, 1, 2, 3, 4] := by
  refine ⟨?_, fun x => ?_⟩
  · show Function.Injective (![0, 1, 2, 3, 4] : Fin 5 → Fin 5); decide
  · match x with
    | ⟨0, _⟩ => exact Or.inr rfl | ⟨1, _⟩ => exact Or.inl rfl | ⟨2, _⟩ => exact Or.inr rfl | ⟨3, _⟩ => exact Or.inr rfl | ⟨4, _⟩ => exact Or.inr rfl
theorem bd5_6 : (s5 a b 16 16 16).BroadcastsInDim (s6 a b 1 16 16 16) ![0, 1, 3, 4, 5] := by
  refine ⟨?_, fun x => ?_⟩
  · show Function.Injective (![0, 1, 3, 4, 5] : Fin 5 → Fin 6); decide
  · match x with
    | ⟨0, _⟩ => exact Or.inr rfl | ⟨1, _⟩ => exact Or.inr rfl | ⟨2, _⟩ => exact Or.inr rfl | ⟨3, _⟩ => exact Or.inr rfl | ⟨4, _⟩ => exact Or.inr rfl
theorem bd6_6 : (s6 a b 1 16 16 16).BroadcastsInDim (s6 a b c 16 16 16) ![0, 1, 2, 3, 4, 5] := by
  refine ⟨?_, fun x => ?_⟩
  · show Function.Injective (![0, 1, 2, 3, 4, 5] : Fin 6 → Fin 6); decide
  · match x with
    | ⟨0, _⟩ => exact Or.inr rfl | ⟨1, _⟩ => exact Or.inr rfl | ⟨2, _⟩ => exact Or.inl rfl | ⟨3, _⟩ => exact Or.inr rfl | ⟨4, _⟩ => exact Or.inr rfl
    | ⟨5, _⟩ => exact Or.inr rfl
theorem bd5_6f : (s5 b c 16 16 16).BroadcastsInDim (s6 1 b c 16 16 16) ![1, 2, 3, 4, 5] := by
  refine ⟨?_, fun x => ?_⟩
  · show Function.Injective (![1, 2, 3, 4, 5] : Fin 5 → Fin 6); decide
  · match x with
    | ⟨0, _⟩ => exact Or.inr rfl | ⟨1, _⟩ => exact Or.inr rfl | ⟨2, _⟩ => exact Or.inr rfl | ⟨3, _⟩ => exact Or.inr rfl | ⟨4, _⟩ => exact Or.inr rfl
theorem bd6_6f : (s6 1 b c 16 16 16).BroadcastsInDim (s6 a b c 16 16 16) ![0, 1, 2, 3, 4, 5] := by
  refine ⟨?_, fun x => ?_⟩
  · show Function.Injective (![0, 1, 2, 3, 4, 5] : Fin 6 → Fin 6); decide
  · match x with
    | ⟨0, _⟩ => exact Or.inl rfl | ⟨1, _⟩ => exact Or.inr rfl | ⟨2, _⟩ => exact Or.inr rfl | ⟨3, _⟩ => exact Or.inr rfl | ⟨4, _⟩ => exact Or.inr rfl
    | ⟨5, _⟩ => exact Or.inr rfl
theorem rt5_1 : (s5 a b 16 16 16).ReducesTo [1] (s4 a 16 16 16) := by
  refine ⟨rfl, fun x => ?_⟩
  match x with | ⟨0, _⟩ => rfl | ⟨1, _⟩ => rfl | ⟨2, _⟩ => rfl | ⟨3, _⟩ => rfl
theorem rt6_0 : (s6 a b c 16 16 16).ReducesTo [0] (s5 b c 16 16 16) := by
  refine ⟨rfl, fun x => ?_⟩
  match x with | ⟨0, _⟩ => rfl | ⟨1, _⟩ => rfl | ⟨2, _⟩ => rfl | ⟨3, _⟩ => rfl | ⟨4, _⟩ => rfl
theorem rt6_2 : (s6 a b c 16 16 16).ReducesTo [2] (s5 a b 16 16 16) := by
  refine ⟨rfl, fun x => ?_⟩
  match x with | ⟨0, _⟩ => rfl | ⟨1, _⟩ => rfl | ⟨2, _⟩ => rfl | ⟨3, _⟩ => rfl | ⟨4, _⟩ => rfl
theorem s0_pos : 0 < s0.numel := by decide

end Conditions

section Model
variable (t0 t1 z1 : Nat)

def k0 : FVec Ideal s0 .f32 := constant s0 .f32 0x00000000#32
def kInf : FVec Ideal s0 .f32 := constant s0 .f32 0xFF800000#32

/-- One value for every second coordinate. -/
def brG (x : FVec Ideal (s4 t0 16 16 16) .f32) : FVec Ideal (s5 t0 t1 16 16 16) .f32 :=
  broadcastInDim (s5 t0 t1 16 16 16) ![0, 1, 2, 3, 4] (bd5_5 t0 t1) (broadcastInDim (s5 t0 1 16 16 16) ![0, 2, 3, 4] (bd4_5 t0) x)

/-- One value for the only second coordinate. -/
def br1 (x : FVec Ideal (s4 t0 16 16 16) .f32) : FVec Ideal (s5 t0 1 16 16 16) .f32 :=
  broadcastInDim (s5 t0 1 16 16 16) ![0, 2, 3, 4] (bd4_5 t0) x

/-- The first logits. -/
def rZ : FVec Ideal (s5 t0 t1 16 16 16) .f32 := broadcastInDim (s5 t0 t1 16 16 16) ![] (bd0_5 t0 t1) k0

variable {t0 t1 z1}

/-- The exponentials of the softmax. -/
def rE (br : FVec Ideal (s4 t0 16 16 16) .f32 → FVec Ideal (s5 t0 t1 16 16 16) .f32) (B : FVec Ideal (s5 t0 t1 16 16 16) .f32) :
    FVec Ideal (s5 t0 t1 16 16 16) .f32 :=
  Host.exp (subf B (br (maximumf (broadcastInDim (s4 t0 16 16 16) ![] (bd0_4 t0) kInf)
    (Host.reduce FloatOps.maximumf B kInf (rt5_1 t0 t1) s0_pos))))

/-- The weighted sum over the input types. -/
def rS (br : FVec Ideal (s4 t0 16 16 16) .f32 → FVec Ideal (s5 t0 t1 16 16 16) .f32) (E : FVec Ideal (s5 t0 t1 16 16 16) .f32)
    (U : FVec Ideal (s6 t0 t1 z1 16 16 16) .f32) : FVec Ideal (s5 t1 z1 16 16 16) .f32 :=
  Host.reduceAdd (mulf (broadcastInDim (s6 t0 t1 z1 16 16 16) ![0, 1, 2, 3, 4, 5] (bd6_6 t0 t1 z1)
    (broadcastInDim (s6 t0 t1 1 16 16 16) ![0, 1, 3, 4, 5] (bd5_6 t0 t1) (Host.divf E (br (Host.reduceAdd E k0 (rt5_1 t0 t1) s0_pos))))) U)
    k0 (rt6_0 t0 t1 z1) s0_pos

/-- The squared lengths. -/
def rN (S : FVec Ideal (s5 t1 z1 16 16 16) .f32) : FVec Ideal (s5 t1 1 16 16 16) .f32 :=
  broadcastInDim (s5 t1 1 16 16 16) ![0, 2, 3, 4] (bd4_5 t1) (Host.reduceAdd (mulf S S) k0 (rt5_1 t1 z1) s0_pos)

/-- The squashed vectors. -/
def rV (S : FVec Ideal (s5 t1 z1 16 16 16) .f32) (N : FVec Ideal (s5 t1 1 16 16 16) .f32) : FVec Ideal (s5 t1 z1 16 16 16) .f32 :=
  mulf (mulf (broadcastInDim (s5 t1 z1 16 16 16) ![0, 1, 2, 3, 4] (bd5_5 t1 z1)
      (Host.divf N (addf (broadcastInDim (s5 t1 1 16 16 16) ![] (bd0_5 t1 1) (constant s0 .f32 0x3F800000#32)) N))) S)
    (broadcastInDim (s5 t1 z1 16 16 16) ![0, 1, 2, 3, 4] (bd5_5 t1 z1)
      (Host.rsqrt (addf N (broadcastInDim (s5 t1 1 16 16 16) ![] (bd0_5 t1 1) (constant s0 .f32 0x3089705F#32)))))

/-- The next logits. -/
def rL (B : FVec Ideal (s5 t0 t1 16 16 16) .f32) (U : FVec Ideal (s6 t0 t1 z1 16 16 16) .f32) (V : FVec Ideal (s5 t1 z1 16 16 16) .f32) :
    FVec Ideal (s5 t0 t1 16 16 16) .f32 :=
  addf B (Host.reduceAdd (mulf U (broadcastInDim (s6 t0 t1 z1 16 16 16) ![0, 1, 2, 3, 4, 5] (bd6_6f t0 t1 z1)
    (broadcastInDim (s6 1 t1 z1 16 16 16) ![1, 2, 3, 4, 5] (bd5_6f t1 z1) V))) k0 (rt6_2 t0 t1 z1) s0_pos)

end Model

section Apply
variable {a b c : Nat}

theorem bd4_5_apply {α : Type} (x : (s4 a 16 16 16).Idx → α) (i : Fin a) (o : Fin 1) (z y w : Fin 16) :
    broadcastInDim (s5 a 1 16 16 16) ![0, 2, 3, 4] (bd4_5 a) x (ix5 i o z y w) = x (ix4 i z y w) := by
  refine broadcastInDim_apply _ _ _ _ _ fun ax => ?_
  match ax with
  | ⟨0, _⟩ => show i.1 = if a = 1 then 0 else i.1; split <;> omega
  | ⟨1, _⟩ => rfl
  | ⟨2, _⟩ => rfl
  | ⟨3, _⟩ => rfl

theorem bd5_5_apply {α : Type} (x : (s5 a 1 16 16 16).Idx → α) (i : Fin a) (j : Fin b) (z y w : Fin 16) :
    broadcastInDim (s5 a b 16 16 16) ![0, 1, 2, 3, 4] (bd5_5 a b) x (ix5 i j z y w) = x (ix5 i (0 : Fin 1) z y w) := by
  refine broadcastInDim_apply _ _ _ _ _ fun ax => ?_
  match ax with
  | ⟨0, _⟩ => show i.1 = if a = 1 then 0 else i.1; split <;> omega
  | ⟨1, _⟩ => rfl
  | ⟨2, _⟩ => rfl
  | ⟨3, _⟩ => rfl
  | ⟨4, _⟩ => rfl

theorem brG_apply (x : FVec Ideal (s4 a 16 16 16) .f32) (i : Fin a) (j : Fin b) (z y w : Fin 16) :
    brG a b x (ix5 i j z y w) = x (ix4 i z y w) := (bd5_5_apply _ i j z y w).trans (bd4_5_apply _ i 0 z y w)

theorem br1_apply (x : FVec Ideal (s4 a 16 16 16) .f32) (i : Fin a) (j : Fin 1) (z y w : Fin 16) :
    br1 a x (ix5 i j z y w) = x (ix4 i z y w) := bd4_5_apply _ i j z y w

theorem bdU_apply {α : Type} (x : (s5 a b 16 16 16).Idx → α) (i : Fin a) (j : Fin b) (k : Fin c) (z y w : Fin 16) :
    broadcastInDim (s6 a b c 16 16 16) ![0, 1, 2, 3, 4, 5] (bd6_6 a b c) (broadcastInDim (s6 a b 1 16 16 16) ![0, 1, 3, 4, 5] (bd5_6 a b) x)
      (ix6 i j k z y w) = x (ix5 i j z y w) := by
  refine (broadcastInDim_apply _ _ _ (ix6 i j k z y w) (ix6 i j (0 : Fin 1) z y w) fun ax => ?_).trans
    (broadcastInDim_apply _ _ _ _ _ fun ax => ?_)
  · match ax with
    | ⟨0, _⟩ => show i.1 = if a = 1 then 0 else i.1; split <;> omega
    | ⟨1, _⟩ => show j.1 = if b = 1 then 0 else j.1; split <;> omega
    | ⟨2, _⟩ => rfl
    | ⟨3, _⟩ => rfl
    | ⟨4, _⟩ => rfl
    | ⟨5, _⟩ => rfl
  · match ax with
    | ⟨0, _⟩ => show i.1 = if a = 1 then 0 else i.1; split <;> omega
    | ⟨1, _⟩ => show j.1 = if b = 1 then 0 else j.1; split <;> omega
    | ⟨2, _⟩ => rfl
    | ⟨3, _⟩ => rfl
    | ⟨4, _⟩ => rfl

theorem bdV_apply {α : Type} (x : (s5 b c 16 16 16).Idx → α) (i : Fin a) (j : Fin b) (k : Fin c) (z y w : Fin 16) :
    broadcastInDim (s6 a b c 16 16 16) ![0, 1, 2, 3, 4, 5] (bd6_6f a b c) (broadcastInDim (s6 1 b c 16 16 16) ![1, 2, 3, 4, 5] (bd5_6f b c) x)
      (ix6 i j k z y w) = x (ix5 j k z y w) := by
  refine (broadcastInDim_apply _ _ _ (ix6 i j k z y w) (ix6 (0 : Fin 1) j k z y w) fun ax => ?_).trans
    (broadcastInDim_apply _ _ _ _ _ fun ax => ?_)
  · match ax with
    | ⟨0, _⟩ => rfl
    | ⟨1, _⟩ => show j.1 = if b = 1 then 0 else j.1; split <;> omega
    | ⟨2, _⟩ => show k.1 = if c = 1 then 0 else k.1; split <;> omega
    | ⟨3, _⟩ => rfl
    | ⟨4, _⟩ => rfl
    | ⟨5, _⟩ => rfl
  · match ax with
    | ⟨0, _⟩ => show j.1 = if b = 1 then 0 else j.1; split <;> omega
    | ⟨1, _⟩ => show k.1 = if c = 1 then 0 else k.1; split <;> omega
    | ⟨2, _⟩ => rfl
    | ⟨3, _⟩ => rfl
    | ⟨4, _⟩ => rfl

theorem k0_at (i : s0.Idx) : k0 i = (0 : EReal) := bits_zero

theorem hsum5 (v : FVec Ideal (s5 a b 16 16 16) .f32) (i : Fin a) (z y x : Fin 16) :
    Host.reduceAdd v k0 (rt5_1 a b) s0_pos (ix4 i z y x) = ∑ k : Fin b, v (ix5 i k z y x) := by
  refine (Ideal.hostReduceAdd_r5_a1 (rt5_1 a b) v (k0 (Shape.Idx.first s0_pos)) (ix4 i z y x)).trans ?_
  rw [k0_at, zero_add]
  refine Finset.sum_congr rfl fun k _ => congrArg v ?_
  funext ax; match ax with | ⟨0, _⟩ => rfl | ⟨1, _⟩ => rfl | ⟨2, _⟩ => rfl | ⟨3, _⟩ => rfl | ⟨4, _⟩ => rfl

theorem hmax5 (v : FVec Ideal (s5 a b 16 16 16) .f32) (i : Fin a) (z y x : Fin 16) :
    Host.reduce FloatOps.maximumf v kInf (rt5_1 a b) s0_pos (ix4 i z y x)
      = (Finset.univ : Finset (Fin b)).fold max (Ideal.ofBits .f32 0xFF800000#32) fun k => v (ix5 i k z y x) := by
  refine (Host.reduce_eq_fold (max : EReal → EReal → EReal) v kInf (rt5_1 a b) s0_pos (ix4 i z y x)).trans ?_
  refine ((rt5_1 a b).fold_fiber_r5_a1 (ix4 i z y x) max _ v).trans ?_
  refine congrArg (fun f => (Finset.univ : Finset (Fin b)).fold max (Ideal.ofBits .f32 0xFF800000#32) f) (funext fun k => congrArg v ?_)
  funext ax; match ax with | ⟨0, _⟩ => rfl | ⟨1, _⟩ => rfl | ⟨2, _⟩ => rfl | ⟨3, _⟩ => rfl | ⟨4, _⟩ => rfl

theorem fiber6_0 (j : (s5 b c 16 16 16).Idx) (i : (s6 a b c 16 16 16).Idx) :
    (rt6_0 a b c).drop i = j ↔ ∃ k : Fin a, ix6 k (j 0) (j 1) (j 2) (j 3) (j 4) = i := by
  constructor
  · intro e
    refine ⟨i 0, ?_⟩
    funext ax; apply Fin.ext
    match ax with
    | ⟨0, _⟩ => rfl
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact (congrArg Fin.val (congrFun e 4)).symm
  · rintro ⟨k, rfl⟩
    funext ax; apply Fin.ext
    match ax with | ⟨0, _⟩ => rfl | ⟨1, _⟩ => rfl | ⟨2, _⟩ => rfl | ⟨3, _⟩ => rfl | ⟨4, _⟩ => rfl

theorem fiber6_2 (j : (s5 a b 16 16 16).Idx) (i : (s6 a b c 16 16 16).Idx) :
    (rt6_2 a b c).drop i = j ↔ ∃ k : Fin c, ix6 (j 0) (j 1) k (j 2) (j 3) (j 4) = i := by
  constructor
  · intro e
    refine ⟨i 2, ?_⟩
    funext ax; apply Fin.ext
    match ax with
    | ⟨0, _⟩ => exact (congrArg Fin.val (congrFun e 0)).symm
    | ⟨1, _⟩ => exact (congrArg Fin.val (congrFun e 1)).symm
    | ⟨2, _⟩ => rfl
    | ⟨3, _⟩ => exact (congrArg Fin.val (congrFun e 2)).symm
    | ⟨4, _⟩ => exact (congrArg Fin.val (congrFun e 3)).symm
    | ⟨5, _⟩ => exact (congrArg Fin.val (congrFun e 4)).symm
  · rintro ⟨k, rfl⟩
    funext ax; apply Fin.ext
    match ax with | ⟨0, _⟩ => rfl | ⟨1, _⟩ => rfl | ⟨2, _⟩ => rfl | ⟨3, _⟩ => rfl | ⟨4, _⟩ => rfl

theorem hsum6_0 (v : FVec Ideal (s6 a b c 16 16 16) .f32) (j : Fin b) (k : Fin c) (z y x : Fin 16) :
    Host.reduceAdd v k0 (rt6_0 a b c) s0_pos (ix5 j k z y x) = ∑ i : Fin a, v (ix6 i j k z y x) := by
  refine Eq.trans (b := Ideal.hostReduceAdd (rt6_0 a b c) v (k0 (Shape.Idx.first s0_pos)) (ix5 j k z y x)) rfl ?_
  unfold Ideal.hostReduceAdd
  rw [k0_at, zero_add]
  exact Finset.sum_filter_eq_sum_of_fiber _ (fun i : Fin a => ix6 i j k z y x) (fun _ _ e => congrFun e 0) (fiber6_0 (ix5 j k z y x)) v

theorem hsum6_2 (v : FVec Ideal (s6 a b c 16 16 16) .f32) (i : Fin a) (j : Fin b) (z y x : Fin 16) :
    Host.reduceAdd v k0 (rt6_2 a b c) s0_pos (ix5 i j z y x) = ∑ k : Fin c, v (ix6 i j k z y x) := by
  refine Eq.trans (b := Ideal.hostReduceAdd (rt6_2 a b c) v (k0 (Shape.Idx.first s0_pos)) (ix5 i j z y x)) rfl ?_
  unfold Ideal.hostReduceAdd
  rw [k0_at, zero_add]
  exact Finset.sum_filter_eq_sum_of_fiber _ (fun k : Fin c => ix6 i j k z y x) (fun _ _ e => congrFun e 2) (fiber6_2 (ix5 i j z y x)) v

end Apply

section Passes
variable {t0 t1 z1 : Nat} {br : FVec Ideal (s4 t0 16 16 16) .f32 → FVec Ideal (s5 t0 t1 16 16 16) .f32}
  (hbr : ∀ v i j z y x, br v (ix5 i j z y x) = v (ix4 i z y x))
  {U : FVec Ideal (s6 t0 t1 z1 16 16 16) .f32} {u : Nat → Fin t0 → Fin t1 → Fin z1 → EReal}

/-- The products are u at every position. -/
def IsU (U : FVec Ideal (s6 t0 t1 z1 16 16 16) .f32) (u : Nat → Fin t0 → Fin t1 → Fin z1 → EReal) : Prop :=
  ∀ i j k z y x, U (ix6 i j k z y x) = u (pos z y x) i j k

/-- A family over two axes is v at every position. -/
def IsP {a b : Nat} (V : FVec Ideal (s5 a b 16 16 16) .f32) (v : Nat → Fin a → Fin b → EReal) : Prop :=
  ∀ i j z y x, V (ix5 i j z y x) = v (pos z y x) i j

theorem rZ_apply : IsP (rZ t0 t1) fun _ _ _ => 0 := fun _ _ _ _ _ => bits_zero

include hbr

theorem rE_apply {B : FVec Ideal (s5 t0 t1 16 16 16) .f32} {b : Nat → Fin t0 → Fin t1 → EReal} (hB : IsP B b) :
    IsP (rE br B) fun p i j => Ideal.exp (b p i j - top (b p i)) := by
  intro i j z y x
  show Ideal.exp (B (ix5 i j z y x) - br _ (ix5 i j z y x)) = _
  rw [hbr, hB, maximumf_apply, hmax5]
  simp only [hB _ _ _ _ _]
  rfl

theorem rS_apply (hU : IsU U u) {E : FVec Ideal (s5 t0 t1 16 16 16) .f32} {b : Nat → Fin t0 → Fin t1 → EReal}
    (hE : IsP E fun p i j => Ideal.exp (b p i j - top (b p i))) : IsP (rS br E U) fun p => wsum (u p) (b p) := by
  intro j k z y x
  unfold rS
  rw [hsum6_0]
  refine Finset.sum_congr rfl fun i _ => ?_
  rw [mulf_apply, bdU_apply, Host.divf_apply, hbr, hsum5, hE, hU]
  simp only [hE _ _ _ _ _]
  rfl

omit hbr

theorem rN_apply {S : FVec Ideal (s5 t1 z1 16 16 16) .f32} {s : Nat → Fin t1 → Fin z1 → EReal} (hS : IsP S s) :
    IsP (rN S) fun p j _ => len2 (s p) j := by
  intro j o z y x
  unfold rN
  rw [bd4_5_apply, hsum5]
  refine Finset.sum_congr rfl fun k _ => ?_
  rw [mulf_apply, hS]

theorem rV_apply {S : FVec Ideal (s5 t1 z1 16 16 16) .f32} {N : FVec Ideal (s5 t1 1 16 16 16) .f32}
    {s : Nat → Fin t1 → Fin z1 → EReal} (hS : IsP S s) (hN : IsP N fun p j _ => len2 (s p) j) : IsP (rV S N) fun p => sq (s p) := by
  intro j k z y x
  unfold rV
  rw [mulf_apply, mulf_apply, bd5_5_apply, bd5_5_apply, hS]
  show Ideal.div (N _) (_ + N _) * _ * Ideal.rsqrt (N _ + _) = _
  rw [hN]
  rfl

theorem rL_apply (hU : IsU U u) {B : FVec Ideal (s5 t0 t1 16 16 16) .f32} {b : Nat → Fin t0 → Fin t1 → EReal} (hB : IsP B b)
    {V : FVec Ideal (s5 t1 z1 16 16 16) .f32} {v : Nat → Fin t1 → Fin z1 → EReal} (hV : IsP V v) :
    IsP (rL B U V) fun p i j => b p i j + ∑ k : Fin z1, u p i j k * v p j k := by
  intro i j z y x
  unfold rL
  rw [addf_apply, hB, hsum6_2]
  refine congrArg _ (Finset.sum_congr rfl fun k _ => ?_)
  rw [mulf_apply, hU, bdV_apply, hV]

include hbr

/-- One pass. -/
theorem onePass_apply (hU : IsU U u) {n : Nat} {B E : FVec Ideal (s5 t0 t1 16 16 16) .f32} {S : FVec Ideal (s5 t1 z1 16 16 16) .f32}
    {N : FVec Ideal (s5 t1 1 16 16 16) .f32} (hB : IsP B fun p => lg (u p) n) (hE : E = rE br B) (hS : S = rS br E U) (hN : N = rN S) :
    IsP (rV S N) fun p => route n (u p) := by
  subst hE hS hN
  have h := rS_apply hbr hU (rE_apply hbr hB)
  exact rV_apply h (rN_apply h)

/-- The only pass of the first layer. -/
theorem route1_apply (hU : IsU U u) {B0 E0 : FVec Ideal (s5 t0 t1 16 16 16) .f32} {S0 : FVec Ideal (s5 t1 z1 16 16 16) .f32}
    {N0 : FVec Ideal (s5 t1 1 16 16 16) .f32} (hB0 : B0 = rZ t0 t1) (hE0 : E0 = rE br B0) (hS0 : S0 = rS br E0 U) (hN0 : N0 = rN S0) :
    IsP (rV S0 N0) fun p => route 0 (u p) := onePass_apply hbr hU (n := 0) (show IsP B0 fun p => lg (u p) 0 from hB0 ▸ rZ_apply) hE0 hS0 hN0

/-- Three passes. -/
theorem route3_apply (hU : IsU U u) {B0 E0 B1 E1 B2 E2 : FVec Ideal (s5 t0 t1 16 16 16) .f32} {S0 S1 S2 : FVec Ideal (s5 t1 z1 16 16 16) .f32}
    {N0 N1 N2 : FVec Ideal (s5 t1 1 16 16 16) .f32} (hB0 : B0 = rZ t0 t1) (hE0 : E0 = rE br B0) (hS0 : S0 = rS br E0 U) (hN0 : N0 = rN S0)
    (hB1 : B1 = rL B0 U (rV S0 N0)) (hE1 : E1 = rE br B1) (hS1 : S1 = rS br E1 U) (hN1 : N1 = rN S1)
    (hB2 : B2 = rL B1 U (rV S1 N1)) (hE2 : E2 = rE br B2) (hS2 : S2 = rS br E2 U) (hN2 : N2 = rN S2) :
    IsP (rV S2 N2) fun p => route 2 (u p) := by
  have h0 : IsP B0 fun p => lg (u p) 0 := hB0 ▸ rZ_apply
  have h1 : IsP B1 fun p => lg (u p) 1 := hB1 ▸ rL_apply hU h0 (onePass_apply hbr hU h0 hE0 hS0 hN0)
  have h2 : IsP B2 fun p => lg (u p) 2 := hB2 ▸ rL_apply hU h1 (onePass_apply hbr hU h1 hE1 hS1 hN1)
  exact onePass_apply hbr hU h2 hE2 hS2 hN2

end Passes

end Caps

end
-- ==== Proof.KernelRun.lean ====
/- The kernel's run: what every tensor outside the regions' own memory holds at the end. -/
module

public import proofs.«01_k».proof.Proof.Gen.KernelIdeal.Frame
public import proofs.«01_k».proof.Proof.Chain
public import proofs.«01_k».proof.Proof.RefRoute

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel ends with every buffer of the whole program at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W58 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W58 m ρ c b)
    (hfin := fun c s' => by
      iintro ⟨⟨Hh, -⟩, HSI⟩
      unfold StableHlo.held
      imodintro
      iapply (pointsTo_read_all (Pipeline.ucRefs τ sig) (fun b => (((c : Thread nD τ)).1, b)) (W58 m ρ c) s')
      isplitl [Hh] <;> iassumption)
    (hQ := fun _ h _ => h)

end Run

/-- A row of 4096 as a box. -/
theorem box {v : FVec Ideal (Caps.s2 1 4096) .f32} {X : Nat → Nat → EReal} (hv : Caps.IsRows 1 v X)
    (hc : (Caps.s2 1 4096).ShapeCasts (Caps.s5 1 1 16 16 16)) (g i : Fin 1) (z y x : Fin 16) :
    shapeCast (Caps.s5 1 1 16 16 16) v hc (ValueIdx.ix5 g i z y x) = X 0 (Caps.pos z y x) := by
  have hg := g.2
  have hi := i.2
  have hp : Caps.pos z y x < 4096 := by unfold Caps.pos; omega
  refine (shapeCast_apply v hc (ValueIdx.ix5 g i z y x) (ValueIdx.ix2 (0 : Fin 1) (⟨Caps.pos z y x, hp⟩ : Fin 4096)) ?_).trans (hv _)
  rw [Shape.rowMajor_val_five, Shape.rowMajor_val_two]
  show 0 * 4096 + Caps.pos z y x = (((g.1 * 1 + i.1) * 16 + z.1) * 16 + y.1) * 16 + x.1
  unfold Caps.pos
  omega

variable (m : (ℓ : Loc nD τ sig) → Buf (Elt Ideal) ℓ) (ρ : Dev nD → PrngReg) (c : Dev nD)

/-- The result, element by element. -/
theorem result (g i : Fin 1) (z y x : Fin 16) :
    (W58 m ρ c (Proc.devRef .tc main_v237) : FVec Ideal (Caps.s5 1 1 16 16 16) .f32) (ValueIdx.ix5 g i z y x)
      = Caps.L12 (Caps.kx m c) (Caps.kw m c) 0 (Caps.pos z y x) :=
  (congrFun (Caps.o13 (W57 m ρ c)) (ValueIdx.ix5 g i z y x)).trans (box (Caps.row12 m ρ c) _ g i z y x)

end Cert.KernelRun

end
-- ==== Proof.RefOps.lean ====
/-
  The reference is one straight line of operations, each writing a tensor of its own. What every tensor holds
  at the end is therefore what its own operation makes of what its operands hold at the end. `Ok lo hi p E`
  says this of a part `p` of the line whose operations write the tensors numbered `lo … hi - 1`, in order:
  `E Z` is the conjunction of the equations of its operations in the final contents `Z`.
-/
module

public import proofs.«01_k».proof.Proof.Gen.ReferenceIdeal
public import Idealize.ShloMosaic.PureOps.Ideal
public import Idealize.ShloMosaic.Lib.StableHlo.Run
public import Idealize.ShloMosaic.Lib.Pipeline.Frame

@[expose] public section

noncomputable section

namespace Cert.RefOps

open Cert.ReferenceIdeal Cert.ReferenceIdeal.Gen Idealize.ShloMosaic Idealize.ShloMosaic.TcCoe Idealize.SL.Sem Idealize.ShloMosaic.StableHlo

/-- The number of a tensor. -/
def rk (r : Ref sig .tc) : ℕ := r.idx.val

/-- What the buffers hold. -/
abbrev Vl := Valuation τ sig (Elt Ideal)

/-- A part of the program. -/
abbrev Pr := Prog (TpuEff nD τ sig (Elt Ideal) (Pipeline.Sig Λ₀ (Fin 0) fun p => (pcfgs (F := Ideal) p).Adm) .tc) PUnit

/-- The final contents agree with `V` on the tensors below `n`. -/
def Agree (n : ℕ) (Z V : Vl) : Prop := ∀ r : Ref sig .tc, rk r < n → Z (Proc.devRef .tc r) = V (Proc.devRef .tc r)

/-- Contents as a tensor of its shape. -/
def cst {s : Shape} (x : (⟨s, .f32⟩ : BufTy).Contents (Elt Ideal)) : FVec Ideal s .f32 := x

/-- A part of the line, its tensors and its equations (see above). -/
def Ok (lo hi : ℕ) (p : Pr) (E : Vl → Prop) : Prop :=
  ∃ l : List (HloOp τ sig (Elt Ideal)), p = seq l ∧ (∀ op ∈ l, op.bufs ⊆ tcRefs τ sig) ∧ (∀ op ∈ l, op.fresh = ∅) ∧
    ∀ V Z : Vl, Agree hi Z (after l V) → Agree lo Z V ∧ E Z

theorem ok_nil (n : ℕ) : Ok n n (pure ⟨⟩) (fun _ => True) :=
  ⟨[], rfl, by simp, by simp, fun _ _ h => ⟨h, trivial⟩⟩

/-- Two parts one after the other. -/
theorem ok_append {lo mid hi : ℕ} {p q : Pr} {E E' : Vl → Prop} (hp : Ok lo mid p E) (hq : Ok mid hi q E') :
    Ok lo hi (p >>= fun _ => q) (fun Z => E Z ∧ E' Z) := by
  obtain ⟨l, rfl, b, f, h⟩ := hp
  obtain ⟨l', rfl, b', f', h'⟩ := hq
  refine ⟨l ++ l', (seq_append l l').symm, ?_, ?_, fun V Z hZ => ?_⟩
  · exact fun op ho => (List.mem_append.mp ho).elim (b op) (b' op)
  · exact fun op ho => (List.mem_append.mp ho).elim (f op) (f' op)
  · rw [after_append] at hZ
    obtain ⟨k', e'⟩ := h' _ _ hZ
    obtain ⟨k, e⟩ := h _ _ k'
    exact ⟨k, e, e'⟩

/-- One operation that writes the tensor numbered `n` from tensors before it. -/
theorem ok_op {n : ℕ} {op : HloOp τ sig (Elt Ideal)} {y : Ref sig .tc} {E : Vl → Prop}
    (hw : op.writes = {Proc.devRef .tc y}) (hb : op.bufs ⊆ tcRefs τ sig) (hf : op.fresh = ∅) (hy : rk y = n)
    (hE : ∀ V Z : Vl, Agree n Z V → Z (Proc.devRef .tc y) = op.result V (Proc.devRef .tc y) → E Z) :
    Ok n (n + 1) (hlo rfl op (fun _ => .ret ⟨⟩)) E := by
  refine ⟨[op], rfl, ?_, ?_, fun V Z hZ => ?_⟩
  · intro o ho; rw [List.mem_singleton.mp ho]; exact hb
  · intro o ho; rw [List.mem_singleton.mp ho]; exact hf
  · have k : Agree n Z V := fun r hr =>
      (hZ r (by omega)).trans (result_of_writes_ne op V y r hw (fun h => by subst h; omega))
    exact ⟨k, hE V Z k (hZ y (by omega))⟩

theorem ok_nullary {n : ℕ} {y : Ref sig .tc} (v : y.ty.Contents (Elt Ideal)) (hy) (h : rk y = n) :
    Ok n (n + 1) (hlo rfl (nullary y v hy) (fun _ => .ret ⟨⟩)) (fun Z => Z (Proc.devRef .tc y) = v) :=
  ok_op rfl (nullary_bufs_sub ..) rfl h fun V Z _ e => e.trans (nullary_result y v hy V)

theorem ok_unary {n : ℕ} {x y : Ref sig .tc} (f : x.ty.Contents (Elt Ideal) → y.ty.Contents (Elt Ideal)) (hx hy)
    (h : rk y = n) (h1 : rk x < n) :
    Ok n (n + 1) (hlo rfl (unary x y f hx hy) (fun _ => .ret ⟨⟩))
      (fun Z => Z (Proc.devRef .tc y) = f (Z (Proc.devRef .tc x))) :=
  ok_op rfl (unary_bufs_sub ..) rfl h fun V Z k e => by rw [e, unary_result x y f hx hy V, k x h1]

theorem ok_reshape {n : ℕ} {x y : Ref sig .tc} (he hn hx hy) (h : rk y = n) (h1 : rk x < n) :
    Ok n (n + 1) (hlo rfl (reshape x y he hn hx hy) (fun _ => .ret ⟨⟩))
      (fun Z => Z (Proc.devRef .tc y) = fun i => he ▸ shapeCast y.ty.shape (Z (Proc.devRef .tc x)) hn i) :=
  ok_op rfl (reshape_bufs_sub ..) rfl h fun V Z k e => by rw [e, reshape_result x y he hn hx hy V, k x h1]

theorem ok_binary {n : ℕ} {a b y : Ref sig .tc}
    (f : a.ty.Contents (Elt Ideal) → b.ty.Contents (Elt Ideal) → y.ty.Contents (Elt Ideal)) (ha hb hy)
    (h : rk y = n) (h1 : rk a < n) (h2 : rk b < n) :
    Ok n (n + 1) (hlo rfl (binary a b y f ha hb hy) (fun _ => .ret ⟨⟩))
      (fun Z => Z (Proc.devRef .tc y) = f (Z (Proc.devRef .tc a)) (Z (Proc.devRef .tc b))) :=
  ok_op rfl (binary_bufs_sub ..) rfl h fun V Z k e => by rw [e, binary_result a b y f ha hb hy V, k a h1, k b h2]

/-- A joining of three. -/
theorem ok_join {n : ℕ} {a b c y : Ref sig .tc}
    (f : ((k : Fin 3) → ((![a, b, c] : Fin 3 → Ref sig .tc) k).ty.Contents (Elt Ideal)) → y.ty.Contents (Elt Ideal)) (hxs hy)
    (h : rk y = n) (h1 : rk a < n) (h2 : rk b < n) (h3 : rk c < n) :
    Ok n (n + 1) (hlo rfl (nary ![a, b, c] y f hxs hy) (fun _ => .ret ⟨⟩))
      (fun Z => Z (Proc.devRef .tc y) = f (Fin.cons (Z (Proc.devRef .tc a)) (Fin.cons (Z (Proc.devRef .tc b))
        (Fin.cons (Z (Proc.devRef .tc c)) (fun i => i.elim0))))) :=
  ok_op rfl (nary_bufs_sub ..) rfl h fun V Z k e => by
    rw [e, nary_result, k a h1, k b h2, k c h3]; congr 1; funext i; fin_cases i <;> rfl

/-- A called function of one operation. -/
theorem ok_call {n : ℕ} {T U : BufTy} {a : TRef sig T} {y : TRef sig U} (f : T.Contents (Elt Ideal) → U.Contents (Elt Ideal))
    (h : rk y.ref = n) (h1 : rk a.ref < n) :
    Ok n (n + 1) (hlo rfl (TRef.unary a y f) (fun _ => (.ret (⟨⟩ : PUnit) : Pr)) >>= fun _ => (pure ⟨⟩ : Pr))
      (fun Z => Z (Proc.devRef .tc y.ref) = y.toBuf (f (a.ofBuf (Z (Proc.devRef .tc a.ref)))) ∧ True) :=
  ok_append (ok_unary _ _ _ h h1) (ok_nil _)

/-- A called function of two operations: the second reads the first's result and an argument. -/
theorem ok_call2 {n : ℕ} {S T U W : BufTy} {a : TRef sig S} {b : TRef sig T} {x : TRef sig U} {y : TRef sig W}
    (f : T.Contents (Elt Ideal) → U.Contents (Elt Ideal))
    (g : S.Contents (Elt Ideal) → U.Contents (Elt Ideal) → W.Contents (Elt Ideal))
    (hx : rk x.ref = n) (hy : rk y.ref = n + 1) (ha : rk a.ref < n) (hb : rk b.ref < n) :
    Ok n (n + 1 + 1) (hlo rfl (TRef.unary b x f) (fun _ => (.ret (⟨⟩ : PUnit) : Pr)) >>= fun _ =>
        hlo rfl (TRef.binary a x y g) (fun _ => (.ret (⟨⟩ : PUnit) : Pr)) >>= fun _ => (pure ⟨⟩ : Pr))
      (fun Z => Z (Proc.devRef .tc x.ref) = x.toBuf (f (b.ofBuf (Z (Proc.devRef .tc b.ref)))) ∧
        Z (Proc.devRef .tc y.ref) = y.toBuf (g (a.ofBuf (Z (Proc.devRef .tc a.ref))) (x.ofBuf (Z (Proc.devRef .tc x.ref)))) ∧
        True) :=
  ok_append (ok_unary _ _ _ hx hb) (ok_append (ok_binary _ _ _ _ hy (by omega) (by omega)) (ok_nil _))

/-- `ok_op` and what follows, for the last operation of a part. -/
theorem ok_last {n : ℕ} {p : Pr} {E : Vl → Prop} (h : Ok n (n + 1) p E) : Ok n (n + 1) p (fun Z => E Z ∧ True) := by
  obtain ⟨l, e, b, f, h⟩ := h
  exact ⟨l, e, b, f, fun V Z hZ => ⟨(h V Z hZ).1, (h V Z hZ).2, trivial⟩⟩

end Cert.RefOps

end
-- ==== Proof.RefLine0.lean ====
/- The equations of the reference's operations, window by window of its line. -/
module

public import proofs.«01_k».proof.Proof.RefOps

@[expose] public section

set_option maxRecDepth 8192
set_option maxHeartbeats 4000000

noncomputable section

namespace Cert.RefOps

open Cert.ReferenceIdeal Cert.ReferenceIdeal.Gen Idealize.ShloMosaic Idealize.ShloMosaic.TcCoe Idealize.SL.Sem Idealize.ShloMosaic.StableHlo

def part0 (d : Dev nD) : {E : Vl → Prop // Ok 14 76 (main_part0 (F := Ideal) d) E} := by
  apply Subtype.mk
  case property =>
    unfold main_part0
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_nullary
    all_goals first | rfl | exact Nat.le_of_ble_eq_true rfl

def part1 (d : Dev nD) : {E : Vl → Prop // Ok 76 137 (main_part1 (F := Ideal) d) E} := by
  apply Subtype.mk
  case property =>
    unfold main_part1
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_binary
    all_goals first | rfl | exact Nat.le_of_ble_eq_true rfl

def part2 (d : Dev nD) : {E : Vl → Prop // Ok 137 197 (main_part2 (F := Ideal) d) E} := by
  apply Subtype.mk
  case property =>
    unfold main_part2
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_unary
    all_goals first | rfl | exact Nat.le_of_ble_eq_true rfl

def part3 (d : Dev nD) : {E : Vl → Prop // Ok 197 257 (main_part3 (F := Ideal) d) E} := by
  apply Subtype.mk
  case property =>
    unfold main_part3
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_binary
    all_goals first | rfl | exact Nat.le_of_ble_eq_true rfl

def part4 (d : Dev nD) : {E : Vl → Prop // Ok 257 318 (main_part4 (F := Ideal) d) E} := by
  apply Subtype.mk
  case property =>
    unfold main_part4
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_unary
    all_goals first | rfl | exact Nat.le_of_ble_eq_true rfl

def part5 (d : Dev nD) : {E : Vl → Prop // Ok 318 378 (main_part5 (F := Ideal) d) E} := by
  apply Subtype.mk
  case property =>
    unfold main_part5
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_unary
    all_goals first | rfl | exact Nat.le_of_ble_eq_true rfl

end Cert.RefOps

end
-- ==== Proof.RefLine2.lean ====
/- The equations of the reference's operations, window by window of its line. -/
module

public import proofs.«01_k».proof.Proof.RefOps

@[expose] public section

set_option maxRecDepth 8192
set_option maxHeartbeats 4000000

noncomputable section

namespace Cert.RefOps

open Cert.ReferenceIdeal Cert.ReferenceIdeal.Gen Idealize.ShloMosaic Idealize.ShloMosaic.TcCoe Idealize.SL.Sem Idealize.ShloMosaic.StableHlo

def part12 (d : Dev nD) : {E : Vl → Prop // Ok 741 801 (main_part12 (F := Ideal) d) E} := by
  apply Subtype.mk
  case property =>
    unfold main_part12
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_binary
    all_goals first | rfl | exact Nat.le_of_ble_eq_true rfl

def part13 (d : Dev nD) : {E : Vl → Prop // Ok 801 862 (main_part13 (F := Ideal) d) E} := by
  apply Subtype.mk
  case property =>
    unfold main_part13
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_unary
    all_goals first | rfl | exact Nat.le_of_ble_eq_true rfl

def part14 (d : Dev nD) : {E : Vl → Prop // Ok 862 922 (main_part14 (F := Ideal) d) E} := by
  apply Subtype.mk
  case property =>
    unfold main_part14
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_binary
    all_goals first | rfl | exact Nat.le_of_ble_eq_true rfl

def part15 (d : Dev nD) : {E : Vl → Prop // Ok 922 982 (main_part15 (F := Ideal) d) E} := by
  apply Subtype.mk
  case property =>
    unfold main_part15
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_nullary
    all_goals first | rfl | exact Nat.le_of_ble_eq_true rfl

def part16 (d : Dev nD) : {E : Vl → Prop // Ok 982 1043 (main_part16 (F := Ideal) d) E} := by
  apply Subtype.mk
  case property =>
    unfold main_part16
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_binary
    all_goals first | rfl | exact Nat.le_of_ble_eq_true rfl

def part17 (d : Dev nD) : {E : Vl → Prop // Ok 1043 1103 (main_part17 (F := Ideal) d) E} := by
  apply Subtype.mk
  case property =>
    unfold main_part17
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_binary
    all_goals first | rfl | exact Nat.le_of_ble_eq_true rfl

end Cert.RefOps

end
-- ==== Proof.RefLine3.lean ====
/- The equations of the reference's operations, window by window of its line. -/
module

public import proofs.«01_k».proof.Proof.RefOps

@[expose] public section

set_option maxRecDepth 8192
set_option maxHeartbeats 4000000

noncomputable section

namespace Cert.RefOps

open Cert.ReferenceIdeal Cert.ReferenceIdeal.Gen Idealize.ShloMosaic Idealize.ShloMosaic.TcCoe Idealize.SL.Sem Idealize.ShloMosaic.StableHlo

def part18 (d : Dev nD) : {E : Vl → Prop // Ok 1103 1164 (main_part18 (F := Ideal) d) E} := by
  apply Subtype.mk
  case property =>
    unfold main_part18
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_unary
    all_goals first | rfl | exact Nat.le_of_ble_eq_true rfl

def part19 (d : Dev nD) : {E : Vl → Prop // Ok 1164 1224 (main_part19 (F := Ideal) d) E} := by
  apply Subtype.mk
  case property =>
    unfold main_part19
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_binary
    all_goals first | rfl | exact Nat.le_of_ble_eq_true rfl

def part20 (d : Dev nD) : {E : Vl → Prop // Ok 1224 1284 (main_part20 (F := Ideal) d) E} := by
  apply Subtype.mk
  case property =>
    unfold main_part20
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_nullary
    all_goals first | rfl | exact Nat.le_of_ble_eq_true rfl

def part21 (d : Dev nD) : {E : Vl → Prop // Ok 1284 1345 (main_part21 (F := Ideal) d) E} := by
  apply Subtype.mk
  case property =>
    unfold main_part21
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_unary
    all_goals first | rfl | exact Nat.le_of_ble_eq_true rfl

def part22 (d : Dev nD) : {E : Vl → Prop // Ok 1345 1405 (main_part22 (F := Ideal) d) E} := by
  apply Subtype.mk
  case property =>
    unfold main_part22
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_nullary
    all_goals first | rfl | exact Nat.le_of_ble_eq_true rfl

def part23 (d : Dev nD) : {E : Vl → Prop // Ok 1405 1466 (main_part23 (F := Ideal) d) E} := by
  apply Subtype.mk
  case property =>
    unfold main_part23
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_reshape
    all_goals first | rfl | exact Nat.le_of_ble_eq_true rfl

end Cert.RefOps

end
-- ==== Proof.RefLine4.lean ====
/- The equations of the reference's operations, window by window of its line. -/
module

public import proofs.«01_k».proof.Proof.RefOps

@[expose] public section

set_option maxRecDepth 8192
set_option maxHeartbeats 4000000

noncomputable section

namespace Cert.RefOps

open Cert.ReferenceIdeal Cert.ReferenceIdeal.Gen Idealize.ShloMosaic Idealize.ShloMosaic.TcCoe Idealize.SL.Sem Idealize.ShloMosaic.StableHlo

def part24 (d : Dev nD) : {E : Vl → Prop // Ok 1466 1526 (main_part24 (F := Ideal) d) E} := by
  apply Subtype.mk
  case property =>
    unfold main_part24
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_binary
    all_goals first | rfl | exact Nat.le_of_ble_eq_true rfl

def part25 (d : Dev nD) : {E : Vl → Prop // Ok 1526 1586 (main_part25 (F := Ideal) d) E} := by
  apply Subtype.mk
  case property =>
    unfold main_part25
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_binary
    all_goals first | rfl | exact Nat.le_of_ble_eq_true rfl

def part26 (d : Dev nD) : {E : Vl → Prop // Ok 1586 1647 (main_part26 (F := Ideal) d) E} := by
  apply Subtype.mk
  case property =>
    unfold main_part26
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_unary
    all_goals first | rfl | exact Nat.le_of_ble_eq_true rfl

def part27 (d : Dev nD) : {E : Vl → Prop // Ok 1647 1707 (main_part27 (F := Ideal) d) E} := by
  apply Subtype.mk
  case property =>
    unfold main_part27
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_unary
    all_goals first | rfl | exact Nat.le_of_ble_eq_true rfl

def part28 (d : Dev nD) : {E : Vl → Prop // Ok 1707 1736 (main_part28 (F := Ideal) d) E} := by
  apply Subtype.mk
  case property =>
    unfold main_part28
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    exact ok_nil _

end Cert.RefOps

end
-- ==== Proof.RefConv.lean ====
/- The reference's convolution: the windows stacked axis by axis, and their product with the weights, at a position. -/
module

public import proofs.«01_k».proof.Proof.RefRoute

@[expose] public section

set_option maxRecDepth 16384

noncomputable section

namespace Caps

open Idealize.ShloMosaic hiding ix1 ix2 ix3 ix4 ix5 ix6
open Idealize.ShloMosaic.ValueIdx

abbrev s7 (a b c d e f g : Nat) : Shape := ⟨7, ![a, b, c, d, e, f, g]⟩
abbrev s8 (a b c d e f g h : Nat) : Shape := ⟨8, ![a, b, c, d, e, f, g, h]⟩

/-- An index of seven coordinates. -/
abbrev at7 {n0 n1 n2 n3 n4 n5 n6 : Nat} (a : Fin n0) (b : Fin n1) (c : Fin n2) (d : Fin n3) (e : Fin n4) (f : Fin n5) (g : Fin n6) :
    (s7 n0 n1 n2 n3 n4 n5 n6).Idx :=
  fun x => match x with | ⟨0, _⟩ => a | ⟨1, _⟩ => b | ⟨2, _⟩ => c | ⟨3, _⟩ => d | ⟨4, _⟩ => e | ⟨5, _⟩ => f | ⟨6, _⟩ => g

/-- An index of eight coordinates. -/
abbrev at8 {n0 n1 n2 n3 n4 n5 n6 n7 : Nat} (a : Fin n0) (b : Fin n1) (c : Fin n2) (d : Fin n3) (e : Fin n4) (f : Fin n5) (g : Fin n6)
    (h : Fin n7) : (s8 n0 n1 n2 n3 n4 n5 n6 n7).Idx :=
  fun x => match x with
    | ⟨0, _⟩ => a | ⟨1, _⟩ => b | ⟨2, _⟩ => c | ⟨3, _⟩ => d | ⟨4, _⟩ => e | ⟨5, _⟩ => f | ⟨6, _⟩ => g | ⟨7, _⟩ => h

theorem rowMajor8 {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6 + (i 6).val) * d 7
        + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- The rows with lo zeros before and after each of the three axes, at padded coordinates. -/
def padv (lo : Nat) (X : Nat → Nat → EReal) (r a b c : Nat) : EReal :=
  if (lo ≤ a ∧ a < lo + 16) ∧ (lo ≤ b ∧ b < lo + 16) ∧ (lo ≤ c ∧ c < lo + 16)
  then X r ((a - lo) * 256 + (b - lo) * 16 + (c - lo)) else 0

section Conditions
variable (g i : Nat)

theorem sl1 (k : Nat) (hk : k < 3) : (s5 g i 18 18 18).Slices ![0, 0, k, 0, 0] (s5 g i 16 18 18) := by
  refine ⟨rfl, fun x => ?_⟩
  match x with
  | ⟨0, _⟩ => show 0 + g ≤ g; omega
  | ⟨1, _⟩ => show 0 + i ≤ i; omega
  | ⟨2, _⟩ => show k + 16 ≤ 18; omega
  | ⟨3, _⟩ => show 0 + 18 ≤ 18; omega
  | ⟨4, _⟩ => show 0 + 18 ≤ 18; omega
theorem sl2 (k : Nat) (hk : k < 3) : (s6 g i 3 16 18 18).Slices ![0, 0, 0, 0, k, 0] (s6 g i 3 16 16 18) := by
  refine ⟨rfl, fun x => ?_⟩
  match x with
  | ⟨0, _⟩ => show 0 + g ≤ g; omega
  | ⟨1, _⟩ => show 0 + i ≤ i; omega
  | ⟨2, _⟩ => show 0 + 3 ≤ 3; omega
  | ⟨3, _⟩ => show 0 + 16 ≤ 16; omega
  | ⟨4, _⟩ => show k + 16 ≤ 18; omega
  | ⟨5, _⟩ => show 0 + 18 ≤ 18; omega
theorem sl3 (k : Nat) (hk : k < 3) : (s7 g i 3 3 16 16 18).Slices ![0, 0, 0, 0, 0, 0, k] (s7 g i 3 3 16 16 16) := by
  refine ⟨rfl, fun x => ?_⟩
  match x with
  | ⟨0, _⟩ => show 0 + g ≤ g; omega
  | ⟨1, _⟩ => show 0 + i ≤ i; omega
  | ⟨2, _⟩ => show 0 + 3 ≤ 3; omega
  | ⟨3, _⟩ => show 0 + 3 ≤ 3; omega
  | ⟨4, _⟩ => show 0 + 16 ≤ 16; omega
  | ⟨5, _⟩ => show 0 + 16 ≤ 16; omega
  | ⟨6, _⟩ => show k + 16 ≤ 18; omega
theorem st1 : (s5 g i 16 18 18).BroadcastsInDim (s6 g i 1 16 18 18) ![0, 1, 3, 4, 5] := by
  refine ⟨?_, fun x => ?_⟩
  · show Function.Injective (![0, 1, 3, 4, 5] : Fin 5 → Fin 6); decide
  · match x with
    | ⟨0, _⟩ => exact Or.inr rfl | ⟨1, _⟩ => exact Or.inr rfl | ⟨2, _⟩ => exact Or.inr rfl | ⟨3, _⟩ => exact Or.inr rfl | ⟨4, _⟩ => exact Or.inr rfl
theorem st2 : (s6 g i 3 16 16 18).BroadcastsInDim (s7 g i 3 1 16 16 18) ![0, 1, 2, 4, 5, 6] := by
  refine ⟨?_, fun x => ?_⟩
  · show Function.Injective (![0, 1, 2, 4, 5, 6] : Fin 6 → Fin 7); decide
  · match x with
    | ⟨0, _⟩ => exact Or.inr rfl | ⟨1, _⟩ => exact Or.inr rfl | ⟨2, _⟩ => exact Or.inr rfl | ⟨3, _⟩ => exact Or.inr rfl | ⟨4, _⟩ => exact Or.inr rfl
    | ⟨5, _⟩ => exact Or.inr rfl
theorem st3 : (s7 g i 3 3 16 16 16).BroadcastsInDim (s8 g i 3 3 1 16 16 16) ![0, 1, 2, 3, 5, 6, 7] := by
  refine ⟨?_, fun x => ?_⟩
  · show Function.Injective (![0, 1, 2, 3, 5, 6, 7] : Fin 7 → Fin 8); decide
  · match x with
    | ⟨0, _⟩ => exact Or.inr rfl | ⟨1, _⟩ => exact Or.inr rfl | ⟨2, _⟩ => exact Or.inr rfl | ⟨3, _⟩ => exact Or.inr rfl | ⟨4, _⟩ => exact Or.inr rfl
    | ⟨5, _⟩ => exact Or.inr rfl | ⟨6, _⟩ => exact Or.inr rfl

theorem cc1 : Shape.Concatenates [s6 g i 1 16 18 18, s6 g i 1 16 18 18, s6 g i 1 16 18 18] (s6 g i 3 16 18 18) (2 : Fin 6) := by
  refine ⟨Nat.le_succ 2, fun s hs => ?_, rfl⟩
  simp only [List.mem_cons, List.not_mem_nil, or_false, or_self] at hs
  subst hs
  refine ⟨rfl, fun x hx => ?_⟩
  match x with
  | ⟨0, _⟩ => rfl | ⟨1, _⟩ => rfl | ⟨2, _⟩ => exact absurd rfl hx | ⟨3, _⟩ => rfl | ⟨4, _⟩ => rfl | ⟨5, _⟩ => rfl
theorem cc2 : Shape.Concatenates [s7 g i 3 1 16 16 18, s7 g i 3 1 16 16 18, s7 g i 3 1 16 16 18] (s7 g i 3 3 16 16 18) (3 : Fin 7) := by
  refine ⟨Nat.le_succ 2, fun s hs => ?_, rfl⟩
  simp only [List.mem_cons, List.not_mem_nil, or_false, or_self] at hs
  subst hs
  refine ⟨rfl, fun x hx => ?_⟩
  match x with
  | ⟨0, _⟩ => rfl | ⟨1, _⟩ => rfl | ⟨2, _⟩ => rfl | ⟨3, _⟩ => exact absurd rfl hx | ⟨4, _⟩ => rfl | ⟨5, _⟩ => rfl | ⟨6, _⟩ => rfl
theorem cc3 : Shape.Concatenates [s8 g i 3 3 1 16 16 16, s8 g i 3 3 1 16 16 16, s8 g i 3 3 1 16 16 16] (s8 g i 3 3 3 16 16 16) (4 : Fin 8) := by
  refine ⟨Nat.le_succ 2, fun s hs => ?_, rfl⟩
  simp only [List.mem_cons, List.not_mem_nil, or_false, or_self] at hs
  subst hs
  refine ⟨rfl, fun x hx => ?_⟩
  match x with
  | ⟨0, _⟩ => rfl | ⟨1, _⟩ => rfl | ⟨2, _⟩ => rfl | ⟨3, _⟩ => rfl | ⟨4, _⟩ => exact absurd rfl hx | ⟨5, _⟩ => rfl | ⟨6, _⟩ => rfl
  | ⟨7, _⟩ => rfl

end Conditions

section Windows
variable {g i : Nat}

/-- The windows along the first axis. -/
def rW1 (P : FVec Ideal (s5 g i 18 18 18) .f32) : FVec Ideal (s6 g i 3 16 18 18) .f32 :=
  concatenate (s6 g i 3 16 18 18) (2 : Fin 6)
    [⟨s6 g i 1 16 18 18, broadcastInDim (s6 g i 1 16 18 18) ![0, 1, 3, 4, 5] (st1 g i) (extractStridedSlice (s5 g i 16 18 18) ![0, 0, 0, 0, 0] P (sl1 g i 0 (by decide)))⟩,
     ⟨s6 g i 1 16 18 18, broadcastInDim (s6 g i 1 16 18 18) ![0, 1, 3, 4, 5] (st1 g i) (extractStridedSlice (s5 g i 16 18 18) ![0, 0, 1, 0, 0] P (sl1 g i 1 (by decide)))⟩,
     ⟨s6 g i 1 16 18 18, broadcastInDim (s6 g i 1 16 18 18) ![0, 1, 3, 4, 5] (st1 g i) (extractStridedSlice (s5 g i 16 18 18) ![0, 0, 2, 0, 0] P (sl1 g i 2 (by decide)))⟩]
    (cc1 g i)

/-- The windows along the second axis. -/
def rW2 (W : FVec Ideal (s6 g i 3 16 18 18) .f32) : FVec Ideal (s7 g i 3 3 16 16 18) .f32 :=
  concatenate (s7 g i 3 3 16 16 18) (3 : Fin 7)
    [⟨s7 g i 3 1 16 16 18, broadcastInDim (s7 g i 3 1 16 16 18) ![0, 1, 2, 4, 5, 6] (st2 g i) (extractStridedSlice (s6 g i 3 16 16 18) ![0, 0, 0, 0, 0, 0] W (sl2 g i 0 (by decide)))⟩,
     ⟨s7 g i 3 1 16 16 18, broadcastInDim (s7 g i 3 1 16 16 18) ![0, 1, 2, 4, 5, 6] (st2 g i) (extractStridedSlice (s6 g i 3 16 16 18) ![0, 0, 0, 0, 1, 0] W (sl2 g i 1 (by decide)))⟩,
     ⟨s7 g i 3 1 16 16 18, broadcastInDim (s7 g i 3 1 16 16 18) ![0, 1, 2, 4, 5, 6] (st2 g i) (extractStridedSlice (s6 g i 3 16 16 18) ![0, 0, 0, 0, 2, 0] W (sl2 g i 2 (by decide)))⟩]
    (cc2 g i)

/-- The windows along the third axis. -/
def rW3 (W : FVec Ideal (s7 g i 3 3 16 16 18) .f32) : FVec Ideal (s8 g i 3 3 3 16 16 16) .f32 :=
  concatenate (s8 g i 3 3 3 16 16 16) (4 : Fin 8)
    [⟨s8 g i 3 3 1 16 16 16, broadcastInDim (s8 g i 3 3 1 16 16 16) ![0, 1, 2, 3, 5, 6, 7] (st3 g i) (extractStridedSlice (s7 g i 3 3 16 16 16) ![0, 0, 0, 0, 0, 0, 0] W (sl3 g i 0 (by decide)))⟩,
     ⟨s8 g i 3 3 1 16 16 16, broadcastInDim (s8 g i 3 3 1 16 16 16) ![0, 1, 2, 3, 5, 6, 7] (st3 g i) (extractStridedSlice (s7 g i 3 3 16 16 16) ![0, 0, 0, 0, 0, 0, 1] W (sl3 g i 1 (by decide)))⟩,
     ⟨s8 g i 3 3 1 16 16 16, broadcastInDim (s8 g i 3 3 1 16 16 16) ![0, 1, 2, 3, 5, 6, 7] (st3 g i) (extractStridedSlice (s7 g i 3 3 16 16 16) ![0, 0, 0, 0, 0, 0, 2] W (sl3 g i 2 (by decide)))⟩]
    (cc3 g i)

theorem st1_apply (P : FVec Ideal (s5 g i 18 18 18) .f32) (k : Nat) (hk : k < 3) (a : Fin g) (b : Fin i) (o : Fin 1) (z : Fin 16) (y x : Fin 18) :
    broadcastInDim (s6 g i 1 16 18 18) ![0, 1, 3, 4, 5] (st1 g i) (extractStridedSlice (s5 g i 16 18 18) ![0, 0, k, 0, 0] P (sl1 g i k hk))
      (ix6 a b o z y x) = P (ix5 a b ⟨k + z.1, by omega⟩ y x) := by
  refine (broadcastInDim_apply _ _ _ _ (ix5 a b z y x) fun ax => ?_).trans (extractStridedSlice_apply _ _ _ _ _ fun ax => ?_)
  · match ax with
    | ⟨0, _⟩ => show a.1 = if g = 1 then 0 else a.1; split <;> omega
    | ⟨1, _⟩ => show b.1 = if i = 1 then 0 else b.1; split <;> omega
    | ⟨2, _⟩ => rfl
    | ⟨3, _⟩ => rfl
    | ⟨4, _⟩ => rfl
  · match ax with
    | ⟨0, _⟩ => exact (Nat.zero_add _).symm
    | ⟨1, _⟩ => exact (Nat.zero_add _).symm
    | ⟨2, _⟩ => rfl
    | ⟨3, _⟩ => exact (Nat.zero_add _).symm
    | ⟨4, _⟩ => exact (Nat.zero_add _).symm

theorem rW1_apply (P : FVec Ideal (s5 g i 18 18 18) .f32) (a : Fin g) (b : Fin i) (k : Fin 3) (z : Fin 16) (y x : Fin 18) :
    rW1 P (ix6 a b k z y x) = P (ix5 a b ⟨k.1 + z.1, by omega⟩ y x) := by
  unfold rW1
  have hi : ∀ (k : Fin 3) (c : Fin 6), c ≠ (2 : Fin 6) → ((ix6 a b (0 : Fin 1) z y x : (s6 g i 1 16 18 18).Idx) c).1 = ((ix6 a b k z y x : (s6 g i 3 16 18 18).Idx) c).1 := by
    intro k c hc
    match c with
    | ⟨0, _⟩ => rfl | ⟨1, _⟩ => rfl | ⟨2, _⟩ => exact absurd rfl hc | ⟨3, _⟩ => rfl | ⟨4, _⟩ => rfl | ⟨5, _⟩ => rfl
  match k with
  | ⟨0, h⟩ => exact Eq.trans (concatenate_apply_piece (t := s6 g i 3 16 18 18) (2 : Fin 6) _ (by exact cc1 g i) (ix6 a b (⟨0, h⟩ : Fin 3) z y x) 0 (by simp) (s6 g i 1 16 18 18) _ rfl rfl 0 rfl (ix6 a b (0 : Fin 1) z y x) (fun c hc => hi _ c hc) rfl) (st1_apply P 0 (by decide) a b 0 z y x)
  | ⟨1, h⟩ => exact Eq.trans (concatenate_apply_piece (t := s6 g i 3 16 18 18) (2 : Fin 6) _ (by exact cc1 g i) (ix6 a b (⟨1, h⟩ : Fin 3) z y x) 1 (by simp) (s6 g i 1 16 18 18) _ rfl rfl 1 rfl (ix6 a b (0 : Fin 1) z y x) (fun c hc => hi _ c hc) rfl) (st1_apply P 1 (by decide) a b 0 z y x)
  | ⟨2, h⟩ => exact Eq.trans (concatenate_apply_piece (t := s6 g i 3 16 18 18) (2 : Fin 6) _ (by exact cc1 g i) (ix6 a b (⟨2, h⟩ : Fin 3) z y x) 2 (by simp) (s6 g i 1 16 18 18) _ rfl rfl 2 rfl (ix6 a b (0 : Fin 1) z y x) (fun c hc => hi _ c hc) rfl) (st1_apply P 2 (by decide) a b 0 z y x)

theorem st2_apply (W : FVec Ideal (s6 g i 3 16 18 18) .f32) (k : Nat) (hk : k < 3) (a : Fin g) (b : Fin i) (p : Fin 3) (o : Fin 1) (z y : Fin 16) (x : Fin 18) :
    broadcastInDim (s7 g i 3 1 16 16 18) ![0, 1, 2, 4, 5, 6] (st2 g i) (extractStridedSlice (s6 g i 3 16 16 18) ![0, 0, 0, 0, k, 0] W (sl2 g i k hk))
      (at7 a b p o z y x) = W (ix6 a b p z ⟨k + y.1, by omega⟩ x) := by
  refine (broadcastInDim_apply _ _ _ _ (ix6 a b p z y x) fun ax => ?_).trans (extractStridedSlice_apply _ _ _ _ _ fun ax => ?_)
  · match ax with
    | ⟨0, _⟩ => show a.1 = if g = 1 then 0 else a.1; split <;> omega
    | ⟨1, _⟩ => show b.1 = if i = 1 then 0 else b.1; split <;> omega
    | ⟨2, _⟩ => rfl
    | ⟨3, _⟩ => rfl
    | ⟨4, _⟩ => rfl
    | ⟨5, _⟩ => rfl
  · match ax with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => rfl
    | ⟨5, _⟩ => exact (Nat.zero_add _).symm

theorem rW2_apply (W : FVec Ideal (s6 g i 3 16 18 18) .f32) (a : Fin g) (b : Fin i) (p k : Fin 3) (z y : Fin 16) (x : Fin 18) :
    rW2 W (at7 a b p k z y x) = W (ix6 a b p z ⟨k.1 + y.1, by omega⟩ x) := by
  unfold rW2
  have hi : ∀ (k : Fin 3) (c : Fin 7), c ≠ (3 : Fin 7) → ((at7 a b p (0 : Fin 1) z y x : (s7 g i 3 1 16 16 18).Idx) c).1 = ((at7 a b p k z y x : (s7 g i 3 3 16 16 18).Idx) c).1 := by
    intro k c hc
    match c with
    | ⟨0, _⟩ => rfl | ⟨1, _⟩ => rfl | ⟨2, _⟩ => rfl | ⟨3, _⟩ => exact absurd rfl hc | ⟨4, _⟩ => rfl | ⟨5, _⟩ => rfl | ⟨6, _⟩ => rfl
  match k with
  | ⟨0, h⟩ => exact Eq.trans (concatenate_apply_piece (t := s7 g i 3 3 16 16 18) (3 : Fin 7) _ (by exact cc2 g i) (at7 a b p (⟨0, h⟩ : Fin 3) z y x) 0 (by simp) (s7 g i 3 1 16 16 18) _ rfl rfl 0 rfl (at7 a b p (0 : Fin 1) z y x) (fun c hc => hi _ c hc) rfl) (st2_apply W 0 (by decide) a b p 0 z y x)
  | ⟨1, h⟩ => exact Eq.trans (concatenate_apply_piece (t := s7 g i 3 3 16 16 18) (3 : Fin 7) _ (by exact cc2 g i) (at7 a b p (⟨1, h⟩ : Fin 3) z y x) 1 (by simp) (s7 g i 3 1 16 16 18) _ rfl rfl 1 rfl (at7 a b p (0 : Fin 1) z y x) (fun c hc => hi _ c hc) rfl) (st2_apply W 1 (by decide) a b p 0 z y x)
  | ⟨2, h⟩ => exact Eq.trans (concatenate_apply_piece (t := s7 g i 3 3 16 16 18) (3 : Fin 7) _ (by exact cc2 g i) (at7 a b p (⟨2, h⟩ : Fin 3) z y x) 2 (by simp) (s7 g i 3 1 16 16 18) _ rfl rfl 2 rfl (at7 a b p (0 : Fin 1) z y x) (fun c hc => hi _ c hc) rfl) (st2_apply W 2 (by decide) a b p 0 z y x)

theorem st3_apply (W : FVec Ideal (s7 g i 3 3 16 16 18) .f32) (k : Nat) (hk : k < 3) (a : Fin g) (b : Fin i) (p q : Fin 3) (o : Fin 1) (z y x : Fin 16) :
    broadcastInDim (s8 g i 3 3 1 16 16 16) ![0, 1, 2, 3, 5, 6, 7] (st3 g i) (extractStridedSlice (s7 g i 3 3 16 16 16) ![0, 0, 0, 0, 0, 0, k] W (sl3 g i k hk))
      (at8 a b p q o z y x) = W (at7 a b p q z y ⟨k + x.1, by omega⟩) := by
  refine (broadcastInDim_apply _ _ _ _ (at7 a b p q z y x) fun ax => ?_).trans (extractStridedSlice_apply _ _ _ _ _ fun ax => ?_)
  · match ax with
    | ⟨0, _⟩ => show a.1 = if g = 1 then 0 else a.1; split <;> omega
    | ⟨1, _⟩ => show b.1 = if i = 1 then 0 else b.1; split <;> omega
    | ⟨2, _⟩ => rfl
    | ⟨3, _⟩ => rfl
    | ⟨4, _⟩ => rfl
    | ⟨5, _⟩ => rfl
    | ⟨6, _⟩ => rfl
  · match ax with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => exact (Nat.zero_add _).symm
    | ⟨5, _⟩ => exact (Nat.zero_add _).symm
    | ⟨6, _⟩ => rfl

theorem rW3_apply (W : FVec Ideal (s7 g i 3 3 16 16 18) .f32) (a : Fin g) (b : Fin i) (p q k : Fin 3) (z y x : Fin 16) :
    rW3 W (at8 a b p q k z y x) = W (at7 a b p q z y ⟨k.1 + x.1, by omega⟩) := by
  unfold rW3
  have hi : ∀ (k : Fin 3) (c : Fin 8), c ≠ (4 : Fin 8) → ((at8 a b p q (0 : Fin 1) z y x : (s8 g i 3 3 1 16 16 16).Idx) c).1 = ((at8 a b p q k z y x : (s8 g i 3 3 3 16 16 16).Idx) c).1 := by
    intro k c hc
    match c with
    | ⟨0, _⟩ => rfl | ⟨1, _⟩ => rfl | ⟨2, _⟩ => rfl | ⟨3, _⟩ => rfl | ⟨4, _⟩ => exact absurd rfl hc | ⟨5, _⟩ => rfl | ⟨6, _⟩ => rfl | ⟨7, _⟩ => rfl
  match k with
  | ⟨0, h⟩ => exact Eq.trans (concatenate_apply_piece (t := s8 g i 3 3 3 16 16 16) (4 : Fin 8) _ (by exact cc3 g i) (at8 a b p q (⟨0, h⟩ : Fin 3) z y x) 0 (by simp) (s8 g i 3 3 1 16 16 16) _ rfl rfl 0 rfl (at8 a b p q (0 : Fin 1) z y x) (fun c hc => hi _ c hc) rfl) (st3_apply W 0 (by decide) a b p q 0 z y x)
  | ⟨1, h⟩ => exact Eq.trans (concatenate_apply_piece (t := s8 g i 3 3 3 16 16 16) (4 : Fin 8) _ (by exact cc3 g i) (at8 a b p q (⟨1, h⟩ : Fin 3) z y x) 1 (by simp) (s8 g i 3 3 1 16 16 16) _ rfl rfl 1 rfl (at8 a b p q (0 : Fin 1) z y x) (fun c hc => hi _ c hc) rfl) (st3_apply W 1 (by decide) a b p q 0 z y x)
  | ⟨2, h⟩ => exact Eq.trans (concatenate_apply_piece (t := s8 g i 3 3 3 16 16 16) (4 : Fin 8) _ (by exact cc3 g i) (at8 a b p q (⟨2, h⟩ : Fin 3) z y x) 2 (by simp) (s8 g i 3 3 1 16 16 16) _ rfl rfl 2 rfl (at8 a b p q (0 : Fin 1) z y x) (fun c hc => hi _ c hc) rfl) (st3_apply W 2 (by decide) a b p q 0 z y x)

end Windows

section Product
variable {t0 z0 M : Nat}

/-- The product over channels and taps, one per input type. -/
def dd (t0 M z0 : Nat) (wf : DotDims.WF (s4 t0 M z0 27) (s6 t0 z0 27 16 16 16) (s5 t0 M 16 16 16) [2, 3] [1, 2] [1] [3, 4, 5] [0] [0]) :
    DotDims (s4 t0 M z0 27) (s6 t0 z0 27 16 16 16) (s5 t0 M 16 16 16) where
  lhsContracting := [2, 3]
  rhsContracting := [1, 2]
  lhsNonContracting := [1]
  rhsNonContracting := [3, 4, 5]
  lhsBatch := [0]
  rhsBatch := [0]
  wf := wf

theorem dd_apply (wf : DotDims.WF (s4 t0 M z0 27) (s6 t0 z0 27 16 16 16) (s5 t0 M 16 16 16) [2, 3] [1, 2] [1] [3, 4, 5] [0] [0]) (l : FVec Ideal (s4 t0 M z0 27) .f32) (r : FVec Ideal (s6 t0 z0 27 16 16 16) .f32) (g : Fin t0) (m : Fin M) (z y x : Fin 16) :
    Host.dotGeneral (dd t0 M z0 wf) none l r (ix5 g m z y x) = ∑ i : Fin z0, ∑ t : Fin 27, l (ix4 g m i t) * r (ix6 g i t z y x) := by
  refine (Ideal.dotGeneral_apply (dd t0 M z0 wf) none .single l r (ix5 g m z y x)).trans ?_
  rw [(dd t0 M z0 wf).sum_contr₂ (a := 2) (b := 3) rfl rfl rfl]
  refine Finset.sum_congr rfl fun i _ => Finset.sum_congr rfl fun t _ => ?_
  refine congrArg₂ _ (congrArg l ?_) (congrArg r ?_)
  · funext ax; apply Fin.ext
    match ax with | ⟨0, _⟩ => rfl | ⟨1, _⟩ => rfl | ⟨2, _⟩ => rfl | ⟨3, _⟩ => rfl
  · funext ax; apply Fin.ext
    match ax with | ⟨0, _⟩ => rfl | ⟨1, _⟩ => rfl | ⟨2, _⟩ => rfl | ⟨3, _⟩ => rfl | ⟨4, _⟩ => rfl | ⟨5, _⟩ => rfl

/-- The padded input is X with lo zeros around it. -/
def IsPad (lo : Nat) (P : FVec Ideal (s5 t0 z0 18 18 18) .f32) (X : Nat → Nat → EReal) : Prop :=
  ∀ g i a b c, P (ix5 g i a b c) = padv lo X (g.1 * z0 + i.1) a.1 b.1 c.1

/-- A tensor by type and channel has the rows X. -/
def IsT (u : FVec Ideal (s5 t0 z0 16 16 16) .f32) (X : Nat → Nat → EReal) : Prop :=
  ∀ g i z y x, u (ix5 g i z y x) = X (g.1 * z0 + i.1) (pos z y x)

/-- The convolution. -/
def rC (wf : DotDims.WF (s4 t0 M z0 27) (s6 t0 z0 27 16 16 16) (s5 t0 M 16 16 16) [2, 3] [1, 2] [1] [3, 4, 5] [0] [0]) (hw : (s6 t0 M z0 3 3 3).ShapeCasts (s4 t0 M z0 27)) (hx : (s8 t0 z0 3 3 3 16 16 16).ShapeCasts (s6 t0 z0 27 16 16 16))
    (w : FVec Ideal (s6 t0 M z0 3 3 3) .f32) (W2 : FVec Ideal (s7 t0 z0 3 3 16 16 18) .f32) : FVec Ideal (s5 t0 M 16 16 16) .f32 :=
  Host.dotGeneral (dd t0 M z0 wf) none (shapeCast (s4 t0 M z0 27) w hw) (shapeCast (s6 t0 z0 27 16 16 16) (rW3 W2) hx)

theorem rC_apply (wf : DotDims.WF (s4 t0 M z0 27) (s6 t0 z0 27 16 16 16) (s5 t0 M 16 16 16) [2, 3] [1, 2] [1] [3, 4, 5] [0] [0])
    (hw : (s6 t0 M z0 3 3 3).ShapeCasts (s4 t0 M z0 27)) (hx : (s8 t0 z0 3 3 3 16 16 16).ShapeCasts (s6 t0 z0 27 16 16 16)) {lo : Nat} {w : FVec Ideal (s6 t0 M z0 3 3 3) .f32} {P : FVec Ideal (s5 t0 z0 18 18 18) .f32}
    {W1 : FVec Ideal (s6 t0 z0 3 16 18 18) .f32} {W2 : FVec Ideal (s7 t0 z0 3 3 16 16 18) .f32} {X : Nat → Nat → EReal}
    (hP : IsPad lo P X) (h1 : W1 = rW1 P) (h2 : W2 = rW2 W1) (g : Fin t0) (m : Fin M) (z y x : Fin 16) :
    rC wf hw hx w W2 (ix5 g m z y x) = conv z0 lo X (wOf t0 M z0 w g.1 m.1) g.1 (pos z y x) := by
  subst h1 h2
  unfold rC conv
  rw [dd_apply, Finset.sum_comm]
  refine Finset.sum_congr rfl fun t _ => Finset.sum_congr rfl fun i _ => ?_
  have ht := t.2
  have e1 : shapeCast (s4 t0 M z0 27) w hw (ix4 g m i t) = wOf t0 M z0 w g.1 m.1 i.1 t.1 := by
    refine (shapeCast_apply _ hw (ix4 g m i t) (ix6 g m i ⟨t.1 / 9 % 3, by omega⟩ ⟨t.1 / 3 % 3, by omega⟩ ⟨t.1 % 3, by omega⟩) ?_).trans
      (wOf_at w g m i t.1 _ _ _ rfl rfl rfl).symm
    rw [Shape.rowMajor_val_four, Shape.rowMajor_val_six]
    show ((((g.1 * M + m.1) * z0 + i.1) * 3 + t.1 / 9 % 3) * 3 + t.1 / 3 % 3) * 3 + t.1 % 3 = ((g.1 * M + m.1) * z0 + i.1) * 27 + t.1
    generalize (g.1 * M + m.1) * z0 + i.1 = n
    omega
  have e2 : shapeCast (s6 t0 z0 27 16 16 16) (rW3 (rW2 (rW1 P))) hx (ix6 g i t z y x)
      = tapv lo X (g.1 * z0 + i.1) (pos z y x) (t.1 / 9) (t.1 / 3 % 3) (t.1 % 3) := by
    refine (shapeCast_apply _ hx (ix6 g i t z y x) (at8 g i (⟨t.1 / 9, by omega⟩ : Fin 3) (⟨t.1 / 3 % 3, by omega⟩ : Fin 3) (⟨t.1 % 3, by omega⟩ : Fin 3) z y x) ?_).trans ?_
    · rw [Shape.rowMajor_val_six, rowMajor8]
      show ((((((g.1 * z0 + i.1) * 3 + t.1 / 9) * 3 + t.1 / 3 % 3) * 3 + t.1 % 3) * 16 + z.1) * 16 + y.1) * 16 + x.1
        = ((((g.1 * z0 + i.1) * 27 + t.1) * 16 + z.1) * 16 + y.1) * 16 + x.1
      have : (((g.1 * z0 + i.1) * 3 + t.1 / 9) * 3 + t.1 / 3 % 3) * 3 + t.1 % 3 = (g.1 * z0 + i.1) * 27 + t.1 := by
        generalize g.1 * z0 + i.1 = n
        omega
      rw [this]
    rw [rW3_apply, rW2_apply, rW1_apply, hP]
    have hp1 : pos z y x / 256 = z.1 := by unfold pos; omega
    have hp2 : pos z y x / 16 % 16 = y.1 := by unfold pos; omega
    have hp3 : pos z y x % 16 = x.1 := by unfold pos; omega
    unfold tapv padv
    rw [hp1, hp2, hp3, Nat.add_comm z.1, Nat.add_comm y.1, Nat.add_comm x.1]
  rw [e1, e2]

/-- The padding of a layer's input. -/
def rPad (hp : (s5 t0 z0 16 16 16).Pads ![0, 0, 1, 1, 1] ![0, 0, 1, 1, 1] ![0, 0, 0, 0, 0] (s5 t0 z0 18 18 18)) (u : FVec Ideal (s5 t0 z0 16 16 16) .f32) :
    FVec Ideal (s5 t0 z0 18 18 18) .f32 :=
  pad (s5 t0 z0 18 18 18) ![0, 0, 1, 1, 1] ![0, 0, 1, 1, 1] ![0, 0, 0, 0, 0] u (zpad (F := Ideal)) hp s0_pos

theorem rPad_apply (hp : (s5 t0 z0 16 16 16).Pads ![0, 0, 1, 1, 1] ![0, 0, 1, 1, 1] ![0, 0, 0, 0, 0] (s5 t0 z0 18 18 18)) {u : FVec Ideal (s5 t0 z0 16 16 16) .f32} {X : Nat → Nat → EReal} (hu : IsT u X) : IsPad 1 (rPad hp u) X := by
  intro g i a b c
  unfold rPad padv
  by_cases h : (1 ≤ a.1 ∧ a.1 < 1 + 16) ∧ (1 ≤ b.1 ∧ b.1 < 1 + 16) ∧ (1 ≤ c.1 ∧ c.1 < 1 + 16)
  · rw [if_pos h]
    refine (pad_apply_of_inside (s := s5 t0 z0 16 16 16) (t := s5 t0 z0 18 18 18) _ _ _ u zpad hp _ (ix5 g i a b c)
      (ix5 g i (⟨a.1 - 1, by omega⟩ : Fin 16) (⟨b.1 - 1, by omega⟩ : Fin 16) (⟨c.1 - 1, by omega⟩ : Fin 16)) fun ax => ?_).trans (hu _ _ _ _ _)
    match ax with
    | ⟨0, _⟩ => show g.1 = 0 + g.1 * (0 + 1); omega
    | ⟨1, _⟩ => show i.1 = 0 + i.1 * (0 + 1); omega
    | ⟨2, _⟩ => show a.1 = 1 + (a.1 - 1) * (0 + 1); omega
    | ⟨3, _⟩ => show b.1 = 1 + (b.1 - 1) * (0 + 1); omega
    | ⟨4, _⟩ => show c.1 = 1 + (c.1 - 1) * (0 + 1); omega
  · rw [if_neg h]
    have hn : ∀ ax : Fin 5, ¬ (1 ≤ ((ix5 g i a b c : (s5 t0 z0 18 18 18).Idx) ax).1 ∧ ((ix5 g i a b c : (s5 t0 z0 18 18 18).Idx) ax).1 < 1 + 16) → 2 ≤ ax.1 →
        pad (s5 t0 z0 18 18 18) ![0, 0, 1, 1, 1] ![0, 0, 1, 1, 1] ![0, 0, 0, 0, 0] u (zpad (F := Ideal)) hp s0_pos (ix5 g i a b c) = 0 := by
      intro ax hax h2
      refine (pad_apply_of_not_inside (s := s5 t0 z0 16 16 16) (t := s5 t0 z0 18 18 18) _ _ _ u zpad hp _ (ix5 g i a b c) ax fun hh => hax ?_).trans (zpad_at _)
      match ax with
      | ⟨0, _⟩ => exact absurd h2 (by show ¬ 2 ≤ 0; omega)
      | ⟨1, _⟩ => exact absurd h2 (by show ¬ 2 ≤ 1; omega)
      | ⟨2, _⟩ => obtain ⟨h3, -, h4⟩ := hh; exact ⟨h3, by have : (a.1 - 1) / (0 + 1) < 16 := h4; show a.1 < 1 + 16; omega⟩
      | ⟨3, _⟩ => obtain ⟨h3, -, h4⟩ := hh; exact ⟨h3, by have : (b.1 - 1) / (0 + 1) < 16 := h4; show b.1 < 1 + 16; omega⟩
      | ⟨4, _⟩ => obtain ⟨h3, -, h4⟩ := hh; exact ⟨h3, by have : (c.1 - 1) / (0 + 1) < 16 := h4; show c.1 < 1 + 16; omega⟩
    by_cases ha : 1 ≤ a.1 ∧ a.1 < 1 + 16
    · by_cases hb : 1 ≤ b.1 ∧ b.1 < 1 + 16
      · exact hn 4 (fun hc => h ⟨ha, hb, hc⟩) (by decide)
      · exact hn 3 hb (by decide)
    · exact hn 2 ha (by decide)

end Product

end Caps

end
-- ==== Proof.RefLayer.lean ====
/- A layer of the reference at any sizes, the joining of two layers' outputs, the first layer and the last norm. -/
module

public import proofs.«01_k».proof.Proof.RefConv

@[expose] public section

set_option maxRecDepth 16384

noncomputable section

namespace Caps

open Idealize.ShloMosaic hiding ix1 ix2 ix3 ix4 ix5 ix6
open Idealize.ShloMosaic.ValueIdx

section Layer
variable {t0 z0 t1 z1 M : Nat} {X : Nat → Nat → EReal}
  {wf : DotDims.WF (s4 t0 M z0 27) (s6 t0 z0 27 16 16 16) (s5 t0 M 16 16 16) [2, 3] [1, 2] [1] [3, 4, 5] [0] [0]}
  {hw : (s6 t0 M z0 3 3 3).ShapeCasts (s4 t0 M z0 27)} {hx : (s8 t0 z0 3 3 3 16 16 16).ShapeCasts (s6 t0 z0 27 16 16 16)}
  {hc : (s5 t0 M 16 16 16).ShapeCasts (s6 t0 t1 z1 16 16 16)}
  {hp : (s5 t0 z0 16 16 16).Pads ![0, 0, 1, 1, 1] ![0, 0, 1, 1, 1] ![0, 0, 0, 0, 0] (s5 t0 z0 18 18 18)}
  {w : FVec Ideal (s6 t0 M z0 3 3 3) .f32} {u : FVec Ideal (s5 t0 z0 16 16 16) .f32} {P : FVec Ideal (s5 t0 z0 18 18 18) .f32}
  {W1 : FVec Ideal (s6 t0 z0 3 16 18 18) .f32} {W2 : FVec Ideal (s7 t0 z0 3 3 16 16 18) .f32}

/-- The products by input type, output type and component. -/
def rU (wf : DotDims.WF (s4 t0 M z0 27) (s6 t0 z0 27 16 16 16) (s5 t0 M 16 16 16) [2, 3] [1, 2] [1] [3, 4, 5] [0] [0])
    (hw : (s6 t0 M z0 3 3 3).ShapeCasts (s4 t0 M z0 27)) (hx : (s8 t0 z0 3 3 3 16 16 16).ShapeCasts (s6 t0 z0 27 16 16 16))
    (hc : (s5 t0 M 16 16 16).ShapeCasts (s6 t0 t1 z1 16 16 16)) (w : FVec Ideal (s6 t0 M z0 3 3 3) .f32)
    (W2 : FVec Ideal (s7 t0 z0 3 3 16 16 18) .f32) : FVec Ideal (s6 t0 t1 z1 16 16 16) .f32 :=
  shapeCast (s6 t0 t1 z1 16 16 16) (rC wf hw hx w W2) hc

theorem rU_apply (hM : M = t1 * z1) (hu : IsT u X) (hP : P = rPad hp u) (h1 : W1 = rW1 P) (h2 : W2 = rW2 W1) :
    IsU (rU wf hw hx hc w W2) (uhv t0 z0 t1 z1 1 X (wOf t0 M z0 w)) := by
  intro g j k z y x
  have hj := j.2
  have hk := k.2
  have hlt : j.1 * z1 + k.1 < M := by
    rw [hM]
    calc j.1 * z1 + k.1 < j.1 * z1 + z1 := by omega
      _ = (j.1 + 1) * z1 := by rw [Nat.succ_mul]
      _ ≤ t1 * z1 := Nat.mul_le_mul_right _ hj
  refine (shapeCast_apply _ hc (ix6 g j k z y x) (ix5 g ⟨j.1 * z1 + k.1, hlt⟩ z y x) ?_).trans
    (rC_apply wf hw hx (hP ▸ rPad_apply hp hu) h1 h2 g _ z y x)
  rw [Shape.rowMajor_val_five, Shape.rowMajor_val_six]
  show (((g.1 * M + (j.1 * z1 + k.1)) * 16 + z.1) * 16 + y.1) * 16 + x.1
    = ((((g.1 * t1 + j.1) * z1 + k.1) * 16 + z.1) * 16 + y.1) * 16 + x.1
  have : g.1 * M + (j.1 * z1 + k.1) = (g.1 * t1 + j.1) * z1 + k.1 := by
    rw [hM, Nat.add_mul, Nat.mul_assoc, Nat.add_assoc]
  rw [this]

theorem isT_of {V : FVec Ideal (s5 t1 z1 16 16 16) .f32} {n : Nat} {wt : Nat → Nat → Nat → Nat → EReal}
    (hV : IsP V fun p => route n (uhv t0 z0 t1 z1 1 X wt p)) : IsT V (caps n t0 z0 t1 z1 X wt) := by
  intro j k z y x
  rw [hV]
  exact (caps_of X wt _ _ j k rfl).symm

variable {br : FVec Ideal (s4 t0 16 16 16) .f32 → FVec Ideal (s5 t0 t1 16 16 16) .f32}
  {U : FVec Ideal (s6 t0 t1 z1 16 16 16) .f32}
  {B0 E0 B1 E1 B2 E2 : FVec Ideal (s5 t0 t1 16 16 16) .f32} {S0 S1 S2 : FVec Ideal (s5 t1 z1 16 16 16) .f32}
  {N0 N1 N2 : FVec Ideal (s5 t1 1 16 16 16) .f32} {V : FVec Ideal (s5 t1 z1 16 16 16) .f32}

/-- A layer with one pass. -/
theorem layer1 (hM : M = t1 * z1) (hbr : ∀ v i j z y x, br v (ix5 i j z y x) = v (ix4 i z y x)) (hu : IsT u X)
    (hP : P = rPad hp u) (h1 : W1 = rW1 P) (h2 : W2 = rW2 W1) (hU : U = rU wf hw hx hc w W2)
    (hB0 : B0 = rZ t0 t1) (hE0 : E0 = rE br B0) (hS0 : S0 = rS br E0 U) (hN0 : N0 = rN S0) :
    IsT (rV S0 N0) (caps 0 t0 z0 t1 z1 X (wOf t0 M z0 w)) :=
  isT_of (route1_apply hbr (hU ▸ rU_apply hM hu hP h1 h2) hB0 hE0 hS0 hN0)

/-- The vectors of a layer with three passes. -/
theorem layer3P (hM : M = t1 * z1) (hbr : ∀ v i j z y x, br v (ix5 i j z y x) = v (ix4 i z y x)) (hu : IsT u X)
    (hP : P = rPad hp u) (h1 : W1 = rW1 P) (h2 : W2 = rW2 W1) (hU : U = rU wf hw hx hc w W2)
    (hB0 : B0 = rZ t0 t1) (hE0 : E0 = rE br B0) (hS0 : S0 = rS br E0 U) (hN0 : N0 = rN S0)
    (hB1 : B1 = rL B0 U (rV S0 N0)) (hE1 : E1 = rE br B1) (hS1 : S1 = rS br E1 U) (hN1 : N1 = rN S1)
    (hB2 : B2 = rL B1 U (rV S1 N1)) (hE2 : E2 = rE br B2) (hS2 : S2 = rS br E2 U) (hN2 : N2 = rN S2) :
    IsP (rV S2 N2) fun p => route 2 (uhv t0 z0 t1 z1 1 X (wOf t0 M z0 w) p) :=
  route3_apply hbr (hU ▸ rU_apply hM hu hP h1 h2) hB0 hE0 hS0 hN0 hB1 hE1 hS1 hN1 hB2 hE2 hS2 hN2

/-- A layer with three passes. -/
theorem layer3 (hM : M = t1 * z1) (hu : IsT u X)
    (hP : P = rPad hp u) (h1 : W1 = rW1 P) (h2 : W2 = rW2 W1) (hU : U = rU wf hw hx hc w W2)
    (hB0 : B0 = rZ t0 t1) (hE0 : E0 = rE (brG t0 t1) B0) (hS0 : S0 = rS (brG t0 t1) E0 U) (hN0 : N0 = rN S0)
    (hB1 : B1 = rL B0 U (rV S0 N0)) (hE1 : E1 = rE (brG t0 t1) B1) (hS1 : S1 = rS (brG t0 t1) E1 U) (hN1 : N1 = rN S1)
    (hB2 : B2 = rL B1 U (rV S1 N1)) (hE2 : E2 = rE (brG t0 t1) B2) (hS2 : S2 = rS (brG t0 t1) E2 U) (hN2 : N2 = rN S2) :
    IsT (rV S2 N2) (caps 2 t0 z0 t1 z1 X (wOf t0 M z0 w)) :=
  isT_of (layer3P hM brG_apply hu hP h1 h2 hU hB0 hE0 hS0 hN0 hB1 hE1 hS1 hN1 hB2 hE2 hS2 hN2)

end Layer

/-- Two outputs joined along the types. -/
theorem join_apply {a b t z0 : Nat} (ht : t = a + b) (h : Shape.Concatenates [s5 a z0 16 16 16, s5 b z0 16 16 16] (s5 t z0 16 16 16) (0 : Fin 5))
    {x : FVec Ideal (s5 a z0 16 16 16) .f32} {y : FVec Ideal (s5 b z0 16 16 16) .f32} {X Y : Nat → Nat → EReal} (hx : IsT x X) (hy : IsT y Y) {R : Nat}
    (hR : R = a * z0) :
    IsT (concatenate (s5 t z0 16 16 16) (0 : Fin 5) [⟨s5 a z0 16 16 16, x⟩, ⟨s5 b z0 16 16 16, y⟩] h) (cat R X Y) := by
  intro g i z y' x'
  have hg := g.2
  have hi := i.2
  subst hR
  unfold cat
  by_cases hlt : g.1 < a
  · have : g.1 * z0 + i.1 < a * z0 := by
      calc g.1 * z0 + i.1 < g.1 * z0 + z0 := by omega
        _ = (g.1 + 1) * z0 := by rw [Nat.succ_mul]
        _ ≤ a * z0 := Nat.mul_le_mul_right _ hlt
    rw [if_pos this]
    refine (concatenate_pair_apply_left (0 : Fin 5) x y h (ix5 g i z y' x') rfl (ix5 (⟨g.1, hlt⟩ : Fin a) i z y' x') fun c => ?_).trans (hx _ _ _ _ _)
    match c with
    | ⟨0, _⟩ => rfl | ⟨1, _⟩ => rfl | ⟨2, _⟩ => rfl | ⟨3, _⟩ => rfl | ⟨4, _⟩ => rfl
  · have hle : a * z0 ≤ g.1 * z0 := Nat.mul_le_mul_right _ (by omega)
    rw [if_neg (by omega)]
    refine (concatenate_pair_apply_right (0 : Fin 5) x y h (ix5 g i z y' x') rfl rfl (ix5 (⟨g.1 - a, by omega⟩ : Fin b) i z y' x') (fun c hc => ?_) ?_).trans
      ((hy _ _ _ _ _).trans ?_)
    · match c with
      | ⟨0, _⟩ => exact absurd rfl hc
      | ⟨1, _⟩ => rfl | ⟨2, _⟩ => rfl | ⟨3, _⟩ => rfl | ⟨4, _⟩ => rfl
    · show g.1 - a + a = g.1
      omega
    · show Y ((g.1 - a) * z0 + i.1) _ = _
      rw [Nat.sub_mul]
      congr 1
      omega

section First

/-- The first layer's padding. -/
def rPad0 (hp : (s5 1 4 14 14 14).Pads ![0, 0, 2, 2, 2] ![0, 0, 2, 2, 2] ![0, 0, 0, 0, 0] (s5 1 4 18 18 18)) (u : FVec Ideal (s5 1 4 14 14 14) .f32) :
    FVec Ideal (s5 1 4 18 18 18) .f32 :=
  pad (s5 1 4 18 18 18) ![0, 0, 2, 2, 2] ![0, 0, 2, 2, 2] ![0, 0, 0, 0, 0] u (zpad (F := Ideal)) hp s0_pos

theorem rPad0_apply (hp : (s5 1 4 14 14 14).Pads ![0, 0, 2, 2, 2] ![0, 0, 2, 2, 2] ![0, 0, 0, 0, 0] (s5 1 4 18 18 18))
    (u : FVec Ideal (s5 1 4 14 14 14) .f32) (hc : (s5 1 4 14 14 14).ShapeCasts (s4 4 14 14 14)) :
    IsPad 2 (rPad0 hp u) (xOf (shapeCast (s4 4 14 14 14) u hc)) := by
  intro g i a b c
  have hg : g.1 = 0 := by have := g.2; omega
  have hi := i.2
  unfold rPad0 padv xOf
  by_cases h : (2 ≤ a.1 ∧ a.1 < 16) ∧ (2 ≤ b.1 ∧ b.1 < 16) ∧ (2 ≤ c.1 ∧ c.1 < 16)
  · obtain ⟨⟨ha, ha'⟩, ⟨hb, hb'⟩, hcc, hcc'⟩ := h
    rw [if_pos ⟨⟨ha, by omega⟩, ⟨hb, by omega⟩, hcc, by omega⟩, dif_pos ⟨by omega, by omega, by omega, by omega⟩]
    refine (pad_apply_of_inside (s := s5 1 4 14 14 14) (t := s5 1 4 18 18 18) _ _ _ u zpad hp _ (ix5 g i a b c)
      (ix5 g i (⟨a.1 - 2, by omega⟩ : Fin 14) (⟨b.1 - 2, by omega⟩ : Fin 14) (⟨c.1 - 2, by omega⟩ : Fin 14)) fun ax => ?_).trans
      (shapeCast_apply u hc _ _ ?_).symm
    · match ax with
      | ⟨0, _⟩ => show g.1 = 0 + g.1 * (0 + 1); omega
      | ⟨1, _⟩ => show i.1 = 0 + i.1 * (0 + 1); omega
      | ⟨2, _⟩ => show a.1 = 2 + (a.1 - 2) * (0 + 1); omega
      | ⟨3, _⟩ => show b.1 = 2 + (b.1 - 2) * (0 + 1); omega
      | ⟨4, _⟩ => show c.1 = 2 + (c.1 - 2) * (0 + 1); omega
    · rw [Shape.rowMajor_val_five, Shape.rowMajor_val_four]
      show (((g.1 * 4 + i.1) * 14 + (a.1 - 2)) * 14 + (b.1 - 2)) * 14 + (c.1 - 2)
        = (((g.1 * 4 + i.1) * 14 + ((a.1 - 2) * 256 + (b.1 - 2) * 16 + (c.1 - 2)) / 256) * 14 + ((a.1 - 2) * 256 + (b.1 - 2) * 16 + (c.1 - 2)) / 16 % 16) * 14
          + ((a.1 - 2) * 256 + (b.1 - 2) * 16 + (c.1 - 2)) % 16
      omega
  · have hn : ∀ ax : Fin 5, ¬ (2 ≤ ((ix5 g i a b c : (s5 1 4 18 18 18).Idx) ax).1 ∧ ((ix5 g i a b c : (s5 1 4 18 18 18).Idx) ax).1 < 16) → 2 ≤ ax.1 →
        pad (s5 1 4 18 18 18) ![0, 0, 2, 2, 2] ![0, 0, 2, 2, 2] ![0, 0, 0, 0, 0] u (zpad (F := Ideal)) hp s0_pos (ix5 g i a b c) = 0 := by
      intro ax hax h2
      refine (pad_apply_of_not_inside (s := s5 1 4 14 14 14) (t := s5 1 4 18 18 18) _ _ _ u zpad hp _ (ix5 g i a b c) ax fun hh => hax ?_).trans (zpad_at _)
      match ax with
      | ⟨0, _⟩ => exact absurd h2 (by show ¬ 2 ≤ 0; omega)
      | ⟨1, _⟩ => exact absurd h2 (by show ¬ 2 ≤ 1; omega)
      | ⟨2, _⟩ => obtain ⟨h3, -, h4⟩ := hh; exact ⟨h3, by have : (a.1 - 2) / (0 + 1) < 14 := h4; show a.1 < 16; omega⟩
      | ⟨3, _⟩ => obtain ⟨h3, -, h4⟩ := hh; exact ⟨h3, by have : (b.1 - 2) / (0 + 1) < 14 := h4; show b.1 < 16; omega⟩
      | ⟨4, _⟩ => obtain ⟨h3, -, h4⟩ := hh; exact ⟨h3, by have : (c.1 - 2) / (0 + 1) < 14 := h4; show c.1 < 16; omega⟩
    have hz : pad (s5 1 4 18 18 18) ![0, 0, 2, 2, 2] ![0, 0, 2, 2, 2] ![0, 0, 0, 0, 0] u (zpad (F := Ideal)) hp s0_pos (ix5 g i a b c) = 0 := by
      by_cases ha : 2 ≤ a.1 ∧ a.1 < 16
      · by_cases hb : 2 ≤ b.1 ∧ b.1 < 16
        · exact hn 4 (fun hc => h ⟨ha, hb, hc⟩) (by decide)
        · exact hn 3 hb (by decide)
      · exact hn 2 ha (by decide)
    rw [hz]
    by_cases hq : (2 ≤ a.1 ∧ a.1 < 2 + 16) ∧ (2 ≤ b.1 ∧ b.1 < 2 + 16) ∧ (2 ≤ c.1 ∧ c.1 < 2 + 16)
    · obtain ⟨⟨ha, ha'⟩, ⟨hb, hb'⟩, hcc, hcc'⟩ := hq
      rw [if_pos ⟨⟨ha, ha'⟩, ⟨hb, hb'⟩, hcc, hcc'⟩, dif_neg]
      rintro ⟨-, q1, q2, q3⟩
      exact h ⟨⟨ha, by omega⟩, ⟨hb, by omega⟩, hcc, by omega⟩
    · rw [if_neg hq]

theorem bw : (s5 16 4 3 3 3).BroadcastsInDim (s6 1 16 4 3 3 3) ![1, 2, 3, 4, 5] := by
  refine ⟨?_, fun x => ?_⟩
  · show Function.Injective (![1, 2, 3, 4, 5] : Fin 5 → Fin 6); decide
  · match x with
    | ⟨0, _⟩ => exact Or.inr rfl | ⟨1, _⟩ => exact Or.inr rfl | ⟨2, _⟩ => exact Or.inr rfl | ⟨3, _⟩ => exact Or.inr rfl | ⟨4, _⟩ => exact Or.inr rfl

theorem bw_eq (a : FVec Ideal (s5 16 4 3 3 3) .f32) (h : (s5 16 4 3 3 3).ShapeCasts (s6 1 16 4 3 3 3)) :
    broadcastInDim (s6 1 16 4 3 3 3) ![1, 2, 3, 4, 5] bw a = shapeCast (s6 1 16 4 3 3 3) a h := by
  funext i
  have h0 : (i 0).1 < 1 := (i 0).2
  let j : (s5 16 4 3 3 3).Idx := ix5 (i 1 : Fin 16) (i 2 : Fin 4) (i 3 : Fin 3) (i 4 : Fin 3) (i 5 : Fin 3)
  refine (broadcastInDim_apply _ _ _ _ j fun ax => ?_).trans (shapeCast_apply a h i _ ?_).symm
  · match ax with | ⟨0, _⟩ => rfl | ⟨1, _⟩ => rfl | ⟨2, _⟩ => rfl | ⟨3, _⟩ => rfl | ⟨4, _⟩ => rfl
  · rw [Shape.rowMajor_val_five, Shape.rowMajor_val_six]
    show ((((i 1).1 * 4 + (i 2).1) * 3 + (i 3).1) * 3 + (i 4).1) * 3 + (i 5).1
      = (((((i 0).1 * 16 + (i 1).1) * 4 + (i 2).1) * 3 + (i 3).1) * 3 + (i 4).1) * 3 + (i 5).1
    omega

variable {wf : DotDims.WF (s4 1 16 4 27) (s6 1 4 27 16 16 16) (s5 1 16 16 16 16) [2, 3] [1, 2] [1] [3, 4, 5] [0] [0]}
  {hw : (s6 1 16 4 3 3 3).ShapeCasts (s4 1 16 4 27)} {hx : (s8 1 4 3 3 3 16 16 16).ShapeCasts (s6 1 4 27 16 16 16)}
  {hp : (s5 1 4 14 14 14).Pads ![0, 0, 2, 2, 2] ![0, 0, 2, 2, 2] ![0, 0, 0, 0, 0] (s5 1 4 18 18 18)}
  {a : FVec Ideal (s5 16 4 3 3 3) .f32} {u : FVec Ideal (s5 1 4 14 14 14) .f32} {P : FVec Ideal (s5 1 4 18 18 18) .f32}
  {W1 : FVec Ideal (s6 1 4 3 16 18 18) .f32} {W2 : FVec Ideal (s7 1 4 3 3 16 16 18) .f32} {V : FVec Ideal (s5 1 16 16 16 16) .f32}

/-- The first layer. -/
theorem first (hc : (s5 1 4 14 14 14).ShapeCasts (s4 4 14 14 14)) (h : (s5 16 4 3 3 3).ShapeCasts (s6 1 16 4 3 3 3))
    (hP : P = rPad0 hp u) (h1 : W1 = rW1 P) (h2 : W2 = rW2 W1)
    (hV : V = maximumf (rC wf hw hx (broadcastInDim (s6 1 16 4 3 3 3) ![1, 2, 3, 4, 5] bw a) W2) (rZ 1 16)) :
    IsT V (conv1 (xOf (shapeCast (s4 4 14 14 14) u hc)) (wOf 1 16 4 (shapeCast (s6 1 16 4 3 3 3) a h))) := by
  intro g m z y x
  have hg : g.1 = 0 := by have := g.2; omega
  rw [hV, maximumf_apply, rC_apply wf hw hx (hP ▸ rPad0_apply hp u hc) h1 h2, bw_eq a h, rZ_apply, hg, Nat.zero_mul, Nat.zero_add]
  rfl

end First

section Last

theorem rt4_0 : (s4 16 16 16 16).ReducesTo [0] (s3 16 16 16) := by
  refine ⟨rfl, fun x => ?_⟩
  match x with | ⟨0, _⟩ => rfl | ⟨1, _⟩ => rfl | ⟨2, _⟩ => rfl

theorem bd3_5 : (s3 16 16 16).BroadcastsInDim (s5 1 1 16 16 16) ![2, 3, 4] := by
  refine ⟨?_, fun x => ?_⟩
  · show Function.Injective (![2, 3, 4] : Fin 3 → Fin 5); decide
  · match x with | ⟨0, _⟩ => exact Or.inr rfl | ⟨1, _⟩ => exact Or.inr rfl | ⟨2, _⟩ => exact Or.inr rfl

theorem hsum4 (v : FVec Ideal (s4 16 16 16 16) .f32) (z y x : Fin 16) :
    Host.reduceAdd v k0 rt4_0 s0_pos (ix3 z y x) = ∑ k : Fin 16, v (ix4 k z y x) := by
  refine Eq.trans (b := Ideal.hostReduceAdd rt4_0 v (k0 (Shape.Idx.first s0_pos)) (ix3 z y x)) rfl ?_
  unfold Ideal.hostReduceAdd
  rw [k0_at, zero_add]
  refine Finset.sum_filter_eq_sum_of_fiber _ (fun k : Fin 16 => ix4 k z y x) (fun _ _ e => congrFun e 0) (fun i => ?_) v
  constructor
  · intro e
    refine ⟨i 0, ?_⟩
    funext ax; apply Fin.ext
    match ax with
    | ⟨0, _⟩ => rfl
    | ⟨1, _⟩ => exact (congrArg Fin.val (congrFun e 0)).symm
    | ⟨2, _⟩ => exact (congrArg Fin.val (congrFun e 1)).symm
    | ⟨3, _⟩ => exact (congrArg Fin.val (congrFun e 2)).symm
  · rintro ⟨k, rfl⟩
    funext ax; apply Fin.ext
    match ax with | ⟨0, _⟩ => rfl | ⟨1, _⟩ => rfl | ⟨2, _⟩ => rfl

/-- The norms of the last vectors. -/
def rOut (v : FVec Ideal (s4 16 16 16 16) .f32) : FVec Ideal (s5 1 1 16 16 16) .f32 :=
  Host.sqrt (addf (broadcastInDim (s5 1 1 16 16 16) ![2, 3, 4] bd3_5 (Host.reduceAdd (mulf v v) k0 rt4_0 s0_pos))
    (broadcastInDim (s5 1 1 16 16 16) ![] (bd0_5 1 1) (constant s0 .f32 0x3089705F#32)))

theorem rOut_apply {V : FVec Ideal (s5 1 16 16 16 16) .f32} {v : Nat → Fin 1 → Fin 16 → EReal} (hV : IsP V v)
    (hc : (s5 1 16 16 16 16).ShapeCasts (s4 16 16 16 16)) (g i : Fin 1) (z y x : Fin 16) :
    rOut (shapeCast (s4 16 16 16 16) V hc) (ix5 g i z y x) = nrm (v (pos z y x)) := by
  unfold rOut nrm
  show Ideal.sqrt (_ + _) = _
  have e1 : ∀ r : FVec Ideal (s3 16 16 16) .f32, broadcastInDim (s5 1 1 16 16 16) ![2, 3, 4] bd3_5 r (ix5 g i z y x) = r (ix3 z y x) := fun r =>
    broadcastInDim_apply _ _ _ _ _ fun ax => by
      match ax with | ⟨0, _⟩ => rfl | ⟨1, _⟩ => rfl | ⟨2, _⟩ => rfl
  rw [e1, hsum4]
  refine congrArg Ideal.sqrt (congrArg (· + _) (Finset.sum_congr rfl fun k _ => ?_))
  have e : shapeCast (s4 16 16 16 16) V hc (ix4 k z y x) = v (pos z y x) 0 k := by
    refine (shapeCast_apply V hc (ix4 k z y x) (ix5 (0 : Fin 1) k z y x) ?_).trans (hV _ _ _ _ _)
    rw [Shape.rowMajor_val_five, Shape.rowMajor_val_four]
    show (((0 * 16 + k.1) * 16 + z.1) * 16 + y.1) * 16 + x.1 = ((k.1 * 16 + z.1) * 16 + y.1) * 16 + x.1
    omega
  rw [mulf_apply, e]

end Last

end Caps

end
-- ==== Proof.RefEnds.lean ====
/- The first layer, the joins, the turned weights and the norms of the reference, read off its equations. -/
module

public import proofs.«01_k».proof.Proof.RefLine0
public import proofs.«01_k».proof.Proof.RefLine2
public import proofs.«01_k».proof.Proof.RefLine3
public import proofs.«01_k».proof.Proof.RefLine4
public import proofs.«01_k».proof.Proof.RefLayer

@[expose] public section

set_option maxRecDepth 8192
set_option maxHeartbeats 4000000

noncomputable section

namespace Cert.RefOps

open Caps Cert.ReferenceIdeal Cert.ReferenceIdeal.Gen Idealize.ShloMosaic Idealize.ShloMosaic.TcCoe Idealize.SL.Sem Idealize.ShloMosaic.StableHlo

theorem lay0 {d : Dev nD} {Z : Vl} (q0 : (part0 d).1 Z) (hc : (s5 1 4 14 14 14).ShapeCasts (s4 4 14 14 14)) (h : (s5 16 4 3 3 3).ShapeCasts (s6 1 16 4 3 3 3)) :
    IsT (cst (s := s5 1 16 16 16 16) (Z (Proc.devRef .tc main_v27)))
      (conv1 (xOf (shapeCast (s4 4 14 14 14) (cst (s := s5 1 4 14 14 14) (Z (Proc.devRef .tc main_arg0))) hc)) (wOf 1 16 4 (shapeCast (s6 1 16 4 3 3 3) (cst (s := s5 16 4 3 3 3) (Z (Proc.devRef .tc main_arg1))) h))) := by
  obtain ⟨h_v0, h_c, ⟨h_call0_v0, h_v1, -⟩, h_v2, h_v3, h_v4, h_v5, h_v6, h_v7, h_v8, h_v9, h_v10, h_v11, h_v12, h_v13, h_v14, h_v15, h_v16, h_v17, h_v18, h_v19, h_v20, h_v21, h_v22, h_v23, h_v24, h_v25, h_cst, h_v26, h_v27, -, ⟨-, -, -⟩, -, -, -, -, -, -, -, -, -, -, -, -, -, -, -, -, -, -, -, -, -, -, -, -, -, -, -, -, -⟩ := q0
  exact first (wf := Cert.ReferenceIdeal.Gen.dot_S1x16x4x27_S1x4x27x16x16x16_S1x16x16x16x16_23_12_1_345_0_0_wf)
    (hw := Cert.ReferenceIdeal.Gen.shapeCasts_S1x16x4x3x3x3_S1x16x4x27) (hx := Cert.ReferenceIdeal.Gen.shapeCasts_S1x4x3x3x3x16x16x16_S1x4x27x16x16x16)
    (hp := Cert.ReferenceIdeal.Gen.pads_S1x4x14x14x14_S1x4x18x18x18_000_000_220_220_220)
    (a := (cst (s := s5 16 4 3 3 3) (Z (Proc.devRef .tc main_arg1)))) (u := (cst (s := s5 1 4 14 14 14) (Z (Proc.devRef .tc main_arg0)))) (P := (cst (s := s5 1 4 18 18 18) (Z (Proc.devRef .tc main_v1)))) (W1 := (cst (s := s6 1 4 3 16 18 18) (Z (Proc.devRef .tc main_v8)))) (W2 := (cst (s := s7 1 4 3 3 16 16 18) (Z (Proc.devRef .tc main_v15)))) (V := (cst (s := s5 1 16 16 16 16) (Z (Proc.devRef .tc main_v27)))) hc h
    (hP := by rw [h_v1, h_call0_v0, h_c]; rfl)
    (h1 := by rw [h_v8, h_v7, h_v6, h_v5, h_v4, h_v3, h_v2]; rfl)
    (h2 := by rw [h_v15, h_v14, h_v13, h_v12, h_v11, h_v10, h_v9]; rfl)
    (hV := by rw [h_v27, h_v26, h_cst, h_v25, h_v24, h_v23, h_v22, h_v21, h_v20, h_v19, h_v18, h_v17, h_v16, h_v0]; rfl)

theorem join0 {d : Dev nD} {Z : Vl} (q16 : (part16 d).1 Z) {X Y : Nat → Nat → EReal} (hx : IsT (cst (s := s5 8 32 16 16 16) (Z (Proc.devRef .tc main_v809))) X)
    (hy : IsT (cst (s := s5 8 32 16 16 16) (Z (Proc.devRef .tc main_v445))) Y) : IsT (cst (s := s5 16 32 16 16 16) (Z (Proc.devRef .tc main_v810))) (cat 256 X Y) := by
  obtain ⟨-, -, -, -, -, -, -, -, -, -, -, h_v810, -, ⟨-, -, -⟩, -, -, -, -, -, -, -, -, -, -, -, -, -, -, -, -, -, -, -, -, -, -, -, -, -, -, -, -, -, -, -, -, -, -, -, -, -, -, -, -, -, -, -, -, -, -, -⟩ := q16
  have e : (cst (s := s5 16 32 16 16 16) (Z (Proc.devRef .tc main_v810))) = concatenate (s5 16 32 16 16 16) (0 : Fin 5)
      [⟨s5 8 32 16 16 16, (cst (s := s5 8 32 16 16 16) (Z (Proc.devRef .tc main_v809)))⟩, ⟨s5 8 32 16 16 16, (cst (s := s5 8 32 16 16 16) (Z (Proc.devRef .tc main_v445)))⟩] Cert.ReferenceIdeal.Gen.concatenates_S8x32x16x16x16_S8x32x16x16x16_S16x32x16x16x16_d0 := by rw [h_v810]; rfl
  rw [e]
  exact join_apply rfl _ hx hy rfl

theorem join1 {d : Dev nD} {Z : Vl} (q21 : (part21 d).1 Z) {X Y : Nat → Nat → EReal} (hx : IsT (cst (s := s5 4 16 16 16 16) (Z (Proc.devRef .tc main_v1053))) X)
    (hy : IsT (cst (s := s5 4 16 16 16 16) (Z (Proc.devRef .tc main_v203))) Y) : IsT (cst (s := s5 8 16 16 16 16) (Z (Proc.devRef .tc main_v1054))) (cat 64 X Y) := by
  obtain ⟨-, -, -, -, -, h_v1054, -, ⟨-, -, -⟩, -, -, -, -, -, -, -, -, -, -, -, -, -, -, -, -, -, -, -, -, -, -, -, -, -, -, -, -, -, -, -, -, -, -, -, -, -, -, -, -, -, -, -, -, -, -, -, -, -, -, -, -, -⟩ := q21
  have e : (cst (s := s5 8 16 16 16 16) (Z (Proc.devRef .tc main_v1054))) = concatenate (s5 8 16 16 16 16) (0 : Fin 5)
      [⟨s5 4 16 16 16 16, (cst (s := s5 4 16 16 16 16) (Z (Proc.devRef .tc main_v1053)))⟩, ⟨s5 4 16 16 16 16, (cst (s := s5 4 16 16 16 16) (Z (Proc.devRef .tc main_v203)))⟩] Cert.ReferenceIdeal.Gen.concatenates_S4x16x16x16x16_S4x16x16x16x16_S8x16x16x16x16_d0 := by rw [h_v1054]; rfl
  rw [e]
  exact join_apply rfl _ hx hy rfl

theorem join2 {d : Dev nD} {Z : Vl} (q25 : (part25 d).1 Z) {X Y : Nat → Nat → EReal} (hx : IsT (cst (s := s5 2 16 16 16 16) (Z (Proc.devRef .tc main_v1297))) X)
    (hy : IsT (cst (s := s5 1 16 16 16 16) (Z (Proc.devRef .tc main_v27))) Y) : IsT (cst (s := s5 3 16 16 16 16) (Z (Proc.devRef .tc main_v1298))) (cat 32 X Y) := by
  obtain ⟨-, -, -, -, -, -, -, -, -, -, -, -, -, -, -, -, -, -, -, -, -, -, -, -, -, -, -, -, -, -, -, -, -, -, -, -, -, -, -, -, -, -, -, -, -, -, -, -, -, -, -, -, -, -, -, -, -, -, -, h_v1298, -⟩ := q25
  have e : (cst (s := s5 3 16 16 16 16) (Z (Proc.devRef .tc main_v1298))) = concatenate (s5 3 16 16 16 16) (0 : Fin 5)
      [⟨s5 2 16 16 16 16, (cst (s := s5 2 16 16 16 16) (Z (Proc.devRef .tc main_v1297)))⟩, ⟨s5 1 16 16 16 16, (cst (s := s5 1 16 16 16 16) (Z (Proc.devRef .tc main_v27)))⟩] Cert.ReferenceIdeal.Gen.concatenates_S2x16x16x16x16_S1x16x16x16x16_S3x16x16x16x16_d0 := by rw [h_v1298]; rfl
  rw [e]
  exact join_apply rfl _ hx hy rfl

theorem rev0 {d : Dev nD} {Z : Vl} (q13 : (part13 d).1 Z) :
    (cst (s := s6 8 256 32 3 3 3) (Z (Proc.devRef .tc main_v688))) = Host.reverse [3, 4, 5] (cst (s := s6 8 256 32 3 3 3) (Z (Proc.devRef .tc main_arg8))) := by
  obtain ⟨-, -, -, -, -, -, -, -, -, -, -, -, -, -, -, -, -, -, -, -, -, -, -, -, -, -, -, -, -, -, -, -, -, -, -, -, -, -, -, -, -, -, -, -, h_v688, -, ⟨-, -, -⟩, -, -, -, -, -, -, -, -, -, -, -, -, -, -⟩ := q13
  rw [h_v688]; rfl

theorem rev1 {d : Dev nD} {Z : Vl} (q18 : (part18 d).1 Z) :
    (cst (s := s6 4 64 32 3 3 3) (Z (Proc.devRef .tc main_v932))) = Host.reverse [3, 4, 5] (cst (s := s6 4 64 32 3 3 3) (Z (Proc.devRef .tc main_arg10))) := by
  obtain ⟨-, -, -, -, -, -, -, -, -, -, -, -, -, -, -, -, -, -, -, -, -, -, -, -, -, -, -, -, -, -, -, -, -, -, -, -, -, -, h_v932, -, ⟨-, -, -⟩, -, -, -, -, -, -, -, -, -, -, -, -, -, -, -, -, -, -, -, -⟩ := q18
  rw [h_v932]; rfl

theorem rev2 {d : Dev nD} {Z : Vl} (q23 : (part23 d).1 Z) :
    (cst (s := s6 4 32 16 3 3 3) (Z (Proc.devRef .tc main_v1176))) = Host.reverse [3, 4, 5] (cst (s := s6 4 32 16 3 3 3) (Z (Proc.devRef .tc main_arg12))) := by
  obtain ⟨-, -, -, -, -, -, -, -, -, -, -, -, -, -, -, -, -, -, -, -, -, -, -, -, -, -, -, -, -, -, -, -, h_v1176, -, ⟨-, -, -⟩, -, -, -, -, -, -, -, -, -, -, -, -, -, -, -, -, -, -, -, -, -, -, -, -, -, -⟩ := q23
  rw [h_v1176]; rfl

theorem outv {d : Dev nD} {Z : Vl} (q28 : (part28 d).1 Z) {v : Nat → Fin 1 → Fin 16 → EReal} (hV : IsP (cst (s := s5 1 16 16 16 16) (Z (Proc.devRef .tc main_v1413))) v) (g i : Fin 1) (z y x : Fin 16) :
    (cst (s := s5 1 1 16 16 16) (Z (Proc.devRef .tc main_v1420))) (ix5 g i z y x) = nrm (v (pos z y x)) := by
  obtain ⟨-, -, -, -, -, -, -, -, -, -, -, -, -, -, -, -, -, -, -, -, h_v1414, h_v1415, h_cst_284, h_v1416, h_v1417, h_cst_285, h_v1418, h_v1419, h_v1420, -⟩ := q28
  have e : (cst (s := s4 16 16 16 16) (Z (Proc.devRef .tc main_v1414))) = shapeCast (s4 16 16 16 16) (cst (s := s5 1 16 16 16 16) (Z (Proc.devRef .tc main_v1413))) Cert.ReferenceIdeal.Gen.shapeCasts_S1x16x16x16x16_S16x16x16x16 := by rw [h_v1414]; rfl
  have e' : (cst (s := s5 1 1 16 16 16) (Z (Proc.devRef .tc main_v1420))) = rOut (cst (s := s4 16 16 16 16) (Z (Proc.devRef .tc main_v1414))) := by rw [h_v1420, h_v1419, h_v1418, h_cst_285, h_v1417, h_v1416, h_cst_284, h_v1415]; rfl
  rw [e', e]
  exact rOut_apply hV _ g i z y x

end Cert.RefOps

end
-- ==== Proof.RefLine1.lean ====
/- The equations of the reference's operations, window by window of its line. -/
module

public import proofs.«01_k».proof.Proof.RefOps

@[expose] public section

set_option maxRecDepth 8192
set_option maxHeartbeats 4000000

noncomputable section

namespace Cert.RefOps

open Cert.ReferenceIdeal Cert.ReferenceIdeal.Gen Idealize.ShloMosaic Idealize.ShloMosaic.TcCoe Idealize.SL.Sem Idealize.ShloMosaic.StableHlo

def part6 (d : Dev nD) : {E : Vl → Prop // Ok 378 439 (main_part6 (F := Ideal) d) E} := by
  apply Subtype.mk
  case property =>
    unfold main_part6
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_binary
    all_goals first | rfl | exact Nat.le_of_ble_eq_true rfl

def part7 (d : Dev nD) : {E : Vl → Prop // Ok 439 499 (main_part7 (F := Ideal) d) E} := by
  apply Subtype.mk
  case property =>
    unfold main_part7
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_nullary
    all_goals first | rfl | exact Nat.le_of_ble_eq_true rfl

def part8 (d : Dev nD) : {E : Vl → Prop // Ok 499 560 (main_part8 (F := Ideal) d) E} := by
  apply Subtype.mk
  case property =>
    unfold main_part8
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_unary
    all_goals first | rfl | exact Nat.le_of_ble_eq_true rfl

def part9 (d : Dev nD) : {E : Vl → Prop // Ok 560 620 (main_part9 (F := Ideal) d) E} := by
  apply Subtype.mk
  case property =>
    unfold main_part9
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_nullary
    all_goals first | rfl | exact Nat.le_of_ble_eq_true rfl

def part10 (d : Dev nD) : {E : Vl → Prop // Ok 620 680 (main_part10 (F := Ideal) d) E} := by
  apply Subtype.mk
  case property =>
    unfold main_part10
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_binary
    all_goals first | rfl | exact Nat.le_of_ble_eq_true rfl

def part11 (d : Dev nD) : {E : Vl → Prop // Ok 680 741 (main_part11 (F := Ideal) d) E} := by
  apply Subtype.mk
  case property =>
    unfold main_part11
    repeat
      apply ok_append
      case hp =>
        first
        | apply ok_unary | apply ok_binary | apply ok_nullary | apply ok_reshape | apply ok_join | apply ok_call2 | apply ok_call
        all_goals first | rfl | exact Nat.le_of_ble_eq_true rfl
      case' hq => skip
    apply ok_last
    apply ok_unary
    all_goals first | rfl | exact Nat.le_of_ble_eq_true rfl

end Cert.RefOps

end
-- ==== Proof.RefNet0.lean ====
/- The layers of the reference, read off the equations of its operations. -/
module

public import proofs.«01_k».proof.Proof.RefLine0
public import proofs.«01_k».proof.Proof.RefLine1
public import proofs.«01_k».proof.Proof.RefLayer

@[expose] public section

set_option maxRecDepth 8192
set_option maxHeartbeats 4000000

noncomputable section

namespace Cert.RefOps

open Caps Cert.ReferenceIdeal Cert.ReferenceIdeal.Gen Idealize.ShloMosaic Idealize.ShloMosaic.TcCoe Idealize.SL.Sem Idealize.ShloMosaic.StableHlo

theorem lay1 {d : Dev nD} {Z : Vl} (q0 : (part0 d).1 Z) (q1 : (part1 d).1 Z) {X : Nat → Nat → EReal}
    (hu : IsT (cst (s := s5 1 16 16 16 16) (Z (Proc.devRef .tc main_v27))) X) :
    IsT (cst (s := s5 2 16 16 16 16) (Z (Proc.devRef .tc main_v82)))
      (caps 0 1 16 2 16 X (wOf 1 32 16 (cst (s := s6 1 32 16 3 3 3) (Z (Proc.devRef .tc main_arg2))))) := by
  obtain ⟨-, -, ⟨-, -, -⟩, -, -, -, -, -, -, -, -, -, -, -, -, -, -, -, -, -, -, -, -, -, -, -, -, -, -, -, h_c_0, ⟨h_call1_v0, h_v28, -⟩, h_v29, h_v30, h_v31, h_v32, h_v33, h_v34, h_v35, h_v36, h_v37, h_v38, h_v39, h_v40, h_v41, h_v42, h_v43, h_v44, h_v45, h_v46, h_v47, h_v48, h_v49, h_v50, h_v51, h_v52, h_v53, h_cst_1, h_v54, h_cst_2, -⟩ := q0
  obtain ⟨h_v55, h_cst_3, h_v56, h_v57, h_v58, h_v59, h_v60, h_v61, h_cst_4, h_v62, h_v63, h_v64, h_v65, h_v66, h_v67, h_v68, h_cst_5, h_v69, h_v70, h_cst_6, h_v71, h_v72, h_cst_7, h_v73, h_v74, h_v75, h_v76, h_v77, h_cst_8, h_v78, h_v79, h_v80, h_v81, h_v82, -, ⟨-, -, -⟩, -, -, -, -, -, -, -, -, -, -, -, -, -, -, -, -, -, -, -, -, -, -, -, -, -⟩ := q1
  have e : (cst (s := s5 2 16 16 16 16) (Z (Proc.devRef .tc main_v82))) = rV (cst (s := s5 2 16 16 16 16) (Z (Proc.devRef .tc main_v69)))
      (cst (s := s5 2 1 16 16 16) (Z (Proc.devRef .tc main_v72))) := by rw [h_v82, h_v81, h_v80, h_v79, h_v78, h_cst_8, h_v77, h_v76, h_v75, h_v74, h_v73, h_cst_7]; rfl
  rw [e]
  exact layer1 (wf := Cert.ReferenceIdeal.Gen.dot_S1x32x16x27_S1x16x27x16x16x16_S1x32x16x16x16_23_12_1_345_0_0_wf)
    (hw := Cert.ReferenceIdeal.Gen.shapeCasts_S1x32x16x3x3x3_S1x32x16x27) (hx := Cert.ReferenceIdeal.Gen.shapeCasts_S1x16x3x3x3x16x16x16_S1x16x27x16x16x16)
    (hc := Cert.ReferenceIdeal.Gen.shapeCasts_S1x32x16x16x16_S1x2x16x16x16x16) (hp := Cert.ReferenceIdeal.Gen.pads_S1x16x16x16x16_S1x16x18x18x18_000_000_110_110_110)
    (w := (cst (s := s6 1 32 16 3 3 3) (Z (Proc.devRef .tc main_arg2)))) (u := (cst (s := s5 1 16 16 16 16) (Z (Proc.devRef .tc main_v27)))) (P := (cst (s := s5 1 16 18 18 18) (Z (Proc.devRef .tc main_v28)))) (W1 := (cst (s := s6 1 16 3 16 18 18) (Z (Proc.devRef .tc main_v35))))
    (W2 := (cst (s := s7 1 16 3 3 16 16 18) (Z (Proc.devRef .tc main_v42)))) (U := (cst (s := s6 1 2 16 16 16 16) (Z (Proc.devRef .tc main_v53))))
    (B0 := (cst (s := s5 1 2 16 16 16) (Z (Proc.devRef .tc main_v54)))) (E0 := (cst (s := s5 1 2 16 16 16) (Z (Proc.devRef .tc main_v61)))) (S0 := (cst (s := s5 2 16 16 16 16) (Z (Proc.devRef .tc main_v69)))) (N0 := (cst (s := s5 2 1 16 16 16) (Z (Proc.devRef .tc main_v72))))
    (br := brG 1 2)
    (hbr := brG_apply) (hM := rfl) (hu := hu)
    (hP := by rw [h_v28, h_call1_v0, h_c_0]; rfl)
    (h1 := by rw [h_v35, h_v34, h_v33, h_v32, h_v31, h_v30, h_v29]; rfl)
    (h2 := by rw [h_v42, h_v41, h_v40, h_v39, h_v38, h_v37, h_v36]; rfl)
    (hU := by rw [h_v53, h_v52, h_v51, h_v50, h_v49, h_v48, h_v47, h_v46, h_v45, h_v44, h_v43]; rfl)
    (hB0 := by rw [h_v54, h_cst_1]; rfl)
    (hE0 := by rw [h_v61, h_v60, h_v59, h_v58, h_v57, h_v56, h_cst_3, h_v55, h_cst_2]; rfl)
    (hS0 := by rw [h_v69, h_cst_5, h_v68, h_v67, h_v66, h_v65, h_v64, h_v63, h_v62, h_cst_4]; rfl)
    (hN0 := by rw [h_v72, h_v71, h_cst_6, h_v70]; rfl)

theorem lay2 {d : Dev nD} {Z : Vl} (q1 : (part1 d).1 Z) (q2 : (part2 d).1 Z) (q3 : (part3 d).1 Z) {X : Nat → Nat → EReal}
    (hu : IsT (cst (s := s5 2 16 16 16 16) (Z (Proc.devRef .tc main_v82))) X) :
    IsT (cst (s := s5 4 16 16 16 16) (Z (Proc.devRef .tc main_v203)))
      (caps 2 2 16 4 16 X (wOf 2 64 16 (cst (s := s6 2 64 16 3 3 3) (Z (Proc.devRef .tc main_arg3))))) := by
  obtain ⟨-, -, -, -, -, -, -, -, -, -, -, -, -, -, -, -, -, -, -, -, -, -, -, -, -, -, -, -, -, -, -, -, -, -, h_c_9, ⟨h_call2_v0, h_v83, -⟩, h_v84, h_v85, h_v86, h_v87, h_v88, h_v89, h_v90, h_v91, h_v92, h_v93, h_v94, h_v95, h_v96, h_v97, h_v98, h_v99, h_v100, h_v101, h_v102, h_v103, h_v104, h_v105, h_v106, h_v107, -⟩ := q1
  obtain ⟨h_v108, h_cst_10, h_v109, h_cst_11, h_v110, h_cst_12, h_v111, h_v112, h_v113, h_v114, h_v115, h_v116, h_cst_13, h_v117, h_v118, h_v119, h_v120, h_v121, h_v122, h_v123, h_cst_14, h_v124, h_v125, h_cst_15, h_v126, h_v127, h_cst_16, h_v128, h_v129, h_v130, h_v131, h_v132, h_cst_17, h_v133, h_v134, h_v135, h_v136, h_v137, h_v138, h_v139, h_v140, h_cst_18, h_v141, h_v142, h_cst_19, h_v143, h_cst_20, h_v144, h_v145, h_v146, h_v147, h_v148, h_v149, h_cst_21, h_v150, h_v151, h_v152, h_v153, h_v154, h_v155, -⟩ := q2
  obtain ⟨h_v156, h_cst_22, h_v157, h_v158, h_cst_23, h_v159, h_v160, h_cst_24, h_v161, h_v162, h_v163, h_v164, h_v165, h_cst_25, h_v166, h_v167, h_v168, h_v169, h_v170, h_v171, h_v172, h_v173, h_cst_26, h_v174, h_v175, h_cst_27, h_v176, h_cst_28, h_v177, h_v178, h_v179, h_v180, h_v181, h_v182, h_cst_29, h_v183, h_v184, h_v185, h_v186, h_v187, h_v188, h_v189, h_cst_30, h_v190, h_v191, h_cst_31, h_v192, h_v193, h_cst_32, h_v194, h_v195, h_v196, h_v197, h_v198, h_cst_33, h_v199, h_v200, h_v201, h_v202, h_v203, -⟩ := q3
  have e : (cst (s := s5 4 16 16 16 16) (Z (Proc.devRef .tc main_v203))) = rV (cst (s := s5 4 16 16 16 16) (Z (Proc.devRef .tc main_v190)))
      (cst (s := s5 4 1 16 16 16) (Z (Proc.devRef .tc main_v193))) := by rw [h_v203, h_v202, h_v201, h_v200, h_v199, h_cst_33, h_v198, h_v197, h_v196, h_v195, h_v194, h_cst_32]; rfl
  rw [e]
  exact layer3 (wf := Cert.ReferenceIdeal.Gen.dot_S2x64x16x27_S2x16x27x16x16x16_S2x64x16x16x16_23_12_1_345_0_0_wf)
    (hw := Cert.ReferenceIdeal.Gen.shapeCasts_S2x64x16x3x3x3_S2x64x16x27) (hx := Cert.ReferenceIdeal.Gen.shapeCasts_S2x16x3x3x3x16x16x16_S2x16x27x16x16x16)
    (hc := Cert.ReferenceIdeal.Gen.shapeCasts_S2x64x16x16x16_S2x4x16x16x16x16) (hp := Cert.ReferenceIdeal.Gen.pads_S2x16x16x16x16_S2x16x18x18x18_000_000_110_110_110)
    (w := (cst (s := s6 2 64 16 3 3 3) (Z (Proc.devRef .tc main_arg3)))) (u := (cst (s := s5 2 16 16 16 16) (Z (Proc.devRef .tc main_v82)))) (P := (cst (s := s5 2 16 18 18 18) (Z (Proc.devRef .tc main_v83)))) (W1 := (cst (s := s6 2 16 3 16 18 18) (Z (Proc.devRef .tc main_v90))))
    (W2 := (cst (s := s7 2 16 3 3 16 16 18) (Z (Proc.devRef .tc main_v97)))) (U := (cst (s := s6 2 4 16 16 16 16) (Z (Proc.devRef .tc main_v108))))
    (B0 := (cst (s := s5 2 4 16 16 16) (Z (Proc.devRef .tc main_v109)))) (E0 := (cst (s := s5 2 4 16 16 16) (Z (Proc.devRef .tc main_v116)))) (S0 := (cst (s := s5 4 16 16 16 16) (Z (Proc.devRef .tc main_v124)))) (N0 := (cst (s := s5 4 1 16 16 16) (Z (Proc.devRef .tc main_v127))))
    (B1 := (cst (s := s5 2 4 16 16 16) (Z (Proc.devRef .tc main_v142)))) (E1 := (cst (s := s5 2 4 16 16 16) (Z (Proc.devRef .tc main_v149)))) (S1 := (cst (s := s5 4 16 16 16 16) (Z (Proc.devRef .tc main_v157)))) (N1 := (cst (s := s5 4 1 16 16 16) (Z (Proc.devRef .tc main_v160))))
    (B2 := (cst (s := s5 2 4 16 16 16) (Z (Proc.devRef .tc main_v175)))) (E2 := (cst (s := s5 2 4 16 16 16) (Z (Proc.devRef .tc main_v182)))) (S2 := (cst (s := s5 4 16 16 16 16) (Z (Proc.devRef .tc main_v190)))) (N2 := (cst (s := s5 4 1 16 16 16) (Z (Proc.devRef .tc main_v193))))
    (hM := rfl) (hu := hu)
    (hP := by rw [h_v83, h_call2_v0, h_c_9]; rfl)
    (h1 := by rw [h_v90, h_v89, h_v88, h_v87, h_v86, h_v85, h_v84]; rfl)
    (h2 := by rw [h_v97, h_v96, h_v95, h_v94, h_v93, h_v92, h_v91]; rfl)
    (hU := by rw [h_v108, h_v107, h_v106, h_v105, h_v104, h_v103, h_v102, h_v101, h_v100, h_v99, h_v98]; rfl)
    (hB0 := by rw [h_v109, h_cst_10]; rfl)
    (hE0 := by rw [h_v116, h_v115, h_v114, h_v113, h_v112, h_v111, h_cst_12, h_v110, h_cst_11]; rfl)
    (hS0 := by rw [h_v124, h_cst_14, h_v123, h_v122, h_v121, h_v120, h_v119, h_v118, h_v117, h_cst_13]; rfl)
    (hN0 := by rw [h_v127, h_v126, h_cst_15, h_v125]; rfl)
    (hB1 := by rw [h_v142, h_v141, h_cst_18, h_v140, h_v139, h_v138, h_v137, h_v136, h_v135, h_v134, h_v133, h_cst_17, h_v132, h_v131, h_v130, h_v129, h_v128, h_cst_16]; rfl)
    (hE1 := by rw [h_v149, h_v148, h_v147, h_v146, h_v145, h_v144, h_cst_20, h_v143, h_cst_19]; rfl)
    (hS1 := by rw [h_v157, h_cst_22, h_v156, h_v155, h_v154, h_v153, h_v152, h_v151, h_v150, h_cst_21]; rfl)
    (hN1 := by rw [h_v160, h_v159, h_cst_23, h_v158]; rfl)
    (hB2 := by rw [h_v175, h_v174, h_cst_26, h_v173, h_v172, h_v171, h_v170, h_v169, h_v168, h_v167, h_v166, h_cst_25, h_v165, h_v164, h_v163, h_v162, h_v161, h_cst_24]; rfl)
    (hE2 := by rw [h_v182, h_v181, h_v180, h_v179, h_v178, h_v177, h_cst_28, h_v176, h_cst_27]; rfl)
    (hS2 := by rw [h_v190, h_cst_30, h_v189, h_v188, h_v187, h_v186, h_v185, h_v184, h_v183, h_cst_29]; rfl)
    (hN2 := by rw [h_v193, h_v192, h_cst_31, h_v191]; rfl)

theorem lay3 {d : Dev nD} {Z : Vl} (q4 : (part4 d).1 Z) (q5 : (part5 d).1 Z) (q6 : (part6 d).1 Z) {X : Nat → Nat → EReal}
    (hu : IsT (cst (s := s5 4 16 16 16 16) (Z (Proc.devRef .tc main_v203))) X) :
    IsT (cst (s := s5 4 32 16 16 16) (Z (Proc.devRef .tc main_v324)))
      (caps 2 4 16 4 32 X (wOf 4 128 16 (cst (s := s6 4 128 16 3 3 3) (Z (Proc.devRef .tc main_arg4))))) := by
  obtain ⟨h_c_34, ⟨h_call3_v0, h_v204, -⟩, h_v205, h_v206, h_v207, h_v208, h_v209, h_v210, h_v211, h_v212, h_v213, h_v214, h_v215, h_v216, h_v217, h_v218, h_v219, h_v220, h_v221, h_v222, h_v223, h_v224, h_v225, h_v226, h_v227, h_v228, h_v229, h_cst_35, h_v230, h_cst_36, h_v231, h_cst_37, h_v232, h_v233, h_v234, h_v235, h_v236, h_v237, h_cst_38, h_v238, h_v239, h_v240, h_v241, h_v242, h_v243, h_v244, h_cst_39, h_v245, h_v246, h_cst_40, h_v247, h_v248, h_cst_41, h_v249, h_v250, h_v251, h_v252, h_v253, h_cst_42, h_v254, -⟩ := q4
  obtain ⟨h_v255, h_v256, h_v257, h_v258, h_v259, h_v260, h_v261, h_cst_43, h_v262, h_v263, h_cst_44, h_v264, h_cst_45, h_v265, h_v266, h_v267, h_v268, h_v269, h_v270, h_cst_46, h_v271, h_v272, h_v273, h_v274, h_v275, h_v276, h_v277, h_cst_47, h_v278, h_v279, h_cst_48, h_v280, h_v281, h_cst_49, h_v282, h_v283, h_v284, h_v285, h_v286, h_cst_50, h_v287, h_v288, h_v289, h_v290, h_v291, h_v292, h_v293, h_v294, h_cst_51, h_v295, h_v296, h_cst_52, h_v297, h_cst_53, h_v298, h_v299, h_v300, h_v301, h_v302, h_v303, -⟩ := q5
  obtain ⟨h_cst_54, h_v304, h_v305, h_v306, h_v307, h_v308, h_v309, h_v310, h_cst_55, h_v311, h_v312, h_cst_56, h_v313, h_v314, h_cst_57, h_v315, h_v316, h_v317, h_v318, h_v319, h_cst_58, h_v320, h_v321, h_v322, h_v323, h_v324, -, ⟨-, -, -⟩, -, -, -, -, -, -, -, -, -, -, -, -, -, -, -, -, -, -, -, -, -, -, -, -, -, -, -, -, -, -, -, -, -⟩ := q6
  have e : (cst (s := s5 4 32 16 16 16) (Z (Proc.devRef .tc main_v324))) = rV (cst (s := s5 4 32 16 16 16) (Z (Proc.devRef .tc main_v311)))
      (cst (s := s5 4 1 16 16 16) (Z (Proc.devRef .tc main_v314))) := by rw [h_v324, h_v323, h_v322, h_v321, h_v320, h_cst_58, h_v319, h_v318, h_v317, h_v316, h_v315, h_cst_57]; rfl
  rw [e]
  exact layer3 (wf := Cert.ReferenceIdeal.Gen.dot_S4x128x16x27_S4x16x27x16x16x16_S4x128x16x16x16_23_12_1_345_0_0_wf)
    (hw := Cert.ReferenceIdeal.Gen.shapeCasts_S4x128x16x3x3x3_S4x128x16x27) (hx := Cert.ReferenceIdeal.Gen.shapeCasts_S4x16x3x3x3x16x16x16_S4x16x27x16x16x16)
    (hc := Cert.ReferenceIdeal.Gen.shapeCasts_S4x128x16x16x16_S4x4x32x16x16x16) (hp := Cert.ReferenceIdeal.Gen.pads_S4x16x16x16x16_S4x16x18x18x18_000_000_110_110_110)
    (w := (cst (s := s6 4 128 16 3 3 3) (Z (Proc.devRef .tc main_arg4)))) (u := (cst (s := s5 4 16 16 16 16) (Z (Proc.devRef .tc main_v203)))) (P := (cst (s := s5 4 16 18 18 18) (Z (Proc.devRef .tc main_v204)))) (W1 := (cst (s := s6 4 16 3 16 18 18) (Z (Proc.devRef .tc main_v211))))
    (W2 := (cst (s := s7 4 16 3 3 16 16 18) (Z (Proc.devRef .tc main_v218)))) (U := (cst (s := s6 4 4 32 16 16 16) (Z (Proc.devRef .tc main_v229))))
    (B0 := (cst (s := s5 4 4 16 16 16) (Z (Proc.devRef .tc main_v230)))) (E0 := (cst (s := s5 4 4 16 16 16) (Z (Proc.devRef .tc main_v237)))) (S0 := (cst (s := s5 4 32 16 16 16) (Z (Proc.devRef .tc main_v245)))) (N0 := (cst (s := s5 4 1 16 16 16) (Z (Proc.devRef .tc main_v248))))
    (B1 := (cst (s := s5 4 4 16 16 16) (Z (Proc.devRef .tc main_v263)))) (E1 := (cst (s := s5 4 4 16 16 16) (Z (Proc.devRef .tc main_v270)))) (S1 := (cst (s := s5 4 32 16 16 16) (Z (Proc.devRef .tc main_v278)))) (N1 := (cst (s := s5 4 1 16 16 16) (Z (Proc.devRef .tc main_v281))))
    (B2 := (cst (s := s5 4 4 16 16 16) (Z (Proc.devRef .tc main_v296)))) (E2 := (cst (s := s5 4 4 16 16 16) (Z (Proc.devRef .tc main_v303)))) (S2 := (cst (s := s5 4 32 16 16 16) (Z (Proc.devRef .tc main_v311)))) (N2 := (cst (s := s5 4 1 16 16 16) (Z (Proc.devRef .tc main_v314))))
    (hM := rfl) (hu := hu)
    (hP := by rw [h_v204, h_call3_v0, h_c_34]; rfl)
    (h1 := by rw [h_v211, h_v210, h_v209, h_v208, h_v207, h_v206, h_v205]; rfl)
    (h2 := by rw [h_v218, h_v217, h_v216, h_v215, h_v214, h_v213, h_v212]; rfl)
    (hU := by rw [h_v229, h_v228, h_v227, h_v226, h_v225, h_v224, h_v223, h_v222, h_v221, h_v220, h_v219]; rfl)
    (hB0 := by rw [h_v230, h_cst_35]; rfl)
    (hE0 := by rw [h_v237, h_v236, h_v235, h_v234, h_v233, h_v232, h_cst_37, h_v231, h_cst_36]; rfl)
    (hS0 := by rw [h_v245, h_cst_39, h_v244, h_v243, h_v242, h_v241, h_v240, h_v239, h_v238, h_cst_38]; rfl)
    (hN0 := by rw [h_v248, h_v247, h_cst_40, h_v246]; rfl)
    (hB1 := by rw [h_v263, h_v262, h_cst_43, h_v261, h_v260, h_v259, h_v258, h_v257, h_v256, h_v255, h_v254, h_cst_42, h_v253, h_v252, h_v251, h_v250, h_v249, h_cst_41]; rfl)
    (hE1 := by rw [h_v270, h_v269, h_v268, h_v267, h_v266, h_v265, h_cst_45, h_v264, h_cst_44]; rfl)
    (hS1 := by rw [h_v278, h_cst_47, h_v277, h_v276, h_v275, h_v274, h_v273, h_v272, h_v271, h_cst_46]; rfl)
    (hN1 := by rw [h_v281, h_v280, h_cst_48, h_v279]; rfl)
    (hB2 := by rw [h_v296, h_v295, h_cst_51, h_v294, h_v293, h_v292, h_v291, h_v290, h_v289, h_v288, h_v287, h_cst_50, h_v286, h_v285, h_v284, h_v283, h_v282, h_cst_49]; rfl)
    (hE2 := by rw [h_v303, h_v302, h_v301, h_v300, h_v299, h_v298, h_cst_53, h_v297, h_cst_52]; rfl)
    (hS2 := by rw [h_v311, h_cst_55, h_v310, h_v309, h_v308, h_v307, h_v306, h_v305, h_v304, h_cst_54]; rfl)
    (hN2 := by rw [h_v314, h_v313, h_cst_56, h_v312]; rfl)

theorem lay4 {d : Dev nD} {Z : Vl} (q6 : (part6 d).1 Z) (q7 : (part7 d).1 Z) (q8 : (part8 d).1 Z) {X : Nat → Nat → EReal}
    (hu : IsT (cst (s := s5 4 32 16 16 16) (Z (Proc.devRef .tc main_v324))) X) :
    IsT (cst (s := s5 8 32 16 16 16) (Z (Proc.devRef .tc main_v445)))
      (caps 2 4 32 8 32 X (wOf 4 256 32 (cst (s := s6 4 256 32 3 3 3) (Z (Proc.devRef .tc main_arg5))))) := by
  obtain ⟨-, -, -, -, -, -, -, -, -, -, -, -, -, -, -, -, -, -, -, -, -, -, -, -, -, -, h_c_59, ⟨h_call4_v0, h_v325, -⟩, h_v326, h_v327, h_v328, h_v329, h_v330, h_v331, h_v332, h_v333, h_v334, h_v335, h_v336, h_v337, h_v338, h_v339, h_v340, h_v341, h_v342, h_v343, h_v344, h_v345, h_v346, h_v347, h_v348, h_v349, h_v350, h_cst_60, h_v351, h_cst_61, h_v352, h_cst_62, h_v353, h_v354, -⟩ := q6
  obtain ⟨h_v355, h_v356, h_v357, h_v358, h_cst_63, h_v359, h_v360, h_v361, h_v362, h_v363, h_v364, h_v365, h_cst_64, h_v366, h_v367, h_cst_65, h_v368, h_v369, h_cst_66, h_v370, h_v371, h_v372, h_v373, h_v374, h_cst_67, h_v375, h_v376, h_v377, h_v378, h_v379, h_v380, h_v381, h_v382, h_cst_68, h_v383, h_v384, h_cst_69, h_v385, h_cst_70, h_v386, h_v387, h_v388, h_v389, h_v390, h_v391, h_cst_71, h_v392, h_v393, h_v394, h_v395, h_v396, h_v397, h_v398, h_cst_72, h_v399, h_v400, h_cst_73, h_v401, h_v402, h_cst_74, -⟩ := q7
  obtain ⟨h_v403, h_v404, h_v405, h_v406, h_v407, h_cst_75, h_v408, h_v409, h_v410, h_v411, h_v412, h_v413, h_v414, h_v415, h_cst_76, h_v416, h_v417, h_cst_77, h_v418, h_cst_78, h_v419, h_v420, h_v421, h_v422, h_v423, h_v424, h_cst_79, h_v425, h_v426, h_v427, h_v428, h_v429, h_v430, h_v431, h_cst_80, h_v432, h_v433, h_cst_81, h_v434, h_v435, h_cst_82, h_v436, h_v437, h_v438, h_v439, h_v440, h_cst_83, h_v441, h_v442, h_v443, h_v444, h_v445, -, ⟨-, -, -⟩, -, -, -, -, -, -, -⟩ := q8
  have e : (cst (s := s5 8 32 16 16 16) (Z (Proc.devRef .tc main_v445))) = rV (cst (s := s5 8 32 16 16 16) (Z (Proc.devRef .tc main_v432)))
      (cst (s := s5 8 1 16 16 16) (Z (Proc.devRef .tc main_v435))) := by rw [h_v445, h_v444, h_v443, h_v442, h_v441, h_cst_83, h_v440, h_v439, h_v438, h_v437, h_v436, h_cst_82]; rfl
  rw [e]
  exact layer3 (wf := Cert.ReferenceIdeal.Gen.dot_S4x256x32x27_S4x32x27x16x16x16_S4x256x16x16x16_23_12_1_345_0_0_wf)
    (hw := Cert.ReferenceIdeal.Gen.shapeCasts_S4x256x32x3x3x3_S4x256x32x27) (hx := Cert.ReferenceIdeal.Gen.shapeCasts_S4x32x3x3x3x16x16x16_S4x32x27x16x16x16)
    (hc := Cert.ReferenceIdeal.Gen.shapeCasts_S4x256x16x16x16_S4x8x32x16x16x16) (hp := Cert.ReferenceIdeal.Gen.pads_S4x32x16x16x16_S4x32x18x18x18_000_000_110_110_110)
    (w := (cst (s := s6 4 256 32 3 3 3) (Z (Proc.devRef .tc main_arg5)))) (u := (cst (s := s5 4 32 16 16 16) (Z (Proc.devRef .tc main_v324)))) (P := (cst (s := s5 4 32 18 18 18) (Z (Proc.devRef .tc main_v325)))) (W1 := (cst (s := s6 4 32 3 16 18 18) (Z (Proc.devRef .tc main_v332))))
    (W2 := (cst (s := s7 4 32 3 3 16 16 18) (Z (Proc.devRef .tc main_v339)))) (U := (cst (s := s6 4 8 32 16 16 16) (Z (Proc.devRef .tc main_v350))))
    (B0 := (cst (s := s5 4 8 16 16 16) (Z (Proc.devRef .tc main_v351)))) (E0 := (cst (s := s5 4 8 16 16 16) (Z (Proc.devRef .tc main_v358)))) (S0 := (cst (s := s5 8 32 16 16 16) (Z (Proc.devRef .tc main_v366)))) (N0 := (cst (s := s5 8 1 16 16 16) (Z (Proc.devRef .tc main_v369))))
    (B1 := (cst (s := s5 4 8 16 16 16) (Z (Proc.devRef .tc main_v384)))) (E1 := (cst (s := s5 4 8 16 16 16) (Z (Proc.devRef .tc main_v391)))) (S1 := (cst (s := s5 8 32 16 16 16) (Z (Proc.devRef .tc main_v399)))) (N1 := (cst (s := s5 8 1 16 16 16) (Z (Proc.devRef .tc main_v402))))
    (B2 := (cst (s := s5 4 8 16 16 16) (Z (Proc.devRef .tc main_v417)))) (E2 := (cst (s := s5 4 8 16 16 16) (Z (Proc.devRef .tc main_v424)))) (S2 := (cst (s := s5 8 32 16 16 16) (Z (Proc.devRef .tc main_v432)))) (N2 := (cst (s := s5 8 1 16 16 16) (Z (Proc.devRef .tc main_v435))))
    (hM := rfl) (hu := hu)
    (hP := by rw [h_v325, h_call4_v0, h_c_59]; rfl)
    (h1 := by rw [h_v332, h_v331, h_v330, h_v329, h_v328, h_v327, h_v326]; rfl)
    (h2 := by rw [h_v339, h_v338, h_v337, h_v336, h_v335, h_v334, h_v333]; rfl)
    (hU := by rw [h_v350, h_v349, h_v348, h_v347, h_v346, h_v345, h_v344, h_v343, h_v342, h_v341, h_v340]; rfl)
    (hB0 := by rw [h_v351, h_cst_60]; rfl)
    (hE0 := by rw [h_v358, h_v357, h_v356, h_v355, h_v354, h_v353, h_cst_62, h_v352, h_cst_61]; rfl)
    (hS0 := by rw [h_v366, h_cst_64, h_v365, h_v364, h_v363, h_v362, h_v361, h_v360, h_v359, h_cst_63]; rfl)
    (hN0 := by rw [h_v369, h_v368, h_cst_65, h_v367]; rfl)
    (hB1 := by rw [h_v384, h_v383, h_cst_68, h_v382, h_v381, h_v380, h_v379, h_v378, h_v377, h_v376, h_v375, h_cst_67, h_v374, h_v373, h_v372, h_v371, h_v370, h_cst_66]; rfl)
    (hE1 := by rw [h_v391, h_v390, h_v389, h_v388, h_v387, h_v386, h_cst_70, h_v385, h_cst_69]; rfl)
    (hS1 := by rw [h_v399, h_cst_72, h_v398, h_v397, h_v396, h_v395, h_v394, h_v393, h_v392, h_cst_71]; rfl)
    (hN1 := by rw [h_v402, h_v401, h_cst_73, h_v400]; rfl)
    (hB2 := by rw [h_v417, h_v416, h_cst_76, h_v415, h_v414, h_v413, h_v412, h_v411, h_v410, h_v409, h_v408, h_cst_75, h_v407, h_v406, h_v405, h_v404, h_v403, h_cst_74]; rfl)
    (hE2 := by rw [h_v424, h_v423, h_v422, h_v421, h_v420, h_v419, h_cst_78, h_v418, h_cst_77]; rfl)
    (hS2 := by rw [h_v432, h_cst_80, h_v431, h_v430, h_v429, h_v428, h_v427, h_v426, h_v425, h_cst_79]; rfl)
    (hN2 := by rw [h_v435, h_v434, h_cst_81, h_v433]; rfl)

end Cert.RefOps

end
-- ==== Proof.RefNet1.lean ====
/- The layers of the reference, read off the equations of its operations. -/
module

public import proofs.«01_k».proof.Proof.RefLine1
public import proofs.«01_k».proof.Proof.RefLine2
public import proofs.«01_k».proof.Proof.RefLine3
public import proofs.«01_k».proof.Proof.RefLayer

@[expose] public section

set_option maxRecDepth 8192
set_option maxHeartbeats 4000000

noncomputable section

namespace Cert.RefOps

open Caps Cert.ReferenceIdeal Cert.ReferenceIdeal.Gen Idealize.ShloMosaic Idealize.ShloMosaic.TcCoe Idealize.SL.Sem Idealize.ShloMosaic.StableHlo

theorem lay5 {d : Dev nD} {Z : Vl} (q8 : (part8 d).1 Z) (q9 : (part9 d).1 Z) (q10 : (part10 d).1 Z) (q11 : (part11 d).1 Z) {X : Nat → Nat → EReal}
    (hu : IsT (cst (s := s5 8 32 16 16 16) (Z (Proc.devRef .tc main_v445))) X) :
    IsT (cst (s := s5 8 64 16 16 16) (Z (Proc.devRef .tc main_v566)))
      (caps 2 8 32 8 64 X (wOf 8 512 32 (cst (s := s6 8 512 32 3 3 3) (Z (Proc.devRef .tc main_arg6))))) := by
  obtain ⟨-, -, -, -, -, -, -, -, -, -, -, -, -, -, -, -, -, -, -, -, -, -, -, -, -, -, -, -, -, -, -, -, -, -, -, -, -, -, -, -, -, -, -, -, -, -, -, -, -, -, -, -, h_c_84, ⟨h_call5_v0, h_v446, -⟩, h_v447, h_v448, h_v449, h_v450, h_v451, h_v452, -⟩ := q8
  obtain ⟨h_v453, h_v454, h_v455, h_v456, h_v457, h_v458, h_v459, h_v460, h_v461, h_v462, h_v463, h_v464, h_v465, h_v466, h_v467, h_v468, h_v469, h_v470, h_v471, h_cst_85, h_v472, h_cst_86, h_v473, h_cst_87, h_v474, h_v475, h_v476, h_v477, h_v478, h_v479, h_cst_88, h_v480, h_v481, h_v482, h_v483, h_v484, h_v485, h_v486, h_cst_89, h_v487, h_v488, h_cst_90, h_v489, h_v490, h_cst_91, h_v491, h_v492, h_v493, h_v494, h_v495, h_cst_92, h_v496, h_v497, h_v498, h_v499, h_v500, h_v501, h_v502, h_v503, h_cst_93, -⟩ := q9
  obtain ⟨h_v504, h_v505, h_cst_94, h_v506, h_cst_95, h_v507, h_v508, h_v509, h_v510, h_v511, h_v512, h_cst_96, h_v513, h_v514, h_v515, h_v516, h_v517, h_v518, h_v519, h_cst_97, h_v520, h_v521, h_cst_98, h_v522, h_v523, h_cst_99, h_v524, h_v525, h_v526, h_v527, h_v528, h_cst_100, h_v529, h_v530, h_v531, h_v532, h_v533, h_v534, h_v535, h_v536, h_cst_101, h_v537, h_v538, h_cst_102, h_v539, h_cst_103, h_v540, h_v541, h_v542, h_v543, h_v544, h_v545, h_cst_104, h_v546, h_v547, h_v548, h_v549, h_v550, h_v551, h_v552, -⟩ := q10
  obtain ⟨h_cst_105, h_v553, h_v554, h_cst_106, h_v555, h_v556, h_cst_107, h_v557, h_v558, h_v559, h_v560, h_v561, h_cst_108, h_v562, h_v563, h_v564, h_v565, h_v566, -, ⟨-, -, -⟩, -, -, -, -, -, -, -, -, -, -, -, -, -, -, -, -, -, -, -, -, -, -, -, -, -, -, -, -, -, -, -, -, -, -, -, -, -, -, -, -, -⟩ := q11
  have e : (cst (s := s5 8 64 16 16 16) (Z (Proc.devRef .tc main_v566))) = rV (cst (s := s5 8 64 16 16 16) (Z (Proc.devRef .tc main_v553)))
      (cst (s := s5 8 1 16 16 16) (Z (Proc.devRef .tc main_v556))) := by rw [h_v566, h_v565, h_v564, h_v563, h_v562, h_cst_108, h_v561, h_v560, h_v559, h_v558, h_v557, h_cst_107]; rfl
  rw [e]
  exact layer3 (wf := Cert.ReferenceIdeal.Gen.dot_S8x512x32x27_S8x32x27x16x16x16_S8x512x16x16x16_23_12_1_345_0_0_wf)
    (hw := Cert.ReferenceIdeal.Gen.shapeCasts_S8x512x32x3x3x3_S8x512x32x27) (hx := Cert.ReferenceIdeal.Gen.shapeCasts_S8x32x3x3x3x16x16x16_S8x32x27x16x16x16)
    (hc := Cert.ReferenceIdeal.Gen.shapeCasts_S8x512x16x16x16_S8x8x64x16x16x16) (hp := Cert.ReferenceIdeal.Gen.pads_S8x32x16x16x16_S8x32x18x18x18_000_000_110_110_110)
    (w := (cst (s := s6 8 512 32 3 3 3) (Z (Proc.devRef .tc main_arg6)))) (u := (cst (s := s5 8 32 16 16 16) (Z (Proc.devRef .tc main_v445)))) (P := (cst (s := s5 8 32 18 18 18) (Z (Proc.devRef .tc main_v446)))) (W1 := (cst (s := s6 8 32 3 16 18 18) (Z (Proc.devRef .tc main_v453))))
    (W2 := (cst (s := s7 8 32 3 3 16 16 18) (Z (Proc.devRef .tc main_v460)))) (U := (cst (s := s6 8 8 64 16 16 16) (Z (Proc.devRef .tc main_v471))))
    (B0 := (cst (s := s5 8 8 16 16 16) (Z (Proc.devRef .tc main_v472)))) (E0 := (cst (s := s5 8 8 16 16 16) (Z (Proc.devRef .tc main_v479)))) (S0 := (cst (s := s5 8 64 16 16 16) (Z (Proc.devRef .tc main_v487)))) (N0 := (cst (s := s5 8 1 16 16 16) (Z (Proc.devRef .tc main_v490))))
    (B1 := (cst (s := s5 8 8 16 16 16) (Z (Proc.devRef .tc main_v505)))) (E1 := (cst (s := s5 8 8 16 16 16) (Z (Proc.devRef .tc main_v512)))) (S1 := (cst (s := s5 8 64 16 16 16) (Z (Proc.devRef .tc main_v520)))) (N1 := (cst (s := s5 8 1 16 16 16) (Z (Proc.devRef .tc main_v523))))
    (B2 := (cst (s := s5 8 8 16 16 16) (Z (Proc.devRef .tc main_v538)))) (E2 := (cst (s := s5 8 8 16 16 16) (Z (Proc.devRef .tc main_v545)))) (S2 := (cst (s := s5 8 64 16 16 16) (Z (Proc.devRef .tc main_v553)))) (N2 := (cst (s := s5 8 1 16 16 16) (Z (Proc.devRef .tc main_v556))))
    (hM := rfl) (hu := hu)
    (hP := by rw [h_v446, h_call5_v0, h_c_84]; rfl)
    (h1 := by rw [h_v453, h_v452, h_v451, h_v450, h_v449, h_v448, h_v447]; rfl)
    (h2 := by rw [h_v460, h_v459, h_v458, h_v457, h_v456, h_v455, h_v454]; rfl)
    (hU := by rw [h_v471, h_v470, h_v469, h_v468, h_v467, h_v466, h_v465, h_v464, h_v463, h_v462, h_v461]; rfl)
    (hB0 := by rw [h_v472, h_cst_85]; rfl)
    (hE0 := by rw [h_v479, h_v478, h_v477, h_v476, h_v475, h_v474, h_cst_87, h_v473, h_cst_86]; rfl)
    (hS0 := by rw [h_v487, h_cst_89, h_v486, h_v485, h_v484, h_v483, h_v482, h_v481, h_v480, h_cst_88]; rfl)
    (hN0 := by rw [h_v490, h_v489, h_cst_90, h_v488]; rfl)
    (hB1 := by rw [h_v505, h_v504, h_cst_93, h_v503, h_v502, h_v501, h_v500, h_v499, h_v498, h_v497, h_v496, h_cst_92, h_v495, h_v494, h_v493, h_v492, h_v491, h_cst_91]; rfl)
    (hE1 := by rw [h_v512, h_v511, h_v510, h_v509, h_v508, h_v507, h_cst_95, h_v506, h_cst_94]; rfl)
    (hS1 := by rw [h_v520, h_cst_97, h_v519, h_v518, h_v517, h_v516, h_v515, h_v514, h_v513, h_cst_96]; rfl)
    (hN1 := by rw [h_v523, h_v522, h_cst_98, h_v521]; rfl)
    (hB2 := by rw [h_v538, h_v537, h_cst_101, h_v536, h_v535, h_v534, h_v533, h_v532, h_v531, h_v530, h_v529, h_cst_100, h_v528, h_v527, h_v526, h_v525, h_v524, h_cst_99]; rfl)
    (hE2 := by rw [h_v545, h_v544, h_v543, h_v542, h_v541, h_v540, h_cst_103, h_v539, h_cst_102]; rfl)
    (hS2 := by rw [h_v553, h_cst_105, h_v552, h_v551, h_v550, h_v549, h_v548, h_v547, h_v546, h_cst_104]; rfl)
    (hN2 := by rw [h_v556, h_v555, h_cst_106, h_v554]; rfl)

theorem lay6 {d : Dev nD} {Z : Vl} (q11 : (part11 d).1 Z) (q12 : (part12 d).1 Z) (q13 : (part13 d).1 Z) {X : Nat → Nat → EReal}
    (hu : IsT (cst (s := s5 8 64 16 16 16) (Z (Proc.devRef .tc main_v566))) X) :
    IsT (cst (s := s5 8 32 16 16 16) (Z (Proc.devRef .tc main_v687)))
      (caps 2 8 64 8 32 X (wOf 8 256 64 (cst (s := s6 8 256 64 3 3 3) (Z (Proc.devRef .tc main_arg7))))) := by
  obtain ⟨-, -, -, -, -, -, -, -, -, -, -, -, -, -, -, -, -, -, h_c_109, ⟨h_call6_v0, h_v567, -⟩, h_v568, h_v569, h_v570, h_v571, h_v572, h_v573, h_v574, h_v575, h_v576, h_v577, h_v578, h_v579, h_v580, h_v581, h_v582, h_v583, h_v584, h_v585, h_v586, h_v587, h_v588, h_v589, h_v590, h_v591, h_v592, h_cst_110, h_v593, h_cst_111, h_v594, h_cst_112, h_v595, h_v596, h_v597, h_v598, h_v599, h_v600, h_cst_113, h_v601, h_v602, h_v603, -⟩ := q11
  obtain ⟨h_v604, h_v605, h_v606, h_v607, h_cst_114, h_v608, h_v609, h_cst_115, h_v610, h_v611, h_cst_116, h_v612, h_v613, h_v614, h_v615, h_v616, h_cst_117, h_v617, h_v618, h_v619, h_v620, h_v621, h_v622, h_v623, h_v624, h_cst_118, h_v625, h_v626, h_cst_119, h_v627, h_cst_120, h_v628, h_v629, h_v630, h_v631, h_v632, h_v633, h_cst_121, h_v634, h_v635, h_v636, h_v637, h_v638, h_v639, h_v640, h_cst_122, h_v641, h_v642, h_cst_123, h_v643, h_v644, h_cst_124, h_v645, h_v646, h_v647, h_v648, h_v649, h_cst_125, h_v650, h_v651, -⟩ := q12
  obtain ⟨h_v652, h_v653, h_v654, h_v655, h_v656, h_v657, h_cst_126, h_v658, h_v659, h_cst_127, h_v660, h_cst_128, h_v661, h_v662, h_v663, h_v664, h_v665, h_v666, h_cst_129, h_v667, h_v668, h_v669, h_v670, h_v671, h_v672, h_v673, h_cst_130, h_v674, h_v675, h_cst_131, h_v676, h_v677, h_cst_132, h_v678, h_v679, h_v680, h_v681, h_v682, h_cst_133, h_v683, h_v684, h_v685, h_v686, h_v687, -, -, ⟨-, -, -⟩, -, -, -, -, -, -, -, -, -, -, -, -, -, -⟩ := q13
  have e : (cst (s := s5 8 32 16 16 16) (Z (Proc.devRef .tc main_v687))) = rV (cst (s := s5 8 32 16 16 16) (Z (Proc.devRef .tc main_v674)))
      (cst (s := s5 8 1 16 16 16) (Z (Proc.devRef .tc main_v677))) := by rw [h_v687, h_v686, h_v685, h_v684, h_v683, h_cst_133, h_v682, h_v681, h_v680, h_v679, h_v678, h_cst_132]; rfl
  rw [e]
  exact layer3 (wf := Cert.ReferenceIdeal.Gen.dot_S8x256x64x27_S8x64x27x16x16x16_S8x256x16x16x16_23_12_1_345_0_0_wf)
    (hw := Cert.ReferenceIdeal.Gen.shapeCasts_S8x256x64x3x3x3_S8x256x64x27) (hx := Cert.ReferenceIdeal.Gen.shapeCasts_S8x64x3x3x3x16x16x16_S8x64x27x16x16x16)
    (hc := Cert.ReferenceIdeal.Gen.shapeCasts_S8x256x16x16x16_S8x8x32x16x16x16) (hp := Cert.ReferenceIdeal.Gen.pads_S8x64x16x16x16_S8x64x18x18x18_000_000_110_110_110)
    (w := (cst (s := s6 8 256 64 3 3 3) (Z (Proc.devRef .tc main_arg7)))) (u := (cst (s := s5 8 64 16 16 16) (Z (Proc.devRef .tc main_v566)))) (P := (cst (s := s5 8 64 18 18 18) (Z (Proc.devRef .tc main_v567)))) (W1 := (cst (s := s6 8 64 3 16 18 18) (Z (Proc.devRef .tc main_v574))))
    (W2 := (cst (s := s7 8 64 3 3 16 16 18) (Z (Proc.devRef .tc main_v581)))) (U := (cst (s := s6 8 8 32 16 16 16) (Z (Proc.devRef .tc main_v592))))
    (B0 := (cst (s := s5 8 8 16 16 16) (Z (Proc.devRef .tc main_v593)))) (E0 := (cst (s := s5 8 8 16 16 16) (Z (Proc.devRef .tc main_v600)))) (S0 := (cst (s := s5 8 32 16 16 16) (Z (Proc.devRef .tc main_v608)))) (N0 := (cst (s := s5 8 1 16 16 16) (Z (Proc.devRef .tc main_v611))))
    (B1 := (cst (s := s5 8 8 16 16 16) (Z (Proc.devRef .tc main_v626)))) (E1 := (cst (s := s5 8 8 16 16 16) (Z (Proc.devRef .tc main_v633)))) (S1 := (cst (s := s5 8 32 16 16 16) (Z (Proc.devRef .tc main_v641)))) (N1 := (cst (s := s5 8 1 16 16 16) (Z (Proc.devRef .tc main_v644))))
    (B2 := (cst (s := s5 8 8 16 16 16) (Z (Proc.devRef .tc main_v659)))) (E2 := (cst (s := s5 8 8 16 16 16) (Z (Proc.devRef .tc main_v666)))) (S2 := (cst (s := s5 8 32 16 16 16) (Z (Proc.devRef .tc main_v674)))) (N2 := (cst (s := s5 8 1 16 16 16) (Z (Proc.devRef .tc main_v677))))
    (hM := rfl) (hu := hu)
    (hP := by rw [h_v567, h_call6_v0, h_c_109]; rfl)
    (h1 := by rw [h_v574, h_v573, h_v572, h_v571, h_v570, h_v569, h_v568]; rfl)
    (h2 := by rw [h_v581, h_v580, h_v579, h_v578, h_v577, h_v576, h_v575]; rfl)
    (hU := by rw [h_v592, h_v591, h_v590, h_v589, h_v588, h_v587, h_v586, h_v585, h_v584, h_v583, h_v582]; rfl)
    (hB0 := by rw [h_v593, h_cst_110]; rfl)
    (hE0 := by rw [h_v600, h_v599, h_v598, h_v597, h_v596, h_v595, h_cst_112, h_v594, h_cst_111]; rfl)
    (hS0 := by rw [h_v608, h_cst_114, h_v607, h_v606, h_v605, h_v604, h_v603, h_v602, h_v601, h_cst_113]; rfl)
    (hN0 := by rw [h_v611, h_v610, h_cst_115, h_v609]; rfl)
    (hB1 := by rw [h_v626, h_v625, h_cst_118, h_v624, h_v623, h_v622, h_v621, h_v620, h_v619, h_v618, h_v617, h_cst_117, h_v616, h_v615, h_v614, h_v613, h_v612, h_cst_116]; rfl)
    (hE1 := by rw [h_v633, h_v632, h_v631, h_v630, h_v629, h_v628, h_cst_120, h_v627, h_cst_119]; rfl)
    (hS1 := by rw [h_v641, h_cst_122, h_v640, h_v639, h_v638, h_v637, h_v636, h_v635, h_v634, h_cst_121]; rfl)
    (hN1 := by rw [h_v644, h_v643, h_cst_123, h_v642]; rfl)
    (hB2 := by rw [h_v659, h_v658, h_cst_126, h_v657, h_v656, h_v655, h_v654, h_v653, h_v652, h_v651, h_v650, h_cst_125, h_v649, h_v648, h_v647, h_v646, h_v645, h_cst_124]; rfl)
    (hE2 := by rw [h_v666, h_v665, h_v664, h_v663, h_v662, h_v661, h_cst_128, h_v660, h_cst_127]; rfl)
    (hS2 := by rw [h_v674, h_cst_130, h_v673, h_v672, h_v671, h_v670, h_v669, h_v668, h_v667, h_cst_129]; rfl)
    (hN2 := by rw [h_v677, h_v676, h_cst_131, h_v675]; rfl)

theorem lay7 {d : Dev nD} {Z : Vl} (q13 : (part13 d).1 Z) (q14 : (part14 d).1 Z) (q15 : (part15 d).1 Z) (q16 : (part16 d).1 Z) {X : Nat → Nat → EReal}
    (hu : IsT (cst (s := s5 8 32 16 16 16) (Z (Proc.devRef .tc main_v687))) X) :
    IsT (cst (s := s5 8 32 16 16 16) (Z (Proc.devRef .tc main_v809)))
      (caps 2 8 32 8 32 X (wOf 8 256 32 (cst (s := s6 8 256 32 3 3 3) (Z (Proc.devRef .tc main_v688))))) := by
  obtain ⟨-, -, -, -, -, -, -, -, -, -, -, -, -, -, -, -, -, -, -, -, -, -, -, -, -, -, -, -, -, -, -, -, -, -, -, -, -, -, -, -, -, -, -, -, -, h_c_134, ⟨h_call8_v0, h_v689, -⟩, h_v690, h_v691, h_v692, h_v693, h_v694, h_v695, h_v696, h_v697, h_v698, h_v699, h_v700, h_v701, h_v702, -⟩ := q13
  obtain ⟨h_v703, h_v704, h_v705, h_v706, h_v707, h_v708, h_v709, h_v710, h_v711, h_v712, h_v713, h_v714, h_cst_135, h_v715, h_cst_136, h_v716, h_cst_137, h_v717, h_v718, h_v719, h_v720, h_v721, h_v722, h_cst_138, h_v723, h_v724, h_v725, h_v726, h_v727, h_v728, h_v729, h_cst_139, h_v730, h_v731, h_cst_140, h_v732, h_v733, h_cst_141, h_v734, h_v735, h_v736, h_v737, h_v738, h_cst_142, h_v739, h_v740, h_v741, h_v742, h_v743, h_v744, h_v745, h_v746, h_cst_143, h_v747, h_v748, h_cst_144, h_v749, h_cst_145, h_v750, h_v751, -⟩ := q14
  obtain ⟨h_v752, h_v753, h_v754, h_v755, h_cst_146, h_v756, h_v757, h_v758, h_v759, h_v760, h_v761, h_v762, h_cst_147, h_v763, h_v764, h_cst_148, h_v765, h_v766, h_cst_149, h_v767, h_v768, h_v769, h_v770, h_v771, h_cst_150, h_v772, h_v773, h_v774, h_v775, h_v776, h_v777, h_v778, h_v779, h_cst_151, h_v780, h_v781, h_cst_152, h_v782, h_cst_153, h_v783, h_v784, h_v785, h_v786, h_v787, h_v788, h_cst_154, h_v789, h_v790, h_v791, h_v792, h_v793, h_v794, h_v795, h_cst_155, h_v796, h_v797, h_cst_156, h_v798, h_v799, h_cst_157, -⟩ := q15
  obtain ⟨h_v800, h_v801, h_v802, h_v803, h_v804, h_cst_158, h_v805, h_v806, h_v807, h_v808, h_v809, -, -, ⟨-, -, -⟩, -, -, -, -, -, -, -, -, -, -, -, -, -, -, -, -, -, -, -, -, -, -, -, -, -, -, -, -, -, -, -, -, -, -, -, -, -, -, -, -, -, -, -, -, -, -, -⟩ := q16
  have e : (cst (s := s5 8 32 16 16 16) (Z (Proc.devRef .tc main_v809))) = rV (cst (s := s5 8 32 16 16 16) (Z (Proc.devRef .tc main_v796)))
      (cst (s := s5 8 1 16 16 16) (Z (Proc.devRef .tc main_v799))) := by rw [h_v809, h_v808, h_v807, h_v806, h_v805, h_cst_158, h_v804, h_v803, h_v802, h_v801, h_v800, h_cst_157]; rfl
  rw [e]
  exact layer3 (wf := Cert.ReferenceIdeal.Gen.dot_S8x256x32x27_S8x32x27x16x16x16_S8x256x16x16x16_23_12_1_345_0_0_wf)
    (hw := Cert.ReferenceIdeal.Gen.shapeCasts_S8x256x32x3x3x3_S8x256x32x27) (hx := Cert.ReferenceIdeal.Gen.shapeCasts_S8x32x3x3x3x16x16x16_S8x32x27x16x16x16)
    (hc := Cert.ReferenceIdeal.Gen.shapeCasts_S8x256x16x16x16_S8x8x32x16x16x16) (hp := Cert.ReferenceIdeal.Gen.pads_S8x32x16x16x16_S8x32x18x18x18_000_000_110_110_110)
    (w := (cst (s := s6 8 256 32 3 3 3) (Z (Proc.devRef .tc main_v688)))) (u := (cst (s := s5 8 32 16 16 16) (Z (Proc.devRef .tc main_v687)))) (P := (cst (s := s5 8 32 18 18 18) (Z (Proc.devRef .tc main_v689)))) (W1 := (cst (s := s6 8 32 3 16 18 18) (Z (Proc.devRef .tc main_v696))))
    (W2 := (cst (s := s7 8 32 3 3 16 16 18) (Z (Proc.devRef .tc main_v703)))) (U := (cst (s := s6 8 8 32 16 16 16) (Z (Proc.devRef .tc main_v714))))
    (B0 := (cst (s := s5 8 8 16 16 16) (Z (Proc.devRef .tc main_v715)))) (E0 := (cst (s := s5 8 8 16 16 16) (Z (Proc.devRef .tc main_v722)))) (S0 := (cst (s := s5 8 32 16 16 16) (Z (Proc.devRef .tc main_v730)))) (N0 := (cst (s := s5 8 1 16 16 16) (Z (Proc.devRef .tc main_v733))))
    (B1 := (cst (s := s5 8 8 16 16 16) (Z (Proc.devRef .tc main_v748)))) (E1 := (cst (s := s5 8 8 16 16 16) (Z (Proc.devRef .tc main_v755)))) (S1 := (cst (s := s5 8 32 16 16 16) (Z (Proc.devRef .tc main_v763)))) (N1 := (cst (s := s5 8 1 16 16 16) (Z (Proc.devRef .tc main_v766))))
    (B2 := (cst (s := s5 8 8 16 16 16) (Z (Proc.devRef .tc main_v781)))) (E2 := (cst (s := s5 8 8 16 16 16) (Z (Proc.devRef .tc main_v788)))) (S2 := (cst (s := s5 8 32 16 16 16) (Z (Proc.devRef .tc main_v796)))) (N2 := (cst (s := s5 8 1 16 16 16) (Z (Proc.devRef .tc main_v799))))
    (hM := rfl) (hu := hu)
    (hP := by rw [h_v689, h_call8_v0, h_c_134]; rfl)
    (h1 := by rw [h_v696, h_v695, h_v694, h_v693, h_v692, h_v691, h_v690]; rfl)
    (h2 := by rw [h_v703, h_v702, h_v701, h_v700, h_v699, h_v698, h_v697]; rfl)
    (hU := by rw [h_v714, h_v713, h_v712, h_v711, h_v710, h_v709, h_v708, h_v707, h_v706, h_v705, h_v704]; rfl)
    (hB0 := by rw [h_v715, h_cst_135]; rfl)
    (hE0 := by rw [h_v722, h_v721, h_v720, h_v719, h_v718, h_v717, h_cst_137, h_v716, h_cst_136]; rfl)
    (hS0 := by rw [h_v730, h_cst_139, h_v729, h_v728, h_v727, h_v726, h_v725, h_v724, h_v723, h_cst_138]; rfl)
    (hN0 := by rw [h_v733, h_v732, h_cst_140, h_v731]; rfl)
    (hB1 := by rw [h_v748, h_v747, h_cst_143, h_v746, h_v745, h_v744, h_v743, h_v742, h_v741, h_v740, h_v739, h_cst_142, h_v738, h_v737, h_v736, h_v735, h_v734, h_cst_141]; rfl)
    (hE1 := by rw [h_v755, h_v754, h_v753, h_v752, h_v751, h_v750, h_cst_145, h_v749, h_cst_144]; rfl)
    (hS1 := by rw [h_v763, h_cst_147, h_v762, h_v761, h_v760, h_v759, h_v758, h_v757, h_v756, h_cst_146]; rfl)
    (hN1 := by rw [h_v766, h_v765, h_cst_148, h_v764]; rfl)
    (hB2 := by rw [h_v781, h_v780, h_cst_151, h_v779, h_v778, h_v777, h_v776, h_v775, h_v774, h_v773, h_v772, h_cst_150, h_v771, h_v770, h_v769, h_v768, h_v767, h_cst_149]; rfl)
    (hE2 := by rw [h_v788, h_v787, h_v786, h_v785, h_v784, h_v783, h_cst_153, h_v782, h_cst_152]; rfl)
    (hS2 := by rw [h_v796, h_cst_155, h_v795, h_v794, h_v793, h_v792, h_v791, h_v790, h_v789, h_cst_154]; rfl)
    (hN2 := by rw [h_v799, h_v798, h_cst_156, h_v797]; rfl)

theorem lay8 {d : Dev nD} {Z : Vl} (q16 : (part16 d).1 Z) (q17 : (part17 d).1 Z) (q18 : (part18 d).1 Z) {X : Nat → Nat → EReal}
    (hu : IsT (cst (s := s5 16 32 16 16 16) (Z (Proc.devRef .tc main_v810))) X) :
    IsT (cst (s := s5 4 32 16 16 16) (Z (Proc.devRef .tc main_v931)))
      (caps 2 16 32 4 32 X (wOf 16 128 32 (cst (s := s6 16 128 32 3 3 3) (Z (Proc.devRef .tc main_arg9))))) := by
  obtain ⟨-, -, -, -, -, -, -, -, -, -, -, -, h_c_159, ⟨h_call9_v0, h_v811, -⟩, h_v812, h_v813, h_v814, h_v815, h_v816, h_v817, h_v818, h_v819, h_v820, h_v821, h_v822, h_v823, h_v824, h_v825, h_v826, h_v827, h_v828, h_v829, h_v830, h_v831, h_v832, h_v833, h_v834, h_v835, h_v836, h_cst_160, h_v837, h_cst_161, h_v838, h_cst_162, h_v839, h_v840, h_v841, h_v842, h_v843, h_v844, h_cst_163, h_v845, h_v846, h_v847, h_v848, h_v849, h_v850, h_v851, h_cst_164, h_v852, -⟩ := q16
  obtain ⟨h_v853, h_cst_165, h_v854, h_v855, h_cst_166, h_v856, h_v857, h_v858, h_v859, h_v860, h_cst_167, h_v861, h_v862, h_v863, h_v864, h_v865, h_v866, h_v867, h_v868, h_cst_168, h_v869, h_v870, h_cst_169, h_v871, h_cst_170, h_v872, h_v873, h_v874, h_v875, h_v876, h_v877, h_cst_171, h_v878, h_v879, h_v880, h_v881, h_v882, h_v883, h_v884, h_cst_172, h_v885, h_v886, h_cst_173, h_v887, h_v888, h_cst_174, h_v889, h_v890, h_v891, h_v892, h_v893, h_cst_175, h_v894, h_v895, h_v896, h_v897, h_v898, h_v899, h_v900, h_v901, -⟩ := q17
  obtain ⟨h_cst_176, h_v902, h_v903, h_cst_177, h_v904, h_cst_178, h_v905, h_v906, h_v907, h_v908, h_v909, h_v910, h_cst_179, h_v911, h_v912, h_v913, h_v914, h_v915, h_v916, h_v917, h_cst_180, h_v918, h_v919, h_cst_181, h_v920, h_v921, h_cst_182, h_v922, h_v923, h_v924, h_v925, h_v926, h_cst_183, h_v927, h_v928, h_v929, h_v930, h_v931, -, -, ⟨-, -, -⟩, -, -, -, -, -, -, -, -, -, -, -, -, -, -, -, -, -, -, -, -⟩ := q18
  have e : (cst (s := s5 4 32 16 16 16) (Z (Proc.devRef .tc main_v931))) = rV (cst (s := s5 4 32 16 16 16) (Z (Proc.devRef .tc main_v918)))
      (cst (s := s5 4 1 16 16 16) (Z (Proc.devRef .tc main_v921))) := by rw [h_v931, h_v930, h_v929, h_v928, h_v927, h_cst_183, h_v926, h_v925, h_v924, h_v923, h_v922, h_cst_182]; rfl
  rw [e]
  exact layer3 (wf := Cert.ReferenceIdeal.Gen.dot_S16x128x32x27_S16x32x27x16x16x16_S16x128x16x16x16_23_12_1_345_0_0_wf)
    (hw := Cert.ReferenceIdeal.Gen.shapeCasts_S16x128x32x3x3x3_S16x128x32x27) (hx := Cert.ReferenceIdeal.Gen.shapeCasts_S16x32x3x3x3x16x16x16_S16x32x27x16x16x16)
    (hc := Cert.ReferenceIdeal.Gen.shapeCasts_S16x128x16x16x16_S16x4x32x16x16x16) (hp := Cert.ReferenceIdeal.Gen.pads_S16x32x16x16x16_S16x32x18x18x18_000_000_110_110_110)
    (w := (cst (s := s6 16 128 32 3 3 3) (Z (Proc.devRef .tc main_arg9)))) (u := (cst (s := s5 16 32 16 16 16) (Z (Proc.devRef .tc main_v810)))) (P := (cst (s := s5 16 32 18 18 18) (Z (Proc.devRef .tc main_v811)))) (W1 := (cst (s := s6 16 32 3 16 18 18) (Z (Proc.devRef .tc main_v818))))
    (W2 := (cst (s := s7 16 32 3 3 16 16 18) (Z (Proc.devRef .tc main_v825)))) (U := (cst (s := s6 16 4 32 16 16 16) (Z (Proc.devRef .tc main_v836))))
    (B0 := (cst (s := s5 16 4 16 16 16) (Z (Proc.devRef .tc main_v837)))) (E0 := (cst (s := s5 16 4 16 16 16) (Z (Proc.devRef .tc main_v844)))) (S0 := (cst (s := s5 4 32 16 16 16) (Z (Proc.devRef .tc main_v852)))) (N0 := (cst (s := s5 4 1 16 16 16) (Z (Proc.devRef .tc main_v855))))
    (B1 := (cst (s := s5 16 4 16 16 16) (Z (Proc.devRef .tc main_v870)))) (E1 := (cst (s := s5 16 4 16 16 16) (Z (Proc.devRef .tc main_v877)))) (S1 := (cst (s := s5 4 32 16 16 16) (Z (Proc.devRef .tc main_v885)))) (N1 := (cst (s := s5 4 1 16 16 16) (Z (Proc.devRef .tc main_v888))))
    (B2 := (cst (s := s5 16 4 16 16 16) (Z (Proc.devRef .tc main_v903)))) (E2 := (cst (s := s5 16 4 16 16 16) (Z (Proc.devRef .tc main_v910)))) (S2 := (cst (s := s5 4 32 16 16 16) (Z (Proc.devRef .tc main_v918)))) (N2 := (cst (s := s5 4 1 16 16 16) (Z (Proc.devRef .tc main_v921))))
    (hM := rfl) (hu := hu)
    (hP := by rw [h_v811, h_call9_v0, h_c_159]; rfl)
    (h1 := by rw [h_v818, h_v817, h_v816, h_v815, h_v814, h_v813, h_v812]; rfl)
    (h2 := by rw [h_v825, h_v824, h_v823, h_v822, h_v821, h_v820, h_v819]; rfl)
    (hU := by rw [h_v836, h_v835, h_v834, h_v833, h_v832, h_v831, h_v830, h_v829, h_v828, h_v827, h_v826]; rfl)
    (hB0 := by rw [h_v837, h_cst_160]; rfl)
    (hE0 := by rw [h_v844, h_v843, h_v842, h_v841, h_v840, h_v839, h_cst_162, h_v838, h_cst_161]; rfl)
    (hS0 := by rw [h_v852, h_cst_164, h_v851, h_v850, h_v849, h_v848, h_v847, h_v846, h_v845, h_cst_163]; rfl)
    (hN0 := by rw [h_v855, h_v854, h_cst_165, h_v853]; rfl)
    (hB1 := by rw [h_v870, h_v869, h_cst_168, h_v868, h_v867, h_v866, h_v865, h_v864, h_v863, h_v862, h_v861, h_cst_167, h_v860, h_v859, h_v858, h_v857, h_v856, h_cst_166]; rfl)
    (hE1 := by rw [h_v877, h_v876, h_v875, h_v874, h_v873, h_v872, h_cst_170, h_v871, h_cst_169]; rfl)
    (hS1 := by rw [h_v885, h_cst_172, h_v884, h_v883, h_v882, h_v881, h_v880, h_v879, h_v878, h_cst_171]; rfl)
    (hN1 := by rw [h_v888, h_v887, h_cst_173, h_v886]; rfl)
    (hB2 := by rw [h_v903, h_v902, h_cst_176, h_v901, h_v900, h_v899, h_v898, h_v897, h_v896, h_v895, h_v894, h_cst_175, h_v893, h_v892, h_v891, h_v890, h_v889, h_cst_174]; rfl)
    (hE2 := by rw [h_v910, h_v909, h_v908, h_v907, h_v906, h_v905, h_cst_178, h_v904, h_cst_177]; rfl)
    (hS2 := by rw [h_v918, h_cst_180, h_v917, h_v916, h_v915, h_v914, h_v913, h_v912, h_v911, h_cst_179]; rfl)
    (hN2 := by rw [h_v921, h_v920, h_cst_181, h_v919]; rfl)

end Cert.RefOps

end
-- ==== Proof.RefNet2.lean ====
/- The layers of the reference, read off the equations of its operations. -/
module

public import proofs.«01_k».proof.Proof.RefLine3
public import proofs.«01_k».proof.Proof.RefLine4
public import proofs.«01_k».proof.Proof.RefLayer

@[expose] public section

set_option maxRecDepth 8192
set_option maxHeartbeats 4000000

noncomputable section

namespace Cert.RefOps

open Caps Cert.ReferenceIdeal Cert.ReferenceIdeal.Gen Idealize.ShloMosaic Idealize.ShloMosaic.TcCoe Idealize.SL.Sem Idealize.ShloMosaic.StableHlo

theorem lay9 {d : Dev nD} {Z : Vl} (q18 : (part18 d).1 Z) (q19 : (part19 d).1 Z) (q20 : (part20 d).1 Z) (q21 : (part21 d).1 Z) {X : Nat → Nat → EReal}
    (hu : IsT (cst (s := s5 4 32 16 16 16) (Z (Proc.devRef .tc main_v931))) X) :
    IsT (cst (s := s5 4 16 16 16 16) (Z (Proc.devRef .tc main_v1053)))
      (caps 2 4 32 4 16 X (wOf 4 64 32 (cst (s := s6 4 64 32 3 3 3) (Z (Proc.devRef .tc main_v932))))) := by
  obtain ⟨-, -, -, -, -, -, -, -, -, -, -, -, -, -, -, -, -, -, -, -, -, -, -, -, -, -, -, -, -, -, -, -, -, -, -, -, -, -, -, h_c_184, ⟨h_call11_v0, h_v933, -⟩, h_v934, h_v935, h_v936, h_v937, h_v938, h_v939, h_v940, h_v941, h_v942, h_v943, h_v944, h_v945, h_v946, h_v947, h_v948, h_v949, h_v950, h_v951, h_v952, -⟩ := q18
  obtain ⟨h_v953, h_v954, h_v955, h_v956, h_v957, h_v958, h_cst_185, h_v959, h_cst_186, h_v960, h_cst_187, h_v961, h_v962, h_v963, h_v964, h_v965, h_v966, h_cst_188, h_v967, h_v968, h_v969, h_v970, h_v971, h_v972, h_v973, h_cst_189, h_v974, h_v975, h_cst_190, h_v976, h_v977, h_cst_191, h_v978, h_v979, h_v980, h_v981, h_v982, h_cst_192, h_v983, h_v984, h_v985, h_v986, h_v987, h_v988, h_v989, h_v990, h_cst_193, h_v991, h_v992, h_cst_194, h_v993, h_cst_195, h_v994, h_v995, h_v996, h_v997, h_v998, h_v999, h_cst_196, h_v1000, -⟩ := q19
  obtain ⟨h_v1001, h_v1002, h_v1003, h_v1004, h_v1005, h_v1006, h_cst_197, h_v1007, h_v1008, h_cst_198, h_v1009, h_v1010, h_cst_199, h_v1011, h_v1012, h_v1013, h_v1014, h_v1015, h_cst_200, h_v1016, h_v1017, h_v1018, h_v1019, h_v1020, h_v1021, h_v1022, h_v1023, h_cst_201, h_v1024, h_v1025, h_cst_202, h_v1026, h_cst_203, h_v1027, h_v1028, h_v1029, h_v1030, h_v1031, h_v1032, h_cst_204, h_v1033, h_v1034, h_v1035, h_v1036, h_v1037, h_v1038, h_v1039, h_cst_205, h_v1040, h_v1041, h_cst_206, h_v1042, h_v1043, h_cst_207, h_v1044, h_v1045, h_v1046, h_v1047, h_v1048, h_cst_208, -⟩ := q20
  obtain ⟨h_v1049, h_v1050, h_v1051, h_v1052, h_v1053, -, -, ⟨-, -, -⟩, -, -, -, -, -, -, -, -, -, -, -, -, -, -, -, -, -, -, -, -, -, -, -, -, -, -, -, -, -, -, -, -, -, -, -, -, -, -, -, -, -, -, -, -, -, -, -, -, -, -, -, -, -⟩ := q21
  have e : (cst (s := s5 4 16 16 16 16) (Z (Proc.devRef .tc main_v1053))) = rV (cst (s := s5 4 16 16 16 16) (Z (Proc.devRef .tc main_v1040)))
      (cst (s := s5 4 1 16 16 16) (Z (Proc.devRef .tc main_v1043))) := by rw [h_v1053, h_v1052, h_v1051, h_v1050, h_v1049, h_cst_208, h_v1048, h_v1047, h_v1046, h_v1045, h_v1044, h_cst_207]; rfl
  rw [e]
  exact layer3 (wf := Cert.ReferenceIdeal.Gen.dot_S4x64x32x27_S4x32x27x16x16x16_S4x64x16x16x16_23_12_1_345_0_0_wf)
    (hw := Cert.ReferenceIdeal.Gen.shapeCasts_S4x64x32x3x3x3_S4x64x32x27) (hx := Cert.ReferenceIdeal.Gen.shapeCasts_S4x32x3x3x3x16x16x16_S4x32x27x16x16x16)
    (hc := Cert.ReferenceIdeal.Gen.shapeCasts_S4x64x16x16x16_S4x4x16x16x16x16) (hp := Cert.ReferenceIdeal.Gen.pads_S4x32x16x16x16_S4x32x18x18x18_000_000_110_110_110)
    (w := (cst (s := s6 4 64 32 3 3 3) (Z (Proc.devRef .tc main_v932)))) (u := (cst (s := s5 4 32 16 16 16) (Z (Proc.devRef .tc main_v931)))) (P := (cst (s := s5 4 32 18 18 18) (Z (Proc.devRef .tc main_v933)))) (W1 := (cst (s := s6 4 32 3 16 18 18) (Z (Proc.devRef .tc main_v940))))
    (W2 := (cst (s := s7 4 32 3 3 16 16 18) (Z (Proc.devRef .tc main_v947)))) (U := (cst (s := s6 4 4 16 16 16 16) (Z (Proc.devRef .tc main_v958))))
    (B0 := (cst (s := s5 4 4 16 16 16) (Z (Proc.devRef .tc main_v959)))) (E0 := (cst (s := s5 4 4 16 16 16) (Z (Proc.devRef .tc main_v966)))) (S0 := (cst (s := s5 4 16 16 16 16) (Z (Proc.devRef .tc main_v974)))) (N0 := (cst (s := s5 4 1 16 16 16) (Z (Proc.devRef .tc main_v977))))
    (B1 := (cst (s := s5 4 4 16 16 16) (Z (Proc.devRef .tc main_v992)))) (E1 := (cst (s := s5 4 4 16 16 16) (Z (Proc.devRef .tc main_v999)))) (S1 := (cst (s := s5 4 16 16 16 16) (Z (Proc.devRef .tc main_v1007)))) (N1 := (cst (s := s5 4 1 16 16 16) (Z (Proc.devRef .tc main_v1010))))
    (B2 := (cst (s := s5 4 4 16 16 16) (Z (Proc.devRef .tc main_v1025)))) (E2 := (cst (s := s5 4 4 16 16 16) (Z (Proc.devRef .tc main_v1032)))) (S2 := (cst (s := s5 4 16 16 16 16) (Z (Proc.devRef .tc main_v1040)))) (N2 := (cst (s := s5 4 1 16 16 16) (Z (Proc.devRef .tc main_v1043))))
    (hM := rfl) (hu := hu)
    (hP := by rw [h_v933, h_call11_v0, h_c_184]; rfl)
    (h1 := by rw [h_v940, h_v939, h_v938, h_v937, h_v936, h_v935, h_v934]; rfl)
    (h2 := by rw [h_v947, h_v946, h_v945, h_v944, h_v943, h_v942, h_v941]; rfl)
    (hU := by rw [h_v958, h_v957, h_v956, h_v955, h_v954, h_v953, h_v952, h_v951, h_v950, h_v949, h_v948]; rfl)
    (hB0 := by rw [h_v959, h_cst_185]; rfl)
    (hE0 := by rw [h_v966, h_v965, h_v964, h_v963, h_v962, h_v961, h_cst_187, h_v960, h_cst_186]; rfl)
    (hS0 := by rw [h_v974, h_cst_189, h_v973, h_v972, h_v971, h_v970, h_v969, h_v968, h_v967, h_cst_188]; rfl)
    (hN0 := by rw [h_v977, h_v976, h_cst_190, h_v975]; rfl)
    (hB1 := by rw [h_v992, h_v991, h_cst_193, h_v990, h_v989, h_v988, h_v987, h_v986, h_v985, h_v984, h_v983, h_cst_192, h_v982, h_v981, h_v980, h_v979, h_v978, h_cst_191]; rfl)
    (hE1 := by rw [h_v999, h_v998, h_v997, h_v996, h_v995, h_v994, h_cst_195, h_v993, h_cst_194]; rfl)
    (hS1 := by rw [h_v1007, h_cst_197, h_v1006, h_v1005, h_v1004, h_v1003, h_v1002, h_v1001, h_v1000, h_cst_196]; rfl)
    (hN1 := by rw [h_v1010, h_v1009, h_cst_198, h_v1008]; rfl)
    (hB2 := by rw [h_v1025, h_v1024, h_cst_201, h_v1023, h_v1022, h_v1021, h_v1020, h_v1019, h_v1018, h_v1017, h_v1016, h_cst_200, h_v1015, h_v1014, h_v1013, h_v1012, h_v1011, h_cst_199]; rfl)
    (hE2 := by rw [h_v1032, h_v1031, h_v1030, h_v1029, h_v1028, h_v1027, h_cst_203, h_v1026, h_cst_202]; rfl)
    (hS2 := by rw [h_v1040, h_cst_205, h_v1039, h_v1038, h_v1037, h_v1036, h_v1035, h_v1034, h_v1033, h_cst_204]; rfl)
    (hN2 := by rw [h_v1043, h_v1042, h_cst_206, h_v1041]; rfl)

theorem lay10 {d : Dev nD} {Z : Vl} (q21 : (part21 d).1 Z) (q22 : (part22 d).1 Z) (q23 : (part23 d).1 Z) {X : Nat → Nat → EReal}
    (hu : IsT (cst (s := s5 8 16 16 16 16) (Z (Proc.devRef .tc main_v1054))) X) :
    IsT (cst (s := s5 4 16 16 16 16) (Z (Proc.devRef .tc main_v1175)))
      (caps 2 8 16 4 16 X (wOf 8 64 16 (cst (s := s6 8 64 16 3 3 3) (Z (Proc.devRef .tc main_arg11))))) := by
  obtain ⟨-, -, -, -, -, -, h_c_209, ⟨h_call12_v0, h_v1055, -⟩, h_v1056, h_v1057, h_v1058, h_v1059, h_v1060, h_v1061, h_v1062, h_v1063, h_v1064, h_v1065, h_v1066, h_v1067, h_v1068, h_v1069, h_v1070, h_v1071, h_v1072, h_v1073, h_v1074, h_v1075, h_v1076, h_v1077, h_v1078, h_v1079, h_v1080, h_cst_210, h_v1081, h_cst_211, h_v1082, h_cst_212, h_v1083, h_v1084, h_v1085, h_v1086, h_v1087, h_v1088, h_cst_213, h_v1089, h_v1090, h_v1091, h_v1092, h_v1093, h_v1094, h_v1095, h_cst_214, h_v1096, h_v1097, h_cst_215, h_v1098, h_v1099, h_cst_216, h_v1100, -⟩ := q21
  obtain ⟨h_v1101, h_v1102, h_v1103, h_v1104, h_cst_217, h_v1105, h_v1106, h_v1107, h_v1108, h_v1109, h_v1110, h_v1111, h_v1112, h_cst_218, h_v1113, h_v1114, h_cst_219, h_v1115, h_cst_220, h_v1116, h_v1117, h_v1118, h_v1119, h_v1120, h_v1121, h_cst_221, h_v1122, h_v1123, h_v1124, h_v1125, h_v1126, h_v1127, h_v1128, h_cst_222, h_v1129, h_v1130, h_cst_223, h_v1131, h_v1132, h_cst_224, h_v1133, h_v1134, h_v1135, h_v1136, h_v1137, h_cst_225, h_v1138, h_v1139, h_v1140, h_v1141, h_v1142, h_v1143, h_v1144, h_v1145, h_cst_226, h_v1146, h_v1147, h_cst_227, h_v1148, h_cst_228, -⟩ := q22
  obtain ⟨h_v1149, h_v1150, h_v1151, h_v1152, h_v1153, h_v1154, h_cst_229, h_v1155, h_v1156, h_v1157, h_v1158, h_v1159, h_v1160, h_v1161, h_cst_230, h_v1162, h_v1163, h_cst_231, h_v1164, h_v1165, h_cst_232, h_v1166, h_v1167, h_v1168, h_v1169, h_v1170, h_cst_233, h_v1171, h_v1172, h_v1173, h_v1174, h_v1175, -, -, ⟨-, -, -⟩, -, -, -, -, -, -, -, -, -, -, -, -, -, -, -, -, -, -, -, -, -, -, -, -, -, -⟩ := q23
  have e : (cst (s := s5 4 16 16 16 16) (Z (Proc.devRef .tc main_v1175))) = rV (cst (s := s5 4 16 16 16 16) (Z (Proc.devRef .tc main_v1162)))
      (cst (s := s5 4 1 16 16 16) (Z (Proc.devRef .tc main_v1165))) := by rw [h_v1175, h_v1174, h_v1173, h_v1172, h_v1171, h_cst_233, h_v1170, h_v1169, h_v1168, h_v1167, h_v1166, h_cst_232]; rfl
  rw [e]
  exact layer3 (wf := Cert.ReferenceIdeal.Gen.dot_S8x64x16x27_S8x16x27x16x16x16_S8x64x16x16x16_23_12_1_345_0_0_wf)
    (hw := Cert.ReferenceIdeal.Gen.shapeCasts_S8x64x16x3x3x3_S8x64x16x27) (hx := Cert.ReferenceIdeal.Gen.shapeCasts_S8x16x3x3x3x16x16x16_S8x16x27x16x16x16)
    (hc := Cert.ReferenceIdeal.Gen.shapeCasts_S8x64x16x16x16_S8x4x16x16x16x16) (hp := Cert.ReferenceIdeal.Gen.pads_S8x16x16x16x16_S8x16x18x18x18_000_000_110_110_110)
    (w := (cst (s := s6 8 64 16 3 3 3) (Z (Proc.devRef .tc main_arg11)))) (u := (cst (s := s5 8 16 16 16 16) (Z (Proc.devRef .tc main_v1054)))) (P := (cst (s := s5 8 16 18 18 18) (Z (Proc.devRef .tc main_v1055)))) (W1 := (cst (s := s6 8 16 3 16 18 18) (Z (Proc.devRef .tc main_v1062))))
    (W2 := (cst (s := s7 8 16 3 3 16 16 18) (Z (Proc.devRef .tc main_v1069)))) (U := (cst (s := s6 8 4 16 16 16 16) (Z (Proc.devRef .tc main_v1080))))
    (B0 := (cst (s := s5 8 4 16 16 16) (Z (Proc.devRef .tc main_v1081)))) (E0 := (cst (s := s5 8 4 16 16 16) (Z (Proc.devRef .tc main_v1088)))) (S0 := (cst (s := s5 4 16 16 16 16) (Z (Proc.devRef .tc main_v1096)))) (N0 := (cst (s := s5 4 1 16 16 16) (Z (Proc.devRef .tc main_v1099))))
    (B1 := (cst (s := s5 8 4 16 16 16) (Z (Proc.devRef .tc main_v1114)))) (E1 := (cst (s := s5 8 4 16 16 16) (Z (Proc.devRef .tc main_v1121)))) (S1 := (cst (s := s5 4 16 16 16 16) (Z (Proc.devRef .tc main_v1129)))) (N1 := (cst (s := s5 4 1 16 16 16) (Z (Proc.devRef .tc main_v1132))))
    (B2 := (cst (s := s5 8 4 16 16 16) (Z (Proc.devRef .tc main_v1147)))) (E2 := (cst (s := s5 8 4 16 16 16) (Z (Proc.devRef .tc main_v1154)))) (S2 := (cst (s := s5 4 16 16 16 16) (Z (Proc.devRef .tc main_v1162)))) (N2 := (cst (s := s5 4 1 16 16 16) (Z (Proc.devRef .tc main_v1165))))
    (hM := rfl) (hu := hu)
    (hP := by rw [h_v1055, h_call12_v0, h_c_209]; rfl)
    (h1 := by rw [h_v1062, h_v1061, h_v1060, h_v1059, h_v1058, h_v1057, h_v1056]; rfl)
    (h2 := by rw [h_v1069, h_v1068, h_v1067, h_v1066, h_v1065, h_v1064, h_v1063]; rfl)
    (hU := by rw [h_v1080, h_v1079, h_v1078, h_v1077, h_v1076, h_v1075, h_v1074, h_v1073, h_v1072, h_v1071, h_v1070]; rfl)
    (hB0 := by rw [h_v1081, h_cst_210]; rfl)
    (hE0 := by rw [h_v1088, h_v1087, h_v1086, h_v1085, h_v1084, h_v1083, h_cst_212, h_v1082, h_cst_211]; rfl)
    (hS0 := by rw [h_v1096, h_cst_214, h_v1095, h_v1094, h_v1093, h_v1092, h_v1091, h_v1090, h_v1089, h_cst_213]; rfl)
    (hN0 := by rw [h_v1099, h_v1098, h_cst_215, h_v1097]; rfl)
    (hB1 := by rw [h_v1114, h_v1113, h_cst_218, h_v1112, h_v1111, h_v1110, h_v1109, h_v1108, h_v1107, h_v1106, h_v1105, h_cst_217, h_v1104, h_v1103, h_v1102, h_v1101, h_v1100, h_cst_216]; rfl)
    (hE1 := by rw [h_v1121, h_v1120, h_v1119, h_v1118, h_v1117, h_v1116, h_cst_220, h_v1115, h_cst_219]; rfl)
    (hS1 := by rw [h_v1129, h_cst_222, h_v1128, h_v1127, h_v1126, h_v1125, h_v1124, h_v1123, h_v1122, h_cst_221]; rfl)
    (hN1 := by rw [h_v1132, h_v1131, h_cst_223, h_v1130]; rfl)
    (hB2 := by rw [h_v1147, h_v1146, h_cst_226, h_v1145, h_v1144, h_v1143, h_v1142, h_v1141, h_v1140, h_v1139, h_v1138, h_cst_225, h_v1137, h_v1136, h_v1135, h_v1134, h_v1133, h_cst_224]; rfl)
    (hE2 := by rw [h_v1154, h_v1153, h_v1152, h_v1151, h_v1150, h_v1149, h_cst_228, h_v1148, h_cst_227]; rfl)
    (hS2 := by rw [h_v1162, h_cst_230, h_v1161, h_v1160, h_v1159, h_v1158, h_v1157, h_v1156, h_v1155, h_cst_229]; rfl)
    (hN2 := by rw [h_v1165, h_v1164, h_cst_231, h_v1163]; rfl)

theorem lay11 {d : Dev nD} {Z : Vl} (q23 : (part23 d).1 Z) (q24 : (part24 d).1 Z) (q25 : (part25 d).1 Z) {X : Nat → Nat → EReal}
    (hu : IsT (cst (s := s5 4 16 16 16 16) (Z (Proc.devRef .tc main_v1175))) X) :
    IsT (cst (s := s5 2 16 16 16 16) (Z (Proc.devRef .tc main_v1297)))
      (caps 2 4 16 2 16 X (wOf 4 32 16 (cst (s := s6 4 32 16 3 3 3) (Z (Proc.devRef .tc main_v1176))))) := by
  obtain ⟨-, -, -, -, -, -, -, -, -, -, -, -, -, -, -, -, -, -, -, -, -, -, -, -, -, -, -, -, -, -, -, -, -, h_c_234, ⟨h_call14_v0, h_v1177, -⟩, h_v1178, h_v1179, h_v1180, h_v1181, h_v1182, h_v1183, h_v1184, h_v1185, h_v1186, h_v1187, h_v1188, h_v1189, h_v1190, h_v1191, h_v1192, h_v1193, h_v1194, h_v1195, h_v1196, h_v1197, h_v1198, h_v1199, h_v1200, h_v1201, h_v1202, -⟩ := q23
  obtain ⟨h_cst_235, h_v1203, h_cst_236, h_v1204, h_cst_237, h_v1205, h_v1206, h_v1207, h_v1208, h_v1209, h_v1210, h_cst_238, h_v1211, h_v1212, h_v1213, h_v1214, h_v1215, h_v1216, h_v1217, h_cst_239, h_v1218, h_v1219, h_cst_240, h_v1220, h_v1221, h_cst_241, h_v1222, h_v1223, h_v1224, h_v1225, h_v1226, h_cst_242, h_v1227, h_v1228, h_v1229, h_v1230, h_v1231, h_v1232, h_v1233, h_v1234, h_cst_243, h_v1235, h_v1236, h_cst_244, h_v1237, h_cst_245, h_v1238, h_v1239, h_v1240, h_v1241, h_v1242, h_v1243, h_cst_246, h_v1244, h_v1245, h_v1246, h_v1247, h_v1248, h_v1249, h_v1250, -⟩ := q24
  obtain ⟨h_cst_247, h_v1251, h_v1252, h_cst_248, h_v1253, h_v1254, h_cst_249, h_v1255, h_v1256, h_v1257, h_v1258, h_v1259, h_cst_250, h_v1260, h_v1261, h_v1262, h_v1263, h_v1264, h_v1265, h_v1266, h_v1267, h_cst_251, h_v1268, h_v1269, h_cst_252, h_v1270, h_cst_253, h_v1271, h_v1272, h_v1273, h_v1274, h_v1275, h_v1276, h_cst_254, h_v1277, h_v1278, h_v1279, h_v1280, h_v1281, h_v1282, h_v1283, h_cst_255, h_v1284, h_v1285, h_cst_256, h_v1286, h_v1287, h_cst_257, h_v1288, h_v1289, h_v1290, h_v1291, h_v1292, h_cst_258, h_v1293, h_v1294, h_v1295, h_v1296, h_v1297, -, -⟩ := q25
  have e : (cst (s := s5 2 16 16 16 16) (Z (Proc.devRef .tc main_v1297))) = rV (cst (s := s5 2 16 16 16 16) (Z (Proc.devRef .tc main_v1284)))
      (cst (s := s5 2 1 16 16 16) (Z (Proc.devRef .tc main_v1287))) := by rw [h_v1297, h_v1296, h_v1295, h_v1294, h_v1293, h_cst_258, h_v1292, h_v1291, h_v1290, h_v1289, h_v1288, h_cst_257]; rfl
  rw [e]
  exact layer3 (wf := Cert.ReferenceIdeal.Gen.dot_S4x32x16x27_S4x16x27x16x16x16_S4x32x16x16x16_23_12_1_345_0_0_wf)
    (hw := Cert.ReferenceIdeal.Gen.shapeCasts_S4x32x16x3x3x3_S4x32x16x27) (hx := Cert.ReferenceIdeal.Gen.shapeCasts_S4x16x3x3x3x16x16x16_S4x16x27x16x16x16)
    (hc := Cert.ReferenceIdeal.Gen.shapeCasts_S4x32x16x16x16_S4x2x16x16x16x16) (hp := Cert.ReferenceIdeal.Gen.pads_S4x16x16x16x16_S4x16x18x18x18_000_000_110_110_110)
    (w := (cst (s := s6 4 32 16 3 3 3) (Z (Proc.devRef .tc main_v1176)))) (u := (cst (s := s5 4 16 16 16 16) (Z (Proc.devRef .tc main_v1175)))) (P := (cst (s := s5 4 16 18 18 18) (Z (Proc.devRef .tc main_v1177)))) (W1 := (cst (s := s6 4 16 3 16 18 18) (Z (Proc.devRef .tc main_v1184))))
    (W2 := (cst (s := s7 4 16 3 3 16 16 18) (Z (Proc.devRef .tc main_v1191)))) (U := (cst (s := s6 4 2 16 16 16 16) (Z (Proc.devRef .tc main_v1202))))
    (B0 := (cst (s := s5 4 2 16 16 16) (Z (Proc.devRef .tc main_v1203)))) (E0 := (cst (s := s5 4 2 16 16 16) (Z (Proc.devRef .tc main_v1210)))) (S0 := (cst (s := s5 2 16 16 16 16) (Z (Proc.devRef .tc main_v1218)))) (N0 := (cst (s := s5 2 1 16 16 16) (Z (Proc.devRef .tc main_v1221))))
    (B1 := (cst (s := s5 4 2 16 16 16) (Z (Proc.devRef .tc main_v1236)))) (E1 := (cst (s := s5 4 2 16 16 16) (Z (Proc.devRef .tc main_v1243)))) (S1 := (cst (s := s5 2 16 16 16 16) (Z (Proc.devRef .tc main_v1251)))) (N1 := (cst (s := s5 2 1 16 16 16) (Z (Proc.devRef .tc main_v1254))))
    (B2 := (cst (s := s5 4 2 16 16 16) (Z (Proc.devRef .tc main_v1269)))) (E2 := (cst (s := s5 4 2 16 16 16) (Z (Proc.devRef .tc main_v1276)))) (S2 := (cst (s := s5 2 16 16 16 16) (Z (Proc.devRef .tc main_v1284)))) (N2 := (cst (s := s5 2 1 16 16 16) (Z (Proc.devRef .tc main_v1287))))
    (hM := rfl) (hu := hu)
    (hP := by rw [h_v1177, h_call14_v0, h_c_234]; rfl)
    (h1 := by rw [h_v1184, h_v1183, h_v1182, h_v1181, h_v1180, h_v1179, h_v1178]; rfl)
    (h2 := by rw [h_v1191, h_v1190, h_v1189, h_v1188, h_v1187, h_v1186, h_v1185]; rfl)
    (hU := by rw [h_v1202, h_v1201, h_v1200, h_v1199, h_v1198, h_v1197, h_v1196, h_v1195, h_v1194, h_v1193, h_v1192]; rfl)
    (hB0 := by rw [h_v1203, h_cst_235]; rfl)
    (hE0 := by rw [h_v1210, h_v1209, h_v1208, h_v1207, h_v1206, h_v1205, h_cst_237, h_v1204, h_cst_236]; rfl)
    (hS0 := by rw [h_v1218, h_cst_239, h_v1217, h_v1216, h_v1215, h_v1214, h_v1213, h_v1212, h_v1211, h_cst_238]; rfl)
    (hN0 := by rw [h_v1221, h_v1220, h_cst_240, h_v1219]; rfl)
    (hB1 := by rw [h_v1236, h_v1235, h_cst_243, h_v1234, h_v1233, h_v1232, h_v1231, h_v1230, h_v1229, h_v1228, h_v1227, h_cst_242, h_v1226, h_v1225, h_v1224, h_v1223, h_v1222, h_cst_241]; rfl)
    (hE1 := by rw [h_v1243, h_v1242, h_v1241, h_v1240, h_v1239, h_v1238, h_cst_245, h_v1237, h_cst_244]; rfl)
    (hS1 := by rw [h_v1251, h_cst_247, h_v1250, h_v1249, h_v1248, h_v1247, h_v1246, h_v1245, h_v1244, h_cst_246]; rfl)
    (hN1 := by rw [h_v1254, h_v1253, h_cst_248, h_v1252]; rfl)
    (hB2 := by rw [h_v1269, h_v1268, h_cst_251, h_v1267, h_v1266, h_v1265, h_v1264, h_v1263, h_v1262, h_v1261, h_v1260, h_cst_250, h_v1259, h_v1258, h_v1257, h_v1256, h_v1255, h_cst_249]; rfl)
    (hE2 := by rw [h_v1276, h_v1275, h_v1274, h_v1273, h_v1272, h_v1271, h_cst_253, h_v1270, h_cst_252]; rfl)
    (hS2 := by rw [h_v1284, h_cst_255, h_v1283, h_v1282, h_v1281, h_v1280, h_v1279, h_v1278, h_v1277, h_cst_254]; rfl)
    (hN2 := by rw [h_v1287, h_v1286, h_cst_256, h_v1285]; rfl)

theorem lay12 {d : Dev nD} {Z : Vl} (q26 : (part26 d).1 Z) (q27 : (part27 d).1 Z) (q28 : (part28 d).1 Z) {X : Nat → Nat → EReal}
    (hu : IsT (cst (s := s5 3 16 16 16 16) (Z (Proc.devRef .tc main_v1298))) X) :
    IsP (cst (s := s5 1 16 16 16 16) (Z (Proc.devRef .tc main_v1413)))
      (fun p => route 2 (uhv 3 16 1 16 1 X (wOf 3 16 16 (cst (s := s6 3 16 16 3 3 3) (Z (Proc.devRef .tc main_arg13)))) p)) := by
  obtain ⟨h_c_259, ⟨h_call15_v0, h_v1299, -⟩, h_v1300, h_v1301, h_v1302, h_v1303, h_v1304, h_v1305, h_v1306, h_v1307, h_v1308, h_v1309, h_v1310, h_v1311, h_v1312, h_v1313, h_v1314, h_v1315, h_v1316, h_v1317, h_v1318, h_v1319, h_v1320, h_v1321, h_v1322, h_v1323, h_v1324, h_cst_260, h_v1325, h_cst_261, h_v1326, h_cst_262, h_v1327, h_v1328, h_v1329, h_v1330, h_v1331, h_cst_263, h_v1332, h_v1333, h_v1334, h_v1335, h_v1336, h_v1337, h_cst_264, h_v1338, h_v1339, h_cst_265, h_v1340, h_v1341, h_cst_266, h_v1342, h_v1343, h_v1344, h_v1345, h_v1346, h_cst_267, h_v1347, h_v1348, h_v1349, -⟩ := q26
  obtain ⟨h_v1350, h_v1351, h_v1352, h_v1353, h_v1354, h_cst_268, h_v1355, h_v1356, h_cst_269, h_v1357, h_cst_270, h_v1358, h_v1359, h_v1360, h_v1361, h_v1362, h_cst_271, h_v1363, h_v1364, h_v1365, h_v1366, h_v1367, h_v1368, h_cst_272, h_v1369, h_v1370, h_cst_273, h_v1371, h_v1372, h_cst_274, h_v1373, h_v1374, h_v1375, h_v1376, h_v1377, h_cst_275, h_v1378, h_v1379, h_v1380, h_v1381, h_v1382, h_v1383, h_v1384, h_v1385, h_cst_276, h_v1386, h_v1387, h_cst_277, h_v1388, h_cst_278, h_v1389, h_v1390, h_v1391, h_v1392, h_v1393, h_cst_279, h_v1394, h_v1395, h_v1396, h_v1397, -⟩ := q27
  obtain ⟨h_v1398, h_v1399, h_cst_280, h_v1400, h_v1401, h_cst_281, h_v1402, h_v1403, h_cst_282, h_v1404, h_v1405, h_v1406, h_v1407, h_v1408, h_cst_283, h_v1409, h_v1410, h_v1411, h_v1412, h_v1413, -, -, -, -, -, -, -, -, -, -⟩ := q28
  have e : (cst (s := s5 1 16 16 16 16) (Z (Proc.devRef .tc main_v1413))) = rV (cst (s := s5 1 16 16 16 16) (Z (Proc.devRef .tc main_v1400)))
      (cst (s := s5 1 1 16 16 16) (Z (Proc.devRef .tc main_v1403))) := by rw [h_v1413, h_v1412, h_v1411, h_v1410, h_v1409, h_cst_283, h_v1408, h_v1407, h_v1406, h_v1405, h_v1404, h_cst_282]; rfl
  rw [e]
  exact layer3P (wf := Cert.ReferenceIdeal.Gen.dot_S3x16x16x27_S3x16x27x16x16x16_S3x16x16x16x16_23_12_1_345_0_0_wf)
    (hw := Cert.ReferenceIdeal.Gen.shapeCasts_S3x16x16x3x3x3_S3x16x16x27) (hx := Cert.ReferenceIdeal.Gen.shapeCasts_S3x16x3x3x3x16x16x16_S3x16x27x16x16x16)
    (hc := Cert.ReferenceIdeal.Gen.shapeCasts_S3x16x16x16x16_S3x1x16x16x16x16) (hp := Cert.ReferenceIdeal.Gen.pads_S3x16x16x16x16_S3x16x18x18x18_000_000_110_110_110)
    (w := (cst (s := s6 3 16 16 3 3 3) (Z (Proc.devRef .tc main_arg13)))) (u := (cst (s := s5 3 16 16 16 16) (Z (Proc.devRef .tc main_v1298)))) (P := (cst (s := s5 3 16 18 18 18) (Z (Proc.devRef .tc main_v1299)))) (W1 := (cst (s := s6 3 16 3 16 18 18) (Z (Proc.devRef .tc main_v1306))))
    (W2 := (cst (s := s7 3 16 3 3 16 16 18) (Z (Proc.devRef .tc main_v1313)))) (U := (cst (s := s6 3 1 16 16 16 16) (Z (Proc.devRef .tc main_v1324))))
    (B0 := (cst (s := s5 3 1 16 16 16) (Z (Proc.devRef .tc main_v1325)))) (E0 := (cst (s := s5 3 1 16 16 16) (Z (Proc.devRef .tc main_v1331)))) (S0 := (cst (s := s5 1 16 16 16 16) (Z (Proc.devRef .tc main_v1338)))) (N0 := (cst (s := s5 1 1 16 16 16) (Z (Proc.devRef .tc main_v1341))))
    (B1 := (cst (s := s5 3 1 16 16 16) (Z (Proc.devRef .tc main_v1356)))) (E1 := (cst (s := s5 3 1 16 16 16) (Z (Proc.devRef .tc main_v1362)))) (S1 := (cst (s := s5 1 16 16 16 16) (Z (Proc.devRef .tc main_v1369)))) (N1 := (cst (s := s5 1 1 16 16 16) (Z (Proc.devRef .tc main_v1372))))
    (B2 := (cst (s := s5 3 1 16 16 16) (Z (Proc.devRef .tc main_v1387)))) (E2 := (cst (s := s5 3 1 16 16 16) (Z (Proc.devRef .tc main_v1393)))) (S2 := (cst (s := s5 1 16 16 16 16) (Z (Proc.devRef .tc main_v1400)))) (N2 := (cst (s := s5 1 1 16 16 16) (Z (Proc.devRef .tc main_v1403))))
    (br := br1 3)
    (hbr := br1_apply) (hM := rfl) (hu := hu)
    (hP := by rw [h_v1299, h_call15_v0, h_c_259]; rfl)
    (h1 := by rw [h_v1306, h_v1305, h_v1304, h_v1303, h_v1302, h_v1301, h_v1300]; rfl)
    (h2 := by rw [h_v1313, h_v1312, h_v1311, h_v1310, h_v1309, h_v1308, h_v1307]; rfl)
    (hU := by rw [h_v1324, h_v1323, h_v1322, h_v1321, h_v1320, h_v1319, h_v1318, h_v1317, h_v1316, h_v1315, h_v1314]; rfl)
    (hB0 := by rw [h_v1325, h_cst_260]; rfl)
    (hE0 := by rw [h_v1331, h_v1330, h_v1329, h_v1328, h_v1327, h_cst_262, h_v1326, h_cst_261]; rfl)
    (hS0 := by rw [h_v1338, h_cst_264, h_v1337, h_v1336, h_v1335, h_v1334, h_v1333, h_v1332, h_cst_263]; rfl)
    (hN0 := by rw [h_v1341, h_v1340, h_cst_265, h_v1339]; rfl)
    (hB1 := by rw [h_v1356, h_v1355, h_cst_268, h_v1354, h_v1353, h_v1352, h_v1351, h_v1350, h_v1349, h_v1348, h_v1347, h_cst_267, h_v1346, h_v1345, h_v1344, h_v1343, h_v1342, h_cst_266]; rfl)
    (hE1 := by rw [h_v1362, h_v1361, h_v1360, h_v1359, h_v1358, h_cst_270, h_v1357, h_cst_269]; rfl)
    (hS1 := by rw [h_v1369, h_cst_272, h_v1368, h_v1367, h_v1366, h_v1365, h_v1364, h_v1363, h_cst_271]; rfl)
    (hN1 := by rw [h_v1372, h_v1371, h_cst_273, h_v1370]; rfl)
    (hB2 := by rw [h_v1387, h_v1386, h_cst_276, h_v1385, h_v1384, h_v1383, h_v1382, h_v1381, h_v1380, h_v1379, h_v1378, h_cst_275, h_v1377, h_v1376, h_v1375, h_v1374, h_v1373, h_cst_274]; rfl)
    (hE2 := by rw [h_v1393, h_v1392, h_v1391, h_v1390, h_v1389, h_cst_278, h_v1388, h_cst_277]; rfl)
    (hS2 := by rw [h_v1400, h_cst_280, h_v1399, h_v1398, h_v1397, h_v1396, h_v1395, h_v1394, h_cst_279]; rfl)
    (hN2 := by rw [h_v1403, h_v1402, h_cst_281, h_v1401]; rfl)

end Cert.RefOps

end
-- ==== Proof.RefRun.lean ====
/- The reference's run: its result is the network's function of the arguments, and the arguments stay. -/
module

public import proofs.«01_k».proof.Proof.Net
public import proofs.«01_k».proof.Proof.RefEnds
public import proofs.«01_k».proof.Proof.RefNet0
public import proofs.«01_k».proof.Proof.RefNet1
public import proofs.«01_k».proof.Proof.RefNet2

@[expose] public section

set_option maxRecDepth 16384
set_option maxHeartbeats 4000000

noncomputable section

namespace Cert.RefOps

open Caps Cert.ReferenceIdeal Cert.ReferenceIdeal.Gen Idealize.ShloMosaic Idealize.ShloMosaic.TcCoe Idealize.SL.Sem Idealize.ShloMosaic.StableHlo

/-- The equations of all the reference's operations. -/
def AllE (d : Dev nD) (Z : Vl) : Prop :=
  (part0 d).1 Z ∧ (part1 d).1 Z ∧ (part2 d).1 Z ∧ (part3 d).1 Z ∧ (part4 d).1 Z ∧ (part5 d).1 Z ∧ (part6 d).1 Z ∧ (part7 d).1 Z ∧ (part8 d).1 Z ∧ (part9 d).1 Z ∧ (part10 d).1 Z ∧ (part11 d).1 Z ∧ (part12 d).1 Z ∧ (part13 d).1 Z ∧ (part14 d).1 Z ∧ (part15 d).1 Z ∧ (part16 d).1 Z ∧ (part17 d).1 Z ∧ (part18 d).1 Z ∧ (part19 d).1 Z ∧ (part20 d).1 Z ∧ (part21 d).1 Z ∧ (part22 d).1 Z ∧ (part23 d).1 Z ∧ (part24 d).1 Z ∧ (part25 d).1 Z ∧ (part26 d).1 Z ∧ (part27 d).1 Z ∧ (part28 d).1 Z

theorem all_ok (d : Dev nD) : Ok 14 1736 (main (F := Ideal) d) (AllE d) := by
  unfold main
  exact ok_append (part0 d).2 <| ok_append (part1 d).2 <| ok_append (part2 d).2 <| ok_append (part3 d).2 <| ok_append (part4 d).2 <| ok_append (part5 d).2 <| ok_append (part6 d).2 <| ok_append (part7 d).2 <| ok_append (part8 d).2 <| ok_append (part9 d).2 <| ok_append (part10 d).2 <| ok_append (part11 d).2 <| ok_append (part12 d).2 <| ok_append (part13 d).2 <| ok_append (part14 d).2 <| ok_append (part15 d).2 <| ok_append (part16 d).2 <| ok_append (part17 d).2 <| ok_append (part18 d).2 <| ok_append (part19 d).2 <| ok_append (part20 d).2 <| ok_append (part21 d).2 <| ok_append (part22 d).2 <| ok_append (part23 d).2 <| ok_append (part24 d).2 <| ok_append (part25 d).2 <| ok_append (part26 d).2 <| ok_append (part27 d).2 <| (part28 d).2

/-- The input in the contents `Z`. -/
abbrev zx (Z : Vl) : Nat → Nat → EReal := xOf (shapeCast (s := (⟨5, ![1, 4, 14, 14, 14]⟩ : Shape)) (s4 4 14 14 14) (Z (Proc.devRef .tc main_arg0)) (by decide))

/-- The weights in the contents `Z`. -/
abbrev zw (Z : Vl) : Nat → Nat → Nat → Nat → Nat → EReal :=
  pick (wOf 1 16 4 (shapeCast (s := (⟨5, ![16, 4, 3, 3, 3]⟩ : Shape)) (s6 1 16 4 3 3 3) (Z (Proc.devRef .tc main_arg1)) (by decide)))
    (wOf 1 32 16 (Z (Proc.devRef .tc main_arg2)))
    (wOf 2 64 16 (Z (Proc.devRef .tc main_arg3)))
    (wOf 4 128 16 (Z (Proc.devRef .tc main_arg4)))
    (wOf 4 256 32 (Z (Proc.devRef .tc main_arg5)))
    (wOf 8 512 32 (Z (Proc.devRef .tc main_arg6)))
    (wOf 8 256 64 (Z (Proc.devRef .tc main_arg7)))
    (wOf 8 256 32 (Host.reverse (s := s6 8 256 32 3 3 3) [3, 4, 5] (Z (Proc.devRef .tc main_arg8))))
    (wOf 16 128 32 (Z (Proc.devRef .tc main_arg9)))
    (wOf 4 64 32 (Host.reverse (s := s6 4 64 32 3 3 3) [3, 4, 5] (Z (Proc.devRef .tc main_arg10))))
    (wOf 8 64 16 (Z (Proc.devRef .tc main_arg11)))
    (wOf 4 32 16 (Host.reverse (s := s6 4 32 16 3 3 3) [3, 4, 5] (Z (Proc.devRef .tc main_arg12))))
    (wOf 3 16 16 (Z (Proc.devRef .tc main_arg13)))

theorem values {d : Dev nD} {Z : Vl} (q : AllE d Z) (g i : Fin 1) (z y x : Fin 16) :
    cst (s := s5 1 1 16 16 16) (Z (Proc.devRef .tc main_v1420)) (ix5 g i z y x) = L12 (zx Z) (zw Z) 0 (pos z y x) := by
  obtain ⟨q0, q1, q2, q3, q4, q5, q6, q7, q8, q9, q10, q11, q12, q13, q14, q15, q16, q17, q18, q19, q20, q21, q22, q23, q24, q25, q26, q27, q28⟩ := q
  have l0 := lay0 q0 (by decide) (by decide)
  have l1 := lay1 q0 q1 l0
  have l2 := lay2 q1 q2 q3 l1
  have l3 := lay3 q4 q5 q6 l2
  have l4 := lay4 q6 q7 q8 l3
  have l5 := lay5 q8 q9 q10 q11 l4
  have l6 := lay6 q11 q12 q13 l5
  have l7 := lay7 q13 q14 q15 q16 l6
  rw [rev0 q13] at l7
  have l8 := lay8 q16 q17 q18 (join0 q16 l7 l4)
  have l9 := lay9 q18 q19 q20 q21 l8
  rw [rev1 q18] at l9
  have l10 := lay10 q21 q22 q23 (join1 q21 l9 l2)
  have l11 := lay11 q23 q24 q25 l10
  rw [rev2 q23] at l11
  have l12 := lay12 q26 q27 q28 (join2 q25 l11 l0)
  exact outv q28 l12 g i z y x

theorem no_scoped_refs : (Finset.univ.filter fun b : Ref sig .tc => b.isScoped) = ∅ := by decide
theorem no_scoped_sems : (Finset.univ.filter fun sm : SemLoc sig => sm.isScoped .tc) = ∅ := by decide

/-- The reference ends with contents that satisfy all its equations and have the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      ∃ Z : Vl, AllE c Z ∧ (∀ b : Ref sig .tc, rk b < 14 → Z (Proc.devRef .tc b) = m ((c.tc : Thread nD τ).loc b)) ∧
        ∀ b : Ref sig .tc, r.2.mem ((c.tc : Thread nD τ).loc b) = Z (Proc.devRef .tc b) := by
  choose ops h using fun d => all_ok d
  refine (θ_run defs _ _).mono (fun r hr c => ?_)
    (run_seq no_scoped_refs no_scoped_sems defs main ops (fun d => (h d).1) (fun d => List.forall_iff_forall_mem.mpr (h d).2.1) m ρ fun d => (h d).2.2.1)
  obtain ⟨k, e⟩ := (h c).2.2.2 (launchContents m c) (after (ops c) (launchContents m c)) fun _ _ => rfl
  exact ⟨_, e, fun b hb => k b hb, fun b => hr c b⟩

end Cert.RefOps

end
-- ==== Proof.Value.lean ====
/- The kernel and the reference end with the same result. -/
module

public import proofs.«01_k».proof.Defs
public import proofs.«01_k».proof.Proof.KernelRun
public import proofs.«01_k».proof.Proof.RefRun

@[expose] public section

set_option maxRecDepth 16384

noncomputable section

namespace Cert.Value

open Caps Idealize.ShloMosaic Idealize.ShloMosaic.TcCoe Idealize.SL.Sem

/-- The input as rows. -/
def netX (a : FVec Ideal (s5 1 4 14 14 14) .f32) : Nat → Nat → EReal := xOf (shapeCast (s4 4 14 14 14) a (by decide))

/-- The weights of the layers. -/
def netW (a1 : FVec Ideal (s5 16 4 3 3 3) .f32) (a2 : FVec Ideal (s6 1 32 16 3 3 3) .f32) (a3 : FVec Ideal (s6 2 64 16 3 3 3) .f32) (a4 : FVec Ideal (s6 4 128 16 3 3 3) .f32) (a5 : FVec Ideal (s6 4 256 32 3 3 3) .f32) (a6 : FVec Ideal (s6 8 512 32 3 3 3) .f32) (a7 : FVec Ideal (s6 8 256 64 3 3 3) .f32) (a8 : FVec Ideal (s6 8 256 32 3 3 3) .f32) (a9 : FVec Ideal (s6 16 128 32 3 3 3) .f32) (a10 : FVec Ideal (s6 4 64 32 3 3 3) .f32) (a11 : FVec Ideal (s6 8 64 16 3 3 3) .f32) (a12 : FVec Ideal (s6 4 32 16 3 3 3) .f32) (a13 : FVec Ideal (s6 3 16 16 3 3 3) .f32) :
    Nat → Nat → Nat → Nat → Nat → EReal :=
  pick (wOf 1 16 4 (shapeCast (s6 1 16 4 3 3 3) a1 (by decide)))
    (wOf 1 32 16 a2)
    (wOf 2 64 16 a3)
    (wOf 4 128 16 a4)
    (wOf 4 256 32 a5)
    (wOf 8 512 32 a6)
    (wOf 8 256 64 a7)
    (wOf 8 256 32 (Host.reverse [3, 4, 5] a8))
    (wOf 16 128 32 a9)
    (wOf 4 64 32 (Host.reverse [3, 4, 5] a10))
    (wOf 8 64 16 a11)
    (wOf 4 32 16 (Host.reverse [3, 4, 5] a12))
    (wOf 3 16 16 a13)

theorem netW_congr {a1 b1 : FVec Ideal (s5 16 4 3 3 3) .f32} {a2 b2 : FVec Ideal (s6 1 32 16 3 3 3) .f32} {a3 b3 : FVec Ideal (s6 2 64 16 3 3 3) .f32} {a4 b4 : FVec Ideal (s6 4 128 16 3 3 3) .f32} {a5 b5 : FVec Ideal (s6 4 256 32 3 3 3) .f32} {a6 b6 : FVec Ideal (s6 8 512 32 3 3 3) .f32} {a7 b7 : FVec Ideal (s6 8 256 64 3 3 3) .f32} {a8 b8 : FVec Ideal (s6 8 256 32 3 3 3) .f32} {a9 b9 : FVec Ideal (s6 16 128 32 3 3 3) .f32} {a10 b10 : FVec Ideal (s6 4 64 32 3 3 3) .f32} {a11 b11 : FVec Ideal (s6 8 64 16 3 3 3) .f32} {a12 b12 : FVec Ideal (s6 4 32 16 3 3 3) .f32} {a13 b13 : FVec Ideal (s6 3 16 16 3 3 3) .f32} (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) :
    netW a1 a2 a3 a4 a5 a6 a7 a8 a9 a10 a11 a12 a13 = netW b1 b2 b3 b4 b5 b6 b7 b8 b9 b10 b11 b12 b13 := by
  subst h1 h2 h3 h4 h5 h6 h7 h8 h9 h10 h11 h12 h13; rfl

/-- The reference ends with contents that satisfy all its equations, the arguments unchanged and the counters at zero. -/
theorem reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      (∀ (g i : Fin 1) (z y x : Fin 16), (r.2.mem ((c.tc : Thread Cert.ReferenceIdeal.nD Cert.ReferenceIdeal.τ).loc Cert.ReferenceIdeal.main_v1420) : FVec Ideal (s5 1 1 16 16 16) .f32) (ValueIdx.ix5 g i z y x)
        = L12 (netX (m ((c.tc : Thread Cert.ReferenceIdeal.nD Cert.ReferenceIdeal.τ).loc Cert.ReferenceIdeal.main_arg0)))
            (netW (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) 0 (pos z y x))
      ∧ ∀ b : Ref Cert.ReferenceIdeal.sig .tc, Cert.RefOps.rk b < 14 →
          r.2.mem ((c.tc : Thread Cert.ReferenceIdeal.nD Cert.ReferenceIdeal.τ).loc b) = m ((c.tc : Thread Cert.ReferenceIdeal.nD Cert.ReferenceIdeal.τ).loc b) := by
  refine (θ_run _ _ _).mono (fun r h c => ?_) (Cert.RefOps.run m ρ)
  obtain ⟨Z, q, k, e⟩ := h c
  refine ⟨fun g i z y x => ?_, fun b hb => (e b).trans (k b hb)⟩
  refine (congrFun (e Cert.ReferenceIdeal.main_v1420) (ValueIdx.ix5 g i z y x)).trans ((Cert.RefOps.values q g i z y x).trans ?_)
  have ex : Cert.RefOps.zx Z = netX (m ((c.tc : Thread Cert.ReferenceIdeal.nD Cert.ReferenceIdeal.τ).loc Cert.ReferenceIdeal.main_arg0)) :=
    congrArg netX (k Cert.ReferenceIdeal.main_arg0 (by decide))
  have ew : Cert.RefOps.zw Z = netW (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) :=
    netW_congr (k Cert.ReferenceIdeal.main_arg1 (by decide)) (k Cert.ReferenceIdeal.main_arg2 (by decide)) (k Cert.ReferenceIdeal.main_arg3 (by decide)) (k Cert.ReferenceIdeal.main_arg4 (by decide)) (k Cert.ReferenceIdeal.main_arg5 (by decide)) (k Cert.ReferenceIdeal.main_arg6 (by decide)) (k Cert.ReferenceIdeal.main_arg7 (by decide)) (k Cert.ReferenceIdeal.main_arg8 (by decide)) (k Cert.ReferenceIdeal.main_arg9 (by decide)) (k Cert.ReferenceIdeal.main_arg10 (by decide)) (k Cert.ReferenceIdeal.main_arg11 (by decide)) (k Cert.ReferenceIdeal.main_arg12 (by decide)) (k Cert.ReferenceIdeal.main_arg13 (by decide))
  rw [ex, ew]

theorem frame_reference : Cert.quiescent_ReferenceIdeal (hReferenceIdeal := Cert.ReferenceIdeal.Gen.facts) := fun m ρ _ =>
  (θ_run _ _ _).mono (fun r h => ⟨fun c => ⟨(h c).2 Cert.ReferenceIdeal.main_arg0 (by decide), (h c).2 Cert.ReferenceIdeal.main_arg1 (by decide), (h c).2 Cert.ReferenceIdeal.main_arg2 (by decide), (h c).2 Cert.ReferenceIdeal.main_arg3 (by decide), (h c).2 Cert.ReferenceIdeal.main_arg4 (by decide), (h c).2 Cert.ReferenceIdeal.main_arg5 (by decide), (h c).2 Cert.ReferenceIdeal.main_arg6 (by decide), (h c).2 Cert.ReferenceIdeal.main_arg7 (by decide), (h c).2 Cert.ReferenceIdeal.main_arg8 (by decide), (h c).2 Cert.ReferenceIdeal.main_arg9 (by decide), (h c).2 Cert.ReferenceIdeal.main_arg10 (by decide), (h c).2 Cert.ReferenceIdeal.main_arg11 (by decide), (h c).2 Cert.ReferenceIdeal.main_arg12 (by decide), (h c).2 Cert.ReferenceIdeal.main_arg13 (by decide)⟩,
    sem_eq_zero_of_no_sems (by decide) r.2⟩) (reference m ρ)

theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Gen.W58 m ρ c (Proc.devRef .tc Cert.KernelIdeal.main_v237), ?_, ?_⟩
  · refine (θ_run _ _ _).mono (fun r h c => ⟨h c _ (Cert.KernelIdeal.Gen.mem_uc Cert.KernelIdeal.main_v237 (by decide)), (h c _ (Cert.KernelIdeal.Gen.mem_uc Cert.KernelIdeal.main_arg0 (by decide))).trans (Cert.KernelIdeal.Gen.W58_main_arg0 m ρ c), (h c _ (Cert.KernelIdeal.Gen.mem_uc Cert.KernelIdeal.main_arg1 (by decide))).trans (Cert.KernelIdeal.Gen.W58_main_arg1 m ρ c), (h c _ (Cert.KernelIdeal.Gen.mem_uc Cert.KernelIdeal.main_arg2 (by decide))).trans (Cert.KernelIdeal.Gen.W58_main_arg2 m ρ c), (h c _ (Cert.KernelIdeal.Gen.mem_uc Cert.KernelIdeal.main_arg3 (by decide))).trans (Cert.KernelIdeal.Gen.W58_main_arg3 m ρ c), (h c _ (Cert.KernelIdeal.Gen.mem_uc Cert.KernelIdeal.main_arg4 (by decide))).trans (Cert.KernelIdeal.Gen.W58_main_arg4 m ρ c), (h c _ (Cert.KernelIdeal.Gen.mem_uc Cert.KernelIdeal.main_arg5 (by decide))).trans (Cert.KernelIdeal.Gen.W58_main_arg5 m ρ c), (h c _ (Cert.KernelIdeal.Gen.mem_uc Cert.KernelIdeal.main_arg6 (by decide))).trans (Cert.KernelIdeal.Gen.W58_main_arg6 m ρ c), (h c _ (Cert.KernelIdeal.Gen.mem_uc Cert.KernelIdeal.main_arg7 (by decide))).trans (Cert.KernelIdeal.Gen.W58_main_arg7 m ρ c), (h c _ (Cert.KernelIdeal.Gen.mem_uc Cert.KernelIdeal.main_arg8 (by decide))).trans (Cert.KernelIdeal.Gen.W58_main_arg8 m ρ c), (h c _ (Cert.KernelIdeal.Gen.mem_uc Cert.KernelIdeal.main_arg9 (by decide))).trans (Cert.KernelIdeal.Gen.W58_main_arg9 m ρ c), (h c _ (Cert.KernelIdeal.Gen.mem_uc Cert.KernelIdeal.main_arg10 (by decide))).trans (Cert.KernelIdeal.Gen.W58_main_arg10 m ρ c), (h c _ (Cert.KernelIdeal.Gen.mem_uc Cert.KernelIdeal.main_arg11 (by decide))).trans (Cert.KernelIdeal.Gen.W58_main_arg11 m ρ c), (h c _ (Cert.KernelIdeal.Gen.mem_uc Cert.KernelIdeal.main_arg12 (by decide))).trans (Cert.KernelIdeal.Gen.W58_main_arg12 m ρ c), (h c _ (Cert.KernelIdeal.Gen.mem_uc Cert.KernelIdeal.main_arg13 (by decide))).trans (Cert.KernelIdeal.Gen.W58_main_arg13 m ρ c)⟩)
      (Cert.KernelRun.run m ρ)
  · refine (θ_run _ _ _).mono (fun r h c => ⟨?_, (h c).2 Cert.ReferenceIdeal.main_arg0 (by decide), (h c).2 Cert.ReferenceIdeal.main_arg1 (by decide), (h c).2 Cert.ReferenceIdeal.main_arg2 (by decide), (h c).2 Cert.ReferenceIdeal.main_arg3 (by decide), (h c).2 Cert.ReferenceIdeal.main_arg4 (by decide), (h c).2 Cert.ReferenceIdeal.main_arg5 (by decide), (h c).2 Cert.ReferenceIdeal.main_arg6 (by decide), (h c).2 Cert.ReferenceIdeal.main_arg7 (by decide), (h c).2 Cert.ReferenceIdeal.main_arg8 (by decide), (h c).2 Cert.ReferenceIdeal.main_arg9 (by decide), (h c).2 Cert.ReferenceIdeal.main_arg10 (by decide), (h c).2 Cert.ReferenceIdeal.main_arg11 (by decide), (h c).2 Cert.ReferenceIdeal.main_arg12 (by decide), (h c).2 Cert.ReferenceIdeal.main_arg13 (by decide)⟩) (reference m' ρ')
    obtain ⟨h0, h1, h2, h3, h4, h5, h6, h7, h8, h9, h10, h11, h12, h13⟩ := hagree c
    funext j
    have ej : j = ValueIdx.ix5 (j 0 : Fin 1) (j 1 : Fin 1) (j 2 : Fin 16) (j 3 : Fin 16) (j 4 : Fin 16) := by
      funext a
      match a with | ⟨0, _⟩ => rfl | ⟨1, _⟩ => rfl | ⟨2, _⟩ => rfl | ⟨3, _⟩ => rfl | ⟨4, _⟩ => rfl
    have ex : netX (m' ((c.tc : Thread Cert.ReferenceIdeal.nD Cert.ReferenceIdeal.τ).loc Cert.ReferenceIdeal.main_arg0)) = kx m c := congrArg netX h0
    have ew : netW (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = kw m c :=
      netW_congr h1 h2 h3 h4 h5 h6 h7 h8 h9 h10 h11 h12 h13
    have e1 := (h c).1 (j 0) (j 1) (j 2) (j 3) (j 4)
    rw [ex, ew] at e1
    have e2 := (Cert.KernelRun.result m ρ c (j 0) (j 1) (j 2) (j 3) (j 4)).symm
    rw [ej]
    exact e1.trans e2

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Value.frame_reference, trivial,
  Cert.Value.algebraic⟩

end Cert.Proof

end
